-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF1800000#32 ⊥
  ∧ IdealRules.named_const.Statement Cert.KernelIdeal.κ "causal" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v44)) (v1 : (c : Dev Cert.Kernel2Ideal.nD) → Buf (Elt Ideal) ((c.tc : Thread Cert.Kernel2Ideal.nD Cert.Kernel2Ideal.τ).loc Cert.Kernel2Ideal.main_v47)) (v2 : (c : Dev Cert.Kernel2Ideal.nD) → Buf (Elt Ideal) ((c.tc : Thread Cert.Kernel2Ideal.nD Cert.Kernel2Ideal.τ).loc Cert.Kernel2Ideal.main_v50)) (v3 : (c : Dev Cert.Kernel2Ideal.nD) → Buf (Elt Ideal) ((c.tc : Thread Cert.Kernel2Ideal.nD Cert.Kernel2Ideal.τ).loc Cert.Kernel2Ideal.main_v53)) (v4 : (c : Dev Cert.Kernel2Ideal.nD) → Buf (Elt Ideal) ((c.tc : Thread Cert.Kernel2Ideal.nD Cert.Kernel2Ideal.τ).loc Cert.Kernel2Ideal.main_v54)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_v47) = v1 c
          ∧ r.2.mem ((c.tc : Thread Cert.Kernel2Ideal.nD Cert.Kernel2Ideal.τ).loc Cert.Kernel2Ideal.main_v50) = v2 c
          ∧ r.2.mem ((c.tc : Thread Cert.Kernel2Ideal.nD Cert.Kernel2Ideal.τ).loc Cert.Kernel2Ideal.main_v53) = v3 c
          ∧ r.2.mem ((c.tc : Thread Cert.Kernel2Ideal.nD Cert.Kernel2Ideal.τ).loc Cert.Kernel2Ideal.main_v54) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v90) = v1 c
          ∧ r.2.mem ((c.tc : Thread Cert.Reference2Ideal.nD Cert.Reference2Ideal.τ).loc Cert.Reference2Ideal.main_v91) = v2 c
          ∧ r.2.mem ((c.tc : Thread Cert.Reference2Ideal.nD Cert.Reference2Ideal.τ).loc Cert.Reference2Ideal.main_v94) = v3 c
          ∧ r.2.mem ((c.tc : Thread Cert.Reference2Ideal.nD Cert.Reference2Ideal.τ).loc Cert.Reference2Ideal.main_v89) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v23)) (v1 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_v25) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_v139) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S2x8x8192x64 : Shape := ⟨4, ![2, 8, 8192, 64]⟩
abbrev S_ : Shape := ⟨0, ![]⟩

class Facts : Prop where
  bcast_S_S2x8x8192x64 : S_.BroadcastsInDim S2x8x8192x64 (![] : Fin 0 → Fin S2x8x8192x64.rank)
  reducesTo_S2x8x8192x64_S_d0_1_2_3 : S2x8x8192x64.ReducesTo [0, 1, 2, 3] S_
  h_S_ : 0 < S_.numel

variable [Facts]

def fn {F : FTy → Type} [FloatOps F] (main_arg0 : FVec F S2x8x8192x64 .f32) (main_arg1 : FVec F S2x8x8192x64 .f32) (main_arg2 : FVec F S2x8x8192x64 .f32) : IVec S_ 1 :=
  let main_v0 : FVec F S2x8x8192x64 .f32 := Host.absf main_arg0
  let main_cst : FVec F S_ .f32 := constant S_ .f32 0x7F800000#32
  let main_v1 : FVec F S2x8x8192x64 .f32 := broadcastInDim S2x8x8192x64 ![] bcast_S_S2x8x8192x64 main_cst
  let main_v2 : IVec S2x8x8192x64 1 := cmpf .olt main_v0 main_v1
  let main_c : IVec S_ 1 := constantI S_ 1 1#1
  let main_v3 : IVec S_ 1 := (fun x v => Host.reduce IntOp.andi x v reducesTo_S2x8x8192x64_S_d0_1_2_3 h_S_) main_v2 main_c
  let main_v4 : FVec F S2x8x8192x64 .f32 := Host.absf main_arg1
  let main_cst_0 : FVec F S_ .f32 := constant S_ .f32 0x7F800000#32
  let main_v5 : FVec F S2x8x8192x64 .f32 := broadcastInDim S2x8x8192x64 ![] bcast_S_S2x8x8192x64 main_cst_0
  let main_v6 : IVec S2x8x8192x64 1 := cmpf .olt main_v4 main_v5
  let main_c_1 : IVec S_ 1 := constantI S_ 1 1#1
  let main_v7 : IVec S_ 1 := (fun x v => Host.reduce IntOp.andi x v reducesTo_S2x8x8192x64_S_d0_1_2_3 h_S_) main_v6 main_c_1
  let main_v8 : IVec S_ 1 := andi main_v3 main_v7
  main_v8
-- ==== Kernel.lean ====
abbrev S2x8x8192x64 : Shape := ⟨4, ![2, 8, 8192, 64]⟩
abbrev S_ : Shape := ⟨0, ![]⟩
abbrev S2x8192x8x64 : Shape := ⟨4, ![2, 8192, 8, 64]⟩
abbrev S16384x8x64 : Shape := ⟨3, ![16384, 8, 64]⟩
abbrev S16384x8x128 : Shape := ⟨3, ![16384, 8, 128]⟩
abbrev S16384x1024 : Shape := ⟨2, ![16384, 1024]⟩
abbrev S128 : Shape := ⟨1, ![128]⟩
abbrev S128x1 : Shape := ⟨2, ![128, 1]⟩
abbrev S8192 : Shape := ⟨1, ![8192]⟩
abbrev S1x8192 : Shape := ⟨2, ![1, 8192]⟩
abbrev S128x8192 : Shape := ⟨2, ![128, 8192]⟩
abbrev S8192x256 : Shape := ⟨2, ![8192, 256]⟩
abbrev S256x256 : Shape := ⟨2, ![256, 256]⟩
abbrev S256x128 : Shape := ⟨2, ![256, 128]⟩
abbrev S8192x128 : Shape := ⟨2, ![8192, 128]⟩
abbrev S128x128 : Shape := ⟨2, ![128, 128]⟩
abbrev S256 : Shape := ⟨1, ![256]⟩
abbrev S256x1 : Shape := ⟨2, ![256, 1]⟩
abbrev S2048x128 : Shape := ⟨2, ![2048, 128]⟩
abbrev S256x2048 : Shape := ⟨2, ![256, 2048]⟩
abbrev S2x8192x8x128 : Shape := ⟨4, ![2, 8192, 8, 128]⟩

abbrev nBuf : Space → Nat
  | .hbm => 64
  | .vmem => 12
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8192x64, .f32⟩
  | .hbm, ⟨2, _⟩ => ⟨S2x8x8192x64, .f32⟩
  | .hbm, ⟨3, _⟩ => ⟨S_, .f32⟩
  | .hbm, ⟨4, _⟩ => ⟨S2x8x8192x64, .f32⟩
  | .hbm, ⟨5, _⟩ => ⟨S2x8x8192x64, .f32⟩
  | .hbm, ⟨6, _⟩ => ⟨S2x8192x8x64, .f32⟩
  | .hbm, ⟨7, _⟩ => ⟨S16384x8x64, .f32⟩
  | .hbm, ⟨8, _⟩ => ⟨S_, .i32⟩
  | .hbm, ⟨9, _⟩ => ⟨S_, .f32⟩
  | .hbm, ⟨10, _⟩ => ⟨S16384x8x128, .f32⟩
  | .hbm, ⟨11, _⟩ => ⟨S16384x1024, .f32⟩
  | .hbm, ⟨12, _⟩ => ⟨S16384x1024, .bf16⟩
  | .hbm, ⟨13, _⟩ => ⟨S2x8192x8x64, .f32⟩
  | .hbm, ⟨14, _⟩ => ⟨S16384x8x64, .f32⟩
  | .hbm, ⟨15, _⟩ => ⟨S_, .i32⟩
  | .hbm, ⟨16, _⟩ => ⟨S_, .f32⟩
  | .hbm, ⟨17, _⟩ => ⟨S16384x8x128, .f32⟩
  | .hbm, ⟨18, _⟩ => ⟨S16384x1024, .f32⟩
  | .hbm, ⟨19, _⟩ => ⟨S16384x1024, .bf16⟩
  | .hbm, ⟨20, _⟩ => ⟨S2x8192x8x64, .f32⟩
  | .hbm, ⟨21, _⟩ => ⟨S16384x8x64, .f32⟩
  | .hbm, ⟨22, _⟩ => ⟨S_, .i32⟩
  | .hbm, ⟨23, _⟩ => ⟨S_, .f32⟩
  | .hbm, ⟨24, _⟩ => ⟨S16384x8x128, .f32⟩
  | .hbm, ⟨25, _⟩ => ⟨S16384x1024, .f32⟩
  | .hbm, ⟨26, _⟩ => ⟨S16384x1024, .bf16⟩
  | .hbm, ⟨27, _⟩ => ⟨S128, .i32⟩
  | .hbm, ⟨28, _⟩ => ⟨S128x1, .i32⟩
  | .hbm, ⟨29, _⟩ => ⟨S8192, .i32⟩
  | .hbm, ⟨30, _⟩ => ⟨S1x8192, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S_, .i32⟩
  | .hbm, ⟨36, _⟩ => ⟨S1x8192, .i32⟩
  | .hbm, ⟨37, _⟩ => ⟨S1x8192, .i32⟩
  | .hbm, ⟨38, _⟩ => ⟨S1x8192, .i32⟩
  | .hbm, ⟨39, _⟩ => ⟨S_, .i32⟩
  | .hbm, ⟨40, _⟩ => ⟨S1x8192, .i32⟩
  | .hbm, ⟨41, _⟩ => ⟨S1x8192, .i1⟩
  | .hbm, ⟨42, _⟩ => ⟨S1x8192, .i32⟩
  | .hbm, ⟨43, _⟩ => ⟨S1x8192, .i32⟩
  | .hbm, ⟨44, _⟩ => ⟨S_, .i32⟩
  | .hbm, ⟨45, _⟩ => ⟨S1x8192, .i32⟩
  | .hbm, ⟨46, _⟩ => ⟨S1x8192, .i1⟩
  | .hbm, ⟨47, _⟩ => ⟨S1x8192, .i1⟩
  | .hbm, ⟨48, _⟩ => ⟨S_, .i32⟩
  | .hbm, ⟨49, _⟩ => ⟨S1x8192, .i32⟩
  | .hbm, ⟨50, _⟩ => ⟨S1x8192, .i32⟩
  | .hbm, ⟨51, _⟩ => ⟨S1x8192, .i32⟩
  | .hbm, ⟨52, _⟩ => ⟨S128x8192, .i32⟩
  | .hbm, ⟨53, _⟩ => ⟨S128x8192, .i32⟩
  | .hbm, ⟨54, _⟩ => ⟨S128x8192, .i1⟩
  | .hbm, ⟨55, _⟩ => ⟨S_, .f32⟩
  | .hbm, ⟨56, _⟩ => ⟨S_, .f32⟩
  | .hbm, ⟨57, _⟩ => ⟨S128x8192, .f32⟩
  | .hbm, ⟨58, _⟩ => ⟨S128x8192, .f32⟩
  | .hbm, ⟨59, _⟩ => ⟨S128x8192, .f32⟩
  | .hbm, ⟨60, _⟩ => ⟨S128x8192, .bf16⟩
  | .hbm, ⟨61, _⟩ => ⟨S16384x1024, .bf16⟩
  | .hbm, ⟨62, _⟩ => ⟨S2x8192x8x128, .bf16⟩
  | .hbm, ⟨63, _⟩ => ⟨S2x8192x8x64, .bf16⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S128x8192, .bf16⟩
  | .local _ .vmem, ⟨7, _⟩ => ⟨S256x256, .bf16⟩
  | .local _ .vmem, ⟨8, _⟩ => ⟨S256x256, .bf16⟩
  | .local _ .vmem, ⟨9, _⟩ => ⟨S8192x256, .bf16⟩
  | .local _ .vmem, ⟨10, _⟩ => ⟨S8192x256, .bf16⟩
  | .local _ .vmem, ⟨11, _⟩ => ⟨S8192x256, .bf16⟩
  | _, _ => ⟨S2x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_v8 : Ref sig .tc := ⟨.hbm, 43, rfl⟩
abbrev main_call3_c : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_0 : Ref sig .tc := ⟨.hbm, 48, rfl⟩
abbrev main_call3_v12 : Ref sig .tc := ⟨.hbm, 49, rfl⟩
abbrev main_call3_v13 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_cst_5 : Ref sig .tc := ⟨.hbm, 56, rfl⟩
abbrev main_call4_v0 : Ref sig .tc := ⟨.hbm, 57, rfl⟩
abbrev main_call4_v1 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 32], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_40 : BitVec 32 := 0#32
  let c32_i32 : BitVec 32 := 32#32
  let v97 : BitVec 32 := Scalar.addi c0_i32_40 c32_i32
  let c1_i32_41 : BitVec 32 := 1#32
  ⟨c0_i32_40, v97, c1_i32_41⟩
def k0_mult1 (k0_t1 : Fin k0_t1_loop.trips) : BitVec 32 :=
  let c0_i32_40 : BitVec 32 := 0#32
  let c1_i32_41 : BitVec 32 := 1#32
  let arg11 : BitVec 32 := Scf.iv c0_i32_40 c1_i32_41 k0_t1
  let c256_i32_43 : BitVec 32 := 256#32
  let v98 : BitVec 32 := Scalar.muli arg11 c256_i32_43
  v98
def k0_off1 (k0_t1 : Fin k0_t1_loop.trips) : Fin 2 → Nat :=
  let c0_i32_40 : BitVec 32 := 0#32
  let c1_i32_41 : BitVec 32 := 1#32
  let arg11 : BitVec 32 := Scf.iv c0_i32_40 c1_i32_41 k0_t1
  let c256_i32_43 : BitVec 32 := 256#32
  let v98 : BitVec 32 := Scalar.muli arg11 c256_i32_43
  let v99 : BitVec 32 := v98
  let v117 : Index := Scalar.indexCast v99
  let c0_50 : Index := 0#32
  ![v117.toNat, 0]
def k0_off2 (k0_t1 : Fin k0_t1_loop.trips) : Fin 2 → Nat :=
  let c0_i32_40 : BitVec 32 := 0#32
  let c1_i32_41 : BitVec 32 := 1#32
  let arg11 : BitVec 32 := Scf.iv c0_i32_40 c1_i32_41 k0_t1
  let c256_i32_43 : BitVec 32 := 256#32
  let v98 : BitVec 32 := Scalar.muli arg11 c256_i32_43
  let v99 : BitVec 32 := v98
  let v121 : Index := Scalar.indexCast v99
  let c128_51 : Index := 128#32
  ![v121.toNat, 128]
def k0_mult2 (i : grid0.Coords) : BitVec 32 :=
  let arg2 : BitVec 32 := BitVec.ofNat 32 (i 2).val
  let c256_i32 : BitVec 32 := 256#32
  let v5 : BitVec 32 := Scalar.muli arg2 c256_i32
  v5
def k0_off3 (i : grid0.Coords) : Fin 2 → Nat :=
  let arg2 : BitVec 32 := BitVec.ofNat 32 (i 2).val
  let c256_i32 : BitVec 32 := 256#32
  let v5 : BitVec 32 := Scalar.muli arg2 c256_i32
  let v6 : BitVec 32 := v5
  let v9 : Index := Scalar.indexCast v6
  let c0 : Index := 0#32
  ![v9.toNat, 0]
def k0_off4 (i : grid0.Coords) : Fin 2 → Nat :=
  let arg2 : BitVec 32 := BitVec.ofNat 32 (i 2).val
  let c256_i32 : BitVec 32 := 256#32
  let v5 : BitVec 32 := Scalar.muli arg2 c256_i32
  let v6 : BitVec 32 := v5
  let v11 : Index := Scalar.indexCast v6
  let c128 : Index := 128#32
  ![v11.toNat, 128]
@[reducible] def k0_t2_loop (i : grid0.Coords) : Scf.Loop 32 :=
  let c0_i32_22 : BitVec 32 := 0#32
  let arg2 : BitVec 32 := BitVec.ofNat 32 (i 2).val
  let c8_i32 : BitVec 32 := 8#32
  let v51 : BitVec 32 := Scalar.addi arg2 c8_i32
  let c1_i32 : BitVec 32 := 1#32
  let v52 : BitVec 32 := Scalar.subi v51 c1_i32
  let c0_i32_16 : BitVec 32 := 0#32
  let v54 : BitVec 1 := Scalar.cmpi .sgt v52 c0_i32_16
  let v55 : BitVec 32 := Scalar.extui v54
  let c0_i32_17 : BitVec 32 := 0#32
  let v56 : BitVec 1 := Scalar.cmpi .slt v52 c0_i32_17
  let v57 : BitVec 32 := Scalar.extui v56
  let v58 : BitVec 32 := Scalar.subi v55 v57
  let c8_i32_15 : BitVec 32 := 8#32
  let c0_i32_18 : BitVec 32 := 0#32
  let v59 : BitVec 1 := Scalar.cmpi .sgt c8_i32_15 c0_i32_18
  let v60 : BitVec 32 := Scalar.extui v59
  let c0_i32_19 : BitVec 32 := 0#32
  let v61 : BitVec 1 := Scalar.cmpi .slt c8_i32_15 c0_i32_19
  let v62 : BitVec 32 := Scalar.extui v61
  let v63 : BitVec 32 := Scalar.subi v60 v62
  let v64 : BitVec 1 := Scalar.cmpi .ne v58 v63
  let v65 : BitVec 32 := Scalar.remsi v52 c8_i32_15
  let c0_i32_20 : BitVec 32 := 0#32
  let v66 : BitVec 1 := Scalar.cmpi .ne v65 c0_i32_20
  let v67 : BitVec 1 := Scalar.andi v64 v66
  let v53 : BitVec 32 := Scalar.divsi v52 c8_i32_15
  let c1_i32_21 : BitVec 32 := 1#32
  let v68 : BitVec 32 := Scalar.subi v53 c1_i32_21
  let v69 : BitVec 32 := Scalar.select v67 v68 v53
  let v70 : BitVec 32 := Scalar.subi v69 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let c1_i32_24 : BitVec 32 := 1#32
  ⟨c0_i32_22, v74, c1_i32_24⟩
def k0_mult3 (i : grid0.Coords) (k0_t2 : Fin (k0_t2_loop i).trips) : BitVec 32 :=
  let c0_i32_22 : BitVec 32 := 0#32
  let c1_i32_24 : BitVec 32 := 1#32
  let arg11 : BitVec 32 := Scf.iv c0_i32_22 c1_i32_24 k0_t2
  let c2048_i32 : BitVec 32 := 2048#32
  let v87 : BitVec 32 := Scalar.muli arg11 c2048_i32
  v87
def k0_off5 (i : grid0.Coords) (k0_t2 : Fin (k0_t2_loop i).trips) : Fin 2 → Nat :=
  let c0_i32_22 : BitVec 32 := 0#32
  let c1_i32_24 : BitVec 32 := 1#32
  let arg11 : BitVec 32 := Scf.iv c0_i32_22 c1_i32_24 k0_t2
  let c2048_i32 : BitVec 32 := 2048#32
  let v87 : BitVec 32 := Scalar.muli arg11 c2048_i32
  let v88 : BitVec 32 := v87
  let v89 : Index := Scalar.indexCast v88
  let c0_30 : Index := 0#32
  ![v89.toNat, 0]
def k0_off6 (i : grid0.Coords) (k0_t2 : Fin (k0_t2_loop i).trips) : Fin 2 → Nat :=
  let c0_i32_22 : BitVec 32 := 0#32
  let c1_i32_24 : BitVec 32 := 1#32
  let arg11 : BitVec 32 := Scf.iv c0_i32_22 c1_i32_24 k0_t2
  let c2048_i32 : BitVec 32 := 2048#32
  let v87 : BitVec 32 := Scalar.muli arg11 c2048_i32
  let v88 : BitVec 32 := v87
  let v92 : Index := Scalar.indexCast v88
  let c128_32 : Index := 128#32
  ![v92.toNat, 128]
@[reducible] def k0_t3_loop (i : grid0.Coords) : Scf.Loop 32 :=
  let c0_i32_22 : BitVec 32 := 0#32
  let arg2 : BitVec 32 := BitVec.ofNat 32 (i 2).val
  let c8_i32 : BitVec 32 := 8#32
  let v51 : BitVec 32 := Scalar.addi arg2 c8_i32
  let c1_i32 : BitVec 32 := 1#32
  let v52 : BitVec 32 := Scalar.subi v51 c1_i32
  let c0_i32_16 : BitVec 32 := 0#32
  let v54 : BitVec 1 := Scalar.cmpi .sgt v52 c0_i32_16
  let v55 : BitVec 32 := Scalar.extui v54
  let c0_i32_17 : BitVec 32 := 0#32
  let v56 : BitVec 1 := Scalar.cmpi .slt v52 c0_i32_17
  let v57 : BitVec 32 := Scalar.extui v56
  let v58 : BitVec 32 := Scalar.subi v55 v57
  let c8_i32_15 : BitVec 32 := 8#32
  let c0_i32_18 : BitVec 32 := 0#32
  let v59 : BitVec 1 := Scalar.cmpi .sgt c8_i32_15 c0_i32_18
  let v60 : BitVec 32 := Scalar.extui v59
  let c0_i32_19 : BitVec 32 := 0#32
  let v61 : BitVec 1 := Scalar.cmpi .slt c8_i32_15 c0_i32_19
  let v62 : BitVec 32 := Scalar.extui v61
  let v63 : BitVec 32 := Scalar.subi v60 v62
  let v64 : BitVec 1 := Scalar.cmpi .ne v58 v63
  let v65 : BitVec 32 := Scalar.remsi v52 c8_i32_15
  let c0_i32_20 : BitVec 32 := 0#32
  let v66 : BitVec 1 := Scalar.cmpi .ne v65 c0_i32_20
  let v67 : BitVec 1 := Scalar.andi v64 v66
  let v53 : BitVec 32 := Scalar.divsi v52 c8_i32_15
  let c1_i32_21 : BitVec 32 := 1#32
  let v68 : BitVec 32 := Scalar.subi v53 c1_i32_21
  let v69 : BitVec 32 := Scalar.select v67 v68 v53
  let v70 : BitVec 32 := Scalar.subi v69 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let v71 : BitVec 32 := Scalar.addi c0_i32_22 v70
  let c1_i32_25 : BitVec 32 := 1#32
  ⟨v74, v71, c1_i32_25⟩
def k0_mult4 (i : grid0.Coords) (k0_t3 : Fin (k0_t3_loop i).trips) : BitVec 32 :=
  let c0_i32_22 : BitVec 32 := 0#32
  let arg2 : BitVec 32 := BitVec.ofNat 32 (i 2).val
  let c8_i32 : BitVec 32 := 8#32
  let v51 : BitVec 32 := Scalar.addi arg2 c8_i32
  let c1_i32 : BitVec 32 := 1#32
  let v52 : BitVec 32 := Scalar.subi v51 c1_i32
  let c0_i32_16 : BitVec 32 := 0#32
  let v54 : BitVec 1 := Scalar.cmpi .sgt v52 c0_i32_16
  let v55 : BitVec 32 := Scalar.extui v54
  let c0_i32_17 : BitVec 32 := 0#32
  let v56 : BitVec 1 := Scalar.cmpi .slt v52 c0_i32_17
  let v57 : BitVec 32 := Scalar.extui v56
  let v58 : BitVec 32 := Scalar.subi v55 v57
  let c8_i32_15 : BitVec 32 := 8#32
  let c0_i32_18 : BitVec 32 := 0#32
  let v59 : BitVec 1 := Scalar.cmpi .sgt c8_i32_15 c0_i32_18
  let v60 : BitVec 32 := Scalar.extui v59
  let c0_i32_19 : BitVec 32 := 0#32
  let v61 : BitVec 1 := Scalar.cmpi .slt c8_i32_15 c0_i32_19
  let v62 : BitVec 32 := Scalar.extui v61
  let v63 : BitVec 32 := Scalar.subi v60 v62
  let v64 : BitVec 1 := Scalar.cmpi .ne v58 v63
  let v65 : BitVec 32 := Scalar.remsi v52 c8_i32_15
  let c0_i32_20 : BitVec 32 := 0#32
  let v66 : BitVec 1 := Scalar.cmpi .ne v65 c0_i32_20
  let v67 : BitVec 1 := Scalar.andi v64 v66
  let v53 : BitVec 32 := Scalar.divsi v52 c8_i32_15
  let c1_i32_21 : BitVec 32 := 1#32
  let v68 : BitVec 32 := Scalar.subi v53 c1_i32_21
  let v69 : BitVec 32 := Scalar.select v67 v68 v53
  let v70 : BitVec 32 := Scalar.subi v69 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let c1_i32_25 : BitVec 32 := 1#32
  let arg11 : BitVec 32 := Scf.iv v74 c1_i32_25 k0_t3
  let c2048_i32 : BitVec 32 := 2048#32
  let v87 : BitVec 32 := Scalar.muli arg11 c2048_i32
  v87
def k0_off7 (i : grid0.Coords) (k0_t3 : Fin (k0_t3_loop i).trips) : Fin 2 → Nat :=
  let c0_i32_22 : BitVec 32 := 0#32
  let arg2 : BitVec 32 := BitVec.ofNat 32 (i 2).val
  let c8_i32 : BitVec 32 := 8#32
  let v51 : BitVec 32 := Scalar.addi arg2 c8_i32
  let c1_i32 : BitVec 32 := 1#32
  let v52 : BitVec 32 := Scalar.subi v51 c1_i32
  let c0_i32_16 : BitVec 32 := 0#32
  let v54 : BitVec 1 := Scalar.cmpi .sgt v52 c0_i32_16
  let v55 : BitVec 32 := Scalar.extui v54
  let c0_i32_17 : BitVec 32 := 0#32
  let v56 : BitVec 1 := Scalar.cmpi .slt v52 c0_i32_17
  let v57 : BitVec 32 := Scalar.extui v56
  let v58 : BitVec 32 := Scalar.subi v55 v57
  let c8_i32_15 : BitVec 32 := 8#32
  let c0_i32_18 : BitVec 32 := 0#32
  let v59 : BitVec 1 := Scalar.cmpi .sgt c8_i32_15 c0_i32_18
  let v60 : BitVec 32 := Scalar.extui v59
  let c0_i32_19 : BitVec 32 := 0#32
  let v61 : BitVec 1 := Scalar.cmpi .slt c8_i32_15 c0_i32_19
  let v62 : BitVec 32 := Scalar.extui v61
  let v63 : BitVec 32 := Scalar.subi v60 v62
  let v64 : BitVec 1 := Scalar.cmpi .ne v58 v63
  let v65 : BitVec 32 := Scalar.remsi v52 c8_i32_15
  let c0_i32_20 : BitVec 32 := 0#32
  let v66 : BitVec 1 := Scalar.cmpi .ne v65 c0_i32_20
  let v67 : BitVec 1 := Scalar.andi v64 v66
  let v53 : BitVec 32 := Scalar.divsi v52 c8_i32_15
  let c1_i32_21 : BitVec 32 := 1#32
  let v68 : BitVec 32 := Scalar.subi v53 c1_i32_21
  let v69 : BitVec 32 := Scalar.select v67 v68 v53
  let v70 : BitVec 32 := Scalar.subi v69 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let c1_i32_25 : BitVec 32 := 1#32
  let arg11 : BitVec 32 := Scf.iv v74 c1_i32_25 k0_t3
  let c2048_i32 : BitVec 32 := 2048#32
  let v87 : BitVec 32 := Scalar.muli arg11 c2048_i32
  let v88 : BitVec 32 := v87
  let v89 : Index := Scalar.indexCast v88
  let c0_30 : Index := 0#32
  ![v89.toNat, 0]
def k0_off8 (i : grid0.Coords) (k0_t3 : Fin (k0_t3_loop i).trips) : Fin 2 → Nat :=
  let c0_i32_22 : BitVec 32 := 0#32
  let arg2 : BitVec 32 := BitVec.ofNat 32 (i 2).val
  let c8_i32 : BitVec 32 := 8#32
  let v51 : BitVec 32 := Scalar.addi arg2 c8_i32
  let c1_i32 : BitVec 32 := 1#32
  let v52 : BitVec 32 := Scalar.subi v51 c1_i32
  let c0_i32_16 : BitVec 32 := 0#32
  let v54 : BitVec 1 := Scalar.cmpi .sgt v52 c0_i32_16
  let v55 : BitVec 32 := Scalar.extui v54
  let c0_i32_17 : BitVec 32 := 0#32
  let v56 : BitVec 1 := Scalar.cmpi .slt v52 c0_i32_17
  let v57 : BitVec 32 := Scalar.extui v56
  let v58 : BitVec 32 := Scalar.subi v55 v57
  let c8_i32_15 : BitVec 32 := 8#32
  let c0_i32_18 : BitVec 32 := 0#32
  let v59 : BitVec 1 := Scalar.cmpi .sgt c8_i32_15 c0_i32_18
  let v60 : BitVec 32 := Scalar.extui v59
  let c0_i32_19 : BitVec 32 := 0#32
  let v61 : BitVec 1 := Scalar.cmpi .slt c8_i32_15 c0_i32_19
  let v62 : BitVec 32 := Scalar.extui v61
  let v63 : BitVec 32 := Scalar.subi v60 v62
  let v64 : BitVec 1 := Scalar.cmpi .ne v58 v63
  let v65 : BitVec 32 := Scalar.remsi v52 c8_i32_15
  let c0_i32_20 : BitVec 32 := 0#32
  let v66 : BitVec 1 := Scalar.cmpi .ne v65 c0_i32_20
  let v67 : BitVec 1 := Scalar.andi v64 v66
  let v53 : BitVec 32 := Scalar.divsi v52 c8_i32_15
  let c1_i32_21 : BitVec 32 := 1#32
  let v68 : BitVec 32 := Scalar.subi v53 c1_i32_21
  let v69 : BitVec 32 := Scalar.select v67 v68 v53
  let v70 : BitVec 32 := Scalar.subi v69 c0_i32_22
  let c1_i32_23 : BitVec 32 := 1#32
  let v72 : BitVec 32 := Scalar.divsi v70 c1_i32_23
  let v73 : BitVec 32 := Scalar.muli v72 c1_i32_23
  let v74 : BitVec 32 := Scalar.addi c0_i32_22 v73
  let c1_i32_25 : BitVec 32 := 1#32
  let arg11 : BitVec 32 := Scf.iv v74 c1_i32_25 k0_t3
  let c2048_i32 : BitVec 32 := 2048#32
  let v87 : BitVec 32 := Scalar.muli arg11 c2048_i32
  let v88 : BitVec 32 := v87
  let v92 : Index := Scalar.indexCast v88
  let c128_32 : Index := 128#32
  ![v92.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "causal" => some ⊥
  | "mask" => some ⊥
  | _ => none
-- ==== ReferenceIdeal.lean ====
abbrev S2x8x8192x64 : Shape := ⟨4, ![2, 8, 8192, 64]⟩
abbrev S2x8x32x256x64 : Shape := ⟨5, ![2, 8, 32, 256, 64]⟩
abbrev S_ : Shape := ⟨0, ![]⟩
abbrev S2x8x32x64 : Shape := ⟨4, ![2, 8, 32, 64]⟩
abbrev S8192 : Shape := ⟨1, ![8192]⟩
abbrev S2x8x8192x32 : Shape := ⟨4, ![2, 8, 8192, 32]⟩
abbrev S32 : Shape := ⟨1, ![32]⟩
abbrev S1x32 : Shape := ⟨2, ![1, 32]⟩
abbrev S8192x1 : Shape := ⟨2, ![8192, 1]⟩
abbrev S8192x32 : Shape := ⟨2, ![8192, 32]⟩
abbrev S2x8x8192x3 : Shape := ⟨4, ![2, 8, 8192, 3]⟩
abbrev S1x1x8192x1 : Shape := ⟨4, ![1, 1, 8192, 1]⟩
abbrev S2x8x8192x3x1 : Shape := ⟨5, ![2, 8, 8192, 3, 1]⟩
abbrev S1x1x1x1x32 : Shape := ⟨5, ![1, 1, 1, 1, 32]⟩
abbrev S2x8x8192x3x32 : Shape := ⟨5, ![2, 8, 8192, 3, 32]⟩
abbrev S2x8x8192x8192 : Shape := ⟨4, ![2, 8, 8192, 8192]⟩
abbrev S2x8x8192x32x256 : Shape := ⟨5, ![2, 8, 8192, 32, 256]⟩
abbrev S1x8192 : Shape := ⟨2, ![1, 8192]⟩
abbrev S8192x8192 : Shape := ⟨2, ![8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩
abbrev S2x8192x8x64 : Shape := ⟨4, ![2, 8192, 8, 64]⟩

abbrev nBuf : Space → Nat
  | .hbm => 98
  | .vmem => 0
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8192x64, .f32⟩
  | .hbm, ⟨2, _⟩ => ⟨S2x8x8192x64, .f32⟩
  | .hbm, ⟨3, _⟩ => ⟨S2x8x32x256x64, .f32⟩
  | .hbm, ⟨4, _⟩ => ⟨S_, .f32⟩
  | .hbm, ⟨5, _⟩ => ⟨S2x8x32x64, .f32⟩
  | .hbm, ⟨6, _⟩ => ⟨S_, .f32⟩
  | .hbm, ⟨7, _⟩ => ⟨S2x8x32x64, .f32⟩
  | .hbm, ⟨8, _⟩ => ⟨S2x8x32x64, .f32⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S2x8x8192x32, .f32⟩
  | .hbm, ⟨29, _⟩ => ⟨S32, .i32⟩
  | .hbm, ⟨30, _⟩ => ⟨S1x32, .i32⟩
  | .hbm, ⟨31, _⟩ => ⟨S8192x1, .i32⟩
  | .hbm, ⟨32, _⟩ => ⟨S8192x32, .i32⟩
  | .hbm, ⟨33, _⟩ => ⟨S8192x32, .i32⟩
  | .hbm, ⟨34, _⟩ => ⟨S8192x32, .i1⟩
  | .hbm, ⟨35, _⟩ => ⟨S_, .f32⟩
  | .hbm, ⟨36, _⟩ => ⟨S_, .f32⟩
  | .hbm, ⟨37, _⟩ => ⟨S2x8x8192x32, .i1⟩
  | .hbm, ⟨38, _⟩ => ⟨S2x8x8192x32, .f32⟩
  | .hbm, ⟨39, _⟩ => ⟨S2x8x8192x32, .f32⟩
  | .hbm, ⟨40, _⟩ => ⟨S2x8x8192x3, .f32⟩
  | .hbm, ⟨41, _⟩ => ⟨S2x8x8192x3, .i32⟩
  | .hbm, ⟨42, _⟩ => ⟨S8192x1, .i32⟩
  | .hbm, ⟨43, _⟩ => ⟨S1x1x8192x1, .i32⟩
  | .hbm, ⟨44, _⟩ => ⟨S2x8x8192x3, .i32⟩
  | .hbm, ⟨45, _⟩ => ⟨S2x8x8192x3, .i1⟩
  | .hbm, ⟨46, _⟩ => ⟨S2x8x8192x3x1, .i32⟩
  | .hbm, ⟨47, _⟩ => ⟨S32, .i32⟩
  | .hbm, ⟨48, _⟩ => ⟨S1x1x1x1x32, .i32⟩
  | .hbm, ⟨49, _⟩ => ⟨S2x8x8192x3x32, .i32⟩
  | .hbm, ⟨50, _⟩ => ⟨S2x8x8192x3x32, .i32⟩
  | .hbm, ⟨51, _⟩ => ⟨S2x8x8192x3x32, .i1⟩
  | .hbm, ⟨52, _⟩ => ⟨S2x8x8192x3x1, .i1⟩
  | .hbm, ⟨53, _⟩ => ⟨S2x8x8192x3x32, .i1⟩
  | .hbm, ⟨54, _⟩ => ⟨S2x8x8192x3x32, .i1⟩
  | .hbm, ⟨55, _⟩ => ⟨S_, .i1⟩
  | .hbm, ⟨56, _⟩ => ⟨S2x8x8192x32, .i1⟩
  | .hbm, ⟨57, _⟩ => ⟨S2x8x8192x8192, .f32⟩
  | .hbm, ⟨58, _⟩ => ⟨S_, .f32⟩
  | .hbm, ⟨59, _⟩ => ⟨S2x8x8192x8192, .f32⟩
  | .hbm, ⟨60, _⟩ => ⟨S2x8x8192x8192, .f32⟩
  | .hbm, ⟨61, _⟩ => ⟨S2x8x8192x32x256, .i1⟩
  | .hbm, ⟨62, _⟩ => ⟨S2x8x8192x8192, .i1⟩
  | .hbm, ⟨63, _⟩ => ⟨S1x8192, .i32⟩
  | .hbm, ⟨64, _⟩ => ⟨S8192x1, .i32⟩
  | .hbm, ⟨65, _⟩ => ⟨S8192x8192, .i32⟩
  | .hbm, ⟨66, _⟩ => ⟨S8192x8192, .i32⟩
  | .hbm, ⟨67, _⟩ => ⟨S8192x8192, .i1⟩
  | .hbm, ⟨68, _⟩ => ⟨S1x8192, .i32⟩
  | .hbm, ⟨69, _⟩ => ⟨S8192x1, .i32⟩
  | .hbm, ⟨70, _⟩ => ⟨S8192x8192, .i32⟩
  | .hbm, ⟨71, _⟩ => ⟨S8192x8192, .i32⟩
  | .hbm, ⟨72, _⟩ => ⟨S8192x8192, .i1⟩
  | .hbm, ⟨73, _⟩ => ⟨S8192x8192, .i1⟩
  | .hbm, ⟨74, _⟩ => ⟨S1x1x8192x8192, .i1⟩
  | .hbm, ⟨75, _⟩ => ⟨S2x8x8192x8192, .i1⟩
  | .hbm, ⟨76, _⟩ => ⟨S2x8x8192x8192, .i1⟩
  | .hbm, ⟨77, _⟩ => ⟨S_, .f32⟩
  | .hbm, ⟨78, _⟩ => ⟨S_, .f32⟩
  | .hbm, ⟨79, _⟩ => ⟨S2x8x8192x8192, .f32⟩
  | .hbm, ⟨80, _⟩ => ⟨S2x8x8192x8192, .f32⟩
  | .hbm, ⟨81, _⟩ => ⟨S_, .f32⟩
  | .hbm, ⟨82, _⟩ => ⟨S2x8x8192, .f32⟩
  | .hbm, ⟨83, _⟩ => ⟨S_, .f32⟩
  | .hbm, ⟨84, _⟩ => ⟨S2x8x8192, .f32⟩
  | .hbm, ⟨85, _⟩ => ⟨S2x8x8192, .f32⟩
  | .hbm, ⟨86, _⟩ => ⟨S2x8x8192x1, .f32⟩
  | .hbm, ⟨87, _⟩ => ⟨S2x8x8192x8192, .f32⟩
  | .hbm, ⟨88, _⟩ => ⟨S2x8x8192x8192, .f32⟩
  | .hbm, ⟨89, _⟩ => ⟨S2x8x8192x8192, .f32⟩
  | .hbm, ⟨90, _⟩ => ⟨S_, .f32⟩
  | .hbm, ⟨91, _⟩ => ⟨S2x8x8192, .f32⟩
  | .hbm, ⟨92, _⟩ => ⟨S2x8x8192x1, .f32⟩
  | .hbm, ⟨93, _⟩ => ⟨S2x8x8192x8192, .f32⟩
  | .hbm, ⟨94, _⟩ => ⟨S2x8x8192x8192, .f32⟩
  | .hbm, ⟨95, _⟩ => ⟨S2x8x8192x64, .f32⟩
  | .hbm, ⟨96, _⟩ => ⟨S2x8192x8x64, .f32⟩
  | .hbm, ⟨97, _⟩ => ⟨S2x8192x8x64, .bf16⟩
  | _, _ => ⟨S2x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v13 : Ref sig .tc := ⟨.hbm, 39, rfl⟩
abbrev main_values : Ref sig .tc := ⟨.hbm, 40, rfl⟩
abbrev main_indices : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_2 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_4 : Ref sig .tc := ⟨.hbm, 77, rfl⟩
abbrev main_call2_v0 : Ref sig .tc := ⟨.hbm, 78, rfl⟩
abbrev main_call2_v1 : Ref sig .tc := ⟨.hbm, 79, rfl⟩
abbrev main_v47 : Ref sig .tc := ⟨.hbm, 80, rfl⟩
abbrev main_cst_5 : Ref sig .tc := ⟨.hbm, 81, rfl⟩
abbrev main_v48 : Ref sig .tc := ⟨.hbm, 82, rfl⟩
abbrev main_cst_6 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S1024 : Shape := ⟨1, ![1024]⟩
abbrev S1024x4096 : Shape := ⟨2, ![1024, 4096]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x112 : Shape := ⟨2, ![8192, 112]⟩
abbrev S8192x128 : Shape := ⟨2, ![8192, 128]⟩
abbrev S8192x120 : Shape := ⟨2, ![8192, 120]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x2048 : Shape := ⟨2, ![1024, 2048]⟩
abbrev S1024x5632 : Shape := ⟨2, ![1024, 5632]⟩
abbrev S16384x1024 : Shape := ⟨2, ![16384, 1024]⟩
abbrev S2x1x1024 : Shape := ⟨3, ![2, 1, 1024]⟩
abbrev S1x1024 : Shape := ⟨2, ![1, 1024]⟩
abbrev S16384x512 : Shape := ⟨2, ![16384, 512]⟩
abbrev S16384x2048 : Shape := ⟨2, ![16384, 2048]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x128 : Shape := ⟨2, ![1024, 128]⟩
abbrev S2x8192x512 : Shape := ⟨3, ![2, 8192, 512]⟩
abbrev S2x8192x8x128 : Shape := ⟨4, ![2, 8192, 8, 128]⟩
abbrev S2x8192x8x64 : Shape := ⟨4, ![2, 8192, 8, 64]⟩
abbrev S2x8x8192x64 : Shape := ⟨4, ![2, 8, 8192, 64]⟩
abbrev S2x8192x2048 : Shape := ⟨3, ![2, 8192, 2048]⟩

abbrev nBuf : Space → Nat
  | .hbm => 76
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x4096, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8192, .i32⟩
  | .hbm, ⟨14, _⟩ => ⟨S8192, .f32⟩
  | .hbm, ⟨15, _⟩ => ⟨S8192x1, .f32⟩
  | .hbm, ⟨16, _⟩ => ⟨S1x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192x112, .f32⟩
  | .hbm, ⟨24, _⟩ => ⟨S8192x128, .f32⟩
  | .hbm, ⟨25, _⟩ => ⟨S8192x8, .f32⟩
  | .hbm, ⟨26, _⟩ => ⟨S_, .f32⟩
  | .hbm, ⟨27, _⟩ => ⟨S8192x120, .f32⟩
  | .hbm, ⟨28, _⟩ => ⟨S8192x128, .f32⟩
  | .hbm, ⟨29, _⟩ => ⟨S_, .f32⟩
  | .hbm, ⟨30, _⟩ => ⟨S8192x8, .f32⟩
  | .hbm, ⟨31, _⟩ => ⟨S_, .f32⟩
  | .hbm, ⟨32, _⟩ => ⟨S8192x112, .f32⟩
  | .hbm, ⟨33, _⟩ => ⟨S8192x128, .f32⟩
  | .hbm, ⟨34, _⟩ => ⟨S1024x512, .f32⟩
  | .hbm, ⟨35, _⟩ => ⟨S1024x512, .f32⟩
  | .hbm, ⟨36, _⟩ => ⟨S1024x8x64, .f32⟩
  | .hbm, ⟨37, _⟩ => ⟨S_, .i32⟩
  | .hbm, ⟨38, _⟩ => ⟨S_, .f32⟩
  | .hbm, ⟨39, _⟩ => ⟨S1024x8x128, .f32⟩
  | .hbm, ⟨40, _⟩ => ⟨S1024x1024, .f32⟩
  | .hbm, ⟨41, _⟩ => ⟨S1024x512, .f32⟩
  | .hbm, ⟨42, _⟩ => ⟨S1024x8x64, .f32⟩
  | .hbm, ⟨43, _⟩ => ⟨S_, .i32⟩
  | .hbm, ⟨44, _⟩ => ⟨S_, .f32⟩
  | .hbm, ⟨45, _⟩ => ⟨S1024x8x128, .f32⟩
  | .hbm, ⟨46, _⟩ => ⟨S1024x1024, .f32⟩
  | .hbm, ⟨47, _⟩ => ⟨S1024x512, .f32⟩
  | .hbm, ⟨48, _⟩ => ⟨S1024x8x64, .f32⟩
  | .hbm, ⟨49, _⟩ => ⟨S_, .i32⟩
  | .hbm, ⟨50, _⟩ => ⟨S_, .f32⟩
  | .hbm, ⟨51, _⟩ => ⟨S1024x8x128, .f32⟩
  | .hbm, ⟨52, _⟩ => ⟨S1024x1024, .f32⟩
  | .hbm, ⟨53, _⟩ => ⟨S1024x2048, .f32⟩
  | .hbm, ⟨54, _⟩ => ⟨S1024x5632, .f32⟩
  | .hbm, ⟨55, _⟩ => ⟨S1024x5632, .bf16⟩
  | .hbm, ⟨56, _⟩ => ⟨S16384x1024, .f32⟩
  | .hbm, ⟨57, _⟩ => ⟨S2x1x1024, .f32⟩
  | .hbm, ⟨58, _⟩ => ⟨S2x1x1024, .f32⟩
  | .hbm, ⟨59, _⟩ => ⟨S1x1024, .f32⟩
  | .hbm, ⟨60, _⟩ => ⟨S16384x512, .f32⟩
  | .hbm, ⟨61, _⟩ => ⟨S16384x1024, .bf16⟩
  | .hbm, ⟨62, _⟩ => ⟨S16384x1024, .bf16⟩
  | .hbm, ⟨63, _⟩ => ⟨S16384x1024, .bf16⟩
  | .hbm, ⟨64, _⟩ => ⟨S16384x2048, .f32⟩
  | .hbm, ⟨65, _⟩ => ⟨S2x8192x512, .f32⟩
  | .hbm, ⟨66, _⟩ => ⟨S2x8192x8x128, .bf16⟩
  | .hbm, ⟨67, _⟩ => ⟨S2x8192x8x64, .bf16⟩
  | .hbm, ⟨68, _⟩ => ⟨S2x8x8192x64, .bf16⟩
  | .hbm, ⟨69, _⟩ => ⟨S2x8192x8x128, .bf16⟩
  | .hbm, ⟨70, _⟩ => ⟨S2x8192x8x64, .bf16⟩
  | .hbm, ⟨71, _⟩ => ⟨S2x8x8192x64, .bf16⟩
  | .hbm, ⟨72, _⟩ => ⟨S2x8192x8x128, .bf16⟩
  | .hbm, ⟨73, _⟩ => ⟨S2x8192x8x64, .bf16⟩
  | .hbm, ⟨74, _⟩ => ⟨S2x8x8192x64, .bf16⟩
  | .hbm, ⟨75, _⟩ => ⟨S2x8192x2048, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5632, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x2048, .f32⟩
  | .local _ .vmem, ⟨23, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_call2_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43_0 : Ref sig .tc := ⟨.hbm, 60, rfl⟩
abbrev main_v43_1 : Ref sig .tc := ⟨.hbm, 61, rfl⟩
abbrev main_v43_2 : Ref sig .tc := ⟨.hbm, 62, rfl⟩
abbrev main_v43_3 : Ref sig .tc := ⟨.hbm, 63, rfl⟩
abbrev main_v43_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S2x1024 : Shape := ⟨2, ![2, 1024]⟩
abbrev S1024 : Shape := ⟨1, ![1024]⟩
abbrev S1024x4096 : Shape := ⟨2, ![1024, 4096]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x4096 : Shape := ⟨3, ![2, 8192, 4096]⟩
abbrev S2x8192x512 : Shape := ⟨3, ![2, 8192, 512]⟩
abbrev S2x8192x1536 : Shape := ⟨3, ![2, 8192, 1536]⟩
abbrev S2x8192x3x8x64 : Shape := ⟨5, ![2, 8192, 3, 8, 64]⟩
abbrev S3x2x8x8192x64 : Shape := ⟨5, ![3, 2, 8, 8192, 64]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x2x8x8192x64 : Shape := ⟨5, ![1, 2, 8, 8192, 64]⟩
abbrev S2x8x8192x64 : Shape := ⟨4, ![2, 8, 8192, 64]⟩
abbrev S2x8x8192x8 : Shape := ⟨4, ![2, 8, 8192, 8]⟩
abbrev S2x8x8192x48 : Shape := ⟨4, ![2, 8, 8192, 48]⟩
abbrev S1x1x8192x8 : Shape := ⟨4, ![1, 1, 8192, 8]⟩
abbrev S2x8192x2048 : Shape := ⟨3, ![2, 8192, 2048]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x4096, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x8192x4096, .f32⟩
  | .hbm, ⟨31, _⟩ => ⟨S2x8192x512, .f32⟩
  | .hbm, ⟨32, _⟩ => ⟨S2x8192x1536, .f32⟩
  | .hbm, ⟨33, _⟩ => ⟨S2x8192x3x8x64, .f32⟩
  | .hbm, ⟨34, _⟩ => ⟨S3x2x8x8192x64, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8192, .i32⟩
  | .hbm, ⟨44, _⟩ => ⟨S8192, .f32⟩
  | .hbm, ⟨45, _⟩ => ⟨S8192x1, .f32⟩
  | .hbm, ⟨46, _⟩ => ⟨S1x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S8192x8, .f32⟩
  | .hbm, ⟨52, _⟩ => ⟨S1x2x8x8192x64, .f32⟩
  | .hbm, ⟨53, _⟩ => ⟨S2x8x8192x64, .f32⟩
  | .hbm, ⟨54, _⟩ => ⟨S2x8x8192x8, .f32⟩
  | .hbm, ⟨55, _⟩ => ⟨S2x8x8192x8, .f32⟩
  | .hbm, ⟨56, _⟩ => ⟨S2x8x8192x48, .f32⟩
  | .hbm, ⟨57, _⟩ => ⟨S1x1x8192x8, .f32⟩
  | .hbm, ⟨58, _⟩ => ⟨S2x8x8192x8, .f32⟩
  | .hbm, ⟨59, _⟩ => ⟨S2x8x8192x8, .f32⟩
  | .hbm, ⟨60, _⟩ => ⟨S1x1x8192x8, .f32⟩
  | .hbm, ⟨61, _⟩ => ⟨S2x8x8192x8, .f32⟩
  | .hbm, ⟨62, _⟩ => ⟨S2x8x8192x8, .f32⟩
  | .hbm, ⟨63, _⟩ => ⟨S2x8x8192x8, .f32⟩
  | .hbm, ⟨64, _⟩ => ⟨S1x1x8192x8, .f32⟩
  | .hbm, ⟨65, _⟩ => ⟨S2x8x8192x8, .f32⟩
  | .hbm, ⟨66, _⟩ => ⟨S2x8x8192x8, .f32⟩
  | .hbm, ⟨67, _⟩ => ⟨S1x1x8192x8, .f32⟩
  | .hbm, ⟨68, _⟩ => ⟨S2x8x8192x8, .f32⟩
  | .hbm, ⟨69, _⟩ => ⟨S2x8x8192x8, .f32⟩
  | .hbm, ⟨70, _⟩ => ⟨S2x8x8192x8, .f32⟩
  | .hbm, ⟨71, _⟩ => ⟨S2x8x8192x64, .f32⟩
  | .hbm, ⟨72, _⟩ => ⟨S_, .f32⟩
  | .hbm, ⟨73, _⟩ => ⟨S2x8x8192x64, .f32⟩
  | .hbm, ⟨74, _⟩ => ⟨S2x8x8192x64, .f32⟩
  | .hbm, ⟨75, _⟩ => ⟨S1x2x8x8192x64, .f32⟩
  | .hbm, ⟨76, _⟩ => ⟨S2x8x8192x64, .f32⟩
  | .hbm, ⟨77, _⟩ => ⟨S2x8x8192x8, .f32⟩
  | .hbm, ⟨78, _⟩ => ⟨S2x8x8192x8, .f32⟩
  | .hbm, ⟨79, _⟩ => ⟨S2x8x8192x48, .f32⟩
  | .hbm, ⟨80, _⟩ => ⟨S1x1x8192x8, .f32⟩
  | .hbm, ⟨81, _⟩ => ⟨S2x8x8192x8, .f32⟩
  | .hbm, ⟨82, _⟩ => ⟨S2x8x8192x8, .f32⟩
  | .hbm, ⟨83, _⟩ => ⟨S1x1x8192x8, .f32⟩
  | .hbm, ⟨84, _⟩ => ⟨S2x8x8192x8, .f32⟩
  | .hbm, ⟨85, _⟩ => ⟨S2x8x8192x8, .f32⟩
  | .hbm, ⟨86, _⟩ => ⟨S2x8x8192x8, .f32⟩
  | .hbm, ⟨87, _⟩ => ⟨S1x1x8192x8, .f32⟩
  | .hbm, ⟨88, _⟩ => ⟨S2x8x8192x8, .f32⟩
  | .hbm, ⟨89, _⟩ => ⟨S2x8x8192x8, .f32⟩
  | .hbm, ⟨90, _⟩ => ⟨S1x1x8192x8, .f32⟩
  | .hbm, ⟨91, _⟩ => ⟨S2x8x8192x8, .f32⟩
  | .hbm, ⟨92, _⟩ => ⟨S2x8x8192x8, .f32⟩
  | .hbm, ⟨93, _⟩ => ⟨S2x8x8192x8, .f32⟩
  | .hbm, ⟨94, _⟩ => ⟨S2x8x8192x64, .f32⟩
  | .hbm, ⟨95, _⟩ => ⟨S2x8192x2048, .f32⟩
  | .hbm, ⟨96, _⟩ => ⟨S2x8192x2048, .f32⟩
  | .hbm, ⟨97, _⟩ => ⟨S2x8192x2048, .f32⟩
  | .hbm, ⟨98, _⟩ => ⟨S_, .f32⟩
  | .hbm, ⟨99, _⟩ => ⟨S2x8192x2048, .f32⟩
  | .hbm, ⟨100, _⟩ => ⟨S2x8192x2048, .f32⟩
  | .hbm, ⟨101, _⟩ => ⟨S_, .f32⟩
  | .hbm, ⟨102, _⟩ => ⟨S2x8192x2048, .f32⟩
  | .hbm, ⟨103, _⟩ => ⟨S2x8192x2048, .f32⟩
  | .hbm, ⟨104, _⟩ => ⟨S2x8x8192x64, .bf16⟩
  | .hbm, ⟨105, _⟩ => ⟨S2x8x8192x64, .bf16⟩
  | .hbm, ⟨106, _⟩ => ⟨S1x2x8x8192x64, .f32⟩
  | .hbm, ⟨107, _⟩ => ⟨S2x8x8192x64, .f32⟩
  | .hbm, ⟨108, _⟩ => ⟨S2x8x8192x64, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_6 : Ref sig .tc := ⟨.hbm, 98, rfl⟩
abbrev main_v86 : Ref sig .tc := ⟨.hbm, 99, rfl⟩
abbrev main_v87 : Ref sig .tc := ⟨.hbm, 100, rfl⟩
abbrev main_cst_7 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩

abbrev nD : Nat := 1
abbrev τ : Topo := Topo.v7x

variable {F : FTy → Type} [FloatOps F]
-- ==== Kernel3.lean ====
abbrev S2x8192x512 : Shape := ⟨3, ![2, 8192, 512]⟩
abbrev S2x8192x2048 : Shape := ⟨3, ![2, 8192, 2048]⟩
abbrev S2x8192x1024 : Shape := ⟨3, ![2, 8192, 1024]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S2x1024 : Shape := ⟨2, ![2, 1024]⟩
abbrev S1024 : Shape := ⟨1, ![1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S16384x512 : Shape := ⟨2, ![16384, 512]⟩
abbrev S16384x8x64 : Shape := ⟨3, ![16384, 8, 64]⟩
abbrev S16384x8x128 : Shape := ⟨3, ![16384, 8, 128]⟩
abbrev S16384x1024 : Shape := ⟨2, ![16384, 1024]⟩
abbrev S16384x2048 : Shape := ⟨2, ![16384, 2048]⟩
abbrev S1x512 : Shape := ⟨2, ![1, 512]⟩
abbrev S2x1x1024 : Shape := ⟨3, ![2, 1, 1024]⟩
abbrev S1x1024 : Shape := ⟨2, ![1, 1024]⟩
abbrev S1024x16384 : Shape := ⟨2, ![1024, 16384]⟩
abbrev S512x512 : Shape := ⟨2, ![512, 512]⟩
abbrev S16x512 : Shape := ⟨2, ![16, 512]⟩
abbrev S512x2048 : Shape := ⟨2, ![512, 2048]⟩
abbrev S1x1x1024 : Shape := ⟨3, ![1, 1, 1024]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512x1 : Shape := ⟨2, ![512, 1]⟩

abbrev nBuf : Space → Nat
  | .hbm => 44
  | .vmem => 26
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x2048, .f32⟩
  | .hbm, ⟨3, _⟩ => ⟨S2x8192x1024, .f32⟩
  | .hbm, ⟨4, _⟩ => ⟨S4x128x128, .f32⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x1024, .f32⟩
  | .hbm, ⟨10, _⟩ => ⟨S1024, .f32⟩
  | .hbm, ⟨11, _⟩ => ⟨S2x1024, .f32⟩
  | .hbm, ⟨12, _⟩ => ⟨S2x1024, .f32⟩
  | .hbm, ⟨13, _⟩ => ⟨S1024x512, .f32⟩
  | .hbm, ⟨14, _⟩ => ⟨S1024x8x64, .f32⟩
  | .hbm, ⟨15, _⟩ => ⟨S_, .i32⟩
  | .hbm, ⟨16, _⟩ => ⟨S_, .f32⟩
  | .hbm, ⟨17, _⟩ => ⟨S1024x8x128, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S16384x512, .f32⟩
  | .hbm, ⟨22, _⟩ => ⟨S16384x512, .f32⟩
  | .hbm, ⟨23, _⟩ => ⟨S16384x8x64, .f32⟩
  | .hbm, ⟨24, _⟩ => ⟨S_, .i32⟩
  | .hbm, ⟨25, _⟩ => ⟨S_, .f32⟩
  | .hbm, ⟨26, _⟩ => ⟨S16384x8x128, .f32⟩
  | .hbm, ⟨27, _⟩ => ⟨S16384x1024, .f32⟩
  | .hbm, ⟨28, _⟩ => ⟨S16384x1024, .bf16⟩
  | .hbm, ⟨29, _⟩ => ⟨S16384x2048, .f32⟩
  | .hbm, ⟨30, _⟩ => ⟨S16384x1024, .f32⟩
  | .hbm, ⟨31, _⟩ => ⟨S4x128x128, .bf16⟩
  | .hbm, ⟨32, _⟩ => ⟨S1x512, .f32⟩
  | .hbm, ⟨33, _⟩ => ⟨S512x1024, .bf16⟩
  | .hbm, ⟨34, _⟩ => ⟨S1024x1024, .bf16⟩
  | .hbm, ⟨35, _⟩ => ⟨S2x1x1024, .f32⟩
  | .hbm, ⟨36, _⟩ => ⟨S1x1024, .f32⟩
  | .hbm, ⟨37, _⟩ => ⟨S2x1x1024, .f32⟩
  | .hbm, ⟨38, _⟩ => ⟨S2x1x1024, .f32⟩
  | .hbm, ⟨39, _⟩ => ⟨S16384x1024, .f32⟩
  | .hbm, ⟨40, _⟩ => ⟨S1024x16384, .bf16⟩
  | .hbm, ⟨41, _⟩ => ⟨S2x8192x1024, .f32⟩
  | .hbm, ⟨42, _⟩ => ⟨S16384x1024, .bf16⟩
  | .hbm, ⟨43, _⟩ => ⟨S2x8192x1024, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S4x128x128, .bf16⟩
  | .local _ .vmem, ⟨11, _⟩ => ⟨S1x512, .f32⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S512x1024, .f32⟩
  | .local _ .vmem, ⟨23, _⟩ => ⟨S512x1024, .f32⟩
  | .local _ .vmem, ⟨24, _⟩ => ⟨S1024x512, .bf16⟩
  | .local _ .vmem, ⟨25, _⟩ => ⟨S1024x512, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x8192x512 : Shape := ⟨3, ![2, 8192, 512]⟩
abbrev S2x8192x2048 : Shape := ⟨3, ![2, 8192, 2048]⟩
abbrev S2x8192x1024 : Shape := ⟨3, ![2, 8192, 1024]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S2x1024 : Shape := ⟨2, ![2, 1024]⟩
abbrev S1024 : Shape := ⟨1, ![1024]⟩
abbrev S8192 : Shape := ⟨1, ![8192]⟩
abbrev S2x8192x128 : Shape := ⟨3, ![2, 8192, 128]⟩
abbrev S_ : Shape := ⟨0, ![]⟩
abbrev S2x8193x128 : Shape := ⟨3, ![2, 8193, 128]⟩
abbrev S1x8192x1 : Shape := ⟨3, ![1, 8192, 1]⟩
abbrev S2x8195x128 : Shape := ⟨3, ![2, 8195, 128]⟩
abbrev S2x8199x128 : Shape := ⟨3, ![2, 8199, 128]⟩
abbrev S2x8207x128 : Shape := ⟨3, ![2, 8207, 128]⟩
abbrev S2x8192x1x128 : Shape := ⟨4, ![2, 8192, 1, 128]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 173
  | .vmem => 0
  | .smem => 0
  | _ => 0

abbrev hbmTy0_0 (i : Nat) : BufTy := match i % 128 with
  | 0 => ⟨S2x8192x512, .f32⟩
  | 1 => ⟨S2x8192x512, .f32⟩
  | 2 => ⟨S2x8192x2048, .f32⟩
  | 3 => ⟨S2x8192x1024, .f32⟩
  | 4 => ⟨S4x128x128, .f32⟩
  | 5 => ⟨S512, .f32⟩
  | 6 => ⟨S512x1024, .f32⟩
  | 7 => ⟨S512x1024, .f32⟩
  | 8 => ⟨S1024x1024, .f32⟩
  | 9 => ⟨S2x1024, .f32⟩
  | 10 => ⟨S1024, .f32⟩
  | 11 => ⟨S2x1024, .f32⟩
  | 12 => ⟨S2x1024, .f32⟩
  | 13 => ⟨S8192, .i32⟩
  | 14 => ⟨S2x8192x128, .f32⟩
  | 15 => ⟨S_, .i32⟩
  | 16 => ⟨S_, .f32⟩
  | 17 => ⟨S2x8193x128, .f32⟩
  | 18 => ⟨S2x8192x128, .f32⟩
  | 19 => ⟨S2x8192x128, .f32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .f32⟩
  | 27 => ⟨S1x8192x1, .f32⟩
  | 28 => ⟨S2x8192x128, .f32⟩
  | 29 => ⟨S2x8192x128, .f32⟩
  | 30 => ⟨S2x8192x128, .f32⟩
  | 31 => ⟨S_, .i32⟩
  | 32 => ⟨S_, .f32⟩
  | 33 => ⟨S2x8195x128, .f32⟩
  | 34 => ⟨S2x8192x128, .f32⟩
  | 35 => ⟨S2x8192x128, .f32⟩
  | 36 => ⟨S2x8192x128, .f32⟩
  | 37 => ⟨S2x8192x128, .f32⟩
  | 38 => ⟨S2x8192x128, .f32⟩
  | 39 => ⟨S2x8192x128, .f32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S1x8192x1, .f32⟩
  | 48 => ⟨S2x8192x128, .f32⟩
  | 49 => ⟨S2x8192x128, .f32⟩
  | 50 => ⟨S2x8192x128, .f32⟩
  | 51 => ⟨S_, .i32⟩
  | 52 => ⟨S_, .f32⟩
  | 53 => ⟨S2x8199x128, .f32⟩
  | 54 => ⟨S2x8192x128, .f32⟩
  | 55 => ⟨S2x8192x128, .f32⟩
  | 56 => ⟨S2x8192x128, .f32⟩
  | 57 => ⟨S2x8192x128, .f32⟩
  | 58 => ⟨S2x8192x128, .f32⟩
  | 59 => ⟨S2x8192x128, .f32⟩
  | 60 => ⟨S2x8192x128, .f32⟩
  | 61 => ⟨S2x8192x128, .f32⟩
  | 62 => ⟨S2x8192x128, .f32⟩
  | 63 => ⟨S2x8192x128, .f32⟩
  | 64 => ⟨S2x8192x128, .f32⟩
  | 65 => ⟨S2x8192x128, .f32⟩
  | 66 => ⟨S2x8192x128, .f32⟩
  | 67 => ⟨S2x8192x128, .f32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .f32⟩
  | 75 => ⟨S1x8192x1, .f32⟩
  | 76 => ⟨S2x8192x128, .f32⟩
  | 77 => ⟨S2x8192x128, .f32⟩
  | 78 => ⟨S2x8192x128, .f32⟩
  | 79 => ⟨S_, .i32⟩
  | 80 => ⟨S_, .f32⟩
  | 81 => ⟨S2x8207x128, .f32⟩
  | 82 => ⟨S2x8192x128, .f32⟩
  | 83 => ⟨S2x8192x128, .f32⟩
  | 84 => ⟨S2x8192x128, .f32⟩
  | 85 => ⟨S2x8192x128, .f32⟩
  | 86 => ⟨S2x8192x128, .f32⟩
  | 87 => ⟨S2x8192x128, .f32⟩
  | 88 => ⟨S2x8192x128, .f32⟩
  | 89 => ⟨S2x8192x128, .f32⟩
  | 90 => ⟨S2x8192x128, .f32⟩
  | 91 => ⟨S2x8192x128, .f32⟩
  | 92 => ⟨S2x8192x128, .f32⟩
  | 93 => ⟨S2x8192x128, .f32⟩
  | 94 => ⟨S2x8192x128, .f32⟩
  | 95 => ⟨S2x8192x128, .f32⟩
  | 96 => ⟨S2x8192x128, .f32⟩
  | 97 => ⟨S2x8192x128, .f32⟩
  | 98 => ⟨S2x8192x128, .f32⟩
  | 99 => ⟨S2x8192x128, .f32⟩
  | 100 => ⟨S2x8192x128, .f32⟩
  | 101 => ⟨S2x8192x128, .f32⟩
  | 102 => ⟨S2x8192x128, .f32⟩
  | 103 => ⟨S2x8192x128, .f32⟩
  | 104 => ⟨S2x8192x128, .f32⟩
  | 105 => ⟨S2x8192x128, .f32⟩
  | 106 => ⟨S2x8192x128, .f32⟩
  | 107 => ⟨S2x8192x128, .f32⟩
  | 108 => ⟨S2x8192x128, .f32⟩
  | 109 => ⟨S2x8192x128, .f32⟩
  | 110 => ⟨S2x8192x128, .f32⟩
  | 111 => ⟨S2x8192x128, .f32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S8192, .f32⟩
  | 119 => ⟨S1x8192x1, .f32⟩
  | 120 => ⟨S2x8192x128, .f32⟩
  | 121 => ⟨S2x8192x128, .f32⟩
  | 122 => ⟨S2x8192x1x128, .f32⟩
  | 123 => ⟨S2x8192x1x128, .f32⟩
  | 124 => ⟨S2x8192x1x128, .f32⟩
  | 125 => ⟨S2x8192x1x128, .f32⟩
  | 126 => ⟨S2x8192x4x128, .f32⟩
  | 127 => ⟨S2x8192x4x128, .f32⟩
  | _ => ⟨S2x8192x512, .f32⟩

abbrev hbmTy0_1 (i : Nat) : BufTy := match i % 128 with
  | 0 => ⟨S2x8192x4x128, .f32⟩
  | 1 => ⟨S4x128x2x8192, .f32⟩
  | 2 => ⟨S2x8192x4x128, .f32⟩
  | 3 => ⟨S2x8192x512, .f32⟩
  | 4 => ⟨S1x1x512, .f32⟩
  | 5 => ⟨S2x8192x512, .f32⟩
  | 6 => ⟨S2x8192x512, .f32⟩
  | 7 => ⟨S2x8192x1024, .f32⟩
  | 8 => ⟨S2x8192x1024, .f32⟩
  | 9 => ⟨S2x8192x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S2x1x1024, .f32⟩
  | 15 => ⟨S2x8192x1024, .f32⟩
  | 16 => ⟨S2x8192x1024, .f32⟩
  | 17 => ⟨S2x8192x1024, .f32⟩
  | 18 => ⟨S2x8192x1024, .f32⟩
  | 19 => ⟨S2x8192x1024, .f32⟩
  | 20 => ⟨S_, .f32⟩
  | 21 => ⟨S2x8192, .f32⟩
  | 22 => ⟨S2x8192x1, .f32⟩
  | 23 => ⟨S_, .f32⟩
  | 24 => ⟨S2x8192x1, .f32⟩
  | 25 => ⟨S2x8192x1, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S1x1x1024, .f32⟩
  | 33 => ⟨S2x8192x1024, .f32⟩
  | 34 => ⟨S2x8192x1024, .f32⟩
  | 35 => ⟨S2x1x1024, .f32⟩
  | 36 => ⟨S_, .f32⟩
  | 37 => ⟨S2x1x1024, .f32⟩
  | 38 => ⟨S2x1x1024, .f32⟩
  | 39 => ⟨S2x8192x1024, .f32⟩
  | 40 => ⟨S2x8192x1024, .f32⟩
  | 41 => ⟨S2x1x1024, .f32⟩
  | 42 => ⟨S2x8192x1024, .f32⟩
  | 43 => ⟨S2x8192x1024, .f32⟩
  | 44 => ⟨S2x8192x1024, .bf16⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_call1_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_call3_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_9 : Ref sig .tc := ⟨.hbm, 112, rfl⟩
abbrev main_v85 : Ref sig .tc := ⟨.hbm, 113, rfl⟩
abbrev main_v86 : Ref sig .tc := ⟨.hbm, 114, rfl⟩
abbrev main_c_10 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst : Ref sig .tc := ⟨.hbm, 148, rfl⟩
abbrev main_v119 : Ref sig .tc := ⟨.hbm, 149, rfl⟩
abbrev main_v120 : Ref sig .tc := ⟨.hbm, 150, rfl⟩
abbrev main_cst_11 : Ref sig .tc := ⟨.hbm, 151, rfl⟩
abbrev main_v121 : Ref sig .tc := ⟨.hbm, 152, rfl⟩
abbrev main_v122 : Ref sig .tc := ⟨.hbm, 153, rfl⟩
abbrev main_cst_12 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_13 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩

abbrev nD : Nat := 1
abbrev τ : Topo := Topo.v7x

variable {F : FTy → Type} [FloatOps F]
-- ==== Proof.Trip.lean ====
/-
  The kernel's two loops, trip by trip, as named functions of the blocks they read: what a trip of the preparing
  loop stores (the scaled queries with the selection in the upper lanes, the keys with their block's marker, the
  values with a column of ones), and what a trip of the loop over past keys makes of a head's running maximum and
  running sum.
-/
module

public import proofs.«01_k».proof.Proof.Gen.KernelIdeal.Frame
public import proofs.«01_k».proof.Proof.Gen.KernelIdeal.Loops
public import Idealize.ShloMosaic.Lib.Tactic.Stretches
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The index (row `r`, lane `c`) of an 8192 × 256 block, each taken modulo its extent. -/
def at2 (r c : ℕ) : S8192x256.Idx := fun a =>
  match a with
  | ⟨0, _⟩ => (⟨r % 8192, Nat.mod_lt _ (by omega)⟩ : Fin 8192)
  | ⟨1, _⟩ => (⟨c % 256, Nat.mod_lt _ (by omega)⟩ : Fin 256)

/-- The index (row `r`, lane `c`) of a 256 × 128 block, each taken modulo its extent. -/
def ix128 (r c : ℕ) : S256x128.Idx := fun a =>
  match a with
  | ⟨0, _⟩ => (⟨r % 256, Nat.mod_lt _ (by omega)⟩ : Fin 256)
  | ⟨1, _⟩ => (⟨c % 128, Nat.mod_lt _ (by omega)⟩ : Fin 128)

/-- Rows 256 n … 256 n + 255 of one head's 128 lanes. -/
def blk (x : Vec F S8192x256 .bf16) (n h : ℕ) : Vec F S256x128 .bf16 :=
  fun y => x (at2 (256 * n + (y 0).val) (128 * h + (y 1).val))

/-- Rows 2048 n … 2048 n + 2047 of one head's 128 lanes. -/
def wide (x : Vec F S8192x256 .bf16) (n h : ℕ) : Vec F S2048x128 .bf16 :=
  fun y => x (at2 (2048 * n + (y 0).val) (128 * h + (y 1).val))

/-- All rows of one head's 128 lanes. -/
def half (x : Vec F S8192x256 .bf16) (h : ℕ) : Vec F S8192x128 .bf16 :=
  fun y => x (at2 (y 0).val (128 * h + (y 1).val))

/-- The lane number at every place of a 256 × 128 block. -/
abbrev lanes : IVec S256x128 32 := iota .tc S256x128 32 [1] iota_S256x128_d1_w32

/-- A trip's queries, prepared: lanes below 64 as they are; a lane 64 + b the mask where block b is a past block that
    the row does not choose, else as it is. `bs` averages the keys `kk` by blocks. -/
def QT (n : Fin k0_t1_loop.trips) (bs : Vec F S128x8192 .bf16) (kk : Vec F S8192x128 .bf16) (q : Vec F S256x128 .bf16) :
    FVec F S256x128 .bf16 :=
  k0_pay22 k0_pay27 (k0_pay2 lanes 0#32 1#32 n) (k0_pay3 lanes) (k0_pay5 q)
    (k0_pay15 k0_pay27 (k0_pay2 lanes 0#32 1#32 n) k0_pay9 (k0_pay12 lanes (k0_pay28 bs kk) 0#32 1#32 n q))
    (k0_pay17 k0_pay27 (k0_pay2 lanes 0#32 1#32 n) (k0_pay7 lanes (k0_pay28 bs kk) 0#32 1#32 n q)
      (k0_pay12 lanes (k0_pay28 bs kk) 0#32 1#32 n q))
    (k0_pay19 k0_pay27 (k0_pay2 lanes 0#32 1#32 n) (k0_pay7 lanes (k0_pay28 bs kk) 0#32 1#32 n q)
      (k0_pay12 lanes (k0_pay28 bs kk) 0#32 1#32 n q))

/-- A trip's keys, prepared: lanes below 64 as they are, above them the marker of the block. -/
def KT (n : Fin k0_t1_loop.trips) (k : Vec F S256x128 .bf16) : FVec F S256x128 .bf16 :=
  k0_pay23 lanes (k0_pay4 lanes 0#32 1#32 n) k

/-- A trip's values, prepared: a one in lane 64. -/
def VT (v : Vec F S256x128 .bf16) : FVec F S256x128 .bf16 := k0_pay24 lanes v

/-- The trip that prepares row `r`. -/
def tripOf (r : ℕ) : Fin k0_t1_loop.trips := ⟨r / 256 % 32, by
  have : k0_t1_loop.trips = 32 := by decide
  rw [this]; exact Nat.mod_lt _ (by omega)⟩

/-- The prepared queries of a pair of heads. -/
def QA (x0 x1 : Vec F S8192x256 .bf16) (x3 : Vec F S128x8192 .bf16) : Vec F S8192x256 .bf16 := fun y =>
  QT (tripOf (y 0).val) x3 (half x1 ((y 1).val / 128)) (blk x0 ((y 0).val / 256) ((y 1).val / 128)) (ix128 (y 0).val (y 1).val)

/-- The prepared keys of a pair of heads. -/
def KA (x1 : Vec F S8192x256 .bf16) : Vec F S8192x256 .bf16 := fun y =>
  KT (tripOf (y 0).val) (blk x1 ((y 0).val / 256) ((y 1).val / 128)) (ix128 (y 0).val (y 1).val)

/-- The prepared values of a pair of heads. -/
def VA (x2 : Vec F S8192x256 .bf16) : Vec F S8192x256 .bf16 := fun y =>
  VT (blk x2 ((y 0).val / 256) ((y 1).val / 128)) (ix128 (y 0).val (y 1).val)

/-- A head's running maximum and running sum after its own block. -/
def own (qa ka va : Vec F S8192x256 .bf16) (b h : ℕ) : FVec F S256x1 .f32 × FVec F S256x128 .f32 :=
  (k0_pay34 (blk qa b h) (blk ka b h), k0_pay37 (k0_pay36 (blk qa b h) (blk ka b h)) (blk va b h))

/-- The same after the first `k` groups of 2048 keys too. -/
def past (qa ka va : Vec F S8192x256 .bf16) (b h : ℕ) : ℕ → FVec F S256x1 .f32 × FVec F S256x128 .f32
  | 0 => own qa ka va b h
  | k + 1 => (k0_pay41 (blk qa b h) (past qa ka va b h k).1 (wide ka k h),
      k0_pay43 (blk qa b h) (past qa ka va b h k).1 (past qa ka va b h k).2 (wide ka k h) (wide va k h))

/-- The block of the result at grid point `i`, of the prepared queries, keys and values. -/
def outF (i : grid0.Coords) (qa ka va : Vec F S8192x256 .bf16) : Vec F S256x256 .bf16 := fun y =>
  k0_pay51 (past qa ka va (i 2).val ((y 1).val / 128) (k0_t2_loop i).trips).2 (ix128 (y 0).val (y 1).val)

variable (𝒱 : Variants) (c : Dev nD) (bd : Option 𝒱.V) (i : grid0.Coords)
  (arg3 : Memref sig .tc .vmem S8192x256 .bf16) (harg3 : arg3.IsWhole) (arg4 : Memref sig .tc .vmem S8192x256 .bf16) (harg4 : arg4.IsWhole)
  (arg5 : Memref sig .tc .vmem S8192x256 .bf16) (harg5 : arg5.IsWhole) (arg6 : Memref sig .tc .vmem S128x8192 .bf16) (harg6 : arg6.IsWhole)
  (arg7 : Memref sig .tc .vmem S256x256 .bf16) (harg7 : arg7.IsWhole) (arg8 : Memref sig .tc .vmem S8192x256 .bf16) (harg8 : arg8.IsWhole)
  (arg9 : Memref sig .tc .vmem S8192x256 .bf16) (harg9 : arg9.IsWhole) (arg10 : Memref sig .tc .vmem S8192x256 .bf16) (harg10 : arg10.IsWhole)

/-- The pieces `L` agree with `G` and cover the rows below 256 k. -/
def Fill (G : Vec F S8192x256 .bf16) (L : List (View.Piece (Elt F) S8192x256 .bf16)) (k : ℕ) : Prop :=
  (∀ p ∈ L, ∀ x : p.1.shape.Idx, p.2 x = G (p.1.emb x)) ∧ ∀ y : S8192x256.Idx, (y 0).val < 256 * k → ∃ p ∈ L, y ∈ p.1.set

/-- A trip's two pieces, agreeing with `G`, fill 256 rows more. -/
theorem fill_step (G : Vec F S8192x256 .bf16) (L : List (View.Piece (Elt F) S8192x256 .bf16)) (k : ℕ) (hL : Fill G L k)
    (o1 o2 : Fin 2 → ℕ) (h1 : o1 = ![256 * k, 0]) (h2 : o2 = ![256 * k, 128])
    (i1 : ∀ a, o1 a + S256x128.size a ≤ S8192x256.size a) (i2 : ∀ a, o2 a + S256x128.size a ≤ S8192x256.size a)
    (w1 w2 : Vec F S256x128 .bf16)
    (e1 : ∀ y : S256x128.Idx, w1 y = G (at2 (256 * k + (y 0).val) (128 * 0 + (y 1).val)))
    (e2 : ∀ y : S256x128.Idx, w2 y = G (at2 (256 * k + (y 0).val) (128 * 1 + (y 1).val)))
    (T : List (View.Piece (Elt F) S8192x256 .bf16))
    (hT : T = [⟨Rect.unit (s := S8192x256) o2 S256x128.size i2, w2⟩, ⟨Rect.unit (s := S8192x256) o1 S256x128.size i1, w1⟩]) :
    Fill G (T ++ L) (k + 1) := by
  subst h1 h2 hT
  have hk : 256 * k + 256 ≤ 8192 := i1 0
  refine ⟨fun p hp => ?_, fun y hy => ?_⟩
  · simp only [List.cons_append, List.nil_append, List.mem_cons] at hp
    rcases hp with rfl | rfl | hp
    · intro x
      refine (e2 x).trans (congrArg G (funext fun a => Fin.ext ?_))
      have hx0 : (x 0).val < 256 := (x 0).isLt
      have hx1 : (x 1).val < 128 := (x 1).isLt
      match a with
      | ⟨0, _⟩ => show (256 * k + (x 0).val) % 8192 = 256 * k + 1 * (x 0).val; omega
      | ⟨1, _⟩ => show (128 * 1 + (x 1).val) % 256 = 128 + 1 * (x 1).val; omega
    · intro x
      refine (e1 x).trans (congrArg G (funext fun a => Fin.ext ?_))
      have hx0 : (x 0).val < 256 := (x 0).isLt
      have hx1 : (x 1).val < 128 := (x 1).isLt
      match a with
      | ⟨0, _⟩ => show (256 * k + (x 0).val) % 8192 = 256 * k + 1 * (x 0).val; omega
      | ⟨1, _⟩ => show (128 * 0 + (x 1).val) % 256 = 0 + 1 * (x 1).val; omega
    · exact hL.1 p hp
  · by_cases hlt : (y 0).val < 256 * k
    · obtain ⟨p, hp, hy'⟩ := hL.2 y hlt
      exact ⟨p, List.mem_append_right _ hp, hy'⟩
    · have hy1 : (y 1).val < 256 := (y 1).isLt
      by_cases hh : (y 1).val < 128
      · refine ⟨⟨Rect.unit (s := S8192x256) _ S256x128.size i1, w1⟩, by simp, (Rect.mem_set_unit (s := S8192x256) (inb := i1)).mpr fun a => ?_⟩
        match a with
        | ⟨0, _⟩ => show 256 * k ≤ (y 0).val ∧ (y 0).val < 256 * k + 256; omega
        | ⟨1, _⟩ => show 0 ≤ (y 1).val ∧ (y 1).val < 0 + 128; omega
      · refine ⟨⟨Rect.unit (s := S8192x256) _ S256x128.size i2, w2⟩, by simp, (Rect.mem_set_unit (s := S8192x256) (inb := i2)).mpr fun a => ?_⟩
        match a with
        | ⟨0, _⟩ => show 256 * k ≤ (y 0).val ∧ (y 0).val < 256 * k + 256; omega
        | ⟨1, _⟩ => show 128 ≤ (y 1).val ∧ (y 1).val < 128 + 128; omega

theorem t1_trips : k0_t1_loop.trips = 32 := by decide

/-- After all trips the buffer reads `G`. -/
theorem fill_read (G : Vec F S8192x256 .bf16) (L : List (View.Piece (Elt F) S8192x256 .bf16)) (hL : Fill G L 32)
    (M : Memref sig .tc .vmem S8192x256 .bf16) (f : M.view.ty.Contents (Elt F)) :
    M.view.read (Elt F) (M.view.writes (Elt F) f L) = G :=
  funext fun y => View.read_writes_apply_of_pieces (v := M.view) (f := f) G L hL.1 y (hL.2 y (y 0).isLt)

/-- A load of a 256 × 128 block is the block. -/
theorem readAt_blk (M : Memref sig .tc .vmem S8192x256 .bf16) (f : M.view.ty.Contents (Elt F)) (x : Vec F S8192x256 .bf16)
    (hf : M.view.read (Elt F) f = x) (n h : ℕ) (hh : h ≤ 1) {o : Fin 2 → ℕ} (ho : o = ![256 * n, 128 * h])
    (inb : ∀ a, o a + S256x128.size a ≤ S8192x256.size a) :
    View.readAt (Elt F) M.view (Rect.unit (s := S8192x256) o S256x128.size inb).toLoadRect f = blk x n h := by
  subst ho hf
  have hk : 256 * n + 256 ≤ 8192 := inb 0
  funext y
  refine congrArg (M.view.read (Elt F) f) (funext fun a => Fin.ext ?_)
  have hx0 : (y 0).val < 256 := (y 0).isLt
  have hx1 : (y 1).val < 128 := (y 1).isLt
  match a with
  | ⟨0, _⟩ => show 256 * n + 1 * (y 0).val = (256 * n + (y 0).val) % 8192; omega
  | ⟨1, _⟩ => show 128 * h + 1 * (y 1).val = (128 * h + (y 1).val) % 256; omega

/-- A load of a 2048 × 128 block is the block. -/
theorem readAt_wide (M : Memref sig .tc .vmem S8192x256 .bf16) (f : M.view.ty.Contents (Elt F)) (x : Vec F S8192x256 .bf16)
    (hf : M.view.read (Elt F) f = x) (n h : ℕ) (hh : h ≤ 1) {o : Fin 2 → ℕ} (ho : o = ![2048 * n, 128 * h])
    (inb : ∀ a, o a + S2048x128.size a ≤ S8192x256.size a) :
    View.readAt (Elt F) M.view (Rect.unit (s := S8192x256) o S2048x128.size inb).toLoadRect f = wide x n h := by
  subst ho hf
  have hk : 2048 * n + 2048 ≤ 8192 := inb 0
  funext y
  refine congrArg (M.view.read (Elt F) f) (funext fun a => Fin.ext ?_)
  have hx0 : (y 0).val < 2048 := (y 0).isLt
  have hx1 : (y 1).val < 128 := (y 1).isLt
  match a with
  | ⟨0, _⟩ => show 2048 * n + 1 * (y 0).val = (2048 * n + (y 0).val) % 8192; omega
  | ⟨1, _⟩ => show 128 * h + 1 * (y 1).val = (128 * h + (y 1).val) % 256; omega

/-- A load of a head's 8192 × 128 lanes is the head. -/
theorem readAt_half (M : Memref sig .tc .vmem S8192x256 .bf16) (f : M.view.ty.Contents (Elt F)) (x : Vec F S8192x256 .bf16)
    (hf : M.view.read (Elt F) f = x) (h : ℕ) (hh : h ≤ 1) {o : Fin 2 → ℕ} (ho : o = ![0, 128 * h])
    (inb : ∀ a, o a + S8192x128.size a ≤ S8192x256.size a) :
    View.readAt (Elt F) M.view (Rect.unit (s := S8192x256) o S8192x128.size inb).toLoadRect f = half x h := by
  subst ho hf
  funext y
  refine congrArg (M.view.read (Elt F) f) (funext fun a => Fin.ext ?_)
  have hx0 : (y 0).val < 8192 := (y 0).isLt
  have hx1 : (y 1).val < 128 := (y 1).isLt
  match a with
  | ⟨0, _⟩ => show 0 + 1 * (y 0).val = (y 0).val % 8192; omega
  | ⟨1, _⟩ => show 128 * h + 1 * (y 1).val = (128 * h + (y 1).val) % 256; omega

/-- A place of trip `k` and head `h` names that trip, that block, that head and itself. -/
theorem at2_trip (k : Fin k0_t1_loop.trips) (h : ℕ) (hh : h ≤ 1) (y : S256x128.Idx) :
    tripOf ((at2 (256 * k.val + (y 0).val) (128 * h + (y 1).val)) 0).val = k
    ∧ ((at2 (256 * k.val + (y 0).val) (128 * h + (y 1).val)) 0).val / 256 = k.val
    ∧ ((at2 (256 * k.val + (y 0).val) (128 * h + (y 1).val)) 1).val / 128 = h
    ∧ ix128 ((at2 (256 * k.val + (y 0).val) (128 * h + (y 1).val)) 0).val ((at2 (256 * k.val + (y 0).val) (128 * h + (y 1).val)) 1).val = y := by
  have hk : k.val < 32 := Nat.lt_of_lt_of_eq k.isLt t1_trips
  have hx0 : (y 0).val < 256 := (y 0).isLt
  have hx1 : (y 1).val < 128 := (y 1).isLt
  have e0 : ((at2 (256 * k.val + (y 0).val) (128 * h + (y 1).val)) 0).val = 256 * k.val + (y 0).val := by
    show (256 * k.val + (y 0).val) % 8192 = _; omega
  have e1 : ((at2 (256 * k.val + (y 0).val) (128 * h + (y 1).val)) 1).val = 128 * h + (y 1).val := by
    show (128 * h + (y 1).val) % 256 = _; omega
  rw [e0, e1]
  refine ⟨Fin.ext ?_, by omega, by omega, funext fun a => Fin.ext ?_⟩
  · show (256 * k.val + (y 0).val) / 256 % 32 = k.val; omega
  · match a with
    | ⟨0, _⟩ => show (256 * k.val + (y 0).val) % 256 = (y 0).val; omega
    | ⟨1, _⟩ => show (128 * h + (y 1).val) % 128 = (y 1).val; omega

section Prepare

variable (k0_h1 : k0_cond1 i = 1#1) (v87 : Vec F S128x8192 .bf16) (v89 : Vec F S8192x128 .bf16) (v92 : Vec F S128x8192 .bf16) (v94 : Vec F S8192x128 .bf16)
  (X_arg3 : BufTy.Contents (Elt F) arg3.view.ty) (X_arg4 : BufTy.Contents (Elt F) arg4.view.ty) (X_arg5 : BufTy.Contents (Elt F) arg5.view.ty)
  (k : Fin k0_t1_loop.trips)

theorem t1_arg8 : (trip_k0_t1 (F := F) 𝒱 c bd i arg3 harg3 arg4 harg4 arg5 harg5 arg6 harg6 arg7 harg7 arg8 harg8 arg9 harg9 arg10 harg10 lanes k0_h1 v87 v89 v92 v94 X_arg3 X_arg4 X_arg5 k).1
    = [⟨Rect.unit (s := S8192x256) (k0_off2 k) S256x128.size (k0_off2_inb i k k0_h1), QT k v92 v94 (View.readAt (Elt F) arg3.view (Rect.unit (s := S8192x256) (k0_off2 k) S256x128.size (k0_off2_inb i k k0_h1)).toLoadRect X_arg3)⟩,
       ⟨Rect.unit (s := S8192x256) (k0_off1 k) S256x128.size (k0_off1_inb i k k0_h1), QT k v87 v89 (View.readAt (Elt F) arg3.view (Rect.unit (s := S8192x256) (k0_off1 k) S256x128.size (k0_off1_inb i k k0_h1)).toLoadRect X_arg3)⟩] := by
  unfold trip_k0_t1
  rfl

theorem t1_arg9 : (trip_k0_t1 (F := F) 𝒱 c bd i arg3 harg3 arg4 harg4 arg5 harg5 arg6 harg6 arg7 harg7 arg8 harg8 arg9 harg9 arg10 harg10 lanes k0_h1 v87 v89 v92 v94 X_arg3 X_arg4 X_arg5 k).2.1
    = [⟨Rect.unit (s := S8192x256) (k0_off2 k) S256x128.size (k0_off2_inb i k k0_h1), KT k (View.readAt (Elt F) arg4.view (Rect.unit (s := S8192x256) (k0_off2 k) S256x128.size (k0_off2_inb i k k0_h1)).toLoadRect X_arg4)⟩,
       ⟨Rect.unit (s := S8192x256) (k0_off1 k) S256x128.size (k0_off1_inb i k k0_h1), KT k (View.readAt (Elt F) arg4.view (Rect.unit (s := S8192x256) (k0_off1 k) S256x128.size (k0_off1_inb i k k0_h1)).toLoadRect X_arg4)⟩] := by
  unfold trip_k0_t1
  rfl

theorem t1_arg10 : (trip_k0_t1 (F := F) 𝒱 c bd i arg3 harg3 arg4 harg4 arg5 harg5 arg6 harg6 arg7 harg7 arg8 harg8 arg9 harg9 arg10 harg10 lanes k0_h1 v87 v89 v92 v94 X_arg3 X_arg4 X_arg5 k).2.2.1
    = [⟨Rect.unit (s := S8192x256) (k0_off2 k) S256x128.size (k0_off2_inb i k k0_h1), VT (View.readAt (Elt F) arg5.view (Rect.unit (s := S8192x256) (k0_off2 k) S256x128.size (k0_off2_inb i k k0_h1)).toLoadRect X_arg5)⟩,
       ⟨Rect.unit (s := S8192x256) (k0_off1 k) S256x128.size (k0_off1_inb i k k0_h1), VT (View.readAt (Elt F) arg5.view (Rect.unit (s := S8192x256) (k0_off1 k) S256x128.size (k0_off1_inb i k k0_h1)).toLoadRect X_arg5)⟩] := by
  unfold trip_k0_t1
  rfl

/-- The pieces of the first `n` trips fill the first 256 n rows of the three prepared arrays. -/
theorem pb_fill (x0 x1 x2 : Vec F S8192x256 .bf16) (x3 : Vec F S128x8192 .bf16)
    (h3 : arg3.view.read (Elt F) X_arg3 = x0) (h4 : arg4.view.read (Elt F) X_arg4 = x1) (h5 : arg5.view.read (Elt F) X_arg5 = x2)
    (e87 : x3 = v87) (e89 : half x1 0 = v89) (e92 : x3 = v92) (e94 : half x1 1 = v94) : ∀ n ≤ 32,
    Fill (QA x0 x1 x3) (pb_k0_t1 (F := F) 𝒱 c bd i arg3 harg3 arg4 harg4 arg5 harg5 arg6 harg6 arg7 harg7 arg8 harg8 arg9 harg9 arg10 harg10 lanes k0_h1 v87 v89 v92 v94 X_arg3 X_arg4 X_arg5 n).1 n
    ∧ Fill (KA x1) (pb_k0_t1 (F := F) 𝒱 c bd i arg3 harg3 arg4 harg4 arg5 harg5 arg6 harg6 arg7 harg7 arg8 harg8 arg9 harg9 arg10 harg10 lanes k0_h1 v87 v89 v92 v94 X_arg3 X_arg4 X_arg5 n).2.1 n
    ∧ Fill (VA x2) (pb_k0_t1 (F := F) 𝒱 c bd i arg3 harg3 arg4 harg4 arg5 harg5 arg6 harg6 arg7 harg7 arg8 harg8 arg9 harg9 arg10 harg10 lanes k0_h1 v87 v89 v92 v94 X_arg3 X_arg4 X_arg5 n).2.2 n := by
  subst e92 e87 e89 e94
  intro n
  induction n with
  | zero => exact fun _ => ⟨⟨fun p hp => absurd hp List.not_mem_nil, fun y hy => absurd hy (by omega)⟩,
      ⟨fun p hp => absurd hp List.not_mem_nil, fun y hy => absurd hy (by omega)⟩,
      ⟨fun p hp => absurd hp List.not_mem_nil, fun y hy => absurd hy (by omega)⟩⟩
  | succ n ih =>
    intro hn
    obtain ⟨i1, i2, i3⟩ := ih (by omega)
    have hk : n < k0_t1_loop.trips := by rw [t1_trips]; omega
    have hs := pb_k0_t1_succ (F := F) 𝒱 c bd i arg3 harg3 arg4 harg4 arg5 harg5 arg6 harg6 arg7 harg7 arg8 harg8 arg9 harg9 arg10 harg10 lanes k0_h1 x3 (half x1 0) x3 (half x1 1) X_arg3 X_arg4 X_arg5 ⟨n, hk⟩
    have e1 := k0_off1_eq ⟨n, hk⟩
    have e2 := k0_off2_eq ⟨n, hk⟩
    rw [hs]
    refine ⟨?_, ?_, ?_⟩
    · refine fill_step _ _ n i1 _ _ e1 e2 (k0_off1_inb i ⟨n, hk⟩ k0_h1) (k0_off2_inb i ⟨n, hk⟩ k0_h1) _ _ ?_ ?_ _ (t1_arg8 (F := F) 𝒱 c bd i arg3 harg3 arg4 harg4 arg5 harg5 arg6 harg6 arg7 harg7 arg8 harg8 arg9 harg9 arg10 harg10 k0_h1 x3 (half x1 0) x3 (half x1 1) X_arg3 X_arg4 X_arg5 ⟨n, hk⟩)
      · intro y
        rw [readAt_blk arg3 X_arg3 x0 h3 n 0 (by omega) e1]
        obtain ⟨a1, a2, a3, a4⟩ := at2_trip ⟨n, hk⟩ 0 (by omega) y
        unfold QA; rw [a1, a2, a3, a4]
      · intro y
        rw [readAt_blk arg3 X_arg3 x0 h3 n 1 (by omega) e2]
        obtain ⟨a1, a2, a3, a4⟩ := at2_trip ⟨n, hk⟩ 1 (by omega) y
        unfold QA; rw [a1, a2, a3, a4]
    · refine fill_step _ _ n i2 _ _ e1 e2 (k0_off1_inb i ⟨n, hk⟩ k0_h1) (k0_off2_inb i ⟨n, hk⟩ k0_h1) _ _ ?_ ?_ _ (t1_arg9 (F := F) 𝒱 c bd i arg3 harg3 arg4 harg4 arg5 harg5 arg6 harg6 arg7 harg7 arg8 harg8 arg9 harg9 arg10 harg10 k0_h1 x3 (half x1 0) x3 (half x1 1) X_arg3 X_arg4 X_arg5 ⟨n, hk⟩)
      · intro y
        rw [readAt_blk arg4 X_arg4 x1 h4 n 0 (by omega) e1]
        obtain ⟨a1, a2, a3, a4⟩ := at2_trip ⟨n, hk⟩ 0 (by omega) y
        unfold KA; rw [a1, a2, a3, a4]
      · intro y
        rw [readAt_blk arg4 X_arg4 x1 h4 n 1 (by omega) e2]
        obtain ⟨a1, a2, a3, a4⟩ := at2_trip ⟨n, hk⟩ 1 (by omega) y
        unfold KA; rw [a1, a2, a3, a4]
    · refine fill_step _ _ n i3 _ _ e1 e2 (k0_off1_inb i ⟨n, hk⟩ k0_h1) (k0_off2_inb i ⟨n, hk⟩ k0_h1) _ _ ?_ ?_ _ (t1_arg10 (F := F) 𝒱 c bd i arg3 harg3 arg4 harg4 arg5 harg5 arg6 harg6 arg7 harg7 arg8 harg8 arg9 harg9 arg10 harg10 k0_h1 x3 (half x1 0) x3 (half x1 1) X_arg3 X_arg4 X_arg5 ⟨n, hk⟩)
      · intro y
        rw [readAt_blk arg5 X_arg5 x2 h5 n 0 (by omega) e1]
        obtain ⟨a1, a2, a3, a4⟩ := at2_trip ⟨n, hk⟩ 0 (by omega) y
        unfold VA; rw [a2, a3, a4]
      · intro y
        rw [readAt_blk arg5 X_arg5 x2 h5 n 1 (by omega) e2]
        obtain ⟨a1, a2, a3, a4⟩ := at2_trip ⟨n, hk⟩ 1 (by omega) y
        unfold VA; rw [a2, a3, a4]

end Prepare

section Past

variable (arg2 v6 : BitVec 32) (v10 v12 : Vec F S256x128 .bf16) (v32 : FVec F S256x256 .f32) (v34 v36 : FVec F S256x1 .f32) (v38 : FVec F S256x256 .f32)
  (X_arg9 : BufTy.Contents (Elt F) arg9.view.ty) (X_arg10 : BufTy.Contents (Elt F) arg10.view.ty)

theorem t2_eq (k : Fin (k0_t2_loop i).trips) (acc) :
    (trip_k0_t2 (F := F) 𝒱 c bd i arg3 harg3 arg4 harg4 arg5 harg5 arg6 harg6 arg7 harg7 arg8 harg8 arg9 harg9 arg10 harg10 arg2 v6 v10 v12 v32 v34 v36 v38 X_arg9 X_arg10 k).1 acc
    = (k0_pay41 v10 acc.1 (View.readAt (Elt F) arg9.view (Rect.unit (s := S8192x256) (k0_off5 i k) S2048x128.size (k0_off5_inb i k)).toLoadRect X_arg9),
       k0_pay43 v10 acc.1 acc.2.1 (View.readAt (Elt F) arg9.view (Rect.unit (s := S8192x256) (k0_off5 i k) S2048x128.size (k0_off5_inb i k)).toLoadRect X_arg9)
         (View.readAt (Elt F) arg10.view (Rect.unit (s := S8192x256) (k0_off5 i k) S2048x128.size (k0_off5_inb i k)).toLoadRect X_arg10),
       k0_pay41 v12 acc.2.2.1 (View.readAt (Elt F) arg9.view (Rect.unit (s := S8192x256) (k0_off6 i k) S2048x128.size (k0_off6_inb i k)).toLoadRect X_arg9),
       k0_pay43 v12 acc.2.2.1 acc.2.2.2 (View.readAt (Elt F) arg9.view (Rect.unit (s := S8192x256) (k0_off6 i k) S2048x128.size (k0_off6_inb i k)).toLoadRect X_arg9)
         (View.readAt (Elt F) arg10.view (Rect.unit (s := S8192x256) (k0_off6 i k) S2048x128.size (k0_off6_inb i k)).toLoadRect X_arg10)) := by
  unfold trip_k0_t2
  rfl

/-- The carried values before trip `n` of the loop over past keys, head by head. -/
theorem st_past (qa ka va : Vec F S8192x256 .bf16) (h9 : arg9.view.read (Elt F) X_arg9 = ka) (h10 : arg10.view.read (Elt F) X_arg10 = va)
    (e10 : v10 = blk qa (i 2).val 0) (e12 : v12 = blk qa (i 2).val 1) (init)
    (hi : init = ((own qa ka va (i 2).val 0).1, (own qa ka va (i 2).val 0).2, (own qa ka va (i 2).val 1).1, (own qa ka va (i 2).val 1).2)) :
    ∀ n ≤ (k0_t2_loop i).trips,
    st_k0_t2 (F := F) 𝒱 c bd i arg3 harg3 arg4 harg4 arg5 harg5 arg6 harg6 arg7 harg7 arg8 harg8 arg9 harg9 arg10 harg10 arg2 v6 v10 v12 v32 v34 v36 v38 X_arg9 X_arg10 init n
    = ((past qa ka va (i 2).val 0 n).1, (past qa ka va (i 2).val 0 n).2, (past qa ka va (i 2).val 1 n).1, (past qa ka va (i 2).val 1 n).2) := by
  intro n
  induction n with
  | zero => exact fun _ => hi
  | succ n ih =>
    intro hn
    have hs := st_k0_t2_succ (F := F) 𝒱 c bd i arg3 harg3 arg4 harg4 arg5 harg5 arg6 harg6 arg7 harg7 arg8 harg8 arg9 harg9 arg10 harg10 arg2 v6 v10 v12 v32 v34 v36 v38 X_arg9 X_arg10 init ⟨n, hn⟩
    dsimp only at hs
    rw [hs, ih (by omega)]
    dsimp only [tripR_k0_t2]
    rw [t2_eq]
    have e5 := k0_off5_eq i ⟨n, hn⟩
    have e6 := k0_off6_eq i ⟨n, hn⟩
    rw [readAt_wide arg9 X_arg9 ka h9 n 0 (by omega) e5, readAt_wide arg9 X_arg9 ka h9 n 1 (by omega) e6,
      readAt_wide arg10 X_arg10 va h10 n 0 (by omega) e5, readAt_wide arg10 X_arg10 va h10 n 1 (by omega) e6, e10, e12]
    rfl

end Past

section Out

variable (arg2 v6 : BitVec 32) (X8 : BufTy.Contents (Elt F) arg8.view.ty)
  (X9 : BufTy.Contents (Elt F) arg9.view.ty) (X10 : BufTy.Contents (Elt F) arg10.view.ty)

/-- The block of queries a grid point loads, of either head. -/
abbrev ldq (M : Memref sig .tc .vmem S8192x256 .bf16) (X : BufTy.Contents (Elt F) M.view.ty) : Vec F S256x128 .bf16 :=
  View.readAt (Elt F) M.view (Rect.unit (s := S8192x256) (k0_off3 i) S256x128.size (k0_off3_inb i)).toLoadRect X
abbrev ldq' (M : Memref sig .tc .vmem S8192x256 .bf16) (X : BufTy.Contents (Elt F) M.view.ty) : Vec F S256x128 .bf16 :=
  View.readAt (Elt F) M.view (Rect.unit (s := S8192x256) (k0_off4 i) S256x128.size (k0_off4_inb i)).toLoadRect X

/-- The second head's own scores, their maxima and their sum are the first head's functions. -/
theorem pay33_eq (a b : Vec F S256x128 .bf16) : k0_pay33 a b = k0_pay32 a b := by unfold k0_pay33 k0_pay32; rfl

theorem pay35_eq (a b : Vec F S256x128 .bf16) : k0_pay35 a b = k0_pay34 a b := by unfold k0_pay35 k0_pay34; rw [pay33_eq]

theorem pay38_eq (a b v : Vec F S256x128 .bf16) : k0_pay38 (k0_pay33 a b) (k0_pay35 a b) v = k0_pay37 (k0_pay36 a b) v := by
  unfold k0_pay38 k0_pay37 k0_pay36; rw [pay33_eq, pay35_eq]

theorem own_fst (qa ka va : Vec F S8192x256 .bf16) (b h : ℕ) : (own qa ka va b h).1 = k0_pay34 (blk qa b h) (blk ka b h) := by
  unfold own; dsimp only

theorem own_snd (qa ka va : Vec F S8192x256 .bf16) (b h : ℕ) :
    (own qa ka va b h).2 = k0_pay37 (k0_pay36 (blk qa b h) (blk ka b h)) (blk va b h) := by
  unfold own; dsimp only

/-- What the carried values are after the loop over past keys. -/
theorem st_all (qa ka va : Vec F S8192x256 .bf16) (h8 : arg8.view.read (Elt F) X8 = qa) (h9 : arg9.view.read (Elt F) X9 = ka)
    (h10 : arg10.view.read (Elt F) X10 = va) :
    st_k0_t3 (F := F) 𝒱 c bd i arg3 harg3 arg4 harg4 arg5 harg5 arg6 harg6 arg7 harg7 arg8 harg8 arg9 harg9 arg10 harg10 arg2 v6
      (ldq i arg8 X8) (ldq' i arg8 X8) (k0_pay33 (ldq' i arg8 X8) (ldq' i arg9 X9)) (k0_pay34 (ldq i arg8 X8) (ldq i arg9 X9))
      (k0_pay35 (ldq' i arg8 X8) (ldq' i arg9 X9)) (k0_pay36 (ldq i arg8 X8) (ldq i arg9 X9)) X9 X10
      (st_k0_t2 (F := F) 𝒱 c bd i arg3 harg3 arg4 harg4 arg5 harg5 arg6 harg6 arg7 harg7 arg8 harg8 arg9 harg9 arg10 harg10 arg2 v6
        (ldq i arg8 X8) (ldq' i arg8 X8) (k0_pay33 (ldq' i arg8 X8) (ldq' i arg9 X9)) (k0_pay34 (ldq i arg8 X8) (ldq i arg9 X9))
        (k0_pay35 (ldq' i arg8 X8) (ldq' i arg9 X9)) (k0_pay36 (ldq i arg8 X8) (ldq i arg9 X9)) X9 X10
        (k0_pay34 (ldq i arg8 X8) (ldq i arg9 X9), k0_pay37 (k0_pay36 (ldq i arg8 X8) (ldq i arg9 X9)) (ldq i arg10 X10),
          k0_pay35 (ldq' i arg8 X8) (ldq' i arg9 X9),
          k0_pay38 (k0_pay33 (ldq' i arg8 X8) (ldq' i arg9 X9)) (k0_pay35 (ldq' i arg8 X8) (ldq' i arg9 X9)) (ldq' i arg10 X10))
        (k0_t2_loop i).trips) (k0_t3_loop i).trips
    = ((past qa ka va (i 2).val 0 (k0_t2_loop i).trips).1, (past qa ka va (i 2).val 0 (k0_t2_loop i).trips).2,
       (past qa ka va (i 2).val 1 (k0_t2_loop i).trips).1, (past qa ka va (i 2).val 1 (k0_t2_loop i).trips).2) := by
  have e10 : ldq i arg8 X8 = blk qa (i 2).val 0 := readAt_blk arg8 X8 qa h8 (i 2).val 0 (by omega) (k0_off3_eq i) _
  have e12 : ldq' i arg8 X8 = blk qa (i 2).val 1 := readAt_blk arg8 X8 qa h8 (i 2).val 1 (by omega) (k0_off4_eq i) _
  have e19 : ldq i arg9 X9 = blk ka (i 2).val 0 := readAt_blk arg9 X9 ka h9 (i 2).val 0 (by omega) (k0_off3_eq i) _
  have e29 : ldq' i arg9 X9 = blk ka (i 2).val 1 := readAt_blk arg9 X9 ka h9 (i 2).val 1 (by omega) (k0_off4_eq i) _
  have e42 : ldq i arg10 X10 = blk va (i 2).val 0 := readAt_blk arg10 X10 va h10 (i 2).val 0 (by omega) (k0_off3_eq i) _
  have e49 : ldq' i arg10 X10 = blk va (i 2).val 1 := readAt_blk arg10 X10 va h10 (i 2).val 1 (by omega) (k0_off4_eq i) _
  rw [e10, e12, e19, e29, e42, e49]
  have h0 : (k0_t3_loop i).trips = 0 := Nat.le_zero.mp (k0_t3_abs i).2.1
  rw [h0]
  rw [pay38_eq, pay35_eq, ← own_fst qa ka va, ← own_snd qa ka va, ← own_fst qa ka va, ← own_snd qa ka va]
  rw [st_k0_t3_zero]
  rw [st_past (F := F) 𝒱 c bd i arg3 harg3 arg4 harg4 arg5 harg5 arg6 harg6 arg7 harg7 arg8 harg8 arg9 harg9 arg10 harg10 arg2 v6
    _ _ _ _ _ _ X9 X10 qa ka va h9 h10 rfl rfl _ rfl _ le_rfl]

/-- The two stores of a grid point leave its block of the result. -/
theorem out_read (qa ka va : Vec F S8192x256 .bf16) (f : BufTy.Contents (Elt F) arg7.view.ty)
    (s : FVec F S256x1 .f32 × FVec F S256x128 .f32 × FVec F S256x1 .f32 × FVec F S256x128 .f32)
    (hs : s = ((past qa ka va (i 2).val 0 (k0_t2_loop i).trips).1, (past qa ka va (i 2).val 0 (k0_t2_loop i).trips).2,
       (past qa ka va (i 2).val 1 (k0_t2_loop i).trips).1, (past qa ka va (i 2).val 1 (k0_t2_loop i).trips).2)) :
    arg7.view.read (Elt F) (arg7.view.writes (Elt F) f
      [⟨Rect.unit (s := S256x256) ![0, 128] S256x128.size inb_S256x256_S256x128_0_128, k0_pay1 s.2.2.2⟩,
       ⟨Rect.unit (s := S256x256) ![0, 0] S256x128.size inb_S256x256_S256x128_0_0, k0_pay51 s.2.1⟩])
    = outF i qa ka va := by
  subst hs
  refine funext fun y => View.read_writes_apply_of_pieces (v := arg7.view) (f := f) (outF i qa ka va) _ ?_ y ?_
  · intro p hp
    simp only [List.mem_cons, List.not_mem_nil, or_false] at hp
    rcases hp with rfl | rfl
    · intro x
      have hx0 : (x 0).val < 256 := (x 0).isLt
      have hx1 : (x 1).val < 128 := (x 1).isLt
      have a1 : (((Rect.unit (s := S256x256) ![0, 128] S256x128.size inb_S256x256_S256x128_0_128).emb x) 1).val / 128 = 1 := by
        show (128 + 1 * (x 1).val) / 128 = 1; omega
      have a2 : ix128 (((Rect.unit (s := S256x256) ![0, 128] S256x128.size inb_S256x256_S256x128_0_128).emb x) 0).val
          (((Rect.unit (s := S256x256) ![0, 128] S256x128.size inb_S256x256_S256x128_0_128).emb x) 1).val = x := by
        refine funext fun a => Fin.ext ?_
        match a with
        | ⟨0, _⟩ => show (0 + 1 * (x 0).val) % 256 = (x 0).val; omega
        | ⟨1, _⟩ => show (128 + 1 * (x 1).val) % 128 = (x 1).val; omega
      show _ = outF i qa ka va ((Rect.unit (s := S256x256) ![0, 128] S256x128.size inb_S256x256_S256x128_0_128).emb x)
      unfold outF; rw [a1, a2]; rfl
    · intro x
      have hx0 : (x 0).val < 256 := (x 0).isLt
      have hx1 : (x 1).val < 128 := (x 1).isLt
      have a1 : (((Rect.unit (s := S256x256) ![0, 0] S256x128.size inb_S256x256_S256x128_0_0).emb x) 1).val / 128 = 0 := by
        show (0 + 1 * (x 1).val) / 128 = 0; omega
      have a2 : ix128 (((Rect.unit (s := S256x256) ![0, 0] S256x128.size inb_S256x256_S256x128_0_0).emb x) 0).val
          (((Rect.unit (s := S256x256) ![0, 0] S256x128.size inb_S256x256_S256x128_0_0).emb x) 1).val = x := by
        refine funext fun a => Fin.ext ?_
        match a with
        | ⟨0, _⟩ => show (0 + 1 * (x 0).val) % 256 = (x 0).val; omega
        | ⟨1, _⟩ => show (0 + 1 * (x 1).val) % 128 = (x 1).val; omega
      show _ = outF i qa ka va ((Rect.unit (s := S256x256) ![0, 0] S256x128.size inb_S256x256_S256x128_0_0).emb x)
      unfold outF; rw [a1, a2]
  · have hy0 : (y 0).val < 256 := (y 0).isLt
    have hy1 : (y 1).val < 256 := (y 1).isLt
    by_cases hh : (y 1).val < 128
    · refine ⟨_, List.mem_cons_of_mem _ (List.mem_cons_self ..), (Rect.mem_set_unit (s := S256x256) (inb := inb_S256x256_S256x128_0_0)).mpr fun a => ?_⟩
      match a with
      | ⟨0, _⟩ => show 0 ≤ (y 0).val ∧ (y 0).val < 0 + 256; omega
      | ⟨1, _⟩ => show 0 ≤ (y 1).val ∧ (y 1).val < 0 + 128; omega
    · refine ⟨_, List.mem_cons_self .., (Rect.mem_set_unit (s := S256x256) (inb := inb_S256x256_S256x128_0_128)).mpr fun a => ?_⟩
      match a with
      | ⟨0, _⟩ => show 0 ≤ (y 0).val ∧ (y 0).val < 0 + 256; omega
      | ⟨1, _⟩ => show 128 ≤ (y 1).val ∧ (y 1).val < 128 + 128; omega

end Out

end Cert.KernelIdeal.Hand

end
-- ==== Proof.Body.lean ====
/-
  The kernel's body at one grid point, run to the end: at the first block of a pair of heads it prepares the pair's
  queries, keys and values in its scratch, and at every block it leaves the block of the result that those give.
-/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first `scf.if` is taken: the grid point is the first block of its pair of heads. -/
def cond0_0 (i : grid0.Coords) : Prop := k0_cond1 i = 1#1

variable (c : Dev nD) (i : grid0.Coords)
  (arg3 : Memref sig .tc .vmem S8192x256 .bf16) (harg3 : arg3.IsWhole) (arg4 : Memref sig .tc .vmem S8192x256 .bf16) (harg4 : arg4.IsWhole)
  (arg5 : Memref sig .tc .vmem S8192x256 .bf16) (harg5 : arg5.IsWhole) (arg6 : Memref sig .tc .vmem S128x8192 .bf16) (harg6 : arg6.IsWhole)
  (arg7 : Memref sig .tc .vmem S256x256 .bf16) (harg7 : arg7.IsWhole) (arg8 : Memref sig .tc .vmem S8192x256 .bf16) (harg8 : arg8.IsWhole)
  (arg9 : Memref sig .tc .vmem S8192x256 .bf16) (harg9 : arg9.IsWhole) (arg10 : Memref sig .tc .vmem S8192x256 .bf16) (harg10 : arg10.IsWhole)
  (x0 x1 x2 : Vec F S8192x256 .bf16) (x3 : Vec F S128x8192 .bf16)

/-- A load of the whole block of averaging rows is the block. -/
theorem readAt_all (M : Memref sig .tc .vmem S128x8192 .bf16) (f : M.view.ty.Contents (Elt F)) (x : Vec F S128x8192 .bf16)
    (hf : M.view.read (Elt F) f = x) :
    View.readAt (Elt F) M.view (Rect.unit (s := S128x8192) ![0, 0] S128x8192.size inb_S128x8192_S128x8192_0_0).toLoadRect f = x := by
  subst hf
  funext y
  refine congrArg (M.view.read (Elt F) f) (funext fun a => Fin.ext ?_)
  match a with
  | ⟨0, _⟩ => show 0 + 1 * (y 0).val = (y 0).val; omega
  | ⟨1, _⟩ => show 0 + 1 * (y 1).val = (y 1).val; omega

set_option maxHeartbeats 1000000 in
/-- At the first block of a pair of heads: the scratch holds the prepared queries, keys and values afterwards, and the
    output block is the result's. -/
theorem run_A (hc0 : cond0_0 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outF i (QA x0 x1 x3) (KA x1) (VA x2)) ∗ owns (c : Thread nD τ) arg8 fullShare (QA x0 x1 x3) ∗ owns (c : Thread nD τ) arg9 fullShare (KA x1) ∗ owns (c : Thread nD τ) arg10 fullShare (VA x2)) -∗ K ⟨⟩))
      ⊢ wp frame (wpE (defs₀ (F := F)) Variants.none c none) E (cc0_moba_attn i arg3 harg3 arg4 harg4 arg5 harg5 arg6 harg6 arg7 harg7 arg8 harg8 arg9 harg9 arg10 harg10) K := by
  simp only [cc0_moba_attn_eq_skeleton]; unfold cc0_moba_attn_skel
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3
  have E87 : x3 = View.readAt (Elt F) arg6.view (Rect.unit (s := S128x8192) ![0, 0] S128x8192.size inb_S128x8192_S128x8192_0_0).toLoadRect (harg6.unread x3) :=
    (readAt_all arg6 _ x3 (harg6.read_unread _)).symm
  have E89 : half x1 0 = View.readAt (Elt F) arg4.view (Rect.unit (s := S8192x256) ![0, 0] S8192x128.size inb_S8192x256_S8192x128_0_0).toLoadRect (harg4.unread x1) :=
    (readAt_half arg4 _ x1 (harg4.read_unread _) 0 (by omega) rfl _).symm
  have E94 : half x1 1 = View.readAt (Elt F) arg4.view (Rect.unit (s := S8192x256) ![0, 128] S8192x128.size inb_S8192x256_S8192x128_0_128).toLoadRect (harg4.unread x1) :=
    (readAt_half arg4 _ x1 (harg4.read_unread _) 1 (by omega) rfl _).symm
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    sl_open_run
    refine out_read i arg7 _ _ _ f4 _ (st_all (F := F) _ c _ i arg3 harg3 arg4 harg4 arg5 harg5 arg6 harg6 arg7 harg7 arg8 harg8 arg9 harg9 arg10 harg10 _ _ _ _ _ (QA x0 x1 x3) (KA x1) (VA x2) ?_ ?_ ?_)
    · exact fill_read _ _ (pb_fill (F := F) _ c _ i arg3 harg3 arg4 harg4 arg5 harg5 arg6 harg6 arg7 harg7 arg8 harg8 arg9 harg9 arg10 harg10 hc0 _ _ _ _ _ _ _ x0 x1 x2 x3 (harg3.read_unread _) (harg4.read_unread _) (harg5.read_unread _) E87 E89 E87 E94 32 le_rfl).1 _ _
    · exact fill_read _ _ (pb_fill (F := F) _ c _ i arg3 harg3 arg4 harg4 arg5 harg5 arg6 harg6 arg7 harg7 arg8 harg8 arg9 harg9 arg10 harg10 hc0 _ _ _ _ _ _ _ x0 x1 x2 x3 (harg3.read_unread _) (harg4.read_unread _) (harg5.read_unread _) E87 E89 E87 E94 32 le_rfl).2.1 _ _
    · exact fill_read _ _ (pb_fill (F := F) _ c _ i arg3 harg3 arg4 harg4 arg5 harg5 arg6 harg6 arg7 harg7 arg8 harg8 arg9 harg9 arg10 harg10 hc0 _ _ _ _ _ _ _ x0 x1 x2 x3 (harg3.read_unread _) (harg4.read_unread _) (harg5.read_unread _) E87 E89 E87 E94 32 le_rfl).2.2 _ _
  isplitl [HS0]
  · iexists _; isplitr; swap; · iexact HS0
    ipureintro
    exact fill_read _ _ (pb_fill (F := F) _ c _ i arg3 harg3 arg4 harg4 arg5 harg5 arg6 harg6 arg7 harg7 arg8 harg8 arg9 harg9 arg10 harg10 hc0 _ _ _ _ _ _ _ x0 x1 x2 x3 (harg3.read_unread _) (harg4.read_unread _) (harg5.read_unread _) E87 E89 E87 E94 32 le_rfl).1 _ _
  isplitl [HS1]
  · iexists _; isplitr; swap; · iexact HS1
    ipureintro
    exact fill_read _ _ (pb_fill (F := F) _ c _ i arg3 harg3 arg4 harg4 arg5 harg5 arg6 harg6 arg7 harg7 arg8 harg8 arg9 harg9 arg10 harg10 hc0 _ _ _ _ _ _ _ x0 x1 x2 x3 (harg3.read_unread _) (harg4.read_unread _) (harg5.read_unread _) E87 E89 E87 E94 32 le_rfl).2.1 _ _
  · iexists _; isplitr; swap; · iexact HS2
    ipureintro
    exact fill_read _ _ (pb_fill (F := F) _ c _ i arg3 harg3 arg4 harg4 arg5 harg5 arg6 harg6 arg7 harg7 arg8 harg8 arg9 harg9 arg10 harg10 hc0 _ _ _ _ _ _ _ x0 x1 x2 x3 (harg3.read_unread _) (harg4.read_unread _) (harg5.read_unread _) E87 E89 E87 E94 32 le_rfl).2.2 _ _

set_option maxHeartbeats 1000000 in
/-- At a later block of a pair of heads: the scratch is as it was, and the output block is the result's. -/
theorem run_B (hc0 : ¬ cond0_0 i) (qa ka va : Vec F S8192x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare qa ∗ owns (c : Thread nD τ) arg9 fullShare ka ∗ owns (c : Thread nD τ) arg10 fullShare va
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outF i qa ka va) ∗ owns (c : Thread nD τ) arg8 fullShare qa ∗ owns (c : Thread nD τ) arg9 fullShare ka ∗ owns (c : Thread nD τ) arg10 fullShare va) -∗ K ⟨⟩))
      ⊢ wp frame (wpE (defs₀ (F := F)) Variants.none c none) E (cc0_moba_attn i arg3 harg3 arg4 harg4 arg5 harg5 arg6 harg6 arg7 harg7 arg8 harg8 arg9 harg9 arg10 harg10) K := by
  simp only [cc0_moba_attn_eq_skeleton]; unfold cc0_moba_attn_skel
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    sl_open_run
    exact out_read i arg7 _ _ _ f4 _ (st_all (F := F) _ c _ i arg3 harg3 arg4 harg4 arg5 harg5 arg6 harg6 arg7 harg7 arg8 harg8 arg9 harg9 arg10 harg10 _ _ _ _ _ qa ka va (harg8.read_unread _) (harg9.read_unread _) (harg10.read_unread _))
  isplitl [HS0]
  · iexists _; isplitr; · ipureintro; exact harg8.read_unread _
    iexact HS0
  isplitl [HS1]
  · iexists _; isplitr; · ipureintro; exact harg9.read_unread _
    iexact HS1
  · iexists _; isplitr; · ipureintro; exact harg10.read_unread _
    iexact HS2

end Cert.KernelIdeal.Hand

end
-- ==== Proof.Launch.lean ====
/-
  The kernel's run: at every grid point the scratch holds the prepared queries, keys and values of the point's pair of
  heads, and the point writes its block of the result; at the end the result array is those blocks, and the argument
  arrays are as they were.
-/
module

public import proofs.«01_k».proof.Proof.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A pair's first block is at the points ≡ 0 (mod 32). -/
theorem hcond0_0 : ∀ t : Fin cfg0.N, cond0_0 (grid0.coords t) ↔ t.val % 32 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 32 % 4 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val % 32 = 0)

abbrev ms0_0 (t : Fin cfg0.N) : Memref sig .tc .vmem S8192x256 .bf16 := win0_0.stage (cfg0.slots t 0)
abbrev ms0_1 (t : Fin cfg0.N) : Memref sig .tc .vmem S8192x256 .bf16 := win0_1.stage (cfg0.slots t 1)
abbrev ms0_2 (t : Fin cfg0.N) : Memref sig .tc .vmem S8192x256 .bf16 := win0_2.stage (cfg0.slots t 2)
abbrev ms0_3 (t : Fin cfg0.N) : Memref sig .tc .vmem S128x8192 .bf16 := win0_3.stage (cfg0.slots t 3)
abbrev ms0_4 (t : Fin cfg0.N) : Memref sig .tc .vmem S256x256 .bf16 := win0_4.stage (cfg0.slots t 4)
abbrev scM0_0 : Memref sig .tc .vmem S8192x256 .bf16 := Memref.whole cc0_scratch0
abbrev scM0_1 : Memref sig .tc .vmem S8192x256 .bf16 := Memref.whole cc0_scratch1
abbrev scM0_2 : Memref sig .tc .vmem S8192x256 .bf16 := Memref.whole cc0_scratch2

/-- What the launch hands the region, with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The blocks of a grid point -/

/-- The index (row, lane) of a 16384 × 1024 array. -/
def atA (r l : ℕ) : S16384x1024.Idx := fun a =>
  match a with
  | ⟨0, _⟩ => (⟨r % 16384, Nat.mod_lt _ (by omega)⟩ : Fin 16384)
  | ⟨1, _⟩ => (⟨l % 1024, Nat.mod_lt _ (by omega)⟩ : Fin 1024)

/-- Block `g` (batch `g / 4`, pair of heads `g % 4`) of an array of rows by lanes. -/
def grp (X : Vec F S16384x1024 .bf16) (g : ℕ) : Vec F S8192x256 .bf16 := fun y =>
  X (atA (8192 * (g / 4) + (y 0).val) (256 * (g % 4) + (y 1).val))

theorem idx0 : ∀ t : Fin cfg0.N, (win0_0.index t = ![t.val / 32 / 4, t.val / 32 % 4] ∧ win0_1.index t = ![t.val / 32 / 4, t.val / 32 % 4])
    ∧ (win0_2.index t = ![t.val / 32 / 4, t.val / 32 % 4] ∧ win0_3.index t = ![0, 0])
    ∧ win0_4.index t = ![32 * (t.val / 32 / 4) + t.val % 32, t.val / 32 % 4] ∧ (grid0.coords t 2).val = t.val % 32 :=
  (by decide +kernel : ∀ t : Fin grid0.N, (win0_0.index t = ![t.val / 32 / 4, t.val / 32 % 4] ∧ win0_1.index t = ![t.val / 32 / 4, t.val / 32 % 4])
    ∧ (win0_2.index t = ![t.val / 32 / 4, t.val / 32 % 4] ∧ win0_3.index t = ![0, 0])
    ∧ win0_4.index t = ![32 * (t.val / 32 / 4) + t.val % 32, t.val / 32 % 4] ∧ (grid0.coords t 2).val = t.val % 32)

theorem iblk0 (c : Dev nD) (t : Fin cfg0.N) : iblk m c 0 t = grp (V m c main_v6) (t.val / 32) := by
  funext y
  have hi := (idx0 t).1.1
  have ht : t.val < 256 := Nat.lt_of_lt_of_eq t.isLt N_0
  unfold iblk grp
  refine congrArg (V m c main_v6) (funext fun a => Fin.ext ?_)
  have hy0 : (y 0).val < 8192 := (y 0).isLt
  have hy1 : (y 1).val < 256 := (y 1).isLt
  match a with
  | ⟨0, _⟩ =>
    blk_simp [hi]
    show t.val / 32 / 4 * 8192 + (y 0).val = (8192 * (t.val / 32 / 4) + (y 0).val) % 16384
    omega
  | ⟨1, _⟩ =>
    blk_simp [hi]
    show t.val / 32 % 4 * 256 + (y 1).val = (256 * (t.val / 32 % 4) + (y 1).val) % 1024
    omega

theorem iblk1 (c : Dev nD) (t : Fin cfg0.N) : iblk m c 1 t = grp (V m c main_v11) (t.val / 32) := by
  funext y
  have hi := (idx0 t).1.2
  have ht : t.val < 256 := Nat.lt_of_lt_of_eq t.isLt N_0
  unfold iblk grp
  refine congrArg (V m c main_v11) (funext fun a => Fin.ext ?_)
  have hy0 : (y 0).val < 8192 := (y 0).isLt
  have hy1 : (y 1).val < 256 := (y 1).isLt
  match a with
  | ⟨0, _⟩ =>
    blk_simp [hi]
    show t.val / 32 / 4 * 8192 + (y 0).val = (8192 * (t.val / 32 / 4) + (y 0).val) % 16384
    omega
  | ⟨1, _⟩ =>
    blk_simp [hi]
    show t.val / 32 % 4 * 256 + (y 1).val = (256 * (t.val / 32 % 4) + (y 1).val) % 1024
    omega

theorem iblk2 (c : Dev nD) (t : Fin cfg0.N) : iblk m c 2 t = grp (V m c main_v16) (t.val / 32) := by
  funext y
  have hi := (idx0 t).2.1.1
  have ht : t.val < 256 := Nat.lt_of_lt_of_eq t.isLt N_0
  unfold iblk grp
  refine congrArg (V m c main_v16) (funext fun a => Fin.ext ?_)
  have hy0 : (y 0).val < 8192 := (y 0).isLt
  have hy1 : (y 1).val < 256 := (y 1).isLt
  match a with
  | ⟨0, _⟩ =>
    blk_simp [hi]
    show t.val / 32 / 4 * 8192 + (y 0).val = (8192 * (t.val / 32 / 4) + (y 0).val) % 16384
    omega
  | ⟨1, _⟩ =>
    blk_simp [hi]
    show t.val / 32 % 4 * 256 + (y 1).val = (256 * (t.val / 32 % 4) + (y 1).val) % 1024
    omega

theorem iblk3 (c : Dev nD) (t : Fin cfg0.N) : iblk m c 3 t = V m c main_v28 := by
  funext y
  have hi := (idx0 t).2.1.2
  unfold iblk
  refine congrArg (V m c main_v28) (funext fun a => Fin.ext ?_)
  match a with
  | ⟨0, _⟩ =>
    blk_simp [hi]
  | ⟨1, _⟩ =>
    blk_simp [hi]

/-- The prepared queries, keys and values of pair `g`. -/
def gq (c : Dev nD) (g : ℕ) : Vec F S8192x256 .bf16 := QA (grp (V m c main_v6) g) (grp (V m c main_v11) g) (V m c main_v28)
def gk (c : Dev nD) (g : ℕ) : Vec F S8192x256 .bf16 := KA (grp (V m c main_v11) g)
def gv (c : Dev nD) (g : ℕ) : Vec F S8192x256 .bf16 := VA (grp (V m c main_v16) g)

/-- The block of the result that point `t` writes. -/
def outAt (c : Dev nD) (t : Fin cfg0.N) : Vec F S256x256 .bf16 :=
  outF (grid0.coords t) (gq m c (t.val / 32)) (gk m c (t.val / 32)) (gv m c (t.val / 32))

/-! ## The proof data -/

/-- Before point `n`: at the start every scratch at anything; afterwards the scratch at what the point before has. -/
def PhiS (c : Dev nD) : (n : ℕ) → n ≤ cfg0.N → sProp 𝕄
  | 0, _ => Pipeline.ΦA spec0 c
  | n + 1, hn => iprop(iprop(owns (c : Thread nD τ) scM0_0 fullShare (gq m c (n / 32)) ∗ owns (c : Thread nD τ) scM0_1 fullShare (gk m c (n / 32)) ∗ owns (c : Thread nD τ) scM0_2 fullShare (gv m c (n / 32))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (gq m c (n / 32)) ∗ owns (c : Thread nD τ) scM0_1 fullShare (gk m c (n / 32)) ∗ owns (c : Thread nD τ) scM0_2 fullShare (gv m c (n / 32))) ∗ (∃ r, prngReg c r)) := rfl

theorem PhiS_pos (c : Dev nD) (n : ℕ) (h : n ≤ cfg0.N) (hz : n ≠ 0) :
    PhiS m c n h = iprop(iprop(owns (c : Thread nD τ) scM0_0 fullShare (gq m c ((n - 1) / 32)) ∗ owns (c : Thread nD τ) scM0_1 fullShare (gk m c ((n - 1) / 32)) ∗ owns (c : Thread nD τ) scM0_2 fullShare (gv m c ((n - 1) / 32))) ∗ (∃ r, prngReg c r)) := by
  cases n with
  | zero => exact absurd rfl hz
  | succ n => rfl

/-- The arrays as the region finds them; after the body each input's buffer at its block and the output's at the
    block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- The body at any point: at a pair's first block it prepares the scratch, at a later one it finds it prepared. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 256 := lt_of_lt_of_eq t.isLt (show cfg0.N = 256 from N_0)
  unfold outAt gq gk gv
  rw [iblk0, iblk1, iblk2, iblk3]
  by_cases h0 : t.val % 32 = 0
  · by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ _ _ _ _ _ _ _ _ ((hcond0_0 t).mpr h0) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ _ _ _ _ _ _ _ _ ((hcond0_0 t).mpr h0) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      iexact H4
  · by_cases hz : t.val = 0
    · exfalso; omega
    · rw [PhiS_castSucc m c t, PhiS_pos m c _ _ hz]
      rw [show (t.val - 1) / 32 = t.val / 32 from by omega]
      unfold gq gk gv
      iintro ⟨⟨⟨HS0, HS1, HS2⟩, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ _ _ _ _ _ _ _ _ (fun h => h0 ((hcond0_0 t).mp h)) _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
set_option maxHeartbeats 800000 in
/-- From any memory with zero counters @main terminates with the pipeline's arrays at what the proof data say, every other
    buffer as the lines after the call leave it, and every semaphore at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The result array -/

/-- The result array: row 8192 b + 256 n + r, lane 256 p + l is row r, lane l of the block of pair 4 b + p at block n. -/
def outG (c : Dev nD) : Vec F S16384x1024 .bf16 := fun y =>
  k0_pay51 (past (gq m c (4 * ((y 0).val / 8192) + (y 1).val / 256)) (gk m c (4 * ((y 0).val / 8192) + (y 1).val / 256))
      (gv m c (4 * ((y 0).val / 8192) + (y 1).val / 256)) ((y 0).val / 256 % 32) ((y 1).val % 256 / 128) (((y 0).val / 256 % 32 + 7) / 8)).2
    (ix128 (y 0).val (y 1).val)

theorem t2_trips : ∀ i : grid0.Coords, (k0_t2_loop i).trips = ((i 2).val + 7) / 8 := by decide +kernel

/-- `outG` at a place given by its group, block, row and lane. -/
theorem outG_at (c : Dev nD) (z : S16384x1024.Idx) (g n r l : ℕ) (hn : n < 32) (hr : r < 256) (hl : l < 256)
    (e0 : (z 0).val = 256 * (32 * (g / 4) + n) + r) (e1 : (z 1).val = 256 * (g % 4) + l) :
    outG m c z = k0_pay51 (past (gq m c g) (gk m c g) (gv m c g) n (l / 128) ((n + 7) / 8)).2 (ix128 r l) := by
  unfold outG
  rw [e0, e1]
  have a1 : 4 * ((256 * (32 * (g / 4) + n) + r) / 8192) + (256 * (g % 4) + l) / 256 = g := by omega
  have a2 : (256 * (32 * (g / 4) + n) + r) / 256 % 32 = n := by omega
  have a3 : (256 * (g % 4) + l) % 256 / 128 = l / 128 := by omega
  have a4 : ix128 (256 * (32 * (g / 4) + n) + r) (256 * (g % 4) + l) = ix128 r l := by
    refine funext fun a => Fin.ext ?_
    match a with
    | ⟨0, _⟩ => show (256 * (32 * (g / 4) + n) + r) % 256 = r % 256; omega
    | ⟨1, _⟩ => show (256 * (g % 4) + l) % 128 = l % 128; omega
  rw [a1, a2, a3, a4]

/-- The blocks the points write are the blocks of `outG`. -/
theorem final4 (c : Dev nD) : (dats m 0 c).arrAt 4 (cfgs 0).N = outG m c := by
  refine (dats m 0 c).arrAt_eq_of_covers 4 _ (by decide +kernel) fun t hf y => ?_
  have hi := (idx0 t).2.2.1
  have h2 := (idx0 t).2.2.2
  have ht : t.val < 256 := Nat.lt_of_lt_of_eq t.isLt N_0
  have hy0 : (y 0).val < 256 := (y 0).isLt
  have hy1 : (y 1).val < 256 := (y 1).isLt
  have e0 : (((((cfg0.win 4).blk t).view.emb y) 0 : Fin _) : ℕ) = 256 * (32 * (t.val / 32 / 4) + t.val % 32) + (y 0).val := by
    blk_simp [hi]
    show (32 * (t.val / 32 / 4) + t.val % 32) * 256 + (y 0).val = _
    omega
  have e1 : (((((cfg0.win 4).blk t).view.emb y) 1 : Fin _) : ℕ) = 256 * (t.val / 32 % 4) + (y 1).val := by
    blk_simp [hi]
    show (t.val / 32 % 4) * 256 + (y 1).val = _
    omega
  refine Eq.trans ?_ (outG_at m c _ (t.val / 32) (t.val % 32) (y 0).val (y 1).val (by omega) hy0 hy1 e0 e1).symm
  blk_simp
  rw [after0_4]
  unfold outAt outF
  rw [t2_trips, h2]

end Cert.KernelIdeal.Hand

end
-- ==== Proof.Host.lean ====
/-
  The host's part of the program: the arrays the kernel is called with, and the result read off the kernel's array,
  each at a place, from the program's arguments.
-/
module

public import proofs.«01_k».proof.Proof.Launch
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section term
variable {F : FTy → Type} [FloatOps F] [Named F]
variable (m : (ℓ : Loc nD τ sig) → Buf (Elt F) ℓ) (ρ : Dev nD → PrngReg)

/-- An array (2, 8, 8192, 64) laid out as (16384, 1024): a head in each 128 lanes, the upper 64 zero. -/
def lay (x : FVec F S2x8x8192x64 .f32) : FVec F S16384x1024 .bf16 :=
  truncf .bf16 (shapeCast S16384x1024 (pad S16384x8x128 ![0, 0, 0] ![0, 0, 64] ![0, 0, 0]
    (shapeCast S16384x8x64 (transpose S2x8192x8x64 [0, 2, 1, 3] x transposes_S2x8x8192x64_S2x8192x8x64_0_2_1_3)
      shapeCasts_S2x8192x8x64_S16384x8x64) (sitofp .f32 (constantI S_ 32 0#32)) pads_S16384x8x64_S16384x8x128_000_000_0640 h_S_)
    shapeCasts_S16384x8x128_S16384x1024) bitsLt_bf16_f32

/-- Each key's block: its position divided by 256, rounded down. -/
def keyBlock : IVec S1x8192 32 :=
  let x : IVec S1x8192 32 := broadcastInDim S1x8192 ![1] bcast_S8192_S1x8192_1 (iotaInDim S8192 32 0)
  let y : IVec S_ 32 := constantI S_ 32 256#32
  let d : IVec S1x8192 32 := Host.divsi x (broadcastInDim S1x8192 ![] bcast_S_S1x8192 y)
  select (andi (cmpi .ne (signi x) (broadcastInDim S1x8192 ![] bcast_S_S1x8192 (signi y)))
      (cmpi .ne (Host.remsi x (broadcastInDim S1x8192 ![] bcast_S_S1x8192 y)) (broadcastInDim S1x8192 ![] bcast_S_S1x8192 (constantI S_ 32 0#32))))
    (subi d (broadcastInDim S1x8192 ![] bcast_S_S1x8192 (constantI S_ 32 1#32))) d

/-- The averaging rows: row 64 + b holds 1/256 at the keys of block b. -/
def bsel : FVec F S128x8192 .bf16 :=
  truncf .bf16 (select (cmpi .eq
      (broadcastInDim S128x8192 ![0, 1] bcast_S128x1_S128x8192_0_1
        (subi (broadcastInDim S128x1 ![0] bcast_S128_S128x1_0 (iotaInDim S128 32 0)) (broadcastInDim S128x1 ![] bcast_S_S128x1 (constantI S_ 32 64#32))))
      (broadcastInDim S128x8192 ![0, 1] bcast_S1x8192_S128x8192_0_1 keyBlock))
    (broadcastInDim S128x8192 ![] bcast_S_S128x8192 (constant S_ .f32 0x3B800000#32))
    (broadcastInDim S128x8192 ![] bcast_S_S128x8192 (constant S_ .f32 0x00000000#32))) bitsLt_bf16_f32

theorem V6 (c : Dev nD) : V m c main_v6 = lay (mulf (m ((c.tc : Thread nD τ).loc main_arg0)) (broadcastInDim S2x8x8192x64 ![] bcast_S_S2x8x8192x64 (constant S_ .f32 0x3E000000#32))) := by
  unfold_abbrev_sides
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

theorem V11 (c : Dev nD) : V m c main_v11 = lay (m ((c.tc : Thread nD τ).loc main_arg1)) := by
  unfold_abbrev_sides
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

theorem V16 (c : Dev nD) : V m c main_v16 = lay (m ((c.tc : Thread nD τ).loc main_arg2)) := by
  unfold_abbrev_sides
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

theorem V28 (c : Dev nD) : V m c main_v28 = bsel := by
  unfold_abbrev_sides
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

/-- The result read off the kernel's array: each head's lower 64 lanes. -/
def cut (x : FVec F S16384x1024 .bf16) : FVec F S2x8192x8x64 .bf16 :=
  extractStridedSlice S2x8192x8x64 ![0, 0, 0, 0] (shapeCast S2x8192x8x128 x shapeCasts_S16384x1024_S2x8192x8x128)
    slices_S2x8192x8x128_S2x8192x8x64_0_0_0_0

theorem arr_injective : Function.Injective (Pipeline.arrRef (cfgs 0).spec) := by decide

theorem W31 (c : Dev nD) : Pipeline.afterTail₀ cfgs (dats m) 0 (V0 m) [hostOps1] c main_v31 = cut (outG m c) := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v29)
      = outG m c :=
    (Pipeline.withArrays_arr (cfgs 0).spec arr_injective c (V0 m c) (fun w => (dats m 0 c).arrAt w (cfgs 0).N) 4).trans (final4 m c)
  rw [h]
  rfl

end term

theorem lay_at (x : FVec Ideal S2x8x8192x64 .f32) (b : Fin 2) (h : Fin 8) (s : Fin 8192) (l : Fin 128) :
    lay x (ix2 (⟨8192 * b.val + s.val, by omega⟩ : Fin 16384) (⟨128 * h.val + l.val, by omega⟩ : Fin 1024))
      = if hl : l.val < 64 then x (ix4 b h s ⟨l.val, hl⟩) else 0 := by
  pointwise [lay]
  have h0 : (FloatOps.sitofp (F := Ideal) FTy.f32 0#32 : EReal) = 0 := by
    show (((0#32 : BitVec 32).toInt : ℝ) : EReal) = 0
    simp
  have hb : 8192 * b.val + s.val < 16384 := by have := b.isLt; have := s.isLt; omega
  by_cases hl : l.val < 64
  · rw [dif_pos ⟨hb, hl⟩, dif_pos hl]
  · rw [dif_neg (fun h => hl h.2), dif_neg hl, h0]

theorem floor256 : ∀ j : Fin 8192, Scalar.select
      (IntOp.andi
        (IntOp.cmpi CmpIPredicate.ne
          (if BitVec.ofNat 32 j.val = 0 then 0 else if (BitVec.ofNat 32 j.val).msb = true then -1 else 1)
          (if 256#32 = 0 then 0 else if (256#32).msb = true then -1 else (1 : BitVec 32)))
        (IntOp.cmpi CmpIPredicate.ne (IntOp.remsi ArithUnit.host (BitVec.ofNat 32 j.val) 256#32) 0#32))
      (IntOp.subi (IntOp.divsi ArithUnit.host (BitVec.ofNat 32 j.val) 256#32) 1#32)
      (IntOp.divsi ArithUnit.host (BitVec.ofNat 32 j.val) 256#32) =
    BitVec.ofNat 32 (j.val / 256) := by decide +kernel

theorem sub64 : ∀ (l : Fin 128) (n : Fin 32), IntOp.cmpi .eq (IntOp.subi (BitVec.ofNat 32 l.val) 64#32) (BitVec.ofNat 32 n.val)
    = BitVec.ofBool (decide (l.val = 64 + n.val)) := by decide +kernel

theorem keyBlock_at (j : Fin 8192) : keyBlock (ix2 0 j) = BitVec.ofNat 32 (j.val / 256) := by
  pointwise [keyBlock]
  exact floor256 j

theorem bsel_at (l : Fin 128) (j : Fin 8192) :
    (bsel : FVec Ideal S128x8192 .bf16) (ix2 l j) = if l.val = 64 + j.val / 256 then ((1/256 : ℝ) : EReal) else 0 := by
  pointwise [bsel]
  rw [keyBlock_at, sub64 l ⟨j.val / 256, by have := j.isLt; omega⟩]
  have e : Ideal.ofBits .f32 998244352#32 = ((1/256 : ℝ) : EReal) := by
    simp [Ideal.ofBits, Ideal.ieee]; rw [← EReal.coe_mul]; norm_num
  rw [e]
  by_cases h : l.val = 64 + j.val / 256 <;> simp [h, Scalar.select]

theorem cut_at (x : FVec Ideal S16384x1024 .bf16) (b : Fin 2) (s : Fin 8192) (h : Fin 8) (d : Fin 64) :
    cut x (ix4 b s h d) = x (ix2 (⟨8192 * b.val + s.val, by omega⟩ : Fin 16384) (⟨128 * h.val + d.val, by omega⟩ : Fin 1024)) := by
  pointwise [cut]
  congr 2 <;> apply Fin.ext <;> simp only [] <;> omega

end Cert.KernelIdeal.Hand
-- ==== Proof.Pay.lean ====
/-
  The kernel's arithmetic read at one place of a block: scores, running maximum, running sum, and the final quotient.
-/
module

public import proofs.«01_k».proof.Proof.Trip
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic

theorem select_if {α : Type} (c : Prop) [Decidable c] (x y : α) : Scalar.select (BitVec.ofBool (decide c)) x y = if c then x else y := by
  by_cases h : c <;> simp [h, Scalar.select]

theorem ofBits_bot : Ideal.ofBits .f32 4286578688#32 = ⊥ := by simp [Ideal.ofBits, Ideal.ieee]

theorem ofBits_top : Ideal.ofBits .f32 2139095040#32 = ⊤ := by simp [Ideal.ofBits, Ideal.ieee]

theorem causal_bot : (Named.named κ "causal" 4048155338#32 : Ideal .f32) = ⊥ := rfl

theorem mask_bot : (Named.named κ "mask" 4051697664#32 : Ideal .f32) = ⊥ := rfl

theorem lane_slt (l : Fin 128) : IntOp.cmpi .slt (BitVec.ofNat 32 l.val) 64#32 = BitVec.ofBool (decide (l.val < 64)) :=
  (by decide +kernel : ∀ l : Fin 128, IntOp.cmpi .slt (BitVec.ofNat 32 l.val) 64#32 = BitVec.ofBool (decide (l.val < 64))) l

theorem lane_eq (l : Fin 128) : IntOp.cmpi .eq (BitVec.ofNat 32 l.val) 64#32 = BitVec.ofBool (decide (l.val = 64)) :=
  (by decide +kernel : ∀ l : Fin 128, IntOp.cmpi .eq (BitVec.ofNat 32 l.val) 64#32 = BitVec.ofBool (decide (l.val = 64))) l

theorem lane_eq_trip (n : Fin k0_t1_loop.trips) (l : Fin 128) :
    IntOp.cmpi .eq (BitVec.ofNat 32 l.val) (Scalar.addi 64#32 (Scf.iv 0#32 1#32 n.val)) = BitVec.ofBool (decide (l.val = 64 + n.val)) :=
  (by decide +kernel : ∀ (n : Fin 32) (l : Fin 128), IntOp.cmpi .eq (BitVec.ofNat 32 l.val) (Scalar.addi 64#32 (Scf.iv 0#32 1#32 n.val))
    = BitVec.ofBool (decide (l.val = 64 + n.val))) ⟨n.val, lt_of_lt_of_le n.isLt (by decide)⟩ l

theorem row_sle (j r : Fin 256) : IntOp.cmpi .sle (BitVec.ofNat 32 j.val) (BitVec.ofNat 32 r.val) = BitVec.ofBool (decide (j ≤ r)) :=
  WordCmp.cmpi_sle_ofNat (by have := j.isLt; omega) (by have := r.isLt; omega)

theorem own_score (q k : Vec Ideal S256x128 .bf16) (r : Fin 256) (j : Fin 256) :
    k0_pay32 q k (ix2 r j) = if j ≤ r then ∑ l : Fin 128, (if l.val < 64 then q (ix2 r l) else 0) * k (ix2 j l) else ⊥ := by
  rw [show k0_pay32 q k (ix2 r j) = Scalar.select (IntOp.cmpi .sle (BitVec.ofNat 32 j.val) (BitVec.ofNat 32 r.val))
      (∑ l : Fin 128, Scalar.select (IntOp.cmpi .slt (BitVec.ofNat 32 l.val) 64#32) (q (ix2 r l) * k (ix2 j l)) 0)
      (Named.named κ "causal" 4048155338#32 : Ideal .f32) from by pointwise [k0_pay32],
    row_sle, causal_bot, select_if]
  refine if_congr Iff.rfl (Finset.sum_congr rfl fun l _ => ?_) rfl
  rw [lane_slt, select_if]
  split <;> simp

theorem own_max (q k : Vec Ideal S256x128 .bf16) (r : Fin 256) :
    k0_pay34 q k (ix2 r 0) = Finset.univ.fold max ⊥ fun j : Fin 256 => k0_pay32 q k (ix2 r j) := by
  pointwise [k0_pay34]
  rw [ofBits_bot]

theorem own_sum (q k v : Vec Ideal S256x128 .bf16) (r : Fin 256) (l : Fin 128) :
    k0_pay37 (k0_pay36 q k) v (ix2 r l)
      = ∑ j : Fin 256, Ideal.exp (k0_pay32 q k (ix2 r j) - k0_pay34 q k (ix2 r 0)) * v (ix2 j l) := by
  pointwise [k0_pay37, k0_pay36]

theorem past_score (q : Vec Ideal S256x128 .bf16) (k : Vec Ideal S2048x128 .bf16) (r : Fin 256) (j : Fin 2048) :
    k0_pay39 q k (ix2 r j) = ∑ l : Fin 128, q (ix2 r l) * k (ix2 j l) := by
  pointwise [k0_pay39]

theorem past_max (q : Vec Ideal S256x128 .bf16) (m : FVec Ideal S256x1 .f32) (k : Vec Ideal S2048x128 .bf16) (r : Fin 256) :
    k0_pay41 q m k (ix2 r 0) = max (m (ix2 r 0)) (Finset.univ.fold max ⊥ fun j : Fin 2048 => k0_pay39 q k (ix2 r j)) := by
  pointwise [k0_pay41]
  rw [ofBits_bot]

theorem past_sum (q : Vec Ideal S256x128 .bf16) (m : FVec Ideal S256x1 .f32) (a : FVec Ideal S256x128 .f32)
    (k v : Vec Ideal S2048x128 .bf16) (r : Fin 256) (l : Fin 128) :
    k0_pay43 q m a k v (ix2 r l)
      = a (ix2 r l) * Ideal.exp (m (ix2 r 0) - k0_pay41 q m k (ix2 r 0))
        + ∑ j : Fin 2048, Ideal.exp (k0_pay39 q k (ix2 r j) - k0_pay41 q m k (ix2 r 0)) * v (ix2 j l) := by
  pointwise [k0_pay43]

theorem quot (a : FVec Ideal S256x128 .f32) (r : Fin 256) (l : Fin 128) :
    k0_pay51 a (ix2 r l) = Ideal.div (a (ix2 r l)) (a (ix2 r 64)) := by
  pointwise [k0_pay51]

theorem keys_at (n : Fin k0_t1_loop.trips) (k : Vec Ideal S256x128 .bf16) (r : Fin 256) (l : Fin 128) :
    KT n k (ix2 r l) = if l.val < 64 then k (ix2 r l) else if l.val = 64 + n.val then 1 else 0 := by
  pointwise [KT, k0_pay23, k0_pay4]
  rw [lane_slt, lane_eq_trip, select_if, select_if]

theorem vals_at (v : Vec Ideal S256x128 .bf16) (r : Fin 256) (l : Fin 128) :
    VT v (ix2 r l) = if l.val = 64 then 1 else v (ix2 r l) := by
  pointwise [VT, k0_pay24]
  rw [lane_eq, select_if]

theorem means_at (b : Vec Ideal S128x8192 .bf16) (k : Vec Ideal S8192x128 .bf16) (r : Fin 128) (l : Fin 128) :
    k0_pay28 b k (ix2 r l) = ∑ j : Fin 8192, b (ix2 r j) * k (ix2 j l) := by
  pointwise [k0_pay28]

end Cert.KernelIdeal.Hand
-- ==== Proof.Sel.lean ====
/-
  The kernel's choice of past blocks read at one place of a block of queries: three rounds, each taking the lowest lane
  of the largest score.
-/
module

public import proofs.«01_k».proof.Proof.Pay

@[expose] public section

set_option maxRecDepth 16384

noncomputable section

namespace Cert.KernelIdeal.Hand

open Cert.KernelIdeal Cert.KernelIdeal.Gen
open Idealize.ShloMosaic

open Classical in
/-- The lowest lane of the largest score, as a number (256 where no lane is). -/
def lowest (c : Fin 128 → EReal) : EReal :=
  Finset.univ.fold min ⊤ fun l : Fin 128 => if c l = Finset.univ.fold max ⊥ c then ((l.val : ℝ) : EReal) else ((256 : ℝ) : EReal)

/-- A round's lane: the lowest of the largest score, where it is one of the lanes allowed. -/
def hit (V : Fin 128 → Prop) (c : Fin 128 → EReal) (l : Fin 128) : Prop := ((l.val : ℝ) : EReal) = lowest c ∧ V l

open Classical in
/-- The scores after a round's lane has been taken out. -/
def next (V : Fin 128 → Prop) (c : Fin 128 → EReal) : Fin 128 → EReal := fun l => if hit V c l then ⊥ else c l

/-- The lanes taken in three rounds. -/
def taken (V : Fin 128 → Prop) (c : Fin 128 → EReal) (l : Fin 128) : Prop :=
  hit V c l ∨ hit V (next V c) l ∨ hit V (next V (next V c)) l

/-- The lanes of a trip's past blocks. -/
def validL (n : ℕ) (l : Fin 128) : Prop := 64 ≤ l.val ∧ l.val < 64 + n

open Classical in
/-- A row's scores of the past blocks. -/
def cand (n : ℕ) (bs : Vec Ideal S128x8192 .bf16) (kk : Vec Ideal S8192x128 .bf16) (q : Vec Ideal S256x128 .bf16) (r : Fin 256) :
    Fin 128 → EReal := fun l =>
  if validL n l then ∑ x : Fin 128, q (ix2 r x) * ∑ j : Fin 8192, bs (ix2 l j) * kk (ix2 j x) else ⊥

theorem andi_ofBool (a b : Prop) [Decidable a] [Decidable b] :
    IntOp.andi (BitVec.ofBool (decide a)) (BitVec.ofBool (decide b)) = BitVec.ofBool (decide (a ∧ b)) := by
  by_cases ha : a <;> by_cases hb : b <;> simp [ha, hb, IntOp.andi]

theorem ofBits_256 : Ideal.ofBits .f32 1132462080#32 = ((256 : ℝ) : EReal) := by
  simp [Ideal.ofBits, Ideal.ieee]; rw [← EReal.coe_mul]; norm_num

theorem pay27_at (r : Fin 256) (l : Fin 128) :
    (k0_pay27 : FVec Ideal S256x128 .f32) (ix2 r l) = ((l.val : ℝ) : EReal) := by
  have h : ∀ l : Fin 128, (BitVec.ofNat 32 l.val).toInt = l.val := by decide +kernel
  have : (k0_pay27 : FVec Ideal S256x128 .f32) (ix2 r l) = FloatOps.sitofp .f32 (BitVec.ofNat 32 l.val) := by pointwise [k0_pay27]
  rw [this]
  show (((BitVec.ofNat 32 l.val).toInt : ℝ) : EReal) = _
  rw [h]; rfl

open Classical in
theorem pay2_at (n : Fin k0_t1_loop.trips) (r : Fin 256) (l : Fin 128) :
    k0_pay2 lanes 0#32 1#32 n (ix2 r l) = BitVec.ofBool (decide (validL n.val l)) := by
  have h : ∀ (n : Fin 32) (l : Fin 128), IntOp.andi (IntOp.cmpi .sge (BitVec.ofNat 32 l.val) 64#32)
      (IntOp.cmpi .slt (BitVec.ofNat 32 l.val) (Scalar.addi 64#32 (Scf.iv 0#32 1#32 n.val)))
      = BitVec.ofBool (decide (64 ≤ l.val ∧ l.val < 64 + n.val)) := by decide +kernel
  refine (?_ : _ = IntOp.andi (IntOp.cmpi .sge (BitVec.ofNat 32 l.val) 64#32)
      (IntOp.cmpi .slt (BitVec.ofNat 32 l.val) (Scalar.addi 64#32 (Scf.iv 0#32 1#32 n.val)))).trans ?_
  · pointwise [k0_pay2]
  · refine (h ⟨n.val, lt_of_lt_of_le n.isLt (by decide)⟩ l).trans ?_
    congr 1; exact decide_eq_decide.mpr Iff.rfl

theorem pay3_at (r : Fin 256) (l : Fin 128) :
    k0_pay3 lanes (ix2 r l) = BitVec.ofBool (decide (64 ≤ l.val ∧ l.val < 96)) := by
  have h : ∀ (l : Fin 128), IntOp.andi (IntOp.cmpi .sge (BitVec.ofNat 32 l.val) 64#32)
      (IntOp.cmpi .slt (BitVec.ofNat 32 l.val) 96#32)
      = BitVec.ofBool (decide (64 ≤ l.val ∧ l.val < 96)) := by decide +kernel
  refine (?_ : _ = IntOp.andi (IntOp.cmpi .sge (BitVec.ofNat 32 l.val) 64#32)
      (IntOp.cmpi .slt (BitVec.ofNat 32 l.val) 96#32)).trans (h l)
  pointwise [k0_pay3]

open Classical in
theorem pay7_at (n : Fin k0_t1_loop.trips) (bs : Vec Ideal S128x8192 .bf16) (kk : Vec Ideal S8192x128 .bf16)
    (q : Vec Ideal S256x128 .bf16) (r : Fin 256) (l : Fin 128) :
    k0_pay7 lanes (k0_pay28 bs kk) 0#32 1#32 n q (ix2 r l) = cand n.val bs kk q r l := by
  refine (?_ : _ = Scalar.select (k0_pay2 lanes 0#32 1#32 n (ix2 r l)) (∑ x, k0_pay5 q (ix2 r x) * k0_pay28 bs kk (ix2 l x))
      (Ideal.ofBits .f32 4286578688#32)).trans ?_
  · pointwise [k0_pay7]
  · rw [pay2_at, select_if, ofBits_bot]
    refine if_congr Iff.rfl (Finset.sum_congr rfl fun x _ => ?_) rfl
    rw [means_at]
    congr 1
    pointwise [k0_pay5]

open Classical in
theorem pay12_at (n : Fin k0_t1_loop.trips) (bs : Vec Ideal S128x8192 .bf16) (kk : Vec Ideal S8192x128 .bf16)
    (q : Vec Ideal S256x128 .bf16) (r : Fin 256) (l : Fin 128) :
    k0_pay12 lanes (k0_pay28 bs kk) 0#32 1#32 n q (ix2 r l)
      = BitVec.ofBool (decide (cand n.val bs kk q r l = Finset.univ.fold max ⊥ (cand n.val bs kk q r))) := by
  refine (?_ : _ = BitVec.ofBool (decide (k0_pay7 lanes (k0_pay28 bs kk) 0#32 1#32 n q (ix2 r l)
      = Finset.univ.fold max (Ideal.ofBits .f32 4286578688#32) fun x => k0_pay7 lanes (k0_pay28 bs kk) 0#32 1#32 n q (ix2 r x)))).trans ?_
  · pointwise [k0_pay12]
  · rw [ofBits_bot]
    simp only [pay7_at]

open Classical in
/-- A round's hit, from the scores it compares. -/
theorem pay13_at (V : Fin 128 → Prop) (c : Fin 128 → EReal) (v1 : FVec Ideal S256x128 .f32) (va eq : IVec S256x128 1) (r : Fin 256)
    (h1 : ∀ l, v1 (ix2 r l) = ((l.val : ℝ) : EReal)) (hV : ∀ l, va (ix2 r l) = BitVec.ofBool (decide (V l)))
    (he : ∀ l, eq (ix2 r l) = BitVec.ofBool (decide (c l = Finset.univ.fold max ⊥ c))) (l : Fin 128) :
    k0_pay13 v1 va eq (ix2 r l) = BitVec.ofBool (decide (hit V c l)) := by
  refine (?_ : _ = IntOp.andi (BitVec.ofBool (decide (v1 (ix2 r l) = Finset.univ.fold min (Ideal.ofBits .f32 2139095040#32)
      fun x => Scalar.select (eq (ix2 r x)) (v1 (ix2 r x)) (Ideal.ofBits .f32 1132462080#32)))) (va (ix2 r l))).trans ?_
  · pointwise [k0_pay13]
  · rw [hV, andi_ofBool, ofBits_top, ofBits_256]
    simp only [h1, he, select_if]
    congr 1; exact decide_eq_decide.mpr Iff.rfl

open Classical in
theorem pay17_at (V : Fin 128 → Prop) (c : Fin 128 → EReal) (v1 : FVec Ideal S256x128 .f32) (va eq : IVec S256x128 1)
    (v127 : FVec Ideal S256x128 .f32) (r : Fin 256)
    (h1 : ∀ l, v1 (ix2 r l) = ((l.val : ℝ) : EReal)) (hV : ∀ l, va (ix2 r l) = BitVec.ofBool (decide (V l)))
    (he : ∀ l, eq (ix2 r l) = BitVec.ofBool (decide (c l = Finset.univ.fold max ⊥ c))) (hc : ∀ l, v127 (ix2 r l) = c l) (l : Fin 128) :
    k0_pay17 v1 va v127 eq (ix2 r l) = next V c l := by
  refine (?_ : _ = Scalar.select (k0_pay13 v1 va eq (ix2 r l)) (Ideal.ofBits .f32 4286578688#32) (v127 (ix2 r l))).trans ?_
  · pointwise [k0_pay17]
  · rw [pay13_at V c v1 va eq r h1 hV he l, select_if, ofBits_bot, hc]; rfl

open Classical in
theorem pay15_at (V : Fin 128 → Prop) (c : Fin 128 → EReal) (v1 : FVec Ideal S256x128 .f32) (va eq : IVec S256x128 1) (r : Fin 256)
    (h1 : ∀ l, v1 (ix2 r l) = ((l.val : ℝ) : EReal)) (hV : ∀ l, va (ix2 r l) = BitVec.ofBool (decide (V l)))
    (he : ∀ l, eq (ix2 r l) = BitVec.ofBool (decide (c l = Finset.univ.fold max ⊥ c))) (l : Fin 128) :
    k0_pay15 v1 va k0_pay9 eq (ix2 r l) = if hit V c l then (1 : EReal) else 0 := by
  refine (?_ : _ = Scalar.select (k0_pay13 v1 va eq (ix2 r l)) (1 : EReal) 0).trans ?_
  · pointwise [k0_pay15, k0_pay9]
  · rw [pay13_at V c v1 va eq r h1 hV he l, select_if]

open Classical in
/-- The second round's hit. -/
theorem pay19_at (V : Fin 128 → Prop) (c : Fin 128 → EReal) (v1 : FVec Ideal S256x128 .f32) (va eq : IVec S256x128 1)
    (v127 : FVec Ideal S256x128 .f32) (r : Fin 256)
    (h1 : ∀ l, v1 (ix2 r l) = ((l.val : ℝ) : EReal)) (hV : ∀ l, va (ix2 r l) = BitVec.ofBool (decide (V l)))
    (he : ∀ l, eq (ix2 r l) = BitVec.ofBool (decide (c l = Finset.univ.fold max ⊥ c))) (hc : ∀ l, v127 (ix2 r l) = c l) (l : Fin 128) :
    k0_pay19 v1 va v127 eq (ix2 r l) = BitVec.ofBool (decide (hit V (next V c) l)) := by
  refine (?_ : _ = IntOp.andi (BitVec.ofBool (decide (v1 (ix2 r l) = Finset.univ.fold min (Ideal.ofBits .f32 2139095040#32)
      fun x => if k0_pay17 v1 va v127 eq (ix2 r x) = (Finset.univ.fold max (Ideal.ofBits .f32 4286578688#32) fun x => k0_pay17 v1 va v127 eq (ix2 r x))
        then v1 (ix2 r x) else Ideal.ofBits .f32 1132462080#32))) (va (ix2 r l))).trans ?_
  · pointwise [k0_pay19]
  · rw [hV, andi_ofBool, ofBits_top, ofBits_256, ofBits_bot]
    simp only [pay17_at V c v1 va eq v127 r h1 hV he hc, h1]
    congr 1; exact decide_eq_decide.mpr Iff.rfl

open Classical in
/-- A row's prepared queries: the mask in the lanes of the blocks not taken. -/
theorem queries_at (n : Fin k0_t1_loop.trips) (bs : Vec Ideal S128x8192 .bf16) (kk : Vec Ideal S8192x128 .bf16)
    (q : Vec Ideal S256x128 .bf16) (r : Fin 256) (l : Fin 128) :
    QT n bs kk q (ix2 r l)
      = if (64 ≤ l.val ∧ l.val < 96) ∧ ¬ taken (validL n.val) (cand n.val bs kk q r) l then ⊥ else q (ix2 r l) := by
  have hV := fun l => pay2_at n r l
  have h1 := fun l => pay27_at r l
  have he := fun l => pay12_at n bs kk q r l
  have hc := fun l => pay7_at n bs kk q r l
  generalize hcd : cand n.val bs kk q r = c at *
  have e5 : ∀ l, k0_pay5 q (ix2 r l) = q (ix2 r l) := fun l => by pointwise [k0_pay5]
  unfold QT
  generalize (k0_pay7 lanes (k0_pay28 bs kk) 0#32 1#32 n q) = v127 at *
  generalize (k0_pay12 lanes (k0_pay28 bs kk) 0#32 1#32 n q) = eq at *
  generalize (k0_pay2 lanes 0#32 1#32 n) = va at *
  have h15 := pay15_at _ c k0_pay27 va eq r h1 hV he
  have h17 := pay17_at _ c k0_pay27 va eq v127 r h1 hV he hc
  have h19 := pay19_at _ c k0_pay27 va eq v127 r h1 hV he hc
  have h3 := pay3_at r
  generalize k0_pay15 (F := Ideal) k0_pay27 va k0_pay9 eq = v156 at *
  generalize k0_pay17 (F := Ideal) k0_pay27 va v127 eq = v160 at *
  generalize k0_pay19 (F := Ideal) k0_pay27 va v127 eq = v181 at *
  generalize (k0_pay3 lanes : IVec S256x128 1) = v110 at *
  generalize k0_pay5 q = v120 at *
  generalize (k0_pay27 : FVec Ideal S256x128 .f32) = v1 at *
  generalize validL n.val = V at *
  have h190 : ∀ x, Scalar.select (v181 (ix2 r x)) (⊥ : EReal) (v160 (ix2 r x)) = next V (next V c) x := fun x => by
    rw [h19, h17, select_if]; rfl
  refine (?_ : _ = Scalar.select (IntOp.andi (v110 (ix2 r l)) (BitVec.ofBool (decide (Scalar.select (IntOp.andi
      (BitVec.ofBool (decide (v1 (ix2 r l) = Finset.univ.fold min (Ideal.ofBits .f32 2139095040#32) fun x =>
        if Scalar.select (v181 (ix2 r x)) (Ideal.ofBits .f32 4286578688#32) (v160 (ix2 r x))
          = (Finset.univ.fold max (Ideal.ofBits .f32 4286578688#32) fun x => Scalar.select (v181 (ix2 r x)) (Ideal.ofBits .f32 4286578688#32) (v160 (ix2 r x)))
        then v1 (ix2 r x) else Ideal.ofBits .f32 1132462080#32))) (va (ix2 r l)))
      (1 : EReal) (Scalar.select (v181 (ix2 r l)) 1 (v156 (ix2 r l))) = 0)))) (Named.named κ "mask" 4051697664#32 : Ideal .f32) (v120 (ix2 r l))).trans ?_
  · pointwise [k0_pay22]
  · rw [ofBits_top, ofBits_256, ofBits_bot, mask_bot, h3, hV]
    simp only [h190, h1]
    simp only [h19, h15, e5, andi_ofBool, select_if]
    have hl : (((l.val : ℝ) : EReal) = (Finset.univ.fold min ⊤ fun x : Fin 128 => if next V (next V c) x = Finset.univ.fold max ⊥ (fun x => next V (next V c) x)
      then ((x.val : ℝ) : EReal) else ((256 : ℝ) : EReal)) ∧ V l) = hit V (next V (next V c)) l := rfl
    simp only [hl]
    refine if_congr (and_congr Iff.rfl ?_) rfl rfl
    by_cases a : hit V c l <;> by_cases b : hit V (next V c) l <;> by_cases d : hit V (next V (next V c)) l <;>
      simp [taken, a, b, d]

end Cert.KernelIdeal.Hand
-- ==== Proof.Top3.lean ====
/-
  The three blocks a row chooses: three rounds of the largest score at the lowest lane take the lanes of the first
  three blocks of the scores sorted, larger first and equal ones in order, as far as those are past.
-/
module

public import proofs.«01_k».proof.Proof.Sel
public import Idealize.ShloMosaic.Lib.SortFacts

@[expose] public section

noncomputable section

namespace Cert.KernelIdeal.Hand

open Idealize.ShloMosaic

/-- Block `a` is ranked before block `b`: its score is larger, or they are equal and its number is lower. -/
def ahead (G : Fin 32 → EReal) (a b : Fin 32) : Prop := G b < G a ∨ (G a = G b ∧ a < b)

/-- The blocks by rank. -/
def ranked (G : Fin 32 → EReal) : Fin 32 → Fin 32 :=
  sortedFrom fun a b => FloatOps.cmpfTotal (F := Ideal) (φ := FTy.f32) .gt (G a) (G b) == 1#1

theorem ofBool_eq_one (b : Bool) : (BitVec.ofBool b == 1#1) = b := by cases b <;> rfl

theorem cmp_gt (x y : EReal) : Ideal.cmp .ogt x y = 1#1 ↔ y < x := by
  unfold Ideal.cmp
  by_cases h : y < x
  · simp only [h, decide_true]; exact ⟨fun _ => trivial, fun _ => rfl⟩
  · simp only [h, decide_false, iff_false]; decide

open Classical in
theorem gt_iff (x y : EReal) : (FloatOps.cmpfTotal (F := Ideal) (φ := FTy.f32) .gt x y == 1#1) = decide (y < x) := by
  have e : (FloatOps.cmpfTotal (F := Ideal) (φ := FTy.f32) .gt x y = 1#1) ↔ y < x := cmp_gt x y
  by_cases h : y < x
  · rw [decide_eq_true h]; exact beq_iff_eq.mpr (e.mpr h)
  · rw [decide_eq_false h]; exact beq_eq_false_iff_ne.mpr fun h' => h (e.mp h')

/-- Sorting a list in order by two relations that agree where the earlier is asked second gives the same list. -/
theorem sort_agree {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sorted_eq {n : ℕ} (R R' : Fin n → Fin n → Bool) (h : sortPositions n R = sortPositions n R') :
    sortedFrom R = sortedFrom R' := by
  funext k
  unfold sortedFrom
  rw [List.get_of_eq h]
  rfl

open Classical in
theorem ranked_eq (G : Fin 32 → EReal) : ranked G = sortedFrom fun a b => decide (ahead G a b) := by
  have h : sortPositions 32 (fun a b => FloatOps.cmpfTotal (F := Ideal) (φ := FTy.f32) .gt (G a) (G b) == 1#1)
      = sortPositions 32 fun a b => decide (ahead G a b) := by
    refine sort_agree _ _ (fun a b hab => ?_) _ (List.pairwise_lt_finRange 32)
    rw [gt_iff]
    refine decide_eq_decide.mpr ⟨Or.inl, fun h => h.elim id fun h => absurd h.2 (not_lt.mpr hab.le)⟩
  exact sorted_eq _ _ h

theorem ahead_total (G : Fin 32 → EReal) (a b : Fin 32) (hab : a ≠ b) : ahead G a b ∨ ahead G b a := by
  rcases lt_trichotomy (G a) (G b) with h | h | h
  · exact Or.inr (Or.inl h)
  · rcases lt_or_gt_of_ne hab with h' | h'
    · exact Or.inl (Or.inr ⟨h, h'⟩)
    · exact Or.inr (Or.inr ⟨h.symm, h'⟩)
  · exact Or.inl (Or.inl h)

theorem ahead_asymm (G : Fin 32 → EReal) (a b : Fin 32) (h : ahead G a b) : ¬ ahead G b a := by
  rintro (h' | h') <;> rcases h with h | h
  · exact lt_asymm h h'
  · exact absurd h.1 (ne_of_lt h')
  · exact absurd h'.1 (ne_of_lt h)
  · exact lt_asymm h.2 h'.2

theorem ahead_trans (G : Fin 32 → EReal) (a b c : Fin 32) (h : ahead G a b) (h' : ahead G b c) : ahead G a c := by
  rcases h with h | h <;> rcases h' with h' | h'
  · exact Or.inl (h'.trans h)
  · exact Or.inl (h'.1 ▸ h)
  · exact Or.inl (h.1 ▸ h')
  · exact Or.inr ⟨h.1.trans h'.1, h.2.trans h'.2⟩

/-- A lower place of the ranking holds a block ranked before that of a higher place. -/
theorem ranked_ahead (G : Fin 32 → EReal) (i j : Fin 32) (hij : i < j) : ahead G (ranked G i) (ranked G j) := by
  classical
  have hne : ranked G i ≠ ranked G j := fun h => (ne_of_lt hij) (sortedFrom_injective _ h)
  refine (ahead_total G _ _ hne).resolve_right fun h => ?_
  rw [ranked_eq] at h
  have := sortedFrom_noInversion (fun a b => decide (ahead G a b)) (fun a b => decide (ahead G a b))
    (fun a b h => by simpa using ahead_asymm G a b (by simpa using h)) (fun a b h => h)
    (fun a b c hab hbc => by
      simp only [decide_eq_false_iff_not] at *
      intro h
      by_cases e : a = b
      · exact hbc (e ▸ h)
      by_cases e' : b = c
      · exact hab (e' ▸ h)
      exact ahead_asymm G a c h (ahead_trans G c b a ((ahead_total G b c e').resolve_left hbc) ((ahead_total G a b e).resolve_left hab)))
    i j hij
  simp only [decide_eq_false_iff_not] at this
  exact this h

/-- Block `b` is past (below `n`) and among the first three of the ranking. -/
def Chosen (G : Fin 32 → EReal) (n b : ℕ) : Prop := b < n ∧ ∃ i : Fin 3, (ranked G ⟨i.val, by omega⟩).val = b

/-- The lane that holds block `b`'s score. -/
def lane (b : Fin 32) : Fin 128 := ⟨64 + b.val, by omega⟩

theorem valid_lane (n : ℕ) (b : Fin 32) : validL n (lane b) ↔ b.val < n := by
  unfold validL lane; simp

theorem max_iff (c : Fin 128 → EReal) (l : Fin 128) : c l = Finset.univ.fold max ⊥ c ↔ ∀ l', c l' ≤ c l := by
  constructor
  · intro h l'
    rw [h]
    exact (Finset.le_fold_max _).mpr (Or.inr ⟨l', Finset.mem_univ _, le_refl _⟩)
  · intro h
    exact le_antisymm ((Finset.le_fold_max _).mpr (Or.inr ⟨l, Finset.mem_univ _, le_refl _⟩))
      ((Finset.fold_max_le _).mpr ⟨bot_le, fun l' _ => h l'⟩)

theorem lowest_iff (c : Fin 128 → EReal) (l : Fin 128) :
    ((l.val : ℝ) : EReal) = lowest c ↔ (∀ l', c l' ≤ c l) ∧ ∀ l', (∀ l'', c l'' ≤ c l') → l ≤ l' := by
  unfold lowest
  have key : ∀ x : Fin 128, (if c x = Finset.univ.fold max ⊥ c then ((x.val : ℝ) : EReal) else ((256 : ℝ) : EReal))
      = ((((if ∀ l', c l' ≤ c x then x.val else 256 : ℕ) : ℝ)) : EReal) := by
    intro x
    by_cases h : ∀ l', c l' ≤ c x
    · rw [if_pos ((max_iff c x).mpr h), if_pos h]
    · rw [if_neg (fun e => h ((max_iff c x).mp e)), if_neg h]; norm_num
  rw [Finset.fold_congr (fun x _ => key x)]
  have hle : ∀ a b : ℕ, (((a : ℝ) : EReal) ≤ ((b : ℝ) : EReal)) ↔ a ≤ b := fun a b => by
    rw [EReal.coe_le_coe_iff, Nat.cast_le]
  constructor
  · intro h
    have h1 := (Finset.le_fold_min _).mp (le_of_eq h)
    have h2 := (Finset.fold_min_le _).mp (le_of_eq h.symm)
    have hlow : ∀ l', (∀ l'', c l'' ≤ c l') → l ≤ l' := fun l' hl' => by
      have := h1.2 l' (Finset.mem_univ _)
      rw [if_pos hl', hle] at this
      exact this
    refine ⟨?_, hlow⟩
    rcases h2 with h2 | ⟨x, -, h2⟩
    · exact absurd h2 (not_le.mpr (EReal.coe_lt_top _))
    · rw [hle] at h2
      by_cases hx : ∀ l', c l' ≤ c x
      · rw [if_pos hx] at h2
        have : x = l := le_antisymm h2 (hlow x hx)
        exact this ▸ hx
      · rw [if_neg hx] at h2
        have := l.isLt
        omega
  · rintro ⟨hmax, hlow⟩
    refine le_antisymm ((Finset.le_fold_min _).mpr ⟨le_top, fun x _ => ?_⟩) ((Finset.fold_min_le _).mpr (Or.inr ⟨l, Finset.mem_univ _, ?_⟩))
    · rw [hle]
      by_cases hx : ∀ l', c l' ≤ c x
      · rw [if_pos hx]; exact hlow x hx
      · rw [if_neg hx]; have := l.isLt; omega
    · rw [if_pos hmax]

section rounds
variable (n : ℕ) (G : Fin 32 → EReal) (c : Fin 128 → EReal)

open Classical in
/-- The lanes' scores after the first `k` blocks of the ranking have been taken out. -/
def without (k : ℕ) (l : Fin 128) : EReal :=
  if validL n l ∧ ∃ i : Fin 32, i.val < k ∧ l = lane (ranked G i) then ⊥ else c l

variable {n G c}
variable (hn : n ≤ 32) (hG : ∀ b : Fin 32, b.val < n → ⊥ < G b) (hG' : ∀ b : Fin 32, n ≤ b.val → G b = ⊥)
  (hc : ∀ b : Fin 32, b.val < n → ⊥ < c (lane b)) (hc' : ∀ l, ¬ validL n l → c l = ⊥)
  (hcG : ∀ a b : Fin 32, a.val < n → b.val < n → (c (lane a) < c (lane b) ↔ G a < G b))

theorem lane_inj (a b : Fin 32) (h : lane a = lane b) : a = b := by
  have := congrArg Fin.val h
  simp only [lane] at this
  exact Fin.ext (by omega)

include hn in
theorem valid_is_lane (l : Fin 128) (h : validL n l) : ∃ j : Fin 32, l = lane (ranked G j) ∧ (ranked G j).val < n := by
  obtain ⟨h1, h2⟩ := h
  obtain ⟨j, hj⟩ := sortedFrom_surjective (fun a b => FloatOps.cmpfTotal (F := Ideal) (φ := FTy.f32) .gt (G a) (G b) == 1#1)
    (⟨l.val - 64, by omega⟩ : Fin 32)
  have hj : ranked G j = ⟨l.val - 64, by omega⟩ := hj
  refine ⟨j, ?_, ?_⟩
  · rw [hj]; apply Fin.ext; simp only [lane]; omega
  · rw [hj]; simp only; omega

include hn hG hG' hc hc' hcG in
/-- After `k` rounds the next takes the lane of the ranking's block `k`, if that block is past, and else none. -/
theorem hit_without (k : Fin 32) (l : Fin 128) :
    hit (validL n) (without n G c k.val) l ↔ validL n l ∧ l = lane (ranked G k) := by
  have hcle : ∀ a b : Fin 32, a.val < n → b.val < n → (c (lane a) ≤ c (lane b) ↔ G a ≤ G b) := fun a b ha hb => by
    rw [← not_lt, ← not_lt, hcG b a hb ha]
  have hrest : ∀ j : Fin 32, (ranked G j).val < n → k ≤ j → without n G c k.val (lane (ranked G j)) = c (lane (ranked G j)) := by
    intro j hj hkj
    unfold without
    rw [if_neg]
    rintro ⟨_, i, hi, e⟩
    have := sortedFrom_injective _ (lane_inj _ _ e)
    subst this
    exact absurd hi (not_lt.mpr hkj)
  have hbot : ∀ l', ⊥ < without n G c k.val l' → ∃ j : Fin 32, l' = lane (ranked G j) ∧ (ranked G j).val < n ∧ k ≤ j := by
    intro l' h
    by_cases hv : validL n l'
    · obtain ⟨j, hj, hjn⟩ := valid_is_lane (G := G) hn l' hv
      refine ⟨j, hj, hjn, ?_⟩
      by_contra hlt
      unfold without at h
      rw [if_pos ⟨hv, j, not_le.mp hlt, hj⟩] at h
      exact lt_irrefl _ h
    · unfold without at h
      rw [if_neg (fun h => hv h.1), hc' l' hv] at h
      exact absurd h (lt_irrefl _)
  unfold hit
  rw [lowest_iff]
  constructor
  · rintro ⟨⟨hmax, hlow⟩, hv⟩
    refine ⟨hv, ?_⟩
    have hpos : ⊥ < without n G c k.val l := by
      by_contra hb
      have hb : without n G c k.val l = ⊥ := by simpa using hb
      have := hlow 0 fun l'' => (hmax l'').trans (hb ▸ bot_le)
      have h1 : 64 ≤ l.val := hv.1
      have h2 : l.val ≤ 0 := this
      omega
    obtain ⟨j, hj, hjn, hkj⟩ := hbot l hpos
    rcases eq_or_lt_of_le hkj with e | hlt
    · rw [e]; exact hj
    · exfalso
      have ha := ranked_ahead G k j hlt
      have hkn : (ranked G k).val < n := by
        by_contra hge
        have e := hG' _ (not_lt.mp hge)
        rcases ha with h | h
        · rw [e] at h; exact absurd h not_lt_bot
        · rw [e] at h; exact absurd (hG _ hjn) (by rw [← h.1]; exact lt_irrefl _)
      have e1 := hrest k hkn le_rfl
      have e2 := hrest j hjn hkj
      subst hj
      have hm := hmax (lane (ranked G k))
      rw [e1, e2, hcle _ _ hkn hjn] at hm
      rcases ha with h | ⟨h, h'⟩
      · exact absurd hm (not_le.mpr h)
      · have := hlow (lane (ranked G k)) fun l'' => (hmax l'').trans (by
          rw [e1, e2, hcle _ _ hjn hkn, h])
        have h3 : 64 + (ranked G j).val ≤ 64 + (ranked G k).val := this
        have h4 : (ranked G k).val < (ranked G j).val := h'
        omega
  · rintro ⟨hv, rfl⟩
    have hkn := (valid_lane n _).mp hv
    have e1 := hrest k hkn le_rfl
    have hmax : ∀ l', without n G c k.val l' ≤ without n G c k.val (lane (ranked G k)) := by
      intro l'
      by_cases hb : ⊥ < without n G c k.val l'
      · obtain ⟨j, rfl, hjn, hkj⟩ := hbot l' hb
        rw [e1, hrest j hjn hkj, hcle _ _ hjn hkn]
        rcases eq_or_lt_of_le hkj with e | hlt
        · rw [e]
        · rcases ranked_ahead G k j hlt with h | h
          · exact h.le
          · exact h.1.ge
      · have hb : without n G c k.val l' = ⊥ := by simpa using hb
        rw [hb]; exact bot_le
    refine ⟨⟨hmax, fun l' hl' => ?_⟩, hv⟩
    have hpos : ⊥ < without n G c k.val l' := lt_of_lt_of_le (by rw [e1]; exact hc _ hkn) (hl' (lane (ranked G k)))
    obtain ⟨j, rfl, hjn, hkj⟩ := hbot l' hpos
    rcases eq_or_lt_of_le hkj with e | hlt
    · rw [e]
    · have hle := hl' (lane (ranked G k))
      rw [e1, hrest j hjn hkj, hcle _ _ hkn hjn] at hle
      rcases ranked_ahead G k j hlt with h | h
      · exact absurd hle (not_le.mpr h)
      · have h4 : (ranked G k).val < (ranked G j).val := h.2
        show 64 + (ranked G k).val ≤ 64 + (ranked G j).val
        omega

include hn hG hG' hc hc' hcG in
theorem next_without (k : Fin 32) : next (validL n) (without n G c k.val) = without n G c (k.val + 1) := by
  funext l
  unfold next
  by_cases h : hit (validL n) (without n G c k.val) l
  · rw [if_pos h]
    have h := (hit_without hn hG hG' hc hc' hcG k l).mp h
    unfold without
    rw [if_pos ⟨h.1, k, Nat.lt_succ_self _, h.2⟩]
  · rw [if_neg h]
    have h := fun e => h ((hit_without hn hG hG' hc hc' hcG k l).mpr e)
    unfold without
    classical
    refine if_congr ?_ rfl rfl
    constructor
    · rintro ⟨hv, i, hi, e⟩; exact ⟨hv, i, Nat.lt_succ_of_lt hi, e⟩
    · rintro ⟨hv, i, hi, e⟩
      refine ⟨hv, i, lt_of_le_of_ne (Nat.le_of_lt_succ hi) fun e' => h ⟨hv, ?_⟩, e⟩
      rw [e, Fin.ext e']

include hn hG hG' hc hc' hcG in
/-- Three rounds take block `b`'s lane exactly where `b` is past and among the first three of the ranking. -/
theorem taken_lane (b : Fin 32) :
    taken (validL n) c (lane b) ↔ b.val < n ∧ ∃ i : Fin 3, ranked G ⟨i.val, by omega⟩ = b := by
  have h0 : c = without n G c (0 : Fin 32).val := by
    funext l
    unfold without
    rw [if_neg]
    rintro ⟨_, i, hi, _⟩
    exact absurd hi (Nat.not_lt_zero _)
  have h1 : next (validL n) c = without n G c (1 : Fin 32).val := by
    conv_lhs => rw [h0]
    exact next_without hn hG hG' hc hc' hcG 0
  have h2 : next (validL n) (next (validL n) c) = without n G c (2 : Fin 32).val := by
    rw [h1]
    exact next_without hn hG hG' hc hc' hcG 1
  have h0' : hit (validL n) c (lane b) ↔ hit (validL n) (without n G c (0 : Fin 32).val) (lane b) := by rw [← h0]
  unfold taken
  rw [h2, h1, h0']
  rw [hit_without hn hG hG' hc hc' hcG, hit_without hn hG hG' hc hc' hcG, hit_without hn hG hG' hc hc' hcG, valid_lane]
  constructor
  · rintro (⟨h, e⟩ | ⟨h, e⟩ | ⟨h, e⟩)
    · exact ⟨h, 0, (lane_inj _ _ e).symm⟩
    · exact ⟨h, 1, (lane_inj _ _ e).symm⟩
    · exact ⟨h, 2, (lane_inj _ _ e).symm⟩
  · rintro ⟨h, i, e⟩
    fin_cases i
    · exact Or.inl ⟨h, congrArg lane e.symm⟩
    · exact Or.inr (Or.inl ⟨h, congrArg lane e.symm⟩)
    · exact Or.inr (Or.inr ⟨h, congrArg lane e.symm⟩)

end rounds

end Cert.KernelIdeal.Hand
-- ==== Proof.Ref.lean ====
/-
  The reference at a place: its scores, the blocks a row chooses, and the weighted sum of the values.
-/
module

public import proofs.«01_k».proof.Proof.Host
public import proofs.«01_k».proof.Proof.Top3
public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- Each position's block. -/
def blockOf : IVec S8192 32 :=
  (select (andi (cmpi .ne (signi (iotaInDim S8192 32 0)) (broadcastInDim S8192 ![] bcast_S_S8192 (signi (id (constantI S_ 32 256#32))))) (cmpi .ne (Host.remsi (iotaInDim S8192 32 0) (broadcastInDim S8192 ![] bcast_S_S8192 (id (constantI S_ 32 256#32)))) (broadcastInDim S8192 ![] bcast_S_S8192 (constantI S_ 32 0#32)))) (subi (Host.divsi (iotaInDim S8192 32 0) (broadcastInDim S8192 ![] bcast_S_S8192 (id (constantI S_ 32 256#32)))) (broadcastInDim S8192 ![] bcast_S_S8192 (constantI S_ 32 1#32))) (Host.divsi (iotaInDim S8192 32 0) (broadcastInDim S8192 ![] bcast_S_S8192 (id (constantI S_ 32 256#32)))))

variable (q k v : FVec Ideal S2x8x8192x64 .f32)

/-- The blocks' mean keys. -/
def means : FVec Ideal S2x8x32x64 .f32 :=
  Host.divf (Host.reduceAdd (shapeCast _ k shapeCasts_S2x8x8192x64_S2x8x32x256x64) (constant S_ .f32 0x00000000#32) reducesTo_S2x8x32x256x64_S2x8x32x64_d3 h_S_) (broadcastInDim S2x8x32x64 ![] bcast_S_S2x8x32x64 (constant S_ .f32 0x43800000#32))

/-- A row's gate of each block, `⊥` from its own block on. -/
def gate : FVec Ideal S2x8x8192x32 .f32 :=
  select (broadcastInDim S2x8x8192x32 ![2, 3] bcast_S8192x32_S2x8x8192x32_2_3 (cmpi .slt (broadcastInDim S8192x32 ![0, 1] bcast_S1x32_S8192x32_0_1 (broadcastInDim S1x32 ![1] bcast_S32_S1x32_1 (iotaInDim S32 32 0))) (broadcastInDim S8192x32 ![0, 1] bcast_S8192x1_S8192x32_0_1 (broadcastInDim S8192x1 ![0] bcast_S8192_S8192x1_0 blockOf))))
    (Host.dotGeneral dot_S2x8x8192x64_S2x8x32x64_S2x8x8192x32_3_3_2_2_01_01 none q (means k))
    (broadcastInDim S2x8x8192x32 ![] bcast_S_S2x8x8192x32 (id (constant S_ .f32 0xFF800000#32)))

/-- The three blocks of the largest gates. -/
def first3 : IVec S2x8x8192x3 32 := (Host.topK S2x8x8192x3 3 (FloatOps.cmpfTotal .gt) (gate q k) sliceFits_S2x8x8192x32_S2x8x8192x3).2

/-- Whether a row chooses a block. -/
def chosen : IVec S2x8x8192x32 1 :=
  Host.reduce IntOp.ori (andi (cmpi .eq (broadcastInDim S2x8x8192x3x32 ![0, 1, 2, 3, 4] bcast_S2x8x8192x3x1_S2x8x8192x3x32_0_1_2_3_4 (broadcastInDim S2x8x8192x3x1 ![0, 1, 2, 3] bcast_S2x8x8192x3_S2x8x8192x3x1_0_1_2_3 (first3 q k))) (broadcastInDim S2x8x8192x3x32 ![0, 1, 2, 3, 4] bcast_S1x1x1x1x32_S2x8x8192x3x32_0_1_2_3_4 (broadcastInDim S1x1x1x1x32 ![4] bcast_S32_S1x1x1x1x32_4 (iotaInDim S32 32 0))))
    (broadcastInDim S2x8x8192x3x32 ![0, 1, 2, 3, 4] bcast_S2x8x8192x3x1_S2x8x8192x3x32_0_1_2_3_4 (broadcastInDim S2x8x8192x3x1 ![0, 1, 2, 3] bcast_S2x8x8192x3_S2x8x8192x3x1_0_1_2_3 (cmpi .slt (first3 q k) (broadcastInDim S2x8x8192x3 ![0, 1, 2, 3] bcast_S1x1x8192x1_S2x8x8192x3_0_1_2_3 (broadcastInDim S1x1x8192x1 ![2, 3] bcast_S8192x1_S1x1x8192x1_2_3 (broadcastInDim S8192x1 ![0] bcast_S8192_S8192x1_0 blockOf)))))))
    (constantI S_ 1 0#1) reducesTo_S2x8x8192x3x32_S2x8x8192x32_d3 h_S_

/-- Whether a key is in a row's own block, at or before it. -/
def inOwn : IVec S8192x8192 1 :=
  andi (cmpi .eq (broadcastInDim S8192x8192 ![0, 1] bcast_S1x8192_S8192x8192_0_1 (broadcastInDim S1x8192 ![1] bcast_S8192_S1x8192_1 blockOf)) (broadcastInDim S8192x8192 ![0, 1] bcast_S8192x1_S8192x8192_0_1 (broadcastInDim S8192x1 ![0] bcast_S8192_S8192x1_0 blockOf)))
    (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- A row's scores, `⊥` at the keys it does not see. -/
def scores : FVec Ideal S2x8x8192x8192 .f32 :=
  select (ori (shapeCast _ (broadcastInDim S2x8x8192x32x256 ![0, 1, 2, 3] bcast_S2x8x8192x32_S2x8x8192x32x256_0_1_2_3 (chosen q k)) shapeCasts_S2x8x8192x32x256_S2x8x8192x8192) (broadcastInDim S2x8x8192x8192 ![0, 1, 2, 3] bcast_S1x1x8192x8192_S2x8x8192x8192_0_1_2_3 (broadcastInDim S1x1x8192x8192 ![2, 3] bcast_S8192x8192_S1x1x8192x8192_2_3 inOwn)))
    (mulf (Host.dotGeneral dot_S2x8x8192x64_S2x8x8192x64_S2x8x8192x8192_3_3_2_2_01_01 none q k) (broadcastInDim S2x8x8192x8192 ![] bcast_S_S2x8x8192x8192 (constant S_ .f32 0x3E000000#32)))
    (broadcastInDim S2x8x8192x8192 ![] bcast_S_S2x8x8192x8192 (id (constant S_ .f32 0xFF800000#32)))

/-- The largest score of each row. -/
def rowMax (S : FVec Ideal S2x8x8192x8192 .f32) : FVec Ideal S2x8x8192 .f32 :=
  Host.reduce FloatOps.maximumf S (constant S_ .f32 0xFF800000#32) reducesTo_S2x8x8192x8192_S2x8x8192_d3 h_S_

/-- The same, and at least `⊥`. -/
def largest (S : FVec Ideal S2x8x8192x8192 .f32) : FVec Ideal S2x8x8192 .f32 :=
  maximumf (broadcastInDim S2x8x8192 ![] bcast_S_S2x8x8192 (constant S_ .f32 0xFF800000#32)) (rowMax S)

/-- The weights before they are normalised. -/
def weights (S : FVec Ideal S2x8x8192x8192 .f32) : FVec Ideal S2x8x8192x8192 .f32 :=
  Host.exp (subf S (broadcastInDim S2x8x8192x8192 ![0, 1, 2, 3] bcast_S2x8x8192x1_S2x8x8192x8192_0_1_2_3 (broadcastInDim S2x8x8192x1 ![0, 1, 2] bcast_S2x8x8192_S2x8x8192x1_0_1_2 (largest S))))

/-- The weights' sum. -/
def total (W : FVec Ideal S2x8x8192x8192 .f32) : FVec Ideal S2x8x8192 .f32 :=
  Host.reduceAdd W (constant S_ .f32 0x00000000#32) reducesTo_S2x8x8192x8192_S2x8x8192_d3 h_S_

/-- The values weighted by the normalised weights. -/
def mix (W : FVec Ideal S2x8x8192x8192 .f32) : FVec Ideal S2x8192x8x64 .bf16 :=
  truncf .bf16 (transpose S2x8192x8x64 [0, 2, 1, 3] (Host.dotGeneral dot_S2x8x8192x8192_S2x8x8192x64_S2x8x8192x64_3_2_2_3_01_01 none
    (Host.divf W (broadcastInDim S2x8x8192x8192 ![0, 1, 2, 3] bcast_S2x8x8192x1_S2x8x8192x8192_0_1_2_3 (broadcastInDim S2x8x8192x1 ![0, 1, 2] bcast_S2x8x8192_S2x8x8192x1_0_1_2 (total W)))) v)
    transposes_S2x8x8192x64_S2x8192x8x64_0_2_1_3) bitsLt_bf16_f32

theorem blockOf_at (s : Fin 8192) : blockOf (ix1 s) = BitVec.ofNat 32 (s.val / 256) := by
  pointwise [blockOf]
  exact Cert.KernelIdeal.Hand.floor256 s

/-- A largest element along the last axis of four. -/
theorem reduce_max {n0 n1 n2 n3 : ℕ} (h : (⟨4, ![n0, n1, n2, n3]⟩ : Shape).ReducesTo [3] ⟨3, ![n0, n1, n2]⟩) (hu : 0 < S_.numel)
    (x : FVec Ideal ⟨4, ![n0, n1, n2, n3]⟩ .f32) (a : Fin n0) (b : Fin n1) (s : Fin n2) :
    (Host.reduce FloatOps.maximumf x (constant S_ .f32 0xFF800000#32) h hu : FVec Ideal ⟨3, ![n0, n1, n2]⟩ .f32) (ix3 a b s)
      = Finset.univ.fold max ⊥ fun j : Fin n3 => x (ix4 a b s j) := by
  pointwise
  rw [Cert.KernelIdeal.Hand.ofBits_bot]

theorem rowMax_at (S : FVec Ideal S2x8x8192x8192 .f32) (b : Fin 2) (h : Fin 8) (s : Fin 8192) :
    rowMax S (ix3 b h s) = Finset.univ.fold max ⊥ fun j' : Fin 8192 => S (ix4 b h s j') :=
  reduce_max reducesTo_S2x8x8192x8192_S2x8x8192_d3 h_S_ S b h s

theorem atLeast_at (R : FVec Ideal S2x8x8192 .f32) (b : Fin 2) (h : Fin 8) (s : Fin 8192) :
    (maximumf (broadcastInDim S2x8x8192 ![] bcast_S_S2x8x8192 (constant S_ .f32 0xFF800000#32)) R : FVec Ideal S2x8x8192 .f32) (ix3 b h s)
      = R (ix3 b h s) := by
  pointwise
  rw [Cert.KernelIdeal.Hand.ofBits_bot]
  exact max_eq_right bot_le

theorem largest_at (S : FVec Ideal S2x8x8192x8192 .f32) (b : Fin 2) (h : Fin 8) (s : Fin 8192) :
    largest S (ix3 b h s) = Finset.univ.fold max ⊥ fun j' : Fin 8192 => S (ix4 b h s j') :=
  (atLeast_at (rowMax S) b h s).trans (rowMax_at S b h s)

theorem exp_sub_at (S : FVec Ideal S2x8x8192x8192 .f32) (R : FVec Ideal S2x8x8192 .f32) (b : Fin 2) (h : Fin 8) (s j : Fin 8192) :
    (Host.exp (subf S (broadcastInDim S2x8x8192x8192 ![0, 1, 2, 3] bcast_S2x8x8192x1_S2x8x8192x8192_0_1_2_3
        (broadcastInDim S2x8x8192x1 ![0, 1, 2] bcast_S2x8x8192_S2x8x8192x1_0_1_2 R))) : FVec Ideal S2x8x8192x8192 .f32) (ix4 b h s j)
      = Ideal.exp (S (ix4 b h s j) - R (ix3 b h s)) := by
  pointwise

theorem weights_at (S : FVec Ideal S2x8x8192x8192 .f32) (b : Fin 2) (h : Fin 8) (s j : Fin 8192) :
    weights S (ix4 b h s j) = Ideal.exp (S (ix4 b h s j) - Finset.univ.fold max ⊥ fun j' : Fin 8192 => S (ix4 b h s j')) :=
  (exp_sub_at S (largest S) b h s j).trans (congrArg (fun y => Ideal.exp (S (ix4 b h s j) - y)) (largest_at S b h s))

set_option maxHeartbeats 4000000 in
theorem result_eq (m : (ℓ : Loc nD τ sig) → Buf (Elt Ideal) ℓ) (c : Dev nD) :
    Value.res_main_v61 m c = mix (m ((c.tc : Thread nD τ).loc main_arg2))
      (weights (scores (m ((c.tc : Thread nD τ).loc main_arg0)) (m ((c.tc : Thread nD τ).loc main_arg1)))) := by
  unfold Value.res_main_v61 mix total weights largest scores inOwn chosen first3 gate means blockOf
  rfl

theorem mix_at (W : FVec Ideal S2x8x8192x8192 .f32) (b : Fin 2) (s : Fin 8192) (h : Fin 8) (d : Fin 64) :
    mix v W (ix4 b s h d) = ∑ j : Fin 8192, Ideal.div (W (ix4 b h s j)) (∑ j' : Fin 8192, W (ix4 b h s j')) * v (ix4 b h j d) := by
  pointwise [mix, total]

theorem means_at (b : Fin 2) (h : Fin 8) (n : Fin 32) (d : Fin 64) :
    means k (ix4 b h n d) = Ideal.div (∑ i : Fin 256, k (ix4 b h ⟨256 * n.val + i.val, by omega⟩ d)) ((256 : ℝ) : EReal) := by
  pointwise [means]
  rw [Cert.KernelIdeal.Hand.ofBits_256]
  refine congrArg (fun y => Ideal.div y ((256 : ℝ) : EReal)) (Finset.sum_congr rfl fun i _ => congrArg k ?_)
  congr 1
  apply Fin.ext
  simp only []
  omega

theorem gate_at (b : Fin 2) (h : Fin 8) (s : Fin 8192) (n : Fin 32) :
    gate q k (ix4 b h s n) = if n.val < s.val / 256 then ∑ d : Fin 64, q (ix4 b h s d) * means k (ix4 b h n d) else ⊥ := by
  pointwise [gate]
  have e : (id (constant (F := Ideal) S_ FTy.f32 4286578688#32) ix0 : EReal) = ⊥ := Cert.KernelIdeal.Hand.ofBits_bot
  have hs := s.isLt
  have hn := n.isLt
  rw [e, blockOf_at, WordCmp.cmpi_slt_ofNat (by omega) (by omega), Cert.KernelIdeal.Hand.select_if]

/-- The positions of the first places, sorted along the last axis of four. -/
theorem topK_at {n0 n1 n2 n3 p : ℕ} (x : FVec Ideal ⟨4, ![n0, n1, n2, n3]⟩ .f32)
    (h : (⟨4, ![n0, n1, n2, n3]⟩ : Shape).Slices (fun _ => 0) ⟨4, ![n0, n1, n2, p]⟩) (a : Fin n0) (b : Fin n1) (s : Fin n2)
    (i : Fin p) (hi : i.val < n3) :
    (Host.topK ⟨4, ![n0, n1, n2, p]⟩ 3 (FloatOps.cmpfTotal .gt) x h).2 (ix4 a b s i)
      = BitVec.ofNat 32 (sortedFrom (fun c c' : Fin n3 =>
          FloatOps.cmpfTotal (F := Ideal) (φ := FTy.f32) .gt (x (ix4 a b s c)) (x (ix4 a b s c')) == 1#1) ⟨i.val, hi⟩).val := by
  have hal : ∀ (e : Fin n3) (c : Fin n3), (ix4 a b s e : (⟨4, ![n0, n1, n2, n3]⟩ : Shape).Idx).along 3 c = ix4 a b s c := by
    intro e c
    funext ax
    fin_cases ax <;> rfl
  have hj : (fun ax : Fin 4 => (⟨0 + (ix4 a b s i (ax.cast h.1.symm)).val, Nat.lt_of_lt_of_le (Nat.add_lt_add_left (ix4 a b s i _).isLt _) (h.2 ax)⟩ : Fin ((⟨4, ![n0, n1, n2, n3]⟩ : Shape).size ax)))
      = ix4 a b s ⟨i.val, hi⟩ := by
    funext ax
    apply Fin.ext
    fin_cases ax <;> simp [ix4] <;> rfl
  unfold Host.topK
  simp only []
  unfold extractStridedSlice Host.sort2
  refine (congrArg _ hj).trans ?_
  rw [dif_pos (show 3 < (⟨4, ![n0, n1, n2, n3]⟩ : Shape).rank from (by decide : 3 < 4))]
  show BitVec.ofNat 32 (((ix4 a b s ⟨i.val, hi⟩ : (⟨4, ![n0, n1, n2, n3]⟩ : Shape).Idx).along 3 (sortedFrom (fun c c' : Fin n3 =>
    FloatOps.cmpfTotal (F := Ideal) (φ := FTy.f32) .gt (x ((ix4 a b s ⟨i.val, hi⟩ : (⟨4, ![n0, n1, n2, n3]⟩ : Shape).Idx).along 3 c))
      (x ((ix4 a b s ⟨i.val, hi⟩ : (⟨4, ![n0, n1, n2, n3]⟩ : Shape).Idx).along 3 c')) == 1#1) ⟨i.val, hi⟩)) 3).val = _
  simp only [hal]
  rfl

theorem first3_at (b : Fin 2) (h : Fin 8) (s : Fin 8192) (i : Fin 3) :
    first3 q k (ix4 b h s i) = BitVec.ofNat 32 (Cert.KernelIdeal.Hand.ranked (fun n => gate q k (ix4 b h s n)) ⟨i.val, by omega⟩).val :=
  topK_at (gate q k) sliceFits_S2x8x8192x32_S2x8x8192x3 b h s i (by omega)

theorem or3 : ∀ x y z : BitVec 1, IntOp.ori x (IntOp.ori y (IntOp.ori z 0#1)) = 1#1 ↔ x = 1#1 ∨ y = 1#1 ∨ z = 1#1 := by decide

theorem fold_or (f : Fin 3 → BitVec 1) : Finset.univ.fold IntOp.ori 0#1 f = 1#1 ↔ ∃ i, f i = 1#1 := by
  have e : Finset.univ.fold IntOp.ori 0#1 f = IntOp.ori (f 0) (IntOp.ori (f 1) (IntOp.ori (f 2) 0#1)) := rfl
  have e' : (∃ i, f i = 1#1) ↔ f 0 = 1#1 ∨ f 1 = 1#1 ∨ f 2 = 1#1 := by
    constructor
    · rintro ⟨i, h⟩
      fin_cases i
      · exact Or.inl h
      · exact Or.inr (Or.inl h)
      · exact Or.inr (Or.inr h)
    · rintro (h | h | h)
      · exact ⟨0, h⟩
      · exact ⟨1, h⟩
      · exact ⟨2, h⟩
  rw [e, e']
  exact or3 (f 0) (f 1) (f 2)

theorem and_one (x y : BitVec 1) : IntOp.andi x y = 1#1 ↔ x = 1#1 ∧ y = 1#1 := by revert x y; decide

theorem or_one : ∀ x y : BitVec 1, IntOp.ori x y = 1#1 ↔ x = 1#1 ∨ y = 1#1 := by decide

theorem or_select {α : Type} (x y : BitVec 1) (a b : α) [Decidable (x = 1#1 ∨ y = 1#1)] :
    Scalar.select (IntOp.ori x y) a b = if x = 1#1 ∨ y = 1#1 then a else b := by
  unfold Scalar.select
  exact if_congr (or_one x y) rfl rfl

theorem chosen_at (b : Fin 2) (h : Fin 8) (s : Fin 8192) (n : Fin 32) :
    chosen q k (ix4 b h s n) = 1#1 ↔ Cert.KernelIdeal.Hand.Chosen (fun n => gate q k (ix4 b h s n)) (s.val / 256) n.val := by
  have e : chosen q k (ix4 b h s n) = Finset.univ.fold IntOp.ori (0#1) (fun x : Fin 3 =>
          IntOp.andi (IntOp.cmpi CmpIPredicate.eq (first3 q k (ix4 b h s x)) (BitVec.ofNat 32 n.val))
            (IntOp.cmpi CmpIPredicate.slt (first3 q k (ix4 b h s x)) (blockOf (ix1 s)))) := by
    pointwise [chosen]
  have hs := s.isLt
  have hn := n.isLt
  rw [e, fold_or]
  unfold Cert.KernelIdeal.Hand.Chosen
  rw [← exists_and_left]
  refine exists_congr fun i => ?_
  have hr := (Cert.KernelIdeal.Hand.ranked (fun n => gate q k (ix4 b h s n)) ⟨i.val, by omega⟩).isLt
  rw [and_one, first3_at, blockOf_at, WordCmp.cmpi_eq_ofNat (by omega) (by omega), WordCmp.cmpi_slt_ofNat (by omega) (by omega),
    WordCmp.ofBool_decide_eq_one_iff, WordCmp.ofBool_decide_eq_one_iff]
  constructor
  · rintro ⟨h1, h2⟩; exact ⟨h1.symm.trans_lt h2, h1⟩
  · rintro ⟨h1, h2⟩; exact ⟨h2, h2.trans_lt h1⟩

theorem inOwn_at (s j : Fin 8192) : inOwn (ix2 s j) = 1#1 ↔ j.val / 256 = s.val / 256 ∧ j ≤ s := by
  pointwise [inOwn]
  have hs := s.isLt
  have hj := j.isLt
  rw [and_one, blockOf_at, blockOf_at, WordCmp.cmpi_eq_ofNat (by omega) (by omega), WordCmp.cmpi_sle_ofNat (by omega) (by omega),
    WordCmp.ofBool_decide_eq_one_iff, WordCmp.ofBool_decide_eq_one_iff]
  rfl

theorem eighth : Ideal.ofBits .f32 1040187392#32 = ((1/8 : ℝ) : EReal) := by
  simp [Ideal.ofBits, Ideal.ieee]; rw [← EReal.coe_mul]; norm_num

open Classical in
theorem scores_at (b : Fin 2) (h : Fin 8) (s j : Fin 8192) :
    scores q k (ix4 b h s j)
      = if Cert.KernelIdeal.Hand.Chosen (fun n => gate q k (ix4 b h s n)) (s.val / 256) (j.val / 256) ∨ (j.val / 256 = s.val / 256 ∧ j ≤ s)
        then (∑ d : Fin 64, q (ix4 b h s d) * k (ix4 b h j d)) * ((1/8 : ℝ) : EReal) else ⊥ := by
  pointwise [scores]
  have e : (id (constant (F := Ideal) S_ FTy.f32 4286578688#32) ix0 : EReal) = ⊥ := Cert.KernelIdeal.Hand.ofBits_bot
  rw [e, eighth, or_select]
  exact if_congr (or_congr (chosen_at q k b h s ⟨j.val / 256, by omega⟩) (inOwn_at s j)) rfl rfl

end Cert.ReferenceIdeal.Hand
-- ==== Proof.Soft.lean ====
/-
  Softmax kept as a running maximum and a running sum, in the extended reals: what it comes to after every group, and
  that the quotient of two such sums is the sum weighted by the normalised weights.
-/
module

public import proofs.«01_k».proof.Proof.Pay

@[expose] public section

set_option maxRecDepth 16384

noncomputable section

namespace Cert.KernelIdeal.Hand

open Idealize.ShloMosaic

theorem exp_coe (a b : ℝ) : Ideal.exp ((a : EReal) - (b : EReal)) = ((Real.exp (a - b) : ℝ) : EReal) := by
  rw [← EReal.coe_sub]; rfl

theorem exp_bot (b : ℝ) : Ideal.exp ((⊥ : EReal) - (b : EReal)) = 0 := by
  rw [EReal.bot_sub]; rfl

/-- A score below `⊤` is `⊥` or a real number. -/
theorem bot_or_real (x : EReal) (hx : x ≠ ⊤) : x = ⊥ ∨ ∃ a : ℝ, x = a := by
  induction x with
  | bot => exact Or.inl rfl
  | top => exact absurd rfl hx
  | coe a => exact Or.inr ⟨a, rfl⟩

/-- A weight is a nonnegative real number, a positive one where the score is not `⊥`. -/
theorem weight_real (x : EReal) (hx : x ≠ ⊤) (m : ℝ) :
    ∃ e : ℝ, 0 ≤ e ∧ Ideal.exp (x - (m : EReal)) = (e : EReal) ∧ (x ≠ ⊥ → 0 < e) := by
  rcases bot_or_real x hx with rfl | ⟨a, rfl⟩
  · exact ⟨0, le_rfl, exp_bot m, fun h => absurd rfl h⟩
  · exact ⟨Real.exp (a - m), (Real.exp_pos _).le, exp_coe a m, fun _ => Real.exp_pos _⟩

/-- Weights relative to one maximum become weights relative to another. -/
theorem exp_rescale (x : EReal) (hx : x ≠ ⊤) (m m' : ℝ) :
    Ideal.exp (x - (m : EReal)) * Ideal.exp ((m : EReal) - (m' : EReal)) = Ideal.exp (x - (m' : EReal)) := by
  rcases bot_or_real x hx with rfl | ⟨a, rfl⟩
  · rw [exp_bot, exp_bot, zero_mul]
  · rw [exp_coe, exp_coe, exp_coe, ← EReal.coe_mul, ← Real.exp_add]
    congr 2; ring

/-- A nonnegative real factor goes into a sum. -/
theorem sum_mul_real {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

/-- A sum of weighted values relative to one maximum, rescaled to another. -/
theorem sum_rescale {ι : Type} (s : Finset ι) (x v : ι → EReal) (hx : ∀ i ∈ s, x i ≠ ⊤) (m m' : ℝ) :
    (∑ i ∈ s, Ideal.exp (x i - (m : EReal)) * v i) * Ideal.exp ((m : EReal) - (m' : EReal))
      = ∑ i ∈ s, Ideal.exp (x i - (m' : EReal)) * v i := by
  rw [exp_coe, sum_mul_real _ _ _ (Real.exp_pos _).le]
  refine Finset.sum_congr rfl fun i hi => ?_
  rw [← exp_rescale (x i) (hx i hi) m m', exp_coe]
  exact mul_right_comm _ _ _

theorem coe_sum {ι : Type} (s : Finset ι) (e : ι → ℝ) : (∑ i ∈ s, ((e i : ℝ) : EReal)) = ((∑ i ∈ s, e i : ℝ) : EReal) := by
  classical
  induction s using Finset.induction_on with
  | empty => simp
  | insert i s hi ih => rw [Finset.sum_insert hi, Finset.sum_insert hi, ih, EReal.coe_add]

/-- The weights' sum is a positive real number where some score is not `⊥`. -/
theorem total_real {N : ℕ} (S : Fin N → EReal) (hS : ∀ j, S j ≠ ⊤) (hb : ∃ j, S j ≠ ⊥) (m : ℝ) :
    ∃ L : ℝ, 0 < L ∧ ∑ j, Ideal.exp (S j - (m : EReal)) = (L : EReal) := by
  choose e he using fun j => weight_real (S j) (hS j) m
  obtain ⟨j, hj⟩ := hb
  refine ⟨∑ j, e j, Finset.sum_pos' (fun i _ => (he i).1) ⟨j, Finset.mem_univ _, (he j).2.2 hj⟩, ?_⟩
  rw [← coe_sum]
  exact Finset.sum_congr rfl fun i _ => (he i).2.1

theorem div_real (x : EReal) (L : ℝ) (hL : 0 < L) : Ideal.div x (L : EReal) = x * ((L⁻¹ : ℝ) : EReal) := by
  unfold Ideal.div
  rw [if_neg (by exact_mod_cast hL.ne'), EReal.coe_inv]

/-- Normalising the weights first or the weighted sum last is the same. -/
theorem normalise {N : ℕ} (S v : Fin N → EReal) (hS : ∀ j, S j ≠ ⊤) (hb : ∃ j, S j ≠ ⊥) (m : ℝ) :
    ∑ j, Ideal.div (Ideal.exp (S j - (m : EReal))) (∑ j', Ideal.exp (S j' - (m : EReal))) * v j
      = Ideal.div (∑ j, Ideal.exp (S j - (m : EReal)) * v j) (∑ j', Ideal.exp (S j' - (m : EReal))) := by
  obtain ⟨L, hL, e⟩ := total_real S hS hb m
  rw [e, div_real _ L hL, sum_mul_real _ _ _ (inv_pos.mpr hL).le]
  refine Finset.sum_congr rfl fun j _ => ?_
  rw [div_real _ L hL]
  exact mul_right_comm _ _ _

theorem fold_max_le_iff {N : ℕ} (f : Fin N → EReal) (x : EReal) : Finset.univ.fold max ⊥ f ≤ x ↔ ∀ j, f j ≤ x := by
  rw [Finset.fold_max_le]
  exact ⟨fun h j => h.2 j (Finset.mem_univ _), fun h => ⟨bot_le, fun j _ => h j⟩⟩

/-- What holds of the running maximum and sum after `k` groups. -/
def Running {A B : ℕ} (O : Fin A → EReal) (P : ℕ → Fin B → EReal) (VO : Fin A → EReal) (VP : ℕ → Fin B → EReal)
    (k : ℕ) (M X : EReal) : Prop :=
  ∃ m : ℝ, M = (m : EReal) ∧ (∀ x, M ≤ x ↔ (∀ j, O j ≤ x) ∧ ∀ t < k, ∀ j, P t j ≤ x)
    ∧ X = ∑ j, Ideal.exp (O j - (m : EReal)) * VO j + ∑ t ∈ Finset.range k, ∑ j, Ideal.exp (P t j - (m : EReal)) * VP t j

/-- A bound that is below `⊤` and not `⊥` is a real number. -/
theorem real_of_bounds (M y : EReal) (hy : y ≠ ⊥) (h : y ≤ M) (hM : M ≠ ⊤) : ∃ m : ℝ, M = m := by
  rcases bot_or_real M hM with rfl | h'
  · exact absurd (le_bot_iff.mp h) hy
  · exact h'

theorem fold_max_ne_top {N : ℕ} (f : Fin N → EReal) (h : ∀ j, f j ≠ ⊤) : Finset.univ.fold max ⊥ f ≠ ⊤ := by
  have : Finset.univ.fold max ⊥ f < ⊤ := (Finset.fold_max_lt _).mpr ⟨bot_lt_top, fun j _ => lt_top_iff_ne_top.mpr (h j)⟩
  exact this.ne

section running
variable {A B T : ℕ} (O : Fin A → EReal) (P : ℕ → Fin B → EReal) (VO : Fin A → EReal) (VP : ℕ → Fin B → EReal)
  (hO : ∀ j, O j ≠ ⊤) (hP : ∀ t < T, ∀ j, P t j ≠ ⊤) (hb : ∃ j, O j ≠ ⊥) (M X : ℕ → EReal)
  (hM0 : M 0 = Finset.univ.fold max ⊥ O) (hM : ∀ k, M (k + 1) = max (M k) (Finset.univ.fold max ⊥ (P k)))
  (hX0 : X 0 = ∑ j, Ideal.exp (O j - M 0) * VO j)
  (hX : ∀ k, X (k + 1) = X k * Ideal.exp (M k - M (k + 1)) + ∑ j, Ideal.exp (P k j - M (k + 1)) * VP k j)

include hO hP hb hM0 hM hX0 hX in
theorem running (k : ℕ) (hk : k ≤ T) : Running O P VO VP k (M k) (X k) := by
  induction k with
  | zero =>
    obtain ⟨j, hj⟩ := hb
    obtain ⟨m, hm⟩ := real_of_bounds (M 0) (O j) hj (by rw [hM0]; exact (fold_max_le_iff O _).mp le_rfl j)
      (by rw [hM0]; exact fold_max_ne_top O hO)
    refine ⟨m, hm, fun x => ?_, ?_⟩
    · rw [hM0, fold_max_le_iff]
      exact ⟨fun h => ⟨h, fun t ht => absurd ht (Nat.not_lt_zero _)⟩, fun h => h.1⟩
    · rw [hX0, hm]; simp
  | succ k ih =>
    obtain ⟨m, hm, hle, hx⟩ := ih (Nat.le_of_succ_le hk)
    obtain ⟨m', hm'⟩ := real_of_bounds (M (k + 1)) (M k) (by rw [hm]; exact EReal.coe_ne_bot m)
      (by rw [hM]; exact le_max_left _ _)
      (by rw [hM]; rcases max_choice (M k) (Finset.univ.fold max ⊥ (P k)) with h | h <;> rw [h]
          · rw [hm]; exact EReal.coe_ne_top m
          · exact fold_max_ne_top _ (hP k hk))
    refine ⟨m', hm', fun x => ?_, ?_⟩
    · rw [hM, max_le_iff, hle, fold_max_le_iff]
      constructor
      · rintro ⟨⟨h1, h2⟩, h3⟩
        refine ⟨h1, fun t ht j => ?_⟩
        rcases Nat.lt_succ_iff_lt_or_eq.mp ht with h | rfl
        · exact h2 t h j
        · exact h3 j
      · rintro ⟨h1, h2⟩
        exact ⟨⟨h1, fun t ht => h2 t (Nat.lt_succ_of_lt ht)⟩, h2 k (Nat.lt_succ_self k)⟩
    · have hd : ∀ y z : EReal, (y + z) * Ideal.exp ((m : EReal) - (m' : EReal))
          = y * Ideal.exp ((m : EReal) - (m' : EReal)) + z * Ideal.exp ((m : EReal) - (m' : EReal)) := fun y z => by
        rw [exp_coe]
        exact EReal.right_distrib_of_nonneg_of_ne_top (by exact_mod_cast (Real.exp_pos _).le) (EReal.coe_ne_top _) _ _
      rw [hX, hm', hm, hx, hd, Finset.sum_range_succ, ← add_assoc,
        sum_rescale _ _ _ (fun j _ => hO j)]
      congr 2
      rw [exp_coe, sum_mul_real _ _ _ (Real.exp_pos _).le, ← exp_coe]
      exact Finset.sum_congr rfl fun t ht =>
        sum_rescale _ _ _ (fun j _ => hP t ((Finset.mem_range.mp ht).trans hk) j) m m'

end running

section merge
variable (n r T : ℕ) (C : ℕ → Prop) (D V : ℕ → EReal)

open Classical in
/-- A key's score in the own block: at or before the row. -/
def ownScore (j : ℕ) : EReal := if j / 256 = n ∧ j ≤ 256 * n + r then D j else ⊥

open Classical in
/-- A key's score in the blocks chosen. -/
def pastScore (j : ℕ) : EReal := if C (j / 256) then D j else ⊥

open Classical in
/-- A key's score. -/
def score (j : ℕ) : EReal := if C (j / 256) ∨ (j / 256 = n ∧ j ≤ 256 * n + r) then D j else ⊥

variable (hn : n < 32) (hC : ∀ b, C b → b < n) (hT : 256 * n ≤ 2048 * T) (hT' : T ≤ 4)

include hn hC hT hT' in
/-- The largest of the own block's scores and the past groups' is the largest score. -/
theorem bound_merge (x : EReal) :
    ((∀ j : Fin 256, ownScore n r D (256 * n + j.val) ≤ x) ∧ ∀ t < T, ∀ j : Fin 2048, pastScore C D (2048 * t + j.val) ≤ x)
      ↔ ∀ j : Fin 8192, score n r C D j.val ≤ x := by
  constructor
  · rintro ⟨h1, h2⟩ j
    unfold score
    split
    · rename_i h
      rcases h with h | h
      · have hb := hC _ h
        have := h2 (j.val / 2048) (by omega) ⟨j.val % 2048, Nat.mod_lt _ (by norm_num)⟩
        have e : 2048 * (j.val / 2048) + j.val % 2048 = j.val := Nat.div_add_mod _ _
        simp only [e] at this
        unfold pastScore at this
        rwa [if_pos h] at this
      · have := h1 ⟨j.val % 256, Nat.mod_lt _ (by norm_num)⟩
        have e : 256 * n + j.val % 256 = j.val := by have := h.1; omega
        simp only [e] at this
        unfold ownScore at this
        rwa [if_pos h] at this
    · exact bot_le
  · intro h
    refine ⟨fun j => ?_, fun t ht j => ?_⟩
    · have hj := j.isLt
      have := h ⟨256 * n + j.val, by omega⟩
      unfold ownScore
      split
      · rename_i hc
        unfold score at this
        rwa [if_pos (Or.inr hc)] at this
      · exact bot_le
    · have hj := j.isLt
      have := h ⟨2048 * t + j.val, by omega⟩
      unfold pastScore
      split
      · rename_i hc
        unfold score at this
        rwa [if_pos (Or.inl hc)] at this
      · exact bot_le

theorem sum_groups (f : ℕ → EReal) (T : ℕ) : ∑ t ∈ Finset.range T, ∑ j : Fin 2048, f (2048 * t + j.val) = ∑ j ∈ Finset.range (2048 * T), f j := by
  induction T with
  | zero => simp
  | succ T ih =>
    rw [Finset.sum_range_succ, ih, Nat.mul_succ, Finset.sum_range_add, Finset.sum_range]
    rfl

/-- A sum whose terms vanish outside a window is the window's sum. -/
theorem sum_window (f : ℕ → EReal) (a w N : ℕ) (h : a + w ≤ N) (hz : ∀ j, j < a ∨ a + w ≤ j → f j = 0) :
    ∑ j : Fin N, f j.val = ∑ j : Fin w, f (a + j.val) := by
  obtain ⟨d, rfl⟩ := Nat.exists_eq_add_of_le h
  rw [← Finset.sum_range f, ← Finset.sum_range (fun j => f (a + j)), Finset.sum_range_add, Finset.sum_range_add,
    Finset.sum_eq_zero (s := Finset.range a) (fun j hj => hz j (Or.inl (Finset.mem_range.mp hj))),
    Finset.sum_eq_zero (s := Finset.range d) (fun j hj => hz _ (Or.inr (Nat.le_add_right _ _))), zero_add, add_zero]

include hn hC hT hT' in
/-- The own block's weighted sum and the past groups' add up to the sum over every key. -/
theorem sum_merge (m : ℝ) :
    ∑ j : Fin 256, Ideal.exp (ownScore n r D (256 * n + j.val) - (m : EReal)) * V (256 * n + j.val)
        + ∑ t ∈ Finset.range T, ∑ j : Fin 2048, Ideal.exp (pastScore C D (2048 * t + j.val) - (m : EReal)) * V (2048 * t + j.val)
      = ∑ j : Fin 8192, Ideal.exp (score n r C D j.val - (m : EReal)) * V j.val := by
  have hs : ∀ j, Ideal.exp (score n r C D j - (m : EReal)) * V j
      = Ideal.exp (ownScore n r D j - (m : EReal)) * V j + Ideal.exp (pastScore C D j - (m : EReal)) * V j := by
    intro j
    unfold score ownScore pastScore
    by_cases h1 : C (j / 256)
    · have := hC _ h1
      rw [if_pos (Or.inl h1), if_neg (fun h => absurd h.1 (by omega)), if_pos h1, exp_bot, zero_mul, zero_add]
    · by_cases h2 : j / 256 = n ∧ j ≤ 256 * n + r
      · rw [if_pos (Or.inr h2), if_pos h2, if_neg h1, exp_bot, zero_mul, add_zero]
      · rw [if_neg (fun h => h.elim h1 h2), if_neg h2, if_neg h1, exp_bot, zero_mul, add_zero]
  have ho : ∀ j, j / 256 ≠ n → Ideal.exp (ownScore n r D j - (m : EReal)) * V j = 0 := fun j h => by
    unfold ownScore
    rw [if_neg (fun h' => h h'.1), exp_bot, zero_mul]
  have hp : ∀ j, n ≤ j / 256 → Ideal.exp (pastScore C D j - (m : EReal)) * V j = 0 := fun j h => by
    unfold pastScore
    rw [if_neg (fun h' => absurd (hC _ h') (by omega)), exp_bot, zero_mul]
  have e : ∑ j : Fin 8192, Ideal.exp (score n r C D j.val - (m : EReal)) * V j.val
      = ∑ j : Fin 8192, Ideal.exp (ownScore n r D j.val - (m : EReal)) * V j.val
        + ∑ j : Fin 8192, Ideal.exp (pastScore C D j.val - (m : EReal)) * V j.val :=
    (Finset.sum_congr rfl fun j _ => hs j.val).trans Finset.sum_add_distrib
  have e1 := sum_window (fun j => Ideal.exp (ownScore n r D j - (m : EReal)) * V j) (256 * n) 256 8192 (by omega)
    fun j hj => ho j (by omega)
  have e2 := sum_window (fun j => Ideal.exp (pastScore C D j - (m : EReal)) * V j) 0 (2048 * T) 8192 (by omega)
    fun j hj => hp j (by omega)
  have e3 := (sum_groups (fun j => Ideal.exp (pastScore C D j - (m : EReal)) * V j) T).trans
    (Finset.sum_range (n := 2048 * T) fun j => Ideal.exp (pastScore C D j - (m : EReal)) * V j)
  simp only [zero_add] at e2
  rw [e, e1, e2, e3]

end merge

end Cert.KernelIdeal.Hand
-- ==== Proof.Value.lean ====
/-
  The kernel's result at a place: prepared queries, keys and values read off the arguments, the scores, the blocks
  chosen, and the quotient of the two running sums, which is the reference's weighted sum of the values.
-/
module

public import proofs.«01_k».proof.Proof.Ref
public import proofs.«01_k».proof.Proof.Soft

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The prepared arrays at a place -/

theorem at2_0 (J l : ℕ) (hJ : J < 8192) : (at2 J l 0).val = J := Nat.mod_eq_of_lt hJ
theorem at2_1 (J l : ℕ) (hl : l < 256) : (at2 J l 1).val = l := Nat.mod_eq_of_lt hl

theorem ix128_eq (J l : ℕ) (r : Fin 256) (x : Fin 128) (hr : J % 256 = r.val) (hx : l % 128 = x.val) : ix128 J l = ix2 r x := by
  funext a
  apply Fin.ext
  fin_cases a
  · exact hr
  · exact hx

theorem trip_val (J : ℕ) (hJ : J < 8192) : (tripOf J).val = J / 256 := by
  show J / 256 % 32 = J / 256
  omega

section prepared
variable (x0 x1 x2 : Vec Ideal S8192x256 .bf16) (x3 : Vec Ideal S128x8192 .bf16) (J : Fin 8192) (h : Fin 2) (l : Fin 128)

theorem blk_at (x : Vec Ideal S8192x256 .bf16) :
    blk x (J.val / 256) h.val (ix2 (⟨J.val % 256, Nat.mod_lt _ (by norm_num)⟩ : Fin 256) l) = x (at2 J.val (128 * h.val + l.val)) := by
  show x (at2 (256 * (J.val / 256) + J.val % 256) (128 * h.val + l.val)) = _
  rw [Nat.div_add_mod]

theorem KA_at : KA x1 (at2 J.val (128 * h.val + l.val))
    = if l.val < 64 then x1 (at2 J.val (128 * h.val + l.val)) else if l.val = 64 + J.val / 256 then 1 else 0 := by
  have hJ := J.isLt
  have hh := h.isLt
  have hl := l.isLt
  unfold KA
  rw [at2_0 _ _ hJ, at2_1 _ _ (by omega), show (128 * h.val + l.val) / 128 = h.val from by omega,
    ix128_eq J.val (128 * h.val + l.val) ⟨J.val % 256, Nat.mod_lt _ (by norm_num)⟩ l rfl (by omega), keys_at, trip_val _ hJ, blk_at]

theorem VA_at : VA x2 (at2 J.val (128 * h.val + l.val)) = if l.val = 64 then 1 else x2 (at2 J.val (128 * h.val + l.val)) := by
  have hJ := J.isLt
  have hh := h.isLt
  have hl := l.isLt
  unfold VA
  rw [at2_0 _ _ hJ, at2_1 _ _ (by omega), show (128 * h.val + l.val) / 128 = h.val from by omega,
    ix128_eq J.val (128 * h.val + l.val) ⟨J.val % 256, Nat.mod_lt _ (by norm_num)⟩ l rfl (by omega), vals_at, blk_at]

open Classical in
theorem QA_at : QA x0 x1 x3 (at2 J.val (128 * h.val + l.val))
    = if (64 ≤ l.val ∧ l.val < 96) ∧ ¬ taken (validL (J.val / 256)) (cand (J.val / 256) x3 (half x1 h.val) (blk x0 (J.val / 256) h.val)
          ⟨J.val % 256, Nat.mod_lt _ (by norm_num)⟩) l
      then ⊥ else x0 (at2 J.val (128 * h.val + l.val)) := by
  have hJ := J.isLt
  have hh := h.isLt
  have hl := l.isLt
  unfold QA
  rw [at2_0 _ _ hJ, at2_1 _ _ (by omega), show (128 * h.val + l.val) / 128 = h.val from by omega,
    ix128_eq J.val (128 * h.val + l.val) ⟨J.val % 256, Nat.mod_lt _ (by norm_num)⟩ l rfl (by omega), queries_at, trip_val _ hJ, blk_at]

end prepared

theorem grp_lay (x : FVec Ideal S2x8x8192x64 .f32) (b : Fin 2) (h : Fin 8) (J : Fin 8192) (l : Fin 128) :
    grp (lay x) (4 * b.val + h.val / 2) (at2 J.val (128 * (h.val % 2) + l.val))
      = if hl : l.val < 64 then x (ix4 b h J ⟨l.val, hl⟩) else 0 := by
  have hb := b.isLt
  have hh := h.isLt
  have hJ := J.isLt
  have hl := l.isLt
  rw [← lay_at]
  unfold grp
  rw [at2_0 _ _ hJ, at2_1 _ _ (by omega)]
  refine congrArg (lay x) (funext fun a => Fin.ext ?_)
  fin_cases a
  · show (8192 * ((4 * b.val + h.val / 2) / 4) + J.val) % 16384 = 8192 * b.val + J.val
    omega
  · show (256 * ((4 * b.val + h.val / 2) % 4) + (128 * (h.val % 2) + l.val)) % 1024 = 128 * h.val + l.val
    omega

/-- A sum over 128 lanes: the lower 64 and the upper 64. -/
theorem sum_lanes (f : Fin 128 → EReal) :
    ∑ l, f l = ∑ d : Fin 64, f ⟨d.val, by omega⟩ + ∑ d : Fin 64, f ⟨64 + d.val, by omega⟩ :=
  Fin.sum_univ_add (a := 64) (b := 64) f

theorem sum_low (f : Fin 128 → EReal) (hf : ∀ d : Fin 64, f ⟨64 + d.val, by omega⟩ = 0) :
    ∑ l, f l = ∑ d : Fin 64, f ⟨d.val, by omega⟩ := by
  rw [sum_lanes, Finset.sum_eq_zero fun d _ => hf d, add_zero]

/-- The queries scaled. -/
def scaled (q : FVec Ideal S2x8x8192x64 .f32) : FVec Ideal S2x8x8192x64 .f32 :=
  mulf q (broadcastInDim S2x8x8192x64 ![] bcast_S_S2x8x8192x64 (constant S_ .f32 0x3E000000#32))

theorem scaled_at (q : FVec Ideal S2x8x8192x64 .f32) (b : Fin 2) (h : Fin 8) (s : Fin 8192) (d : Fin 64) :
    scaled q (ix4 b h s d) = q (ix4 b h s d) * ((1/8 : ℝ) : EReal) := by
  pointwise [scaled]
  rw [Cert.ReferenceIdeal.Hand.eighth]

/-! ## One row -/

section row
variable (q k v : FVec Ideal S2x8x8192x64 .f32) (b : Fin 2) (h : Fin 8) (s : Fin 8192)

/-- The keys at a position, taken modulo the length. -/
def keyAt (x : FVec Ideal S2x8x8192x64 .f32) (b : Fin 2) (h : Fin 8) (J : ℕ) (d : Fin 64) : EReal :=
  x (ix4 b h ⟨J % 8192, Nat.mod_lt _ (by norm_num)⟩ d)

theorem keyAt_val (x : FVec Ideal S2x8x8192x64 .f32) (J : Fin 8192) (d : Fin 64) : keyAt x b h J.val d = x (ix4 b h J d) := by
  unfold keyAt
  congr 2
  exact Fin.ext (Nat.mod_eq_of_lt J.isLt)

/-- The row's score of the key at a position. -/
def dotAt (J : ℕ) : EReal := (∑ d : Fin 64, q (ix4 b h s d) * keyAt k b h J d) * ((1/8 : ℝ) : EReal)

/-- The row's gates. -/
def gates (x : Fin 32) : EReal := Cert.ReferenceIdeal.Hand.gate q k (ix4 b h s x)

/-- The group, the prepared queries, keys and values. -/
def grpOf (b : Fin 2) (h : Fin 8) : ℕ := 4 * b.val + h.val / 2
def preQ : Vec Ideal S8192x256 .bf16 := QA (grp (lay (scaled q)) (grpOf b h)) (grp (lay k) (grpOf b h)) (bsel (F := Ideal))
def preK : Vec Ideal S8192x256 .bf16 := KA (grp (lay k) (grpOf b h))
def preV : Vec Ideal S8192x256 .bf16 := VA (grp (lay v) (grpOf b h))

/-- The row's lane scores before a block is taken. -/
def laneScores : Fin 128 → EReal :=
  cand (s.val / 256) (bsel (F := Ideal)) (half (grp (lay k) (grpOf b h)) (h.val % 2)) (blk (grp (lay (scaled q)) (grpOf b h)) (s.val / 256) (h.val % 2))
    ⟨s.val % 256, Nat.mod_lt _ (by norm_num)⟩

theorem preK_at (J : Fin 8192) (l : Fin 128) : preK k b h (at2 J.val (128 * (h.val % 2) + l.val))
    = if hl : l.val < 64 then k (ix4 b h J ⟨l.val, hl⟩) else if l.val = 64 + J.val / 256 then 1 else 0 := by
  unfold preK grpOf
  refine (KA_at _ J ⟨h.val % 2, Nat.mod_lt _ (by norm_num)⟩ l).trans ?_
  by_cases hl : l.val < 64
  · rw [if_pos hl, dif_pos hl, grp_lay, dif_pos hl]
  · rw [if_neg hl, dif_neg hl]

theorem preV_at (J : Fin 8192) (l : Fin 128) : preV v b h (at2 J.val (128 * (h.val % 2) + l.val))
    = if l.val = 64 then 1 else if hl : l.val < 64 then v (ix4 b h J ⟨l.val, hl⟩) else 0 := by
  unfold preV grpOf
  refine (VA_at _ J ⟨h.val % 2, Nat.mod_lt _ (by norm_num)⟩ l).trans ?_
  rw [grp_lay]

open Classical in
theorem preQ_at (l : Fin 128) : preQ q k b h (at2 s.val (128 * (h.val % 2) + l.val))
    = if (64 ≤ l.val ∧ l.val < 96) ∧ ¬ taken (validL (s.val / 256)) (laneScores q k b h s) l then ⊥
      else if hl : l.val < 64 then q (ix4 b h s ⟨l.val, hl⟩) * ((1/8 : ℝ) : EReal) else 0 := by
  unfold preQ laneScores grpOf
  refine (QA_at _ _ _ s ⟨h.val % 2, Nat.mod_lt _ (by norm_num)⟩ l).trans ?_
  refine if_congr Iff.rfl rfl ?_
  rw [grp_lay]
  by_cases hl : l.val < 64
  · rw [dif_pos hl, dif_pos hl, scaled_at]
  · rw [dif_neg hl, dif_neg hl]

variable (fq : ∀ i, ∃ a : ℝ, q i = a) (fk : ∀ i, ∃ a : ℝ, k i = a)

include fq fk in
theorem dotAt_real (J : ℕ) : ∃ a : ℝ, dotAt q k b h s J = a := by
  choose qr hq using fq
  choose kr hk using fk
  refine ⟨(∑ d : Fin 64, qr (ix4 b h s d) * kr (ix4 b h ⟨J % 8192, Nat.mod_lt _ (by norm_num)⟩ d)) * (1/8), ?_⟩
  unfold dotAt keyAt
  rw [EReal.coe_mul, ← coe_sum]
  congr 1
  exact Finset.sum_congr rfl fun d _ => by rw [hq, hk, EReal.coe_mul]

/-- The averaging rows' sum over the keys is the mean of the block. -/
theorem mean_sum (n : Fin 32) (f : ℕ → ℝ) (g : Fin 8192 → EReal) (hg : ∀ j, g j = (f j.val : EReal)) :
    ∑ j : Fin 8192, bsel (F := Ideal) (ix2 (lane n) j) * g j = (((∑ i : Fin 256, f (256 * n.val + i.val)) * (1/256) : ℝ) : EReal) := by
  have e : ∀ j : Fin 8192, bsel (F := Ideal) (ix2 (lane n) j) * g j = (fun J : ℕ => if J / 256 = n.val then (((f J) * (1/256) : ℝ) : EReal) else 0) j.val := by
    intro j
    rw [bsel_at, hg]
    show (if 64 + n.val = 64 + j.val / 256 then _ else _) * _ = if j.val / 256 = n.val then _ else _
    by_cases hj : j.val / 256 = n.val
    · rw [if_pos (by omega), if_pos hj, ← EReal.coe_mul, mul_comm]
    · rw [if_neg (by omega), if_neg hj, zero_mul]
  have hn := n.isLt
  rw [Finset.sum_congr rfl fun j _ => e j]
  refine (sum_window (fun J : ℕ => if J / 256 = n.val then (((f J) * (1/256) : ℝ) : EReal) else 0) (256 * n.val) 256 8192 (by omega)
    fun j hj => if_neg (by omega)).trans ?_
  rw [Finset.sum_mul, ← coe_sum]
  exact Finset.sum_congr rfl fun i _ => if_pos (by have := i.isLt; omega)

include fq fk in
/-- A past block's lane score is an eighth of its gate, both real numbers. -/
theorem gate_eighth (n : Fin 32) (hn : n.val < s.val / 256) :
    ∃ γ : ℝ, gates q k b h s n = (γ : EReal) ∧ laneScores q k b h s (lane n) = ((γ * (1/8) : ℝ) : EReal) := by
  choose qr hq using fq
  choose kr hk using fk
  have hs := s.isLt
  refine ⟨∑ d : Fin 64, qr (ix4 b h s d) * ((∑ i : Fin 256, kr (ix4 b h ⟨256 * n.val + i.val, by omega⟩ d)) * (1/256)), ?_, ?_⟩
  · unfold gates
    rw [Cert.ReferenceIdeal.Hand.gate_at, if_pos hn, ← coe_sum]
    refine Finset.sum_congr rfl fun d _ => ?_
    rw [Cert.ReferenceIdeal.Hand.means_at, div_real _ 256 (by norm_num), EReal.coe_mul, EReal.coe_mul, ← coe_sum, hq]
    rw [show ((256 : ℝ)⁻¹) = 1/256 from by norm_num]
    congr 2
    exact Finset.sum_congr rfl fun i _ => hk _
  · unfold laneScores cand
    rw [if_pos ((valid_lane _ n).mpr hn), sum_lanes]
    have hx : ∀ x : Fin 128, blk (grp (lay (scaled q)) (grpOf b h)) (s.val / 256) (h.val % 2)
        (ix2 (⟨s.val % 256, Nat.mod_lt _ (by norm_num)⟩ : Fin 256) x)
        = if hl : x.val < 64 then q (ix4 b h s ⟨x.val, hl⟩) * ((1/8 : ℝ) : EReal) else 0 := by
      intro x
      refine (blk_at s ⟨h.val % 2, Nat.mod_lt _ (by norm_num)⟩ x _).trans ?_
      unfold grpOf
      rw [grp_lay]
      by_cases hl : x.val < 64
      · rw [dif_pos hl, dif_pos hl, scaled_at]
      · rw [dif_neg hl, dif_neg hl]
    have hk' : ∀ (j : Fin 8192) (x : Fin 128), half (grp (lay k) (grpOf b h)) (h.val % 2) (ix2 j x)
        = if hl : x.val < 64 then k (ix4 b h j ⟨x.val, hl⟩) else 0 := fun j x => grp_lay k b h j x
    rw [Finset.sum_eq_zero (s := (Finset.univ : Finset (Fin 64)))
      (f := fun d : Fin 64 => blk (grp (lay (scaled q)) (grpOf b h)) (s.val / 256) (h.val % 2)
        (ix2 (⟨s.val % 256, Nat.mod_lt _ (by norm_num)⟩ : Fin 256) (⟨64 + d.val, by omega⟩ : Fin 128)) *
        ∑ j : Fin 8192, bsel (F := Ideal) (ix2 (lane n) j) * half (grp (lay k) (grpOf b h)) (h.val % 2) (ix2 j (⟨64 + d.val, by omega⟩ : Fin 128)))
      (fun d _ => by rw [hx, dif_neg (by simp only []; omega), zero_mul]), add_zero, Finset.sum_mul, ← coe_sum]
    refine Finset.sum_congr rfl fun d _ => ?_
    rw [hx, dif_pos d.isLt, hq,
      mean_sum n (fun J => kr (ix4 b h ⟨J % 8192, Nat.mod_lt _ (by norm_num)⟩ d)) _ (fun j => by
        rw [hk', dif_pos d.isLt, hk]
        congr 3
        exact Fin.ext (Nat.mod_eq_of_lt j.isLt).symm), ← EReal.coe_mul, ← EReal.coe_mul]
    congr 1
    rw [mul_right_comm]
    congr 3
    refine Finset.sum_congr rfl fun i _ => ?_
    congr 2
    exact Fin.ext (Nat.mod_eq_of_lt (by have := i.isLt; omega))

include fq fk in
/-- The lanes taken are those of the blocks the reference chooses. -/
theorem taken_chosen (n : Fin 32) :
    taken (validL (s.val / 256)) (laneScores q k b h s) (lane n) ↔ Chosen (gates q k b h s) (s.val / 256) n.val := by
  have hs := s.isLt
  rw [taken_lane (n := s.val / 256) (G := gates q k b h s) (c := laneScores q k b h s) (by omega) (fun x hx => ?_) (fun x hx => ?_)
    (fun x hx => ?_) (fun l hl => ?_) (fun x y hx hy => ?_)]
  · unfold Chosen
    exact and_congr Iff.rfl (exists_congr fun i => Fin.ext_iff)
  · obtain ⟨γ, e, _⟩ := gate_eighth q k b h s fq fk x hx
    rw [e]; exact EReal.bot_lt_coe γ
  · unfold gates
    rw [Cert.ReferenceIdeal.Hand.gate_at, if_neg (by omega)]
  · obtain ⟨γ, _, e⟩ := gate_eighth q k b h s fq fk x hx
    rw [e]; exact EReal.bot_lt_coe _
  · unfold laneScores cand
    exact if_neg hl
  · obtain ⟨γ, e1, e2⟩ := gate_eighth q k b h s fq fk x hx
    obtain ⟨δ, e3, e4⟩ := gate_eighth q k b h s fq fk y hy
    rw [e1, e2, e3, e4, EReal.coe_lt_coe_iff, EReal.coe_lt_coe_iff]
    constructor <;> intro h <;> linarith

theorem low_sum (J : Fin 8192) :
    ∑ d : Fin 64, q (ix4 b h s d) * ((1/8 : ℝ) : EReal) * k (ix4 b h J d) = dotAt q k b h s J.val := by
  unfold dotAt
  rw [sum_mul_real _ _ _ (by norm_num)]
  refine Finset.sum_congr rfl fun d _ => ?_
  rw [keyAt_val, mul_right_comm]

/-- A score of the own block. -/
theorem own_at (j : Fin 256) :
    k0_pay32 (blk (preQ q k b h) (s.val / 256) (h.val % 2)) (blk (preK k b h) (s.val / 256) (h.val % 2))
        (ix2 (⟨s.val % 256, Nat.mod_lt _ (by norm_num)⟩ : Fin 256) j)
      = ownScore (s.val / 256) (s.val % 256) (dotAt q k b h s) (256 * (s.val / 256) + j.val) := by
  have hs := s.isLt
  have hj := j.isLt
  rw [own_score]
  unfold ownScore
  have hc : j ≤ (⟨s.val % 256, Nat.mod_lt _ (by norm_num)⟩ : Fin 256)
      ↔ (256 * (s.val / 256) + j.val) / 256 = s.val / 256 ∧ 256 * (s.val / 256) + j.val ≤ 256 * (s.val / 256) + s.val % 256 := by
    rw [Fin.le_def]
    simp only []
    constructor
    · intro h; exact ⟨by omega, by omega⟩
    · intro h; omega
  refine if_congr hc ?_ rfl
  rw [← low_sum q k b h s ⟨256 * (s.val / 256) + j.val, by omega⟩]
  refine (sum_low _ fun d => ?_).trans ?_
  · rw [if_neg (by simp only []; omega), zero_mul]
  refine Finset.sum_congr rfl fun d _ => ?_
  rw [if_pos d.isLt]
  have e1 : blk (preQ q k b h) (s.val / 256) (h.val % 2) (ix2 (⟨s.val % 256, Nat.mod_lt _ (by norm_num)⟩ : Fin 256) (⟨d.val, by omega⟩ : Fin 128))
      = q (ix4 b h s d) * ((1/8 : ℝ) : EReal) := by
    refine (blk_at s ⟨h.val % 2, Nat.mod_lt _ (by norm_num)⟩ ⟨d.val, by omega⟩ _).trans ?_
    refine (preQ_at q k b h s ⟨d.val, by omega⟩).trans ?_
    have hd := d.isLt
    rw [if_neg (fun h => absurd h.1.1 (not_le.mpr hd)), dif_pos hd]
  have e2 : blk (preK k b h) (s.val / 256) (h.val % 2) (ix2 j (⟨d.val, by omega⟩ : Fin 128))
      = k (ix4 b h ⟨256 * (s.val / 256) + j.val, by omega⟩ d) := by
    refine (preK_at k b h ⟨256 * (s.val / 256) + j.val, by omega⟩ ⟨d.val, by omega⟩).trans ?_
    rw [dif_pos d.isLt]
  rw [e1, e2]

include fq fk in
/-- A score of a past group. -/
theorem past_at (t : ℕ) (ht : t < 4) (j : Fin 2048) :
    k0_pay39 (blk (preQ q k b h) (s.val / 256) (h.val % 2)) (wide (preK k b h) t (h.val % 2))
        (ix2 (⟨s.val % 256, Nat.mod_lt _ (by norm_num)⟩ : Fin 256) j)
      = pastScore (Chosen (gates q k b h s) (s.val / 256)) (dotAt q k b h s) (2048 * t + j.val) := by
  have hs := s.isLt
  have hj := j.isLt
  have eq : ∀ l : Fin 128, blk (preQ q k b h) (s.val / 256) (h.val % 2) (ix2 (⟨s.val % 256, Nat.mod_lt _ (by norm_num)⟩ : Fin 256) l)
      = preQ q k b h (at2 s.val (128 * (h.val % 2) + l.val)) :=
    fun l => blk_at s ⟨h.val % 2, Nat.mod_lt _ (by norm_num)⟩ l _
  have ek : ∀ l : Fin 128, wide (preK k b h) t (h.val % 2) (ix2 j l)
      = if hl : l.val < 64 then k (ix4 b h ⟨2048 * t + j.val, by omega⟩ ⟨l.val, hl⟩) else if l.val = 64 + (2048 * t + j.val) / 256 then 1 else 0 :=
    fun l => preK_at k b h ⟨2048 * t + j.val, by omega⟩ l
  rw [past_score, sum_lanes]
  have e1 : ∑ d : Fin 64, blk (preQ q k b h) (s.val / 256) (h.val % 2) (ix2 (⟨s.val % 256, Nat.mod_lt _ (by norm_num)⟩ : Fin 256) (⟨d.val, by omega⟩ : Fin 128))
      * wide (preK k b h) t (h.val % 2) (ix2 j (⟨d.val, by omega⟩ : Fin 128)) = dotAt q k b h s (2048 * t + j.val) := by
    rw [← low_sum q k b h s ⟨2048 * t + j.val, by omega⟩]
    refine Finset.sum_congr rfl fun d _ => ?_
    have hd := d.isLt
    rw [eq, ek, preQ_at, dif_pos hd, if_neg (fun h => absurd h.1.1 (not_le.mpr hd)), dif_pos hd]
  have hB : (2048 * t + j.val) / 256 < 32 := by omega
  have e2 : ∑ d : Fin 64, blk (preQ q k b h) (s.val / 256) (h.val % 2) (ix2 (⟨s.val % 256, Nat.mod_lt _ (by norm_num)⟩ : Fin 256) (⟨64 + d.val, by omega⟩ : Fin 128))
      * wide (preK k b h) t (h.val % 2) (ix2 j (⟨64 + d.val, by omega⟩ : Fin 128))
      = preQ q k b h (at2 s.val (128 * (h.val % 2) + (lane ⟨(2048 * t + j.val) / 256, hB⟩).val)) := by
    rw [Finset.sum_eq_single (⟨(2048 * t + j.val) / 256, by omega⟩ : Fin 64)]
    · rw [eq, ek, dif_neg (by simp only []; omega), if_pos rfl, mul_one]
      rfl
    · intro d _ hd
      rw [ek, dif_neg (by simp only []; omega), if_neg, mul_zero]
      intro e
      refine hd (Fin.ext ?_)
      exact Nat.add_left_cancel e
    · intro hn; exact absurd (Finset.mem_univ _) hn
  rw [e1, e2, preQ_at]
  unfold pastScore
  have hlane : (64 ≤ (lane ⟨(2048 * t + j.val) / 256, hB⟩).val ∧ (lane ⟨(2048 * t + j.val) / 256, hB⟩).val < 96) := by
    simp only [lane]; omega
  have hge : ¬ (lane ⟨(2048 * t + j.val) / 256, hB⟩).val < 64 := not_lt.mpr hlane.1
  have htc := taken_chosen q k b h s fq fk ⟨(2048 * t + j.val) / 256, hB⟩
  by_cases hc : Chosen (gates q k b h s) (s.val / 256) ((2048 * t + j.val) / 256)
  · rw [if_neg (fun h => h.2 (htc.mpr hc)), dif_neg hge, if_pos hc, add_zero]
  · rw [if_pos ⟨hlane, fun h => hc (htc.mp h)⟩, if_neg hc, EReal.add_bot]

end row

/-! ## The row's result -/

section result
variable (q k v : FVec Ideal S2x8x8192x64 .f32) (b : Fin 2) (h : Fin 8) (s : Fin 8192)
variable (fq : ∀ i, ∃ a : ℝ, q i = a) (fk : ∀ i, ∃ a : ℝ, k i = a)

/-- The prepared value in a lane at a position. -/
def valAt (v : FVec Ideal S2x8x8192x64 .f32) (b : Fin 2) (h : Fin 8) (l : Fin 128) (J : ℕ) : EReal :=
  if l.val = 64 then 1 else if hl : l.val < 64 then keyAt v b h J ⟨l.val, hl⟩ else 0

theorem preV_val (J : Fin 8192) (l : Fin 128) : preV v b h (at2 J.val (128 * (h.val % 2) + l.val)) = valAt v b h l J.val := by
  rw [preV_at]
  unfold valAt
  refine if_congr Iff.rfl rfl ?_
  by_cases hl : l.val < 64
  · rw [dif_pos hl, dif_pos hl, keyAt_val]
  · rw [dif_neg hl, dif_neg hl]

/-- The running maximum and sums of the row's block. -/
def runOf (t : ℕ) : FVec Ideal S256x1 .f32 × FVec Ideal S256x128 .f32 :=
  past (preQ q k b h) (preK k b h) (preV v b h) (s.val / 256) (h.val % 2) t

theorem runOf_zero : runOf q k v b h s 0
    = (k0_pay34 (blk (preQ q k b h) (s.val / 256) (h.val % 2)) (blk (preK k b h) (s.val / 256) (h.val % 2)),
      k0_pay37 (k0_pay36 (blk (preQ q k b h) (s.val / 256) (h.val % 2)) (blk (preK k b h) (s.val / 256) (h.val % 2)))
        (blk (preV v b h) (s.val / 256) (h.val % 2))) := rfl

theorem runOf_succ (t : ℕ) : runOf q k v b h s (t + 1)
    = (k0_pay41 (blk (preQ q k b h) (s.val / 256) (h.val % 2)) (runOf q k v b h s t).1 (wide (preK k b h) t (h.val % 2)),
      k0_pay43 (blk (preQ q k b h) (s.val / 256) (h.val % 2)) (runOf q k v b h s t).1 (runOf q k v b h s t).2
        (wide (preK k b h) t (h.val % 2)) (wide (preV v b h) t (h.val % 2))) := rfl

theorem max_zero (r : Fin 256) : (runOf q k v b h s 0).1 (ix2 r (0 : Fin 1))
    = Finset.univ.fold max ⊥ fun j : Fin 256 => k0_pay32 (blk (preQ q k b h) (s.val / 256) (h.val % 2)) (blk (preK k b h) (s.val / 256) (h.val % 2)) (ix2 r j) := by
  rw [runOf_zero]
  dsimp only
  rw [own_max (blk (preQ q k b h) (s.val / 256) (h.val % 2)) (blk (preK k b h) (s.val / 256) (h.val % 2)) r]

theorem sum_zero (r : Fin 256) (l : Fin 128) : (runOf q k v b h s 0).2 (ix2 r l)
    = ∑ j : Fin 256, Ideal.exp (k0_pay32 (blk (preQ q k b h) (s.val / 256) (h.val % 2)) (blk (preK k b h) (s.val / 256) (h.val % 2)) (ix2 r j)
        - (runOf q k v b h s 0).1 (ix2 r (0 : Fin 1))) * (blk (preV v b h) (s.val / 256) (h.val % 2)) (ix2 j l) := by
  rw [runOf_zero]
  dsimp only
  rw [own_sum (blk (preQ q k b h) (s.val / 256) (h.val % 2)) (blk (preK k b h) (s.val / 256) (h.val % 2)) (blk (preV v b h) (s.val / 256) (h.val % 2)) r l]

theorem max_succ (t : ℕ) (r : Fin 256) : (runOf q k v b h s (t + 1)).1 (ix2 r (0 : Fin 1))
    = max ((runOf q k v b h s t).1 (ix2 r (0 : Fin 1)))
      (Finset.univ.fold max ⊥ fun j : Fin 2048 => k0_pay39 (blk (preQ q k b h) (s.val / 256) (h.val % 2)) (wide (preK k b h) t (h.val % 2)) (ix2 r j)) := by
  rw [runOf_succ]
  exact past_max (blk (preQ q k b h) (s.val / 256) (h.val % 2)) (runOf q k v b h s t).1 (wide (preK k b h) t (h.val % 2)) r

theorem sum_succ (t : ℕ) (r : Fin 256) (l : Fin 128) : (runOf q k v b h s (t + 1)).2 (ix2 r l)
    = (runOf q k v b h s t).2 (ix2 r l)
        * Ideal.exp ((runOf q k v b h s t).1 (ix2 r (0 : Fin 1)) - (runOf q k v b h s (t + 1)).1 (ix2 r (0 : Fin 1)))
      + ∑ j : Fin 2048, Ideal.exp (k0_pay39 (blk (preQ q k b h) (s.val / 256) (h.val % 2)) (wide (preK k b h) t (h.val % 2)) (ix2 r j)
          - (runOf q k v b h s (t + 1)).1 (ix2 r (0 : Fin 1))) * (wide (preV v b h) t (h.val % 2)) (ix2 j l) := by
  rw [runOf_succ]
  exact past_sum (blk (preQ q k b h) (s.val / 256) (h.val % 2)) (runOf q k v b h s t).1 (runOf q k v b h s t).2 (wide (preK k b h) t (h.val % 2))
    (wide (preV v b h) t (h.val % 2)) r l

/-- The row's place in its block. -/
def inBlock (s : Fin 8192) : Fin 256 := ⟨s.val % 256, Nat.mod_lt _ (by norm_num)⟩

/-- The row's scores as the reference has them. -/
def rowScore (J : ℕ) : EReal :=
  score (s.val / 256) (s.val % 256) (Chosen (gates q k b h s) (s.val / 256)) (dotAt q k b h s) J

include fq fk in
theorem own_ne_top (J : ℕ) : ownScore (s.val / 256) (s.val % 256) (dotAt q k b h s) J ≠ ⊤ := by
  obtain ⟨a, e⟩ := dotAt_real q k b h s fq fk J
  unfold ownScore
  split
  · rw [e]; exact EReal.coe_ne_top a
  · exact bot_ne_top

include fq fk in
theorem past_ne_top (J : ℕ) : pastScore (Chosen (gates q k b h s) (s.val / 256)) (dotAt q k b h s) J ≠ ⊤ := by
  obtain ⟨a, e⟩ := dotAt_real q k b h s fq fk J
  unfold pastScore
  split
  · rw [e]; exact EReal.coe_ne_top a
  · exact bot_ne_top

include fq fk in
theorem row_ne_top (J : ℕ) : rowScore q k b h s J ≠ ⊤ := by
  obtain ⟨a, e⟩ := dotAt_real q k b h s fq fk J
  unfold rowScore score
  split
  · rw [e]; exact EReal.coe_ne_top a
  · exact bot_ne_top

include fq fk in
theorem row_diag : rowScore q k b h s s.val ≠ ⊥ := by
  obtain ⟨a, e⟩ := dotAt_real q k b h s fq fk s.val
  unfold rowScore score
  rw [if_pos (Or.inr ⟨rfl, by omega⟩), e]
  exact EReal.coe_ne_bot a

include fq fk in
/-- The running maximum and a lane's running sum after the row's groups. -/
theorem run_at (l : Fin 128) : ∃ m : ℝ, (runOf q k v b h s ((s.val / 256 + 7) / 8)).1 (ix2 (inBlock s) (0 : Fin 1)) = (m : EReal)
    ∧ Finset.univ.fold max ⊥ (fun j : Fin 8192 => rowScore q k b h s j.val) = (m : EReal)
    ∧ (runOf q k v b h s ((s.val / 256 + 7) / 8)).2 (ix2 (inBlock s) l)
      = ∑ j : Fin 8192, Ideal.exp (rowScore q k b h s j.val - (m : EReal)) * valAt v b h l j.val := by
  have hs := s.isLt
  have hn : s.val / 256 < 32 := by omega
  obtain ⟨m, hM, hx, hX⟩ := running (T := (s.val / 256 + 7) / 8)
    (fun j : Fin 256 => k0_pay32 (blk (preQ q k b h) (s.val / 256) (h.val % 2)) (blk (preK k b h) (s.val / 256) (h.val % 2)) (ix2 (inBlock s) j))
    (fun t (j : Fin 2048) => k0_pay39 (blk (preQ q k b h) (s.val / 256) (h.val % 2)) (wide (preK k b h) t (h.val % 2)) (ix2 (inBlock s) j))
    (fun j : Fin 256 => blk (preV v b h) (s.val / 256) (h.val % 2) (ix2 j l))
    (fun t (j : Fin 2048) => wide (preV v b h) t (h.val % 2) (ix2 j l))
    (fun j => by
      show k0_pay32 _ _ _ ≠ ⊤
      unfold inBlock; rw [own_at]; exact own_ne_top q k b h s fq fk _)
    (fun t ht j => by
      show k0_pay39 _ _ _ ≠ ⊤
      unfold inBlock; rw [past_at q k b h s fq fk t (by omega)]; exact past_ne_top q k b h s fq fk _)
    ⟨inBlock s, by
      show k0_pay32 _ _ _ ≠ ⊥
      have e := own_at q k b h s (inBlock s)
      unfold inBlock at e ⊢
      rw [e]
      obtain ⟨a, e⟩ := dotAt_real q k b h s fq fk (256 * (s.val / 256) + s.val % 256)
      unfold ownScore
      rw [if_pos ⟨by show (256 * (s.val / 256) + s.val % 256) / 256 = _; omega, le_refl _⟩, e]
      exact EReal.coe_ne_bot a⟩
    (fun t => (runOf q k v b h s t).1 (ix2 (inBlock s) (0 : Fin 1)))
    (fun t => (runOf q k v b h s t).2 (ix2 (inBlock s) l))
    (max_zero q k v b h s (inBlock s)) (fun t => max_succ q k v b h s t (inBlock s)) (sum_zero q k v b h s (inBlock s) l)
    (fun t => sum_succ q k v b h s t (inBlock s) l)
    ((s.val / 256 + 7) / 8) le_rfl
  have hC : ∀ x, Chosen (gates q k b h s) (s.val / 256) x → x < s.val / 256 := fun x hx => hx.1
  refine ⟨m, hM, ?_, ?_⟩
  · refine eq_of_forall_ge_iff fun x => ?_
    rw [fold_max_le_iff, ← hM]
    refine Iff.symm ((hx x).trans ?_)
    refine Iff.trans ?_ (bound_merge (s.val / 256) (s.val % 256) ((s.val / 256 + 7) / 8) (Chosen (gates q k b h s) (s.val / 256)) (dotAt q k b h s)
      hn hC (by omega) (by omega) x)
    refine and_congr (forall_congr' fun j => ?_) (forall_congr' fun t => forall_congr' fun ht => forall_congr' fun j => ?_)
    · exact iff_of_eq (congrArg (· ≤ x) (own_at q k b h s j))
    · exact iff_of_eq (congrArg (· ≤ x) (past_at q k b h s fq fk t (by omega) j))
  · refine hX.trans ?_
    refine Eq.trans ?_ (sum_merge (s.val / 256) (s.val % 256) ((s.val / 256 + 7) / 8) (Chosen (gates q k b h s) (s.val / 256)) (dotAt q k b h s)
      (valAt v b h l) hn hC (by omega) (by omega) m)
    refine congrArg₂ (· + ·) (Finset.sum_congr rfl fun j _ => ?_) (Finset.sum_congr rfl fun t ht => Finset.sum_congr rfl fun j _ => ?_)
    · refine congrArg₂ (fun a c => Ideal.exp (a - (m : EReal)) * c) (own_at q k b h s j) ?_
      have hj := j.isLt
      exact preV_val v b h ⟨256 * (s.val / 256) + j.val, by omega⟩ l
    · have ht' := Finset.mem_range.mp ht
      have hj := j.isLt
      refine congrArg₂ (fun a c => Ideal.exp (a - (m : EReal)) * c) (past_at q k b h s fq fk t (by omega) j) ?_
      exact preV_val v b h ⟨2048 * t + j.val, by omega⟩ l

include fq fk in
/-- The quotient of the running sums is the reference's weighted sum of the values. -/
theorem quot_at (d : Fin 64) :
    k0_pay51 (runOf q k v b h s ((s.val / 256 + 7) / 8)).2 (ix2 (inBlock s) (⟨d.val, by omega⟩ : Fin 128))
      = ∑ j : Fin 8192, Ideal.div (Ideal.exp (rowScore q k b h s j.val - Finset.univ.fold max ⊥ fun j' : Fin 8192 => rowScore q k b h s j'.val))
          (∑ j' : Fin 8192, Ideal.exp (rowScore q k b h s j'.val - Finset.univ.fold max ⊥ fun j'' : Fin 8192 => rowScore q k b h s j''.val))
          * v (ix4 b h j d) := by
  have hd := d.isLt
  obtain ⟨m, hM, hf, hX⟩ := run_at q k v b h s fq fk ⟨d.val, by omega⟩
  obtain ⟨m', hM', _, hY⟩ := run_at q k v b h s fq fk 64
  have hm : m' = m := EReal.coe_injective (hM'.symm.trans hM)
  subst hm
  rw [quot, hX, hY, hf, normalise (fun j : Fin 8192 => rowScore q k b h s j.val) _ (fun j => row_ne_top q k b h s fq fk _)
    ⟨s, row_diag q k b h s fq fk⟩ m']
  refine congrArg₂ Ideal.div (Finset.sum_congr rfl fun j _ => ?_) (Finset.sum_congr rfl fun j _ => ?_)
  · refine congrArg (Ideal.exp (rowScore q k b h s j.val - (m' : EReal)) * ·) ?_
    unfold valAt
    rw [if_neg (by simp only []; omega), dif_pos hd, keyAt_val]
  · have e : valAt v b h 64 j.val = 1 := if_pos rfl
    rw [e, mul_one]

open Classical in
theorem scores_row (j : Fin 8192) : Cert.ReferenceIdeal.Hand.scores q k (ix4 b h s j) = rowScore q k b h s j.val := by
  have hs := s.isLt
  rw [Cert.ReferenceIdeal.Hand.scores_at]
  unfold rowScore score dotAt
  refine if_congr (or_congr Iff.rfl (and_congr Iff.rfl ?_)) ?_ rfl
  · rw [Fin.le_def]
    omega
  · refine congrArg (· * ((1/8 : ℝ) : EReal)) (Finset.sum_congr rfl fun d _ => ?_)
    rw [keyAt_val]

include fq fk in
/-- The row's result is the reference's. -/
theorem mix_row (d : Fin 64) :
    k0_pay51 (runOf q k v b h s ((s.val / 256 + 7) / 8)).2 (ix2 (inBlock s) (⟨d.val, by omega⟩ : Fin 128))
      = Cert.ReferenceIdeal.Hand.mix v (Cert.ReferenceIdeal.Hand.weights (Cert.ReferenceIdeal.Hand.scores q k)) (ix4 b s h d) := by
  rw [quot_at q k v b h s fq fk, Cert.ReferenceIdeal.Hand.mix_at]
  have e : ∀ j : Fin 8192, Cert.ReferenceIdeal.Hand.weights (Cert.ReferenceIdeal.Hand.scores q k) (ix4 b h s j)
      = Ideal.exp (rowScore q k b h s j.val - Finset.univ.fold max ⊥ fun j' : Fin 8192 => rowScore q k b h s j'.val) := by
    intro j
    rw [Cert.ReferenceIdeal.Hand.weights_at, scores_row]
    have e' : (fun j' : Fin 8192 => Cert.ReferenceIdeal.Hand.scores q k (ix4 b h s j')) = fun j' => rowScore q k b h s j'.val :=
      funext fun j' => scores_row q k b h s j'
    rw [e']
  have es : ∑ j' : Fin 8192, Cert.ReferenceIdeal.Hand.weights (Cert.ReferenceIdeal.Hand.scores q k) (ix4 b h s j')
      = ∑ j' : Fin 8192, Ideal.exp (rowScore q k b h s j'.val - Finset.univ.fold max ⊥ fun j'' : Fin 8192 => rowScore q k b h s j''.val) :=
    Finset.sum_congr rfl fun j _ => e j
  rw [es]
  exact Finset.sum_congr rfl fun j _ => by rw [e]

end result

/-- The program's result, cut to its heads, is the reference's function of the three arguments. -/
theorem out_eq (m : (ℓ : Loc nD τ sig) → Buf (Elt Ideal) ℓ) (c : Dev nD) (q k v : FVec Ideal S2x8x8192x64 .f32)
    (eq6 : V m c main_v6 = lay (scaled q)) (eq11 : V m c main_v11 = lay k) (eq16 : V m c main_v16 = lay v)
    (eq28 : V m c main_v28 = bsel (F := Ideal))
    (fq : ∀ i, ∃ a : ℝ, q i = a) (fk : ∀ i, ∃ a : ℝ, k i = a) (b : Fin 2) (s : Fin 8192) (h : Fin 8) (d : Fin 64) :
    cut (outG m c) (ix4 b s h d)
      = Cert.ReferenceIdeal.Hand.mix v (Cert.ReferenceIdeal.Hand.weights (Cert.ReferenceIdeal.Hand.scores q k)) (ix4 b s h d) := by
  have hb := b.isLt
  have hs := s.isLt
  have hh := h.isLt
  have hd := d.isLt
  rw [cut_at, outG_at m c _ (grpOf b h) (s.val / 256) (s.val % 256) (128 * (h.val % 2) + d.val) (by omega) (by omega) (by omega)
    (by show 8192 * b.val + s.val = _; unfold grpOf; omega) (by show 128 * h.val + d.val = _; unfold grpOf; omega),
    ix128_eq (s.val % 256) (128 * (h.val % 2) + d.val) (inBlock s) ⟨d.val, by omega⟩ (Nat.mod_mod _ _) (by simp only []; omega),
    show (128 * (h.val % 2) + d.val) / 128 = h.val % 2 from by omega]
  unfold gq gk gv
  rw [eq6, eq11, eq16, eq28]
  exact mix_row q k v b h s fq fk d

end Cert.KernelIdeal.Hand

end
-- ==== Proof.Claims.lean ====
/-
  The claims: both programs' frames, the constants named, and the equality of the two results.
-/
module

public import proofs.«01_k».proof.Defs
public import proofs.«01_k».proof.Proof.Value
public import proofs.«01_k».proof.Proof.KLaunch
public import Idealize.ShloMosaic.Lib.ReduceAll

@[expose] public section

set_option maxRecDepth 16384

noncomputable section

namespace Cert.Proof

open Idealize.ShloMosaic Idealize.SL.Sem

/-- The side conditions of the precondition. -/
theorem facts_pre : Cert.Pre_finite_qk.Facts where
  bcast_S_S2x8x8192x64 := Cert.KernelIdeal.Facts₀.bcast_S_S2x8x8192x64
  reducesTo_S2x8x8192x64_S_d0_1_2_3 := by decide
  h_S_ := by decide

/-- An extended real whose absolute value is below infinity is a real number. -/
theorem real_of_lt (x : EReal) (h : FloatOps.cmpf (F := Ideal) .olt (φ := .f32) (FloatOps.absf (φ := .f32) x) (Ideal.ofBits .f32 0x7F800000#32) = 1#1) :
    ∃ a : ℝ, x = a := by
  rw [Cert.KernelIdeal.Hand.ofBits_top] at h
  induction x with
  | coe a => exact ⟨a, rfl⟩
  | bot => exfalso; revert h; simp [FloatOps.cmpf, FloatOps.absf, Ideal.cmp]
  | top => exfalso; revert h; simp [FloatOps.cmpf, FloatOps.absf, Ideal.cmp]

/-- A comparison with infinity that holds at every place of an array, of any shape. -/
theorem all_real {s u t : Shape} {axes : List (Fin s.rank)} [Subsingleton t.Idx] (x : FVec Ideal s .f32) (y : FVec Ideal s .f32)
    (hy : ∀ i, y i = Ideal.ofBits .f32 0x7F800000#32) (init : u.Idx → BitVec 1) (h : s.ReducesTo axes t) (hu : 0 < u.numel) (j : t.Idx)
    (e : Host.reduce IntOp.andi (cmpf .olt (Host.absf x) y) init h hu j = 1#1) (i : s.Idx) : ∃ a : ℝ, x i = a := by
  have e1 := Host.reduce_andi_all _ _ h hu j e i
  refine real_of_lt (x i) ?_
  rw [← hy i]
  exact e1

/-- Where the precondition holds, every query and every key is a real number. -/
theorem reals [h : Cert.Pre_finite_qk.Facts] (q k v : FVec Ideal Cert.Pre_finite_qk.S2x8x8192x64 .f32)
    (e : Cert.Pre_finite_qk.fn (F := Ideal) q k v = fun _ => 1#1) :
    (∀ i, ∃ a : ℝ, q i = a) ∧ ∀ i, ∃ a : ℝ, k i = a := by
  have e0 := congrFun e ix0
  obtain ⟨e1, e2⟩ := (Cert.ReferenceIdeal.Hand.and_one _ _).mp e0
  haveI : Subsingleton Cert.Pre_finite_qk.S_.Idx := ⟨fun a b => funext fun i => i.elim0⟩
  exact ⟨all_real q _ (fun _ => rfl) _ _ _ ix0 e1, all_real k _ (fun _ => rfl) _ _ _ ix0 e2⟩

theorem frame_k : Cert.quiescent_Kernel (hKernel := Cert.Kernel.Gen.facts) := fun m g _ => Cert.Kernel.Hand.frame m g

theorem frame_ki : Cert.quiescent_KernelIdeal (hKernelIdeal := Cert.KernelIdeal.Gen.facts) :=
  fun m g _ => Cert.KernelIdeal.Hand.frame m g

theorem frame_ki_pre : Cert.quiescent_KernelIdeal_pre_finite_qk (hKernelIdeal := Cert.KernelIdeal.Gen.facts) (hPre_finite_qk := facts_pre) :=
  fun m g _ => Cert.KernelIdeal.Hand.frame m g

theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

theorem frame_ri : Cert.quiescent_ReferenceIdeal (hReferenceIdeal := Cert.ReferenceIdeal.Gen.facts) := fun m g _ => frame_ref m g

theorem frame_ri_pre : Cert.quiescent_ReferenceIdeal_pre_finite_qk (hReferenceIdeal := Cert.ReferenceIdeal.Gen.facts)
    (hPre_finite_qk := facts_pre) := fun m g _ => frame_ref m g

theorem preserves : Cert.preserves_Kernel_KernelIdeal :=
  ⟨IdealRules.named_const.statement Cert.KernelIdeal.κ "mask" .f32 0xF1800000#32 ⊥ rfl,
    IdealRules.named_const.statement Cert.KernelIdeal.κ "causal" .f32 0xF149F2CA#32 ⊥ rfl⟩

/-- The kernel's run: the result cut to its heads, the arguments unchanged. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v31) = Cert.KernelIdeal.Hand.cut (Cert.KernelIdeal.Hand.outG m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono
    (fun r h c => ⟨((h.1 c).2 Cert.KernelIdeal.main_v31 (by decide)).trans (Cert.KernelIdeal.Hand.W31 m c), h.2.1 c⟩)
    (θ_run_and (Cert.KernelIdeal.Hand.run_main (F := Ideal) m g) (Cert.KernelIdeal.Hand.frame (F := Ideal) m g))

/-- From finite queries and keys the kernel's result and the reference's are equal, element by element. -/
theorem algebraic : Cert.algebraic_KernelIdeal_ReferenceIdeal_pre_finite_qk (hKernelIdeal := Cert.KernelIdeal.Gen.facts)
    (hReferenceIdeal := Cert.ReferenceIdeal.Gen.facts) (hPre_finite_qk := facts_pre) := by
  intro m g m' g' hpre hagree
  refine ⟨_, run_kernel m g, ?_⟩
  refine (θ_run Cert.ReferenceIdeal.defs _ _).mono (fun _ h c => ⟨(h c).1.trans ?_, (h c).2⟩)
    (Cert.ReferenceIdeal.Value.run (F := Ideal) m' g')
  obtain ⟨fq, fk⟩ := reals (h := facts_pre) _ _ _ (hpre c)
  rw [Cert.ReferenceIdeal.Hand.result_eq m' c, (hagree c).1, (hagree c).2.1, (hagree c).2.2]
  refine Eq.symm (funext fun i => ?_)
  obtain ⟨b, s, h, d, rfl⟩ : ∃ (b : Fin 2) (s : Fin 8192) (h : Fin 8) (d : Fin 64), i = ix4 b s h d :=
    ⟨i 0, i 1, i 2, i 3, by funext a; fin_cases a <;> rfl⟩
  exact Cert.KernelIdeal.Hand.out_eq m c _ _ _ (Cert.KernelIdeal.Hand.V6 m c) (Cert.KernelIdeal.Hand.V11 m c)
    (Cert.KernelIdeal.Hand.V16 m c) (Cert.KernelIdeal.Hand.V28 m c) fq fk b s h d

end Cert.Proof

end
-- ==== Proof.InPay.lean ====
/-
  The input projection's arithmetic read at one place of a block: the normalised and modulated row, a projection,
  the rotation of a head's lanes, and the gates.
-/
module

public import proofs.«01_k».proof.Proof.Gen.Kernel2Ideal.Frame
public import Idealize.ShloMosaic.Lib.Pipeline.Value
public import Idealize.ShloMosaic.Lib.Pipeline.ValueKit
public import Idealize.ShloMosaic.Lib.KernelVsHost
public import Idealize.ShloMosaic.Lib.Pointwise

@[expose] public section

set_option maxRecDepth 16384

noncomputable section

namespace Cert.Kernel2Ideal.Hand

open Cert.Kernel2Ideal Cert.Kernel2Ideal.Gen
open Idealize.ShloMosaic

/-- A row normalised by its root mean square, times a gain, then scaled and shifted. -/
def normAt (x g sh sc : Fin 1024 → EReal) (d : Fin 1024) : EReal :=
  x d * Ideal.rsqrt (Ideal.div (∑ e : Fin 1024, x e * x e) (Ideal.ofBits .f32 0x44800000#32) + Ideal.ofBits .f32 0x358637BD#32) * g d
    * (Ideal.ofBits .f32 0x3F800000#32 + sc d) + sh d

theorem norm_at (x : Vec Ideal S512x1024 .f32) (g : Vec Ideal S1x1024 .f32) (sh sc : Vec Ideal S1x1x1024 .f32) (r : Fin 512) (d : Fin 1024) :
    k0_pay2 x g sh sc (ix2 r d)
      = normAt (fun e => x (ix2 r e)) (fun e => g (ix2 0 e)) (fun e => sh (ix3 0 0 e)) (fun e => sc (ix3 0 0 e)) d := by
  pointwise [k0_pay2, normAt]

theorem pool_at (x : Vec Ideal S512x1024 .f32) (g : Vec Ideal S1x1024 .f32) (sh sc : Vec Ideal S1x1x1024 .f32) (w : Vec Ideal S1024x512 .bf16)
    (r : Fin 512) (n : Fin 512) :
    k0_pay3 x g sh sc w (ix2 r n) = ∑ d : Fin 1024, k0_pay2 x g sh sc (ix2 r d) * w (ix2 d n) := by
  pointwise [k0_pay3]

theorem vals_at (h : FVec Ideal S512x1024 .bf16) (w : Vec Ideal S1024x1024 .bf16) (r : Fin 512) (n : Fin 1024) :
    k0_pay30 h w (ix2 r n) = ∑ d : Fin 1024, h (ix2 r d) * w (ix2 d n) := by
  pointwise [k0_pay30]

theorem gates_at (h : FVec Ideal S512x1024 .bf16) (w : Vec Ideal S1024x2048 .bf16) (r : Fin 512) (n : Fin 2048) :
    k0_pay1 h w (ix2 r n) = Ideal.div (Ideal.ofBits .f32 0x3F800000#32)
      (Ideal.ofBits .f32 0x3F800000#32 + Ideal.exp (0 - ∑ d : Fin 1024, h (ix2 r d) * w (ix2 d n))) := by
  pointwise [k0_pay1]

/-- A head's lanes before the rotation. -/
theorem head_at (h : FVec Ideal S512x1024 .bf16) (w : Vec Ideal S1024x128 .bf16) (r : Fin 512) (l : Fin 128) :
    k0_pay9 h w (ix2 r l) = ∑ d : Fin 1024, h (ix2 r d) * w (ix2 d l) := by
  pointwise [k0_pay9]

theorem turn120 (x : FVec Ideal S512x128 .f32) (r : Fin 512) (l : Fin 128) :
    dynamicRotate 1 120#32 none x rotates_S512x128_d1 (ix2 r l) = x (ix2 r (⟨(l.val + 8) % 128, by omega⟩ : Fin 128)) := by
  refine dynamicRotate_apply _ _ _ _ _ _ fun b => ?_
  fin_cases b
  · rfl
  · show (l.val + 8) % 128 = (l.val + 128 - 120 % 128) % 128
    omega

theorem turn8 (x : FVec Ideal S512x128 .f32) (r : Fin 512) (l : Fin 128) :
    dynamicRotate 1 8#32 none x rotates_S512x128_d1 (ix2 r l) = x (ix2 r (⟨(l.val + 120) % 128, by omega⟩ : Fin 128)) := by
  refine dynamicRotate_apply _ _ _ _ _ _ fun b => ?_
  fin_cases b
  · rfl
  · show (l.val + 120) % 128 = (l.val + 128 - 8 % 128) % 128
    omega

/-- A key head: the projection rotated. -/
theorem key_at (h : FVec Ideal S512x1024 .bf16) (c a b : FVec Ideal S512x128 .f32) (w : Vec Ideal S1024x128 .bf16) (r : Fin 512) (l : Fin 128) :
    k0_pay13 h c a b w (ix2 r l)
      = k0_pay9 h w (ix2 r l) * c (ix2 r l) + k0_pay9 h w (ix2 r (⟨(l.val + 8) % 128, by omega⟩ : Fin 128)) * a (ix2 r l)
        + k0_pay9 h w (ix2 r (⟨(l.val + 120) % 128, by omega⟩ : Fin 128)) * b (ix2 r l) := by
  rw [← turn120 (k0_pay9 h w), ← turn8 (k0_pay9 h w)]
  rfl

/-- A query head: the projection rotated, and scaled. -/
theorem query_at (h : FVec Ideal S512x1024 .bf16) (c a b : FVec Ideal S512x128 .f32) (w : Vec Ideal S1024x128 .bf16) (r : Fin 512) (l : Fin 128) :
    k0_pay14 h c a b w (ix2 r l) = k0_pay13 h c a b w (ix2 r l) * Ideal.ofBits .f32 0x3E000000#32 := rfl

section canon
variable (x0 : Vec Ideal S512x1024 .f32) (x1 x2 : Vec Ideal S1x1x1024 .f32) (x3 : Vec Ideal S1x1024 .f32) (x4 : Vec Ideal S1024x5632 .bf16)
  (x5 x6 x7 : Vec Ideal S512x128 .f32)

/-- A read of consecutive columns of the weights. -/
theorem ld_at (n o : ℕ) (ho : o + n ≤ 5632) (inb) (d : Fin 1024) (j : Fin n) :
    View.ld x4 (Rect.unit (s := S1024x5632) ![0, o] (⟨2, ![1024, n]⟩ : Shape).size inb) (ix2 d j)
      = x4 (ix2 d (⟨(o + j.val) % 5632, Nat.mod_lt _ (by decide)⟩ : Fin 5632)) := by
  refine congrArg x4 (funext fun a => Fin.ext ?_)
  have hj := j.isLt
  refine (ValueKit.rect_emb_unit_val _ _ inb (ix2 d j) a).trans ?_
  fin_cases a
  · exact Nat.zero_add d.val
  · exact (Nat.mod_eq_of_lt (by omega : o + j.val < 5632)).symm

/-- A row of the block times a column of the weights. -/
def projAt (h : FVec Ideal S512x1024 .bf16) (r : Fin 512) (n : ℕ) : EReal :=
  ∑ d : Fin 1024, h (ix2 r d) * x4 (ix2 d (⟨n % 5632, Nat.mod_lt _ (by decide)⟩ : Fin 5632))

/-- The rotation of a head that starts at column `o`. -/
def ropeAt (h : FVec Ideal S512x1024 .bf16) (c a b : Vec Ideal S512x128 .f32) (r : Fin 512) (o : ℕ) (l : Fin 128) : EReal :=
  projAt x4 h r (o + l.val) * c (ix2 r l) + projAt x4 h r (o + (l.val + 8) % 128) * a (ix2 r l)
    + projAt x4 h r (o + (l.val + 120) % 128) * b (ix2 r l)

theorem key_cols (h : FVec Ideal S512x1024 .bf16) (c a b : FVec Ideal S512x128 .f32) (o : ℕ) (ho : o + 128 ≤ 5632) (inb) (r : Fin 512) (l : Fin 128) :
    k0_pay13 h c a b (View.ld x4 (Rect.unit (s := S1024x5632) ![0, o] S1024x128.size inb)) (ix2 r l) = ropeAt x4 h c a b r o l := by
  rw [key_at, head_at, head_at, head_at]
  unfold ropeAt projAt
  simp only [ld_at x4 128 o ho inb]

/-- The block the body writes of the queries (columns from 512) or of the keys (columns from 1536), before the scale. -/
def ropeBlk (h : FVec Ideal S512x1024 .bf16) (c a b : Vec Ideal S512x128 .f32) (o : ℕ) (y : S512x1024.Idx) : EReal :=
  ropeAt x4 h c a b (y 0) (o + 128 * ((y 1).val / 128)) ⟨(y 1).val % 128, Nat.mod_lt _ (by decide)⟩

theorem ropeBlk_emb (h : FVec Ideal S512x1024 .bf16) (c a b : Vec Ideal S512x128 .f32) (o k : ℕ) (inb) (x : S512x128.Idx) :
    ropeBlk x4 h c a b o ((Rect.unit (s := S512x1024) ![0, 128 * k] S512x128.size inb).emb x) = ropeAt x4 h c a b (x 0) (o + 128 * k) (x 1) := by
  have e0 : ((Rect.unit (s := S512x1024) ![0, 128 * k] S512x128.size inb).emb x) 0 = (x 0 : Fin 512) := by
    exact Fin.ext ((ValueKit.rect_emb_unit_val _ _ inb x 0).trans (Nat.zero_add _))
  have e1 : (((Rect.unit (s := S512x1024) ![0, 128 * k] S512x128.size inb).emb x) 1).val = 128 * k + (x 1).val := by
    exact ValueKit.rect_emb_unit_val _ _ inb x 1
  have hx : (x 1).val < 128 := (x 1).isLt
  unfold ropeBlk
  rw [e0]
  have e2 : (((Rect.unit (s := S512x1024) ![0, 128 * k] S512x128.size inb).emb x) 1).val / 128 = k := by rw [e1]; omega
  have e3 : (((Rect.unit (s := S512x1024) ![0, 128 * k] S512x128.size inb).emb x) 1).val % 128 = (x 1).val := by rw [e1]; omega
  rw [e2]
  congr 1
  exact Fin.ext e3

theorem ix2_eta (x : S512x128.Idx) : x = ix2 (x 0 : Fin 512) (x 1 : Fin 128) := by
  funext a; fin_cases a <;> rfl

theorem key_piece (h : FVec Ideal S512x1024 .bf16) (c a b : FVec Ideal S512x128 .f32) (k : ℕ) (hk : k < 8) (inb inb') (x : S512x128.Idx) :
    k0_pay13 h c a b (View.ld x4 (Rect.unit (s := S1024x5632) ![0, 1536 + 128 * k] S1024x128.size inb)) x
      = ropeBlk x4 h c a b 1536 ((Rect.unit (s := S512x1024) ![0, 128 * k] S512x128.size inb').emb x) := by
  rw [ropeBlk_emb]
  conv_lhs => rw [ix2_eta x]
  exact key_cols x4 h c a b (1536 + 128 * k) (by omega) inb (x 0) (x 1)

theorem query_piece (h : FVec Ideal S512x1024 .bf16) (c a b : FVec Ideal S512x128 .f32) (k : ℕ) (hk : k < 8) (inb inb') (x : S512x128.Idx) :
    k0_pay14 h c a b (View.ld x4 (Rect.unit (s := S1024x5632) ![0, 512 + 128 * k] S1024x128.size inb)) x
      = ropeBlk x4 h c a b 512 ((Rect.unit (s := S512x1024) ![0, 128 * k] S512x128.size inb').emb x) * Ideal.ofBits .f32 0x3E000000#32 := by
  rw [ropeBlk_emb]
  conv_lhs => rw [ix2_eta x]
  exact congrArg (· * Ideal.ofBits .f32 0x3E000000#32) (key_cols x4 h c a b (512 + 128 * k) (by omega) inb (x 0) (x 1))

/-- The block's rows, normalised and modulated. -/
abbrev rows : FVec Ideal S512x1024 .bf16 := k0_pay31 x0 x1 x2 x3 x4 x5 x6 x7

theorem queries_blk (y : S512x1024.Idx) : out0_9 x0 x1 x2 x3 x4 x5 x6 x7 y
    = ropeBlk x4 (rows x0 x1 x2 x3 x4 x5 x6 x7) (k0_pay32 x0 x1 x2 x3 x4 x5 x6 x7) (k0_pay33 x0 x1 x2 x3 x4 x5 x6 x7) (k0_pay34 x0 x1 x2 x3 x4 x5 x6 x7) 512 y
      * Ideal.ofBits .f32 0x3E000000#32 := by
  unfold out0_9
  refine View.canon_apply_of_pieces (Val := Elt Ideal) (e := .bf16) (fun y : S512x1024.Idx => ropeBlk x4 (rows x0 x1 x2 x3 x4 x5 x6 x7) (k0_pay32 x0 x1 x2 x3 x4 x5 x6 x7)
    (k0_pay33 x0 x1 x2 x3 x4 x5 x6 x7) (k0_pay34 x0 x1 x2 x3 x4 x5 x6 x7) 512 y * Ideal.ofBits .f32 0x3E000000#32) _ ?_ y (cover0_9 _ _ _ _ _ _ _ _ y)
  intro p hp x
  simp only [List.mem_cons, List.not_mem_nil, or_false] at hp
  rcases hp with rfl | rfl | rfl | rfl | rfl | rfl | rfl | rfl
  · exact query_piece x4 _ _ _ _ 7 (by decide) inb_S1024x5632_S1024x128_0_1408 inb_S512x1024_S512x128_0_896 x
  · exact query_piece x4 _ _ _ _ 6 (by decide) inb_S1024x5632_S1024x128_0_1280 inb_S512x1024_S512x128_0_768 x
  · exact query_piece x4 _ _ _ _ 5 (by decide) inb_S1024x5632_S1024x128_0_1152 inb_S512x1024_S512x128_0_640 x
  · exact query_piece x4 _ _ _ _ 4 (by decide) inb_S1024x5632_S1024x128_0_1024 inb_S512x1024_S512x128_0_512 x
  · exact query_piece x4 _ _ _ _ 3 (by decide) inb_S1024x5632_S1024x128_0_896 inb_S512x1024_S512x128_0_384 x
  · exact query_piece x4 _ _ _ _ 2 (by decide) inb_S1024x5632_S1024x128_0_768 inb_S512x1024_S512x128_0_256 x
  · exact query_piece x4 _ _ _ _ 1 (by decide) inb_S1024x5632_S1024x128_0_640 inb_S512x1024_S512x128_0_128 x
  · exact query_piece x4 _ _ _ _ 0 (by decide) inb_S1024x5632_S1024x128_0_512 inb_S512x1024_S512x128_0_0 x

theorem keys_blk (y : S512x1024.Idx) : out0_10 x0 x1 x2 x3 x4 x5 x6 x7 y
    = ropeBlk x4 (rows x0 x1 x2 x3 x4 x5 x6 x7) (k0_pay32 x0 x1 x2 x3 x4 x5 x6 x7) (k0_pay33 x0 x1 x2 x3 x4 x5 x6 x7) (k0_pay34 x0 x1 x2 x3 x4 x5 x6 x7) 1536 y := by
  unfold out0_10
  refine View.canon_apply_of_pieces (Val := Elt Ideal) (e := .bf16) (fun y : S512x1024.Idx => ropeBlk x4 (rows x0 x1 x2 x3 x4 x5 x6 x7) (k0_pay32 x0 x1 x2 x3 x4 x5 x6 x7)
    (k0_pay33 x0 x1 x2 x3 x4 x5 x6 x7) (k0_pay34 x0 x1 x2 x3 x4 x5 x6 x7) 1536 y) _ ?_ y (cover0_10 _ _ _ _ _ _ _ _ y)
  intro p hp x
  simp only [List.mem_cons, List.not_mem_nil, or_false] at hp
  rcases hp with rfl | rfl | rfl | rfl | rfl | rfl | rfl | rfl
  · exact key_piece x4 _ _ _ _ 7 (by decide) inb_S1024x5632_S1024x128_0_2432 inb_S512x1024_S512x128_0_896 x
  · exact key_piece x4 _ _ _ _ 6 (by decide) inb_S1024x5632_S1024x128_0_2304 inb_S512x1024_S512x128_0_768 x
  · exact key_piece x4 _ _ _ _ 5 (by decide) inb_S1024x5632_S1024x128_0_2176 inb_S512x1024_S512x128_0_640 x
  · exact key_piece x4 _ _ _ _ 4 (by decide) inb_S1024x5632_S1024x128_0_2048 inb_S512x1024_S512x128_0_512 x
  · exact key_piece x4 _ _ _ _ 3 (by decide) inb_S1024x5632_S1024x128_0_1920 inb_S512x1024_S512x128_0_384 x
  · exact key_piece x4 _ _ _ _ 2 (by decide) inb_S1024x5632_S1024x128_0_1792 inb_S512x1024_S512x128_0_256 x
  · exact key_piece x4 _ _ _ _ 1 (by decide) inb_S1024x5632_S1024x128_0_1664 inb_S512x1024_S512x128_0_128 x
  · exact key_piece x4 _ _ _ _ 0 (by decide) inb_S1024x5632_S1024x128_0_1536 inb_S512x1024_S512x128_0_0 x

theorem rows_eq : rows x0 x1 x2 x3 x4 x5 x6 x7 = k0_pay2 x0 x3 x1 x2 := by
  unfold rows k0_pay31
  rw [View.ld_unit_zero (by funext a; fin_cases a <;> rfl), View.ld_unit_zero (by funext a; fin_cases a <;> rfl),
    View.ld_unit_zero (by funext a; fin_cases a <;> rfl), View.ld_unit_zero (by funext a; fin_cases a <;> rfl)]

theorem pool_blk (r n : Fin 512) : out0_8 x0 x1 x2 x3 x4 x5 x6 x7 (ix2 r n) = projAt x4 (rows x0 x1 x2 x3 x4 x5 x6 x7) r n.val := by
  unfold out0_8
  rw [View.canon_cons_unit_zero (by funext a; fin_cases a <;> rfl), pool_at]
  unfold projAt
  refine Finset.sum_congr rfl fun d _ => ?_
  rw [ld_at x4 512 0 (by decide), Nat.zero_add]
  rfl

theorem values_blk (r : Fin 512) (n : Fin 1024) : out0_11 x0 x1 x2 x3 x4 x5 x6 x7 (ix2 r n) = projAt x4 (rows x0 x1 x2 x3 x4 x5 x6 x7) r (2560 + n.val) := by
  unfold out0_11
  rw [View.canon_cons_unit_zero (by funext a; fin_cases a <;> rfl), vals_at]
  unfold projAt
  refine Finset.sum_congr rfl fun d _ => ?_
  rw [ld_at x4 1024 2560 (by decide)]

theorem gates_blk (r : Fin 512) (n : Fin 2048) : out0_12 x0 x1 x2 x3 x4 x5 x6 x7 (ix2 r n)
    = Ideal.div (Ideal.ofBits .f32 0x3F800000#32) (Ideal.ofBits .f32 0x3F800000#32
      + Ideal.exp (0 - projAt x4 (rows x0 x1 x2 x3 x4 x5 x6 x7) r (3584 + n.val))) := by
  unfold out0_12
  rw [View.canon_cons_unit_zero (by funext a; fin_cases a <;> rfl), gates_at]
  unfold projAt
  simp only [ld_at x4 2048 3584 (by decide)]

end canon

end Cert.Kernel2Ideal.Hand

end
-- ==== Proof.InArr.lean ====
/-
  The input projection's five results as whole arrays: each is the arrays the region is handed, put together place by
  place.
-/
module

public import proofs.«01_k».proof.Proof.InPay

@[expose] public section

set_option maxRecDepth 16384

noncomputable section

namespace Cert.Kernel2Ideal.Hand

open Cert.Kernel2Ideal Cert.Kernel2Ideal.Gen
open Idealize.ShloMosaic

section arr
variable (x : Vec Ideal S16384x1024 .f32) (sh sc : Vec Ideal S2x1x1024 .f32) (g : Vec Ideal S1x1024 .f32) (w : Vec Ideal S1024x5632 .bf16)
  (ct sa sb : Vec Ideal S8192x128 .f32)

/-- Row `R`, normalised and modulated by its batch's shift and scale. -/
def hidR (R : Fin 16384) (d : Fin 1024) : EReal :=
  normAt (fun e => x (ix2 R e)) (fun e => g (ix2 0 e)) (fun e => sh (ix3 (⟨R.val / 8192, by omega⟩ : Fin 2) 0 e))
    (fun e => sc (ix3 (⟨R.val / 8192, by omega⟩ : Fin 2) 0 e)) d

/-- Its product with column `n` of the weights. -/
def projR (R : Fin 16384) (n : ℕ) : EReal :=
  ∑ d : Fin 1024, hidR x sh sc g R d * w (ix2 d (⟨n % 5632, Nat.mod_lt _ (by decide)⟩ : Fin 5632))

/-- Lane `l` of the rotated head whose columns start at `o`. -/
def ropeR (R : Fin 16384) (o : ℕ) (l : Fin 128) : EReal :=
  projR x sh sc g w R (o + l.val) * ct (ix2 (⟨R.val % 8192, by omega⟩ : Fin 8192) l)
    + projR x sh sc g w R (o + (l.val + 8) % 128) * sa (ix2 (⟨R.val % 8192, by omega⟩ : Fin 8192) l)
    + projR x sh sc g w R (o + (l.val + 120) % 128) * sb (ix2 (⟨R.val % 8192, by omega⟩ : Fin 8192) l)

def poolG (y : S16384x512.Idx) : EReal := projR x sh sc g w (y 0) (y 1).val
def queryG (y : S16384x1024.Idx) : EReal :=
  ropeR x sh sc g w ct sa sb (y 0) (512 + 128 * ((y 1).val / 128)) ⟨(y 1).val % 128, Nat.mod_lt _ (by decide)⟩ * Ideal.ofBits .f32 0x3E000000#32
def keyG (y : S16384x1024.Idx) : EReal :=
  ropeR x sh sc g w ct sa sb (y 0) (1536 + 128 * ((y 1).val / 128)) ⟨(y 1).val % 128, Nat.mod_lt _ (by decide)⟩
def valueG (y : S16384x1024.Idx) : EReal := projR x sh sc g w (y 0) (2560 + (y 1).val)
def gateG (y : S16384x2048.Idx) : EReal :=
  Ideal.div (Ideal.ofBits .f32 0x3F800000#32) (Ideal.ofBits .f32 0x3F800000#32 + Ideal.exp (0 - projR x sh sc g w (y 0) (3584 + (y 1).val)))
end arr

variable (m : (ℓ : Loc nD τ sig) → Buf (Elt Ideal) ℓ)

theorem idxA : ∀ t : Fin cfg0.N, win0_0.index t = ![t.val, 0] ∧ win0_1.index t = ![t.val / 16, 0, 0] ∧ win0_2.index t = ![t.val / 16, 0, 0]
    ∧ win0_3.index t = ![0, 0] ∧ win0_4.index t = ![0, 0] ∧ win0_5.index t = ![t.val % 16, 0] ∧ win0_6.index t = ![t.val % 16, 0] ∧ win0_7.index t = ![t.val % 16, 0] :=
  (by decide +kernel : ∀ t : Fin grid0.N, win0_0.index t = ![t.val, 0] ∧ win0_1.index t = ![t.val / 16, 0, 0] ∧ win0_2.index t = ![t.val / 16, 0, 0]
    ∧ win0_3.index t = ![0, 0] ∧ win0_4.index t = ![0, 0] ∧ win0_5.index t = ![t.val % 16, 0] ∧ win0_6.index t = ![t.val % 16, 0] ∧ win0_7.index t = ![t.val % 16, 0])

theorem idxB : ∀ t : Fin cfg0.N, win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, win0_8.index t = ![t.val, 0] ∧ win0_9.index t = ![t.val, 0] ∧ win0_10.index t = ![t.val, 0]
    ∧ win0_11.index t = ![t.val, 0] ∧ win0_12.index t = ![t.val, 0])

/-- The row of the whole array that row `r` of block `t` is. -/
def rowOf (t r : ℕ) : Fin 16384 := ⟨(512 * t + r) % 16384, Nat.mod_lt _ (by decide)⟩

theorem lt32 (t : Fin cfg0.N) : t.val < 32 := Nat.lt_of_lt_of_eq t.isLt N_0

theorem iblk_x (c : Dev nD) (t : Fin cfg0.N) (r : Fin 512) (d : Fin 1024) : iblk m c 0 t (ix2 r d) = V m c main_v39 (ix2 (rowOf t.val r.val) d) := by
  have hi := (idxA t).1
  have ht := lt32 t
  have hr := r.isLt
  unfold iblk
  refine congrArg (V m c main_v39) (funext fun a => Fin.ext ?_)
  match a with
  | ⟨0, _⟩ =>
    blk_simp [hi]
    show t.val * 512 + r.val = (512 * t.val + r.val) % 16384
    omega
  | ⟨1, _⟩ =>
    blk_simp [hi]
    first | done | rfl

theorem iblk_sh (c : Dev nD) (t : Fin cfg0.N) (r : Fin 512) (d : Fin 1024) :
    iblk m c 1 t (ix3 0 0 d) = V m c main_v40 (ix3 (⟨(rowOf t.val r.val).val / 8192, by have := (rowOf t.val r.val).isLt; omega⟩ : Fin 2) 0 d) := by
  have hi := (idxA t).2.1
  have ht := lt32 t
  have hr := r.isLt
  unfold iblk
  refine congrArg (V m c main_v40) (funext fun a => Fin.ext ?_)
  match a with
  | ⟨0, _⟩ =>
    blk_simp [hi]
    show t.val / 16 = (512 * t.val + r.val) % 16384 / 8192
    omega
  | ⟨1, _⟩ =>
    blk_simp [hi]
    first | done | rfl
  | ⟨2, _⟩ =>
    blk_simp [hi]
    first | done | rfl

theorem iblk_sc (c : Dev nD) (t : Fin cfg0.N) (r : Fin 512) (d : Fin 1024) :
    iblk m c 2 t (ix3 0 0 d) = V m c main_v41 (ix3 (⟨(rowOf t.val r.val).val / 8192, by have := (rowOf t.val r.val).isLt; omega⟩ : Fin 2) 0 d) := by
  have hi := (idxA t).2.2.1
  have ht := lt32 t
  have hr := r.isLt
  unfold iblk
  refine congrArg (V m c main_v41) (funext fun a => Fin.ext ?_)
  match a with
  | ⟨0, _⟩ =>
    blk_simp [hi]
    show t.val / 16 = (512 * t.val + r.val) % 16384 / 8192
    omega
  | ⟨1, _⟩ =>
    blk_simp [hi]
    first | done | rfl
  | ⟨2, _⟩ =>
    blk_simp [hi]
    first | done | rfl

theorem iblk_g (c : Dev nD) (t : Fin cfg0.N) : iblk m c 3 t = V m c main_v42 := by
  have hi := (idxA t).2.2.2.1
  funext y
  unfold iblk
  refine congrArg (V m c main_v42) (funext fun a => Fin.ext ?_)
  match a with
  | ⟨0, _⟩ =>
    blk_simp [hi]
  | ⟨1, _⟩ =>
    blk_simp [hi]

theorem iblk_w (c : Dev nD) (t : Fin cfg0.N) : iblk m c 4 t = V m c main_v38 := by
  have hi := (idxA t).2.2.2.2.1
  funext y
  unfold iblk
  refine congrArg (V m c main_v38) (funext fun a => Fin.ext ?_)
  match a with
  | ⟨0, _⟩ =>
    blk_simp [hi]
  | ⟨1, _⟩ =>
    blk_simp [hi]

theorem iblk_ct (c : Dev nD) (t : Fin cfg0.N) (r : Fin 512) (l : Fin 128) :
    iblk m c 5 t (ix2 r l) = V m c main_v16 (ix2 (⟨(rowOf t.val r.val).val % 8192, Nat.mod_lt _ (by decide)⟩ : Fin 8192) l) := by
  have hi := (idxA t).2.2.2.2.2.1
  have ht := lt32 t
  have hr := r.isLt
  unfold iblk
  refine congrArg (V m c main_v16) (funext fun a => Fin.ext ?_)
  match a with
  | ⟨0, _⟩ =>
    blk_simp [hi]
    show t.val % 16 * 512 + r.val = (512 * t.val + r.val) % 16384 % 8192
    omega
  | ⟨1, _⟩ =>
    blk_simp [hi]
    first | done | rfl

theorem iblk_sa (c : Dev nD) (t : Fin cfg0.N) (r : Fin 512) (l : Fin 128) :
    iblk m c 6 t (ix2 r l) = V m c main_v19 (ix2 (⟨(rowOf t.val r.val).val % 8192, Nat.mod_lt _ (by decide)⟩ : Fin 8192) l) := by
  have hi := (idxA t).2.2.2.2.2.2.1
  have ht := lt32 t
  have hr := r.isLt
  unfold iblk
  refine congrArg (V m c main_v19) (funext fun a => Fin.ext ?_)
  match a with
  | ⟨0, _⟩ =>
    blk_simp [hi]
    show t.val % 16 * 512 + r.val = (512 * t.val + r.val) % 16384 % 8192
    omega
  | ⟨1, _⟩ =>
    blk_simp [hi]
    first | done | rfl

theorem iblk_sb (c : Dev nD) (t : Fin cfg0.N) (r : Fin 512) (l : Fin 128) :
    iblk m c 7 t (ix2 r l) = V m c main_v22 (ix2 (⟨(rowOf t.val r.val).val % 8192, Nat.mod_lt _ (by decide)⟩ : Fin 8192) l) := by
  have hi := (idxA t).2.2.2.2.2.2.2
  have ht := lt32 t
  have hr := r.isLt
  unfold iblk
  refine congrArg (V m c main_v22) (funext fun a => Fin.ext ?_)
  match a with
  | ⟨0, _⟩ =>
    blk_simp [hi]
    show t.val % 16 * 512 + r.val = (512 * t.val + r.val) % 16384 % 8192
    omega
  | ⟨1, _⟩ =>
    blk_simp [hi]
    first | done | rfl

theorem normAt_congr {x x' g g' sh sh' sc sc' : Fin 1024 → EReal} (hx : ∀ e, x e = x' e) (hg : ∀ e, g e = g' e) (hs : ∀ e, sh e = sh' e)
    (hc : ∀ e, sc e = sc' e) (d : Fin 1024) : normAt x g sh sc d = normAt x' g' sh' sc' d := by
  rw [funext hx, funext hg, funext hs, funext hc]

/-- The normalised rows, the projection and the rotation of a block are those of the whole array at the block's rows. -/
theorem rows_row (c : Dev nD) (t : Fin cfg0.N) (r : Fin 512) (d : Fin 1024) :
    rows (iblk m c 0 t) (iblk m c 1 t) (iblk m c 2 t) (iblk m c 3 t) (iblk m c 4 t) (iblk m c 5 t) (iblk m c 6 t) (iblk m c 7 t) (ix2 r d)
      = hidR (V m c main_v39) (V m c main_v40) (V m c main_v41) (V m c main_v42) (rowOf t.val r.val) d := by
  rw [rows_eq, norm_at]
  unfold hidR
  exact normAt_congr (fun e => iblk_x m c t r e) (fun e => congrFun (iblk_g m c t) _) (fun e => iblk_sh m c t r e) (fun e => iblk_sc m c t r e) d

theorem proj_row (c : Dev nD) (t : Fin cfg0.N) (r : Fin 512) (n : ℕ) :
    projAt (iblk m c 4 t) (rows (iblk m c 0 t) (iblk m c 1 t) (iblk m c 2 t) (iblk m c 3 t) (iblk m c 4 t) (iblk m c 5 t) (iblk m c 6 t) (iblk m c 7 t)) r n
      = projR (V m c main_v39) (V m c main_v40) (V m c main_v41) (V m c main_v42) (V m c main_v38) (rowOf t.val r.val) n := by
  unfold projAt projR
  refine Finset.sum_congr rfl fun d _ => ?_
  rw [rows_row, iblk_w]

theorem tab32 (c : Dev nD) (t : Fin cfg0.N) : k0_pay32 (iblk m c 0 t) (iblk m c 1 t) (iblk m c 2 t) (iblk m c 3 t) (iblk m c 4 t) (iblk m c 5 t) (iblk m c 6 t) (iblk m c 7 t) = iblk m c 5 t := by
  unfold k0_pay32 k0_pay4
  rw [View.ld_unit_zero (by funext a; fin_cases a <;> rfl)]
  exact shapeCast_self _ _
theorem tab33 (c : Dev nD) (t : Fin cfg0.N) : k0_pay33 (iblk m c 0 t) (iblk m c 1 t) (iblk m c 2 t) (iblk m c 3 t) (iblk m c 4 t) (iblk m c 5 t) (iblk m c 6 t) (iblk m c 7 t) = iblk m c 6 t := by
  unfold k0_pay33 k0_pay5
  rw [View.ld_unit_zero (by funext a; fin_cases a <;> rfl)]
  exact shapeCast_self _ _
theorem tab34 (c : Dev nD) (t : Fin cfg0.N) : k0_pay34 (iblk m c 0 t) (iblk m c 1 t) (iblk m c 2 t) (iblk m c 3 t) (iblk m c 4 t) (iblk m c 5 t) (iblk m c 6 t) (iblk m c 7 t) = iblk m c 7 t := by
  unfold k0_pay34 k0_pay6
  rw [View.ld_unit_zero (by funext a; fin_cases a <;> rfl)]
  exact shapeCast_self _ _

theorem rope_row (c : Dev nD) (t : Fin cfg0.N) (r : Fin 512) (o : ℕ) (l : Fin 128) :
    ropeAt (iblk m c 4 t) (rows (iblk m c 0 t) (iblk m c 1 t) (iblk m c 2 t) (iblk m c 3 t) (iblk m c 4 t) (iblk m c 5 t) (iblk m c 6 t) (iblk m c 7 t))
        (k0_pay32 (iblk m c 0 t) (iblk m c 1 t) (iblk m c 2 t) (iblk m c 3 t) (iblk m c 4 t) (iblk m c 5 t) (iblk m c 6 t) (iblk m c 7 t))
        (k0_pay33 (iblk m c 0 t) (iblk m c 1 t) (iblk m c 2 t) (iblk m c 3 t) (iblk m c 4 t) (iblk m c 5 t) (iblk m c 6 t) (iblk m c 7 t))
        (k0_pay34 (iblk m c 0 t) (iblk m c 1 t) (iblk m c 2 t) (iblk m c 3 t) (iblk m c 4 t) (iblk m c 5 t) (iblk m c 6 t) (iblk m c 7 t)) r o l
      = ropeR (V m c main_v39) (V m c main_v40) (V m c main_v41) (V m c main_v42) (V m c main_v38) (V m c main_v16) (V m c main_v19) (V m c main_v22)
          (rowOf t.val r.val) o l := by
  unfold ropeAt ropeR
  rw [proj_row, proj_row, proj_row, tab32, tab33, tab34, iblk_ct, iblk_sa, iblk_sb]

theorem final8 (c : Dev nD) : (dats m 0 c).arrAt 8 cfg0.N
    = poolG (V m c main_v39) (V m c main_v40) (V m c main_v41) (V m c main_v42) (V m c main_v38) := by
  refine (dats m 0 c).arrAt_eq_of_covers 8 _ (by decide +kernel) fun t hf y => ?_
  have hi := (idxB t).1
  have ht := lt32 t
  have hy0 : (y 0).val < 512 := (y 0).isLt
  have e0 : (((((cfg0.win 8).blk t).view.emb y) 0 : Fin _) : ℕ) = (rowOf t.val (y 0).val).val := by
    blk_simp [hi]
    show t.val * 512 + (y 0).val = (512 * t.val + (y 0).val) % 16384
    omega
  have e1 : (((((cfg0.win 8).blk t).view.emb y) 1 : Fin _) : ℕ) = (y 1).val := by
    blk_simp [hi]
  blk_simp
  rw [after0_8]
  have hy : y = ix2 (y 0 : Fin 512) (y 1 : Fin 512) := by funext a; fin_cases a <;> rfl
  conv_lhs => rw [hy]
  refine (pool_blk _ _ _ _ _ _ _ _ _ _).trans ((proj_row m c t (y 0) (y 1).val).trans ?_)
  unfold poolG
  exact congrArg₂ (projR _ _ _ _ _) (Fin.ext e0.symm) e1.symm

theorem ropeR_congr (x : Vec Ideal S16384x1024 .f32) (sh sc : Vec Ideal S2x1x1024 .f32) (g : Vec Ideal S1x1024 .f32) (w : Vec Ideal S1024x5632 .bf16)
    (ct sa sb : Vec Ideal S8192x128 .f32) {R R' : Fin 16384} (hR : R = R') {n n' : ℕ} (hn : n = n') (o : ℕ) :
    ropeR x sh sc g w ct sa sb R (o + 128 * (n / 128)) ⟨n % 128, Nat.mod_lt _ (by decide)⟩
      = ropeR x sh sc g w ct sa sb R' (o + 128 * (n' / 128)) ⟨n' % 128, Nat.mod_lt _ (by decide)⟩ := by
  subst hR hn; rfl

theorem final9 (c : Dev nD) : (dats m 0 c).arrAt 9 cfg0.N
    = queryG (V m c main_v39) (V m c main_v40) (V m c main_v41) (V m c main_v42) (V m c main_v38) (V m c main_v16) (V m c main_v19) (V m c main_v22) := by
  refine (dats m 0 c).arrAt_eq_of_covers 9 _ (by decide +kernel) fun t hf y => ?_
  have hi := (idxB t).2.1
  have ht := lt32 t
  have hy0 : (y 0).val < 512 := (y 0).isLt
  have e0 : (((((cfg0.win 9).blk t).view.emb y) 0 : Fin _) : ℕ) = (rowOf t.val (y 0).val).val := by
    blk_simp [hi]
    show t.val * 512 + (y 0).val = (512 * t.val + (y 0).val) % 16384
    omega
  have e1 : (((((cfg0.win 9).blk t).view.emb y) 1 : Fin _) : ℕ) = (y 1).val := by
    blk_simp [hi]
  blk_simp
  rw [after0_9]
  refine (queries_blk _ _ _ _ _ _ _ _ _).trans ?_
  refine congrArg (· * Ideal.ofBits .f32 0x3E000000#32) ((rope_row m c t (y 0) _ _).trans ?_)
  exact ropeR_congr _ _ _ _ _ _ _ _ (Fin.ext e0.symm) e1.symm 512
theorem final10 (c : Dev nD) : (dats m 0 c).arrAt 10 cfg0.N
    = keyG (V m c main_v39) (V m c main_v40) (V m c main_v41) (V m c main_v42) (V m c main_v38) (V m c main_v16) (V m c main_v19) (V m c main_v22) := by
  refine (dats m 0 c).arrAt_eq_of_covers 10 _ (by decide +kernel) fun t hf y => ?_
  have hi := (idxB t).2.2.1
  have ht := lt32 t
  have hy0 : (y 0).val < 512 := (y 0).isLt
  have e0 : (((((cfg0.win 10).blk t).view.emb y) 0 : Fin _) : ℕ) = (rowOf t.val (y 0).val).val := by
    blk_simp [hi]
    show t.val * 512 + (y 0).val = (512 * t.val + (y 0).val) % 16384
    omega
  have e1 : (((((cfg0.win 10).blk t).view.emb y) 1 : Fin _) : ℕ) = (y 1).val := by
    blk_simp [hi]
  blk_simp
  rw [after0_10]
  refine (keys_blk _ _ _ _ _ _ _ _ _).trans ?_
  refine (rope_row m c t (y 0) _ _).trans ?_
  exact ropeR_congr _ _ _ _ _ _ _ _ (Fin.ext e0.symm) e1.symm 1536
theorem final11 (c : Dev nD) : (dats m 0 c).arrAt 11 cfg0.N
    = valueG (V m c main_v39) (V m c main_v40) (V m c main_v41) (V m c main_v42) (V m c main_v38) := by
  refine (dats m 0 c).arrAt_eq_of_covers 11 _ (by decide +kernel) fun t hf y => ?_
  have hi := (idxB t).2.2.2.1
  have ht := lt32 t
  have hy0 : (y 0).val < 512 := (y 0).isLt
  have e0 : (((((cfg0.win 11).blk t).view.emb y) 0 : Fin _) : ℕ) = (rowOf t.val (y 0).val).val := by
    blk_simp [hi]
    show t.val * 512 + (y 0).val = (512 * t.val + (y 0).val) % 16384
    omega
  have e1 : (((((cfg0.win 11).blk t).view.emb y) 1 : Fin _) : ℕ) = (y 1).val := by
    blk_simp [hi]
  blk_simp
  rw [after0_11]
  have hy : y = ix2 (y 0 : Fin 512) (y 1 : Fin 1024) := by funext a; fin_cases a <;> rfl
  conv_lhs => rw [hy]
  refine (values_blk _ _ _ _ _ _ _ _ _ _).trans ((proj_row m c t (y 0) _).trans ?_)
  unfold valueG
  exact congrArg₂ (projR _ _ _ _ _) (Fin.ext e0.symm) (congrArg (2560 + ·) e1.symm)
theorem final12 (c : Dev nD) : (dats m 0 c).arrAt 12 cfg0.N
    = gateG (V m c main_v39) (V m c main_v40) (V m c main_v41) (V m c main_v42) (V m c main_v38) := by
  refine (dats m 0 c).arrAt_eq_of_covers 12 _ (by decide +kernel) fun t hf y => ?_
  have hi := (idxB t).2.2.2.2
  have ht := lt32 t
  have hy0 : (y 0).val < 512 := (y 0).isLt
  have e0 : (((((cfg0.win 12).blk t).view.emb y) 0 : Fin _) : ℕ) = (rowOf t.val (y 0).val).val := by
    blk_simp [hi]
    show t.val * 512 + (y 0).val = (512 * t.val + (y 0).val) % 16384
    omega
  have e1 : (((((cfg0.win 12).blk t).view.emb y) 1 : Fin _) : ℕ) = (y 1).val := by
    blk_simp [hi]
  blk_simp
  rw [after0_12]
  have hy : y = ix2 (y 0 : Fin 512) (y 1 : Fin 2048) := by funext a; fin_cases a <;> rfl
  conv_lhs => rw [hy]
  refine (gates_blk _ _ _ _ _ _ _ _ _ _).trans ?_
  unfold gateG
  refine congrArg (fun z => Ideal.div (Ideal.ofBits .f32 0x3F800000#32) (Ideal.ofBits .f32 0x3F800000#32 + Ideal.exp (0 - z))) ((proj_row m c t (y 0) _).trans ?_)
  exact congrArg₂ (projR _ _ _ _ _) (Fin.ext e0.symm) (congrArg (3584 + ·) e1.symm)
end Cert.Kernel2Ideal.Hand

end
-- ==== Proof.InHost.lean ====
/-
  The host's part of the input projection: the rotation's tables, the weights with a head in each 128 columns, and the
  five results read off the kernel's arrays, each from the program's arguments.
-/
module

public import proofs.«01_k».proof.Proof.InArr

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

section term
variable {F : FTy → Type} [FloatOps F] [Named F]
variable (m : (ℓ : Loc nD τ sig) → Buf (Elt F) ℓ)

/-- The angle of a position and a frequency. -/
def angle : FVec F S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- The cosines' lanes, and the sines' at the first 8 lanes (negative) and at the next 8. -/
def cosT (a : FVec F S8192x8 .f32) : FVec F S8192x128 .f32 :=
  concatenate S8192x128 1 [⟨S8192x8, a⟩, ⟨S8192x8, a⟩, ⟨S8192x112, broadcastInDim S8192x112 ![] bcast_S_S8192x112 (constant S_ .f32 0x3F800000#32)⟩]
    concatenates_S8192x8_S8192x8_S8192x112_S8192x128_d1
def negT (a : FVec F S8192x8 .f32) : FVec F S8192x128 .f32 :=
  concatenate S8192x128 1 [⟨S8192x8, Host.negf a⟩, ⟨S8192x120, broadcastInDim S8192x120 ![] bcast_S_S8192x120 (constant S_ .f32 0x00000000#32)⟩]
    concatenates_S8192x8_S8192x120_S8192x128_d1
def sinT (a : FVec F S8192x8 .f32) : FVec F S8192x128 .f32 :=
  concatenate S8192x128 1 [⟨S8192x8, broadcastInDim S8192x8 ![] bcast_S_S8192x8 (constant S_ .f32 0x00000000#32)⟩, ⟨S8192x8, a⟩,
    ⟨S8192x112, broadcastInDim S8192x112 ![] bcast_S_S8192x112 (constant S_ .f32 0x00000000#32)⟩] concatenates_S8192x8_S8192x8_S8192x112_S8192x128_d1

/-- Eight heads of 64 columns, each in the first half of 128. -/
def widen (x : FVec F S1024x512 .f32) : FVec F S1024x1024 .f32 :=
  shapeCast S1024x1024 (pad S1024x8x128 ![0, 0, 0] ![0, 0, 64] ![0, 0, 0] (shapeCast S1024x8x64 x shapeCasts_S1024x512_S1024x8x64)
    (sitofp .f32 (constantI S_ 32 0#32)) pads_S1024x8x64_S1024x8x128_000_000_0640 h_S_) shapeCasts_S1024x8x128_S1024x1024

/-- Five groups of columns side by side. -/
def join (a : FVec F S1024x512 .f32) (b c d : FVec F S1024x1024 .f32) (e : FVec F S1024x2048 .f32) : FVec F S1024x5632 .f32 :=
  concatenate S1024x5632 1 [⟨S1024x512, a⟩, ⟨S1024x1024, b⟩, ⟨S1024x1024, c⟩, ⟨S1024x1024, d⟩, ⟨S1024x2048, e⟩]
    concatenates_S1024x512_S1024x1024_S1024x1024_S1024x1024_S1024x2048_S1024x5632_d1

/-- The weights as the kernel is handed them. -/
def packed (w : FVec F S1024x4096 .f32) : FVec F S1024x5632 .bf16 :=
  truncf .bf16 (join (extractStridedSlice S1024x512 ![0, 0] w slices_S1024x4096_S1024x512_0_0)
    (widen (extractStridedSlice S1024x512 ![0, 512] w slices_S1024x4096_S1024x512_0_512))
    (widen (extractStridedSlice S1024x512 ![0, 1024] w slices_S1024x4096_S1024x512_0_1024))
    (widen (extractStridedSlice S1024x512 ![0, 1536] w slices_S1024x4096_S1024x512_0_1536))
    (extractStridedSlice S1024x2048 ![0, 2048] w slices_S1024x4096_S1024x2048_0_2048)) bitsLt_bf16_f32

theorem V16 (c : Dev nD) : V m c main_v16 = cosT (Host.cos angle) := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V19 (c : Dev nD) : V m c main_v19 = negT (Host.sin angle) := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V22 (c : Dev nD) : V m c main_v22 = sinT (Host.sin angle) := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V38 (c : Dev nD) : V m c main_v38 = packed (m ((c.tc : Thread nD τ).loc main_arg4)) := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V39 (c : Dev nD) : V m c main_v39 = shapeCast S16384x1024 (m ((c.tc : Thread nD τ).loc main_arg0)) shapeCasts_S2x8192x1024_S16384x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V40 (c : Dev nD) : V m c main_v40 = shapeCast S2x1x1024 (m ((c.tc : Thread nD τ).loc main_arg1)) shapeCasts_S2x1024_S2x1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V41 (c : Dev nD) : V m c main_v41 = shapeCast S2x1x1024 (m ((c.tc : Thread nD τ).loc main_arg2)) shapeCasts_S2x1024_S2x1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V42 (c : Dev nD) : V m c main_v42 = shapeCast S1x1024 (m ((c.tc : Thread nD τ).loc main_arg3)) shapeCasts_S1024_S1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

end term

/-- The heads read off an array of rows by 128 lanes a head: the lower 64 lanes of each, head before position. -/
def heads (x : FVec Ideal S16384x1024 .bf16) : FVec Ideal S2x8x8192x64 .bf16 :=
  transpose S2x8x8192x64 [0, 2, 1, 3] (extractStridedSlice S2x8192x8x64 ![0, 0, 0, 0] (shapeCast S2x8192x8x128 x shapeCasts_S16384x1024_S2x8192x8x128)
    slices_S2x8192x8x128_S2x8192x8x64_0_0_0_0) transposes_S2x8192x8x64_S2x8x8192x64_0_2_1_3

section result
variable (m : (ℓ : Loc nD τ sig) → Buf (Elt Ideal) ℓ)

theorem arr_injective : Function.Injective (Pipeline.arrRef (cfgs 0).spec) := by decide

theorem W44 (c : Dev nD) : Pipeline.afterTail₀ cfgs (dats m) 0 (V0 m) [hostOps1] c main_v44
    = shapeCast S2x8192x512 (poolG (V m c main_v39) (V m c main_v40) (V m c main_v41) (V m c main_v42) (V m c main_v38)) shapeCasts_S16384x512_S2x8192x512 := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v43_0)
      = poolG (V m c main_v39) (V m c main_v40) (V m c main_v41) (V m c main_v42) (V m c main_v38) :=
    (Pipeline.withArrays_arr (cfgs 0).spec arr_injective c (V0 m c) (fun w => (dats m 0 c).arrAt w (cfgs 0).N) 8).trans (final8 m c)
  rw [h]
  rfl

theorem W47 (c : Dev nD) : Pipeline.afterTail₀ cfgs (dats m) 0 (V0 m) [hostOps1] c main_v47
    = heads (queryG (V m c main_v39) (V m c main_v40) (V m c main_v41) (V m c main_v42) (V m c main_v38) (V m c main_v16) (V m c main_v19) (V m c main_v22)) := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v43_1)
      = queryG (V m c main_v39) (V m c main_v40) (V m c main_v41) (V m c main_v42) (V m c main_v38) (V m c main_v16) (V m c main_v19) (V m c main_v22) :=
    (Pipeline.withArrays_arr (cfgs 0).spec arr_injective c (V0 m c) (fun w => (dats m 0 c).arrAt w (cfgs 0).N) 9).trans (final9 m c)
  rw [h]
  rfl

theorem W50 (c : Dev nD) : Pipeline.afterTail₀ cfgs (dats m) 0 (V0 m) [hostOps1] c main_v50
    = heads (keyG (V m c main_v39) (V m c main_v40) (V m c main_v41) (V m c main_v42) (V m c main_v38) (V m c main_v16) (V m c main_v19) (V m c main_v22)) := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v43_2)
      = keyG (V m c main_v39) (V m c main_v40) (V m c main_v41) (V m c main_v42) (V m c main_v38) (V m c main_v16) (V m c main_v19) (V m c main_v22) :=
    (Pipeline.withArrays_arr (cfgs 0).spec arr_injective c (V0 m c) (fun w => (dats m 0 c).arrAt w (cfgs 0).N) 10).trans (final10 m c)
  rw [h]
  rfl

theorem W53 (c : Dev nD) : Pipeline.afterTail₀ cfgs (dats m) 0 (V0 m) [hostOps1] c main_v53
    = heads (valueG (V m c main_v39) (V m c main_v40) (V m c main_v41) (V m c main_v42) (V m c main_v38)) := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v43_3)
      = valueG (V m c main_v39) (V m c main_v40) (V m c main_v41) (V m c main_v42) (V m c main_v38) :=
    (Pipeline.withArrays_arr (cfgs 0).spec arr_injective c (V0 m c) (fun w => (dats m 0 c).arrAt w (cfgs 0).N) 11).trans (final11 m c)
  rw [h]
  rfl

theorem W54 (c : Dev nD) : Pipeline.afterTail₀ cfgs (dats m) 0 (V0 m) [hostOps1] c main_v54
    = shapeCast S2x8192x2048 (gateG (V m c main_v39) (V m c main_v40) (V m c main_v41) (V m c main_v42) (V m c main_v38)) shapeCasts_S16384x2048_S2x8192x2048 := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v43_4)
      = gateG (V m c main_v39) (V m c main_v40) (V m c main_v41) (V m c main_v42) (V m c main_v38) :=
    (Pipeline.withArrays_arr (cfgs 0).spec arr_injective c (V0 m c) (fun w => (dats m 0 c).arrAt w (cfgs 0).N) 12).trans (final12 m c)
  rw [h]
  rfl

end result

theorem heads_at (x : FVec Ideal S16384x1024 .bf16) (b : Fin 2) (h : Fin 8) (s : Fin 8192) (l : Fin 64) :
    heads x (ix4 b h s l) = x (ix2 (⟨8192 * b.val + s.val, by omega⟩ : Fin 16384) (⟨128 * h.val + l.val, by omega⟩ : Fin 1024)) := by
  pointwise [heads]
  refine congrArg₂ (fun a e => x (ix2 a e)) (Fin.ext ?_) (Fin.ext ?_)
  · show b.val * 8192 + s.val = 8192 * b.val + s.val
    omega
  · show h.val * 128 + l.val = 128 * h.val + l.val
    omega

theorem cosT_at (a : FVec Ideal S8192x8 .f32) (s : Fin 8192) (l : Fin 128) :
    cosT a (ix2 s l) = if h0 : l.val < 8 then a (ix2 s ⟨l.val, h0⟩) else if h1 : l.val < 16 then a (ix2 s (⟨l.val - 8, by omega⟩ : Fin 8)) else 1 := by
  pointwise [cosT]
  by_cases h0 : l.val < 8
  · rw [dif_pos h0, dif_pos h0]
  rw [dif_neg h0, dif_neg h0]
  by_cases h1 : l.val < 16
  · rw [dif_pos (by omega : l.val - 8 < 8), dif_pos h1]
  · rw [dif_neg (by omega : ¬ l.val - 8 < 8), dif_neg h1]

theorem negT_at (a : FVec Ideal S8192x8 .f32) (s : Fin 8192) (l : Fin 128) :
    negT a (ix2 s l) = if h0 : l.val < 8 then - a (ix2 s ⟨l.val, h0⟩) else 0 := by
  pointwise [negT]

theorem sinT_at (a : FVec Ideal S8192x8 .f32) (s : Fin 8192) (l : Fin 128) :
    sinT a (ix2 s l) = if h0 : l.val < 8 then 0 else if h1 : l.val < 16 then a (ix2 s (⟨l.val - 8, by omega⟩ : Fin 8)) else 0 := by
  pointwise [sinT]
  by_cases h0 : l.val < 8
  · rw [dif_pos h0, dif_pos h0]
  rw [dif_neg h0, dif_neg h0]
  by_cases h1 : l.val < 16
  · rw [dif_pos (by omega : l.val - 8 < 8), dif_pos h1]
  · rw [dif_neg (by omega : ¬ l.val - 8 < 8), dif_neg h1]

theorem widen_at (x : FVec Ideal S1024x512 .f32) (d : Fin 1024) (h : Fin 8) (l : Fin 128) :
    widen x (ix2 d (⟨128 * h.val + l.val, by omega⟩ : Fin 1024)) = if hl : l.val < 64 then x (ix2 d (⟨64 * h.val + l.val, by omega⟩ : Fin 512)) else 0 := by
  pointwise [widen]
  have h0 : (FloatOps.sitofp (F := Ideal) FTy.f32 0#32 : EReal) = 0 := by
    show (((0#32 : BitVec 32).toInt : ℝ) : EReal) = 0
    simp
  rw [h0]
  by_cases hl : l.val < 64
  · rw [dif_pos hl, dif_pos hl]
    refine congrArg (fun z => x (ix2 d z)) (Fin.ext ?_)
    show h.val * 64 + l.val = 64 * h.val + l.val
    omega
  · rw [dif_neg hl, dif_neg hl]

theorem join_at (a : FVec Ideal S1024x512 .f32) (b c e : FVec Ideal S1024x1024 .f32) (f : FVec Ideal S1024x2048 .f32) (d : Fin 1024) (n : Fin 5632) :
    join a b c e f (ix2 d n) = if h0 : n.val < 512 then a (ix2 d ⟨n.val, h0⟩)
      else if h1 : n.val < 1536 then b (ix2 d (⟨n.val - 512, by omega⟩ : Fin 1024))
      else if h2 : n.val < 2560 then c (ix2 d (⟨n.val - 1536, by omega⟩ : Fin 1024))
      else if h3 : n.val < 3584 then e (ix2 d (⟨n.val - 2560, by omega⟩ : Fin 1024))
      else f (ix2 d (⟨n.val - 3584, by omega⟩ : Fin 2048)) := by
  pointwise [join]
  by_cases h0 : n.val < 512
  · rw [dif_pos h0, dif_pos h0]
  rw [dif_neg h0, dif_neg h0]
  by_cases h1 : n.val < 1536
  · rw [dif_pos (by omega : n.val - 512 < 1024), dif_pos h1]
  rw [dif_neg (by omega : ¬ n.val - 512 < 1024), dif_neg h1]
  by_cases h2 : n.val < 2560
  · rw [dif_pos (by omega : n.val - 512 - 1024 < 1024), dif_pos h2]
    exact congrArg (fun z => c (ix2 d z)) (Fin.ext (by show n.val - 512 - 1024 = n.val - 1536; omega))
  rw [dif_neg (by omega : ¬ n.val - 512 - 1024 < 1024), dif_neg h2]
  by_cases h3 : n.val < 3584
  · rw [dif_pos (by omega : n.val - 512 - 1024 - 1024 < 1024), dif_pos h3]
    exact congrArg (fun z => e (ix2 d z)) (Fin.ext (by show n.val - 512 - 1024 - 1024 = n.val - 2560; omega))
  rw [dif_neg (by omega : ¬ n.val - 512 - 1024 - 1024 < 1024), dif_neg h3]
  exact congrArg (fun z => f (ix2 d z)) (Fin.ext (by show n.val - 512 - 1024 - 1024 - 1024 = n.val - 3584; omega))

/-- A column of the weights as handed to the kernel: the pooling's, a head's (its upper 64 zero), or a gate's. -/
theorem packed_pool (w : FVec Ideal S1024x4096 .f32) (d : Fin 1024) (n : Fin 512) :
    packed w (ix2 d (⟨n.val, by omega⟩ : Fin 5632)) = w (ix2 d (⟨n.val, by omega⟩ : Fin 4096)) := by
  refine (join_at _ _ _ _ _ d _).trans ?_
  rw [dif_pos n.isLt]
  pointwise

theorem packed_gate (w : FVec Ideal S1024x4096 .f32) (d : Fin 1024) (n : Fin 2048) :
    packed w (ix2 d (⟨3584 + n.val, by omega⟩ : Fin 5632)) = w (ix2 d (⟨2048 + n.val, by omega⟩ : Fin 4096)) := by
  refine (join_at _ _ _ _ _ d _).trans ?_
  rw [dif_neg (by show ¬ 3584 + n.val < 512; omega), dif_neg (by show ¬ 3584 + n.val < 1536; omega), dif_neg (by show ¬ 3584 + n.val < 2560; omega),
    dif_neg (by show ¬ 3584 + n.val < 3584; omega)]
  pointwise

theorem packed_query (w : FVec Ideal S1024x4096 .f32) (d : Fin 1024) (h : Fin 8) (l : Fin 128) :
    packed w (ix2 d (⟨512 + (128 * h.val + l.val), by omega⟩ : Fin 5632))
      = if hl : l.val < 64 then w (ix2 d (⟨512 + 64 * h.val + l.val, by omega⟩ : Fin 4096)) else 0 := by
  refine (join_at _ _ _ _ _ d _).trans ?_
  rw [dif_neg (by show ¬ 512 + (128 * h.val + l.val) < 512; omega), dif_pos (by show 512 + (128 * h.val + l.val) < 1536; omega)]
  refine Eq.trans (congrArg (fun z => widen _ (ix2 d z)) (Fin.ext (by show 512 + (128 * h.val + l.val) - 512 = 128 * h.val + l.val; omega))) ((widen_at _ d h l).trans ?_)
  by_cases hl : l.val < 64
  · rw [dif_pos hl, dif_pos hl]
    pointwise
    refine congrArg (fun z => w (ix2 d z)) (Fin.ext ?_)
    show 512 + (64 * h.val + l.val) = 512 + 64 * h.val + l.val
    omega
  · rw [dif_neg hl, dif_neg hl]

theorem packed_key (w : FVec Ideal S1024x4096 .f32) (d : Fin 1024) (h : Fin 8) (l : Fin 128) :
    packed w (ix2 d (⟨1536 + (128 * h.val + l.val), by omega⟩ : Fin 5632))
      = if hl : l.val < 64 then w (ix2 d (⟨1024 + 64 * h.val + l.val, by omega⟩ : Fin 4096)) else 0 := by
  refine (join_at _ _ _ _ _ d _).trans ?_
  rw [dif_neg (by show ¬ 1536 + (128 * h.val + l.val) < 512; omega), dif_neg (by show ¬ 1536 + (128 * h.val + l.val) < 1536; omega),
    dif_pos (by show 1536 + (128 * h.val + l.val) < 2560; omega)]
  refine Eq.trans (congrArg (fun z => widen _ (ix2 d z)) (Fin.ext (by show 1536 + (128 * h.val + l.val) - 1536 = 128 * h.val + l.val; omega))) ((widen_at _ d h l).trans ?_)
  by_cases hl : l.val < 64
  · rw [dif_pos hl, dif_pos hl]
    pointwise
    refine congrArg (fun z => w (ix2 d z)) (Fin.ext ?_)
    show 1024 + (64 * h.val + l.val) = 1024 + 64 * h.val + l.val
    omega
  · rw [dif_neg hl, dif_neg hl]

theorem packed_value (w : FVec Ideal S1024x4096 .f32) (d : Fin 1024) (h : Fin 8) (l : Fin 128) :
    packed w (ix2 d (⟨2560 + (128 * h.val + l.val), by omega⟩ : Fin 5632))
      = if hl : l.val < 64 then w (ix2 d (⟨1536 + 64 * h.val + l.val, by omega⟩ : Fin 4096)) else 0 := by
  refine (join_at _ _ _ _ _ d _).trans ?_
  rw [dif_neg (by show ¬ 2560 + (128 * h.val + l.val) < 512; omega), dif_neg (by show ¬ 2560 + (128 * h.val + l.val) < 1536; omega),
    dif_neg (by show ¬ 2560 + (128 * h.val + l.val) < 2560; omega), dif_pos (by show 2560 + (128 * h.val + l.val) < 3584; omega)]
  refine Eq.trans (congrArg (fun z => widen _ (ix2 d z)) (Fin.ext (by show 2560 + (128 * h.val + l.val) - 2560 = 128 * h.val + l.val; omega))) ((widen_at _ d h l).trans ?_)
  by_cases hl : l.val < 64
  · rw [dif_pos hl, dif_pos hl]
    pointwise
    refine congrArg (fun z => w (ix2 d z)) (Fin.ext ?_)
    show 1536 + (64 * h.val + l.val) = 1536 + 64 * h.val + l.val
    omega
  · rw [dif_neg hl, dif_neg hl]

end Cert.Kernel2Ideal.Hand

end
-- ==== Proof.InRef.lean ====
/-
  The input projection's reference at a place: the normalised row, its product with the weights, the heads' lanes
  before and after the rotation, and the gates.
-/
module

public import proofs.«01_k».proof.Proof.InPay
public import proofs.«01_k».proof.Proof.Gen.Reference2Ideal.Run

@[expose] public section

set_option maxRecDepth 16384

noncomputable section

namespace Cert.Reference2Ideal.Hand

open Cert.Reference2Ideal Cert.Reference2Ideal.Gen
open Idealize.ShloMosaic Idealize.ShloMosaic.TcCoe Idealize.ShloMosaic.Tactic Idealize.SL.Sem
open Cert.Kernel2Ideal.Hand (normAt)

section term
variable {F : FTy → Type} [FloatOps F]
variable (x : FVec F S2x8192x1024 .f32) (sh sc : FVec F S2x1024 .f32) (g : FVec F S1024 .f32) (w : FVec F S1024x4096 .f32)

/-- The rows, normalised and modulated. -/
def hidden : FVec F S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc)))) (broadcastInDim S2x8192x1024 ![0, 1, 2] bcast_S2x1x1024_S2x8192x1024_0_1_2 (broadcastInDim S2x1x1024 ![0, 2] bcast_S2x1024_S2x1x1024_0_2 sh))

/-- Their product with the weights. -/
def proj (h : FVec F S2x8192x1024 .f32) : FVec F S2x8192x4096 .f32 :=
  Host.dotGeneral dot_S2x8192x1024_S1024x4096_S2x8192x4096_2_0_01_1_n_n none h w

/-- The columns of the queries, keys and values, by part and head. -/
def parts (p : FVec F S2x8192x4096 .f32) : FVec F S3x2x8x8192x64 .f32 :=
  transpose S3x2x8x8192x64 [2, 0, 3, 1, 4] (shapeCast S2x8192x3x8x64 (extractStridedSlice S2x8192x1536 ![0, 0, 512] p slices_S2x8192x4096_S2x8192x1536_0_0_512) shapeCasts_S2x8192x1536_S2x8192x3x8x64) transposes_S2x8192x3x8x64_S3x2x8x8192x64_2_0_3_1_4

def part0 (p : FVec F S2x8192x4096 .f32) : FVec F S2x8x8192x64 .f32 :=
  shapeCast S2x8x8192x64 (extractStridedSlice S1x2x8x8192x64 ![0, 0, 0, 0, 0] (parts p) slices_S3x2x8x8192x64_S1x2x8x8192x64_0_0_0_0_0) shapeCasts_S1x2x8x8192x64_S2x8x8192x64
def part1 (p : FVec F S2x8192x4096 .f32) : FVec F S2x8x8192x64 .f32 :=
  shapeCast S2x8x8192x64 (extractStridedSlice S1x2x8x8192x64 ![1, 0, 0, 0, 0] (parts p) slices_S3x2x8x8192x64_S1x2x8x8192x64_1_0_0_0_0) shapeCasts_S1x2x8x8192x64_S2x8x8192x64
def part2 (p : FVec F S2x8192x4096 .f32) : FVec F S2x8x8192x64 .f32 :=
  shapeCast S2x8x8192x64 (extractStridedSlice S1x2x8x8192x64 ![2, 0, 0, 0, 0] (parts p) slices_S3x2x8x8192x64_S1x2x8x8192x64_2_0_0_0_0) shapeCasts_S1x2x8x8192x64_S2x8x8192x64

/-- The angle of a position and a frequency. -/
def angle : FVec F S8192x8 .f32 :=
  mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- A table of positions by frequencies, for every batch and head. -/
def spread (t : FVec F S8192x8 .f32) : FVec F S2x8x8192x8 .f32 :=
  broadcastInDim S2x8x8192x8 ![0, 1, 2, 3] bcast_S1x1x8192x8_S2x8x8192x8_0_1_2_3 (broadcastInDim S1x1x8192x8 ![2, 3] bcast_S8192x8_S1x1x8192x8_2_3 t)

/-- The rotation of the first 16 lanes of every head. -/
def turned (a : FVec F S2x8x8192x64 .f32) (ct st : FVec F S8192x8 .f32) : FVec F S2x8x8192x64 .f32 :=
  concatenate S2x8x8192x64 3 [
    ⟨S2x8x8192x8, subf (mulf (extractStridedSlice S2x8x8192x8 ![0, 0, 0, 0] a slices_S2x8x8192x64_S2x8x8192x8_0_0_0_0) (spread ct)) (mulf (extractStridedSlice S2x8x8192x8 ![0, 0, 0, 8] a slices_S2x8x8192x64_S2x8x8192x8_0_0_0_8) (spread st))⟩,
    ⟨S2x8x8192x8, addf (mulf (extractStridedSlice S2x8x8192x8 ![0, 0, 0, 0] a slices_S2x8x8192x64_S2x8x8192x8_0_0_0_0) (spread st)) (mulf (extractStridedSlice S2x8x8192x8 ![0, 0, 0, 8] a slices_S2x8x8192x64_S2x8x8192x8_0_0_0_8) (spread ct))⟩,
    ⟨S2x8x8192x48, extractStridedSlice S2x8x8192x48 ![0, 0, 0, 16] a slices_S2x8x8192x64_S2x8x8192x48_0_0_0_16⟩] concatenates_S2x8x8192x8_S2x8x8192x8_S2x8x8192x48_S2x8x8192x64_d3

def queries (p : FVec F S2x8192x4096 .f32) : FVec F S2x8x8192x64 .bf16 :=
  truncf .bf16 (mulf (turned (part0 p) (Host.cos angle) (Host.sin angle)) (broadcastInDim S2x8x8192x64 ![] bcast_S_S2x8x8192x64 (constant S_ .f32 0x3E000000#32))) bitsLt_bf16_f32
def keys (p : FVec F S2x8192x4096 .f32) : FVec F S2x8x8192x64 .bf16 :=
  truncf .bf16 (turned (part1 p) (Host.cos angle) (Host.sin angle)) bitsLt_bf16_f32
def values (p : FVec F S2x8192x4096 .f32) : FVec F S2x8x8192x64 .bf16 := truncf .bf16 (part2 p) bitsLt_bf16_f32
def pooled (p : FVec F S2x8192x4096 .f32) : FVec F S2x8192x512 .f32 := extractStridedSlice S2x8192x512 ![0, 0, 0] p slices_S2x8192x4096_S2x8192x512_0_0_0
def gates (p : FVec F S2x8192x4096 .f32) : FVec F S2x8192x2048 .f32 :=
  Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (extractStridedSlice S2x8192x2048 ![0, 0, 2048] p slices_S2x8192x4096_S2x8192x2048_0_0_2048))))

/-- The product, from the memory the program starts in. -/
def projM (m : (ℓ : Loc nD τ sig) → Buf (Elt F) ℓ) (c : Dev nD) : FVec F S2x8192x4096 .f32 :=
  proj (m ((c.tc : Thread nD τ).loc main_arg4)) (hidden (m ((c.tc : Thread nD τ).loc main_arg0)) (m ((c.tc : Thread nD τ).loc main_arg1)) (m ((c.tc : Thread nD τ).loc main_arg2)) (m ((c.tc : Thread nD τ).loc main_arg3)))

set_option maxHeartbeats 4000000 in
theorem queries_eq (m : (ℓ : Loc nD τ sig) → Buf (Elt F) ℓ) (c : Dev nD) : Value.res_main_v90 m c = queries (projM m c) := by
  unfold Value.res_main_v90 queries turned spread part0 parts angle projM proj hidden
  rfl

set_option maxHeartbeats 4000000 in
theorem keys_eq (m : (ℓ : Loc nD τ sig) → Buf (Elt F) ℓ) (c : Dev nD) : Value.res_main_v91 m c = keys (projM m c) := by
  unfold Value.res_main_v91 keys turned spread part1 parts angle projM proj hidden
  rfl

/-- The reference's run: each result as a function of the product, the arguments as they were. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = pooled (projM m c)
      ∧ r.2.mem ((c.tc : Thread nD τ).loc main_v90) = queries (projM m c)
      ∧ r.2.mem ((c.tc : Thread nD τ).loc main_v91) = keys (projM m c)
      ∧ r.2.mem ((c.tc : Thread nD τ).loc main_v94) = values (projM m c)
      ∧ r.2.mem ((c.tc : Thread nD τ).loc main_v89) = gates (projM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans (queries_eq m c), (h c).2.2.1.trans (keys_eq m c),
    (h c).2.2.2.1.trans rfl, (h c).2.2.2.2.1.trans rfl, (h c).2.2.2.2.2⟩) (Value.run m ρ)

end term

theorem hidden_at (x : FVec Ideal S2x8192x1024 .f32) (sh sc : FVec Ideal S2x1024 .f32) (g : FVec Ideal S1024 .f32) (b : Fin 2) (s : Fin 8192) (d : Fin 1024) :
    hidden x sh sc g (ix3 b s d) = normAt (fun e => x (ix3 b s e)) (fun e => g (ix1 e)) (fun e => sh (ix2 b e)) (fun e => sc (ix2 b e)) d := by
  pointwise [hidden, normAt]

theorem proj_at (w : FVec Ideal S1024x4096 .f32) (h : FVec Ideal S2x8192x1024 .f32) (b : Fin 2) (s : Fin 8192) (n : Fin 4096) :
    proj w h (ix3 b s n) = ∑ d : Fin 1024, h (ix3 b s d) * w (ix2 d n) := by
  pointwise [proj]

theorem parts_at (p : FVec Ideal S2x8192x4096 .f32) (i : Fin 3) (b : Fin 2) (h : Fin 8) (s : Fin 8192) (l : Fin 64) :
    parts p (ix5 i b h s l) = p (ix3 b s (⟨512 + 512 * i.val + 64 * h.val + l.val, by omega⟩ : Fin 4096)) := by
  pointwise [parts]
  refine congrArg p (congrArg (ix3 b s) (Fin.ext ?_))
  show 512 + (i.val * 512 + h.val * 64 + l.val) = 512 + 512 * i.val + 64 * h.val + l.val
  omega

theorem part0_at (p : FVec Ideal S2x8192x4096 .f32) (b : Fin 2) (h : Fin 8) (s : Fin 8192) (l : Fin 64) :
    part0 p (ix4 b h s l) = parts p (ix5 0 b h s l) := by
  pointwise [part0]
theorem part1_at (p : FVec Ideal S2x8192x4096 .f32) (b : Fin 2) (h : Fin 8) (s : Fin 8192) (l : Fin 64) :
    part1 p (ix4 b h s l) = parts p (ix5 1 b h s l) := by
  pointwise [part1]
theorem part2_at (p : FVec Ideal S2x8192x4096 .f32) (b : Fin 2) (h : Fin 8) (s : Fin 8192) (l : Fin 64) :
    part2 p (ix4 b h s l) = parts p (ix5 2 b h s l) := by
  pointwise [part2]

theorem turned_at (a : FVec Ideal S2x8x8192x64 .f32) (ct st : FVec Ideal S8192x8 .f32) (b : Fin 2) (h : Fin 8) (s : Fin 8192) (l : Fin 64) :
    turned a ct st (ix4 b h s l)
      = if h0 : l.val < 8 then a (ix4 b h s l) * ct (ix2 s ⟨l.val, h0⟩) - a (ix4 b h s (⟨l.val + 8, by omega⟩ : Fin 64)) * st (ix2 s ⟨l.val, h0⟩)
        else if h1 : l.val < 16 then
          a (ix4 b h s (⟨l.val - 8, by omega⟩ : Fin 64)) * st (ix2 s (⟨l.val - 8, by omega⟩ : Fin 8)) + a (ix4 b h s l) * ct (ix2 s (⟨l.val - 8, by omega⟩ : Fin 8))
        else a (ix4 b h s l) := by
  pointwise [turned, spread]
  have hl := l.isLt
  by_cases h0 : l.val < 8
  · rw [dif_pos h0, dif_pos h0]
    refine congrArg (fun z => _ - a (ix4 b h s z) * _) (Fin.ext ?_)
    show 8 + l.val = l.val + 8
    omega
  · rw [dif_neg h0, dif_neg h0]
    by_cases h1 : l.val < 16
    · rw [dif_pos (by omega : l.val - 8 < 8), dif_pos h1]
      refine congrArg (fun z => _ + a (ix4 b h s z) * _) (Fin.ext ?_)
      show 8 + (l.val - 8) = l.val
      omega
    · rw [dif_neg (by omega : ¬ l.val - 8 < 8), dif_neg h1]
      refine congrArg (fun z => a (ix4 b h s z)) (Fin.ext ?_)
      show 16 + (l.val - 8 - 8) = l.val
      omega

theorem gates_at (p : FVec Ideal S2x8192x4096 .f32) (b : Fin 2) (s : Fin 8192) (n : Fin 2048) :
    gates p (ix3 b s n) = Ideal.div (Ideal.ofBits .f32 0x3F800000#32) (Ideal.ofBits .f32 0x3F800000#32
      + Ideal.exp (- p (ix3 b s (⟨2048 + n.val, by omega⟩ : Fin 4096)))) := by
  pointwise [gates]

theorem pooled_at (p : FVec Ideal S2x8192x4096 .f32) (b : Fin 2) (s : Fin 8192) (n : Fin 512) :
    pooled p (ix3 b s n) = p (ix3 b s (⟨n.val, by omega⟩ : Fin 4096)) := by
  pointwise [pooled]

end Cert.Reference2Ideal.Hand

end
-- ==== Proof.InValue.lean ====
/-
  The input projection's kernel against its reference: each of the five results is the reference's at every place.
-/
module

public import proofs.«01_k».proof.Proof.InHost
public import proofs.«01_k».proof.Proof.InRef

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

/-- Row `s` of batch `b`, in the arrays of 16384 rows. -/
abbrev rowAt (b : Fin 2) (s : Fin 8192) : Fin 16384 := ⟨8192 * b.val + s.val, by omega⟩

theorem flat_x (x : FVec Ideal S2x8192x1024 .f32) (b : Fin 2) (s : Fin 8192) (d : Fin 1024) :
    shapeCast S16384x1024 x shapeCasts_S2x8192x1024_S16384x1024 (ix2 (rowAt b s) d) = x (ix3 b s d) := by
  pointwise
  refine congrArg₂ (fun u v => x (ix3 u v d)) (Fin.ext ?_) (Fin.ext ?_)
  · show (8192 * b.val + s.val) / 8192 = b.val
    omega
  · show (8192 * b.val + s.val) % 8192 = s.val
    omega

theorem flat_b (x : FVec Ideal S2x1024 .f32) (b : Fin 2) (d : Fin 1024) :
    shapeCast S2x1x1024 x shapeCasts_S2x1024_S2x1x1024 (ix3 b 0 d) = x (ix2 b d) := by
  pointwise

theorem flat_g (x : FVec Ideal S1024 .f32) (d : Fin 1024) :
    shapeCast S1x1024 x shapeCasts_S1024_S1x1024 (ix2 0 d) = x (ix1 d) := by
  pointwise

section args
variable (x : FVec Ideal S2x8192x1024 .f32) (sh sc : FVec Ideal S2x1024 .f32) (g : FVec Ideal S1024 .f32) (w : FVec Ideal S1024x4096 .f32)

/-- The kernel's arrays of the arguments. -/
abbrev kx : Vec Ideal S16384x1024 .f32 := shapeCast S16384x1024 x shapeCasts_S2x8192x1024_S16384x1024
abbrev kb : Vec Ideal S2x1x1024 .f32 := shapeCast S2x1x1024 sh shapeCasts_S2x1024_S2x1x1024
abbrev kg : Vec Ideal S1x1024 .f32 := shapeCast S1x1024 g shapeCasts_S1024_S1x1024

theorem hid_eq (b : Fin 2) (s : Fin 8192) (d : Fin 1024) :
    hidR (kx x) (kb sh) (kb sc) (kg g) (rowAt b s) d = Cert.Reference2Ideal.Hand.hidden x sh sc g (ix3 b s d) := by
  rw [Cert.Reference2Ideal.Hand.hidden_at]
  unfold hidR
  have hb : (⟨(rowAt b s).val / 8192, by omega⟩ : Fin 2) = b := Fin.ext (by show (8192 * b.val + s.val) / 8192 = b.val; omega)
  refine normAt_congr (fun e => flat_x x b s e) (fun e => flat_g g e) (fun e => ?_) (fun e => ?_) d
  · exact (congrArg (fun z => kb sh (ix3 z 0 e)) hb).trans (flat_b sh b e)
  · exact (congrArg (fun z => kb sc (ix3 z 0 e)) hb).trans (flat_b sc b e)

/-- The reference's product. -/
abbrev rp : FVec Ideal Cert.Reference2Ideal.S2x8192x4096 .f32 := Cert.Reference2Ideal.Hand.proj w (Cert.Reference2Ideal.Hand.hidden x sh sc g)

theorem projR_of (b : Fin 2) (s : Fin 8192) (n : ℕ) (n' : Fin 4096)
    (h : ∀ d : Fin 1024, packed w (ix2 d (⟨n % 5632, Nat.mod_lt _ (by decide)⟩ : Fin 5632)) = w (ix2 d n')) :
    projR (kx x) (kb sh) (kb sc) (kg g) (packed w) (rowAt b s) n = rp x sh sc g w (ix3 b s n') := by
  refine Eq.trans ?_ (Cert.Reference2Ideal.Hand.proj_at w (Cert.Reference2Ideal.Hand.hidden x sh sc g) b s n').symm
  unfold projR
  exact Finset.sum_congr rfl fun d _ => by rw [hid_eq, h]

theorem pool_eq (b : Fin 2) (s : Fin 8192) (n : Fin 512) :
    poolG (kx x) (kb sh) (kb sc) (kg g) (packed w) (ix2 (rowAt b s) n) = rp x sh sc g w (ix3 b s (⟨n.val, by omega⟩ : Fin 4096)) := by
  refine projR_of x sh sc g w b s n.val _ fun d => ?_
  refine Eq.trans (congrArg (fun z => packed w (ix2 d z)) (Fin.ext ?_)) (packed_pool w d n)
  show n.val % 5632 = n.val
  omega

theorem gate_eq (b : Fin 2) (s : Fin 8192) (n : Fin 2048) :
    gateG (kx x) (kb sh) (kb sc) (kg g) (packed w) (ix2 (rowAt b s) n)
      = Cert.Reference2Ideal.Hand.gates (rp x sh sc g w) (ix3 b s n) := by
  rw [Cert.Reference2Ideal.Hand.gates_at, ← zero_sub]
  refine congrArg (fun z => Ideal.div (Ideal.ofBits .f32 0x3F800000#32) (Ideal.ofBits .f32 0x3F800000#32 + Ideal.exp (0 - z))) ?_
  refine projR_of x sh sc g w b s (3584 + n.val) _ fun d => ?_
  refine Eq.trans (congrArg (fun z => packed w (ix2 d z)) (Fin.ext ?_)) (packed_gate w d n)
  show (3584 + n.val) % 5632 = 3584 + n.val
  omega

theorem value_eq (b : Fin 2) (s : Fin 8192) (h : Fin 8) (l : Fin 64) :
    valueG (kx x) (kb sh) (kb sc) (kg g) (packed w) (ix2 (rowAt b s) (⟨128 * h.val + l.val, by omega⟩ : Fin 1024))
      = rp x sh sc g w (ix3 b s (⟨1536 + 64 * h.val + l.val, by omega⟩ : Fin 4096)) := by
  refine projR_of x sh sc g w b s (2560 + (128 * h.val + l.val)) _ fun d => ?_
  refine Eq.trans (congrArg (fun z => packed w (ix2 d z)) (Fin.ext ?_)) ((packed_value w d h (⟨l.val, by omega⟩ : Fin 128)).trans (dif_pos l.isLt))
  show (2560 + (128 * h.val + l.val)) % 5632 = 2560 + (128 * h.val + l.val)
  omega

theorem query_proj (b : Fin 2) (s : Fin 8192) (h : Fin 8) (l : Fin 64) :
    projR (kx x) (kb sh) (kb sc) (kg g) (packed w) (rowAt b s) (512 + 128 * h.val + l.val)
      = rp x sh sc g w (ix3 b s (⟨512 + 64 * h.val + l.val, by omega⟩ : Fin 4096)) := by
  refine projR_of x sh sc g w b s _ _ fun d => ?_
  refine Eq.trans (congrArg (fun z => packed w (ix2 d z)) (Fin.ext ?_)) ((packed_query w d h (⟨l.val, by omega⟩ : Fin 128)).trans (dif_pos l.isLt))
  show (512 + 128 * h.val + l.val) % 5632 = 512 + (128 * h.val + l.val)
  omega

theorem key_proj (b : Fin 2) (s : Fin 8192) (h : Fin 8) (l : Fin 64) :
    projR (kx x) (kb sh) (kb sc) (kg g) (packed w) (rowAt b s) (1536 + 128 * h.val + l.val)
      = rp x sh sc g w (ix3 b s (⟨1024 + 64 * h.val + l.val, by omega⟩ : Fin 4096)) := by
  refine projR_of x sh sc g w b s _ _ fun d => ?_
  refine Eq.trans (congrArg (fun z => packed w (ix2 d z)) (Fin.ext ?_)) ((packed_key w d h (⟨l.val, by omega⟩ : Fin 128)).trans (dif_pos l.isLt))
  show (1536 + 128 * h.val + l.val) % 5632 = 1536 + (128 * h.val + l.val)
  omega

end args

/-- The three products of a lane are the rotation. -/
theorem rope_lane (P : ℕ → EReal) (ct st : FVec Ideal S8192x8 .f32) (s : Fin 8192) (l : Fin 64) :
    P l.val * cosT ct (ix2 s (⟨l.val, by omega⟩ : Fin 128)) + P ((l.val + 8) % 128) * negT st (ix2 s (⟨l.val, by omega⟩ : Fin 128))
        + P ((l.val + 120) % 128) * sinT st (ix2 s (⟨l.val, by omega⟩ : Fin 128))
      = if h0 : l.val < 8 then P l.val * ct (ix2 s ⟨l.val, h0⟩) - P (l.val + 8) * st (ix2 s ⟨l.val, h0⟩)
        else if h1 : l.val < 16 then P (l.val - 8) * st (ix2 s (⟨l.val - 8, by omega⟩ : Fin 8)) + P l.val * ct (ix2 s (⟨l.val - 8, by omega⟩ : Fin 8))
        else P l.val := by
  have hl := l.isLt
  rw [cosT_at, negT_at, sinT_at]
  by_cases h0 : l.val < 8
  · rw [dif_pos h0, dif_pos h0, dif_pos h0, dif_pos h0, mul_zero, add_zero, mul_neg, ← sub_eq_add_neg, Nat.mod_eq_of_lt (by omega : l.val + 8 < 128)]
  rw [dif_neg h0, dif_neg h0, dif_neg h0, dif_neg h0, mul_zero, add_zero]
  by_cases h1 : l.val < 16
  · rw [dif_pos h1, dif_pos h1, dif_pos h1, add_comm, show (l.val + 120) % 128 = l.val - 8 by omega]
  · rw [dif_neg h1, dif_neg h1, dif_neg h1, mul_zero, add_zero, mul_one]

/-- A rotated head at a lane, when its columns are the array `a`'s. -/
theorem rope_eq (X : Vec Ideal S16384x1024 .f32) (Sh Sc : Vec Ideal S2x1x1024 .f32) (G : Vec Ideal S1x1024 .f32) (W : Vec Ideal S1024x5632 .bf16)
    (ct st : FVec Ideal S8192x8 .f32) (a : FVec Ideal S2x8x8192x64 .f32) (b : Fin 2) (s : Fin 8192) (h : Fin 8) (o : ℕ)
    (ha : ∀ l : Fin 64, projR X Sh Sc G W (rowAt b s) (o + l.val) = a (ix4 b h s l)) (l : Fin 64) :
    ropeR X Sh Sc G W (cosT ct) (negT st) (sinT st) (rowAt b s) o (⟨l.val, by omega⟩ : Fin 128) = Cert.Reference2Ideal.Hand.turned a ct st (ix4 b h s l) := by
  have hs : (⟨(rowAt b s).val % 8192, Nat.mod_lt _ (by decide)⟩ : Fin 8192) = s := Fin.ext (by show (8192 * b.val + s.val) % 8192 = s.val; omega)
  have hl := l.isLt
  rw [Cert.Reference2Ideal.Hand.turned_at]
  unfold ropeR
  rw [hs]
  refine (rope_lane (fun n => projR X Sh Sc G W (rowAt b s) (o + n)) ct st s l).trans ?_
  by_cases h0 : l.val < 8
  · rw [dif_pos h0, dif_pos h0]
    exact congrArg₂ (fun u v => u * _ - v * _) (ha l) (ha (⟨l.val + 8, by omega⟩ : Fin 64))
  rw [dif_neg h0, dif_neg h0]
  by_cases h1 : l.val < 16
  · rw [dif_pos h1, dif_pos h1]
    exact congrArg₂ (fun u v => u * _ + v * _) (ha (⟨l.val - 8, by omega⟩ : Fin 64)) (ha l)
  · rw [dif_neg h1, dif_neg h1]
    exact ha l

section args
variable (x : FVec Ideal S2x8192x1024 .f32) (sh sc : FVec Ideal S2x1024 .f32) (g : FVec Ideal S1024 .f32) (w : FVec Ideal S1024x4096 .f32)
  (ct st : FVec Ideal S8192x8 .f32)

theorem query_eq (b : Fin 2) (s : Fin 8192) (h : Fin 8) (l : Fin 64) :
    queryG (kx x) (kb sh) (kb sc) (kg g) (packed w) (cosT ct) (negT st) (sinT st) (ix2 (rowAt b s) (⟨128 * h.val + l.val, by omega⟩ : Fin 1024))
      = Cert.Reference2Ideal.Hand.turned (Cert.Reference2Ideal.Hand.part0 (rp x sh sc g w)) ct st (ix4 b h s l) * Ideal.ofBits .f32 0x3E000000#32 := by
  have hl := l.isLt
  refine congrArg (· * Ideal.ofBits .f32 0x3E000000#32) ?_
  refine Eq.trans ?_ (rope_eq (kx x) (kb sh) (kb sc) (kg g) (packed w) ct st (Cert.Reference2Ideal.Hand.part0 (rp x sh sc g w)) b s h (512 + 128 * h.val) (fun l' => ?_) l)
  · exact congrArg₂ (fun o e => ropeR (kx x) (kb sh) (kb sc) (kg g) (packed w) (cosT ct) (negT st) (sinT st) (rowAt b s) o e)
      (by show 512 + 128 * ((128 * h.val + l.val) / 128) = 512 + 128 * h.val; omega)
      (Fin.ext (by show (128 * h.val + l.val) % 128 = l.val; omega))
  · rw [Cert.Reference2Ideal.Hand.part0_at, Cert.Reference2Ideal.Hand.parts_at]
    exact (query_proj x sh sc g w b s h l').trans (congrArg (fun z => rp x sh sc g w (ix3 b s z)) (Fin.ext (by
      show 512 + 64 * h.val + l'.val = 512 + 512 * (0 : Fin 3).val + 64 * h.val + l'.val
      simp)))

theorem key_eq (b : Fin 2) (s : Fin 8192) (h : Fin 8) (l : Fin 64) :
    keyG (kx x) (kb sh) (kb sc) (kg g) (packed w) (cosT ct) (negT st) (sinT st) (ix2 (rowAt b s) (⟨128 * h.val + l.val, by omega⟩ : Fin 1024))
      = Cert.Reference2Ideal.Hand.turned (Cert.Reference2Ideal.Hand.part1 (rp x sh sc g w)) ct st (ix4 b h s l) := by
  have hl := l.isLt
  refine Eq.trans ?_ (rope_eq (kx x) (kb sh) (kb sc) (kg g) (packed w) ct st (Cert.Reference2Ideal.Hand.part1 (rp x sh sc g w)) b s h (1536 + 128 * h.val) (fun l' => ?_) l)
  · exact congrArg₂ (fun o e => ropeR (kx x) (kb sh) (kb sc) (kg g) (packed w) (cosT ct) (negT st) (sinT st) (rowAt b s) o e)
      (by show 1536 + 128 * ((128 * h.val + l.val) / 128) = 1536 + 128 * h.val; omega)
      (Fin.ext (by show (128 * h.val + l.val) % 128 = l.val; omega))
  · rw [Cert.Reference2Ideal.Hand.part1_at, Cert.Reference2Ideal.Hand.parts_at]
    exact (key_proj x sh sc g w b s h l').trans (congrArg (fun z => rp x sh sc g w (ix3 b s z)) (Fin.ext (by
      show 1024 + 64 * h.val + l'.val = 512 + 512 * (1 : Fin 3).val + 64 * h.val + l'.val
      simp)))

/-- The pooling's columns are the reference's. -/
theorem pooled_result : shapeCast S2x8192x512 (poolG (kx x) (kb sh) (kb sc) (kg g) (packed w)) shapeCasts_S16384x512_S2x8192x512
    = Cert.Reference2Ideal.Hand.pooled (rp x sh sc g w) := by
  funext y
  obtain ⟨b, s, n, rfl⟩ : ∃ (b : Fin 2) (s : Fin 8192) (n : Fin 512), y = ix3 b s n :=
    ⟨y 0, y 1, y 2, by funext a; fin_cases a <;> rfl⟩
  refine Eq.trans ?_ ((pool_eq x sh sc g w b s n).trans (Cert.Reference2Ideal.Hand.pooled_at _ b s n).symm)
  generalize poolG (kx x) (kb sh) (kb sc) (kg g) (packed w) = P
  pointwise
  refine congrArg (fun z => P (ix2 z n)) (Fin.ext ?_)
  show b.val * 8192 + s.val = 8192 * b.val + s.val
  omega

/-- The gates are the reference's. -/
theorem gates_result : shapeCast S2x8192x2048 (gateG (kx x) (kb sh) (kb sc) (kg g) (packed w)) shapeCasts_S16384x2048_S2x8192x2048
    = Cert.Reference2Ideal.Hand.gates (rp x sh sc g w) := by
  funext y
  obtain ⟨b, s, n, rfl⟩ : ∃ (b : Fin 2) (s : Fin 8192) (n : Fin 2048), y = ix3 b s n :=
    ⟨y 0, y 1, y 2, by funext a; fin_cases a <;> rfl⟩
  refine Eq.trans ?_ (gate_eq x sh sc g w b s n)
  generalize gateG (kx x) (kb sh) (kb sc) (kg g) (packed w) = P
  pointwise
  refine congrArg (fun z => P (ix2 z n)) (Fin.ext ?_)
  show b.val * 8192 + s.val = 8192 * b.val + s.val
  omega

theorem angle_eq : (angle : FVec Ideal S8192x8 .f32) = Cert.Reference2Ideal.Hand.angle := rfl

/-- The queries are the reference's. -/
theorem queries_result :
    heads (queryG (kx x) (kb sh) (kb sc) (kg g) (packed w) (cosT (F := Ideal) (Host.cos (angle (F := Ideal)))) (negT (F := Ideal) (Host.sin (angle (F := Ideal)))) (sinT (F := Ideal) (Host.sin (angle (F := Ideal)))))
      = Cert.Reference2Ideal.Hand.queries (rp x sh sc g w) := by
  funext y
  obtain ⟨b, h, s, l, rfl⟩ : ∃ (b : Fin 2) (h : Fin 8) (s : Fin 8192) (l : Fin 64), y = ix4 b h s l :=
    ⟨y 0, y 1, y 2, y 3, by funext a; fin_cases a <;> rfl⟩
  rw [heads_at, angle_eq]
  exact query_eq x sh sc g w _ _ b s h l

/-- The keys are the reference's. -/
theorem keys_result :
    heads (keyG (kx x) (kb sh) (kb sc) (kg g) (packed w) (cosT (F := Ideal) (Host.cos (angle (F := Ideal)))) (negT (F := Ideal) (Host.sin (angle (F := Ideal)))) (sinT (F := Ideal) (Host.sin (angle (F := Ideal)))))
      = Cert.Reference2Ideal.Hand.keys (rp x sh sc g w) := by
  funext y
  obtain ⟨b, h, s, l, rfl⟩ : ∃ (b : Fin 2) (h : Fin 8) (s : Fin 8192) (l : Fin 64), y = ix4 b h s l :=
    ⟨y 0, y 1, y 2, y 3, by funext a; fin_cases a <;> rfl⟩
  rw [heads_at, angle_eq]
  exact key_eq x sh sc g w _ _ b s h l

/-- The values are the reference's. -/
theorem values_result : heads (valueG (kx x) (kb sh) (kb sc) (kg g) (packed w)) = Cert.Reference2Ideal.Hand.values (rp x sh sc g w) := by
  funext y
  obtain ⟨b, h, s, l, rfl⟩ : ∃ (b : Fin 2) (h : Fin 8) (s : Fin 8192) (l : Fin 64), y = ix4 b h s l :=
    ⟨y 0, y 1, y 2, y 3, by funext a; fin_cases a <;> rfl⟩
  rw [heads_at]
  refine (value_eq x sh sc g w b s h l).trans ?_
  refine Eq.trans ?_
    (show Cert.Reference2Ideal.Hand.part2 (rp x sh sc g w) (ix4 b h s l) = Cert.Reference2Ideal.Hand.values (rp x sh sc g w) (ix4 b h s l) from rfl)
  refine Eq.trans ?_ ((Cert.Reference2Ideal.Hand.part2_at _ b h s l).trans (Cert.Reference2Ideal.Hand.parts_at _ 2 b h s l)).symm
  exact congrArg (fun z => rp x sh sc g w (ix3 b s z)) (Fin.ext (by
      show 1536 + 64 * h.val + l.val = 512 + 512 * (2 : Fin 3).val + 64 * h.val + l.val
      simp))

end args

end Cert.Kernel2Ideal.Hand

end
-- ==== Proof.InClaims.lean ====
/-
  The input projection's claims: its programs' frames and the equality of the five results with the reference's.
-/
module

public import proofs.«01_k».proof.Defs
public import proofs.«01_k».proof.Proof.InValue
public import proofs.«01_k».proof.Proof.Gen.Kernel2.Frame

@[expose] public section

set_option maxRecDepth 16384

noncomputable section

namespace Cert.Proof

open Idealize.ShloMosaic Idealize.SL.Sem

theorem frame_k2 : Cert.quiescent_Kernel2 (hKernel2 := Cert.Kernel2.Gen.facts) := fun m g _ => Cert.Kernel2.Gen.frame m g

theorem frame_ki2 : Cert.quiescent_Kernel2Ideal (hKernel2Ideal := Cert.Kernel2Ideal.Gen.facts) := fun m g _ => Cert.Kernel2Ideal.Gen.frame m g

theorem frame_ri2 : Cert.quiescent_Reference2Ideal (hReference2Ideal := Cert.Reference2Ideal.Gen.facts) := fun m g _ =>
  (θ_run Cert.Reference2Ideal.defs _ _).mono (fun r h => ⟨fun c => (h c).2.2.2.2.2, sem_eq_zero_of_no_sems (by decide) r.2⟩)
    (Cert.Reference2Ideal.Hand.run_ref (F := Ideal) m g)

theorem preserves2 : Cert.preserves_Kernel2_Kernel2Ideal := trivial

/-- The reference's product of a memory of the kernel's. -/
abbrev prod2 (m : (ℓ : Loc Cert.Kernel2Ideal.nD Cert.Kernel2Ideal.τ Cert.Kernel2Ideal.sig) → Buf (Elt Ideal) ℓ) (c : Dev Cert.Kernel2Ideal.nD) : FVec Ideal Cert.Reference2Ideal.S2x8192x4096 .f32 :=
  Cert.Kernel2Ideal.Hand.rp (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))

open Cert.Kernel2Ideal.Hand in
/-- The kernel's run: each result is the reference's function of the arguments, the arguments unchanged. -/
theorem run_kernel2 (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal)))
      ⟨m, fun _ => 0, g⟩ (fun r => ∀ c : Dev Cert.Kernel2Ideal.nD,
        r.2.mem ((c.tc : Thread Cert.Kernel2Ideal.nD Cert.Kernel2Ideal.τ).loc Cert.Kernel2Ideal.main_v44) = Cert.Reference2Ideal.Hand.pooled (prod2 m c)
        ∧ r.2.mem ((c.tc : Thread Cert.Kernel2Ideal.nD Cert.Kernel2Ideal.τ).loc Cert.Kernel2Ideal.main_v47) = Cert.Reference2Ideal.Hand.queries (prod2 m c)
        ∧ r.2.mem ((c.tc : Thread Cert.Kernel2Ideal.nD Cert.Kernel2Ideal.τ).loc Cert.Kernel2Ideal.main_v50) = Cert.Reference2Ideal.Hand.keys (prod2 m c)
        ∧ r.2.mem ((c.tc : Thread Cert.Kernel2Ideal.nD Cert.Kernel2Ideal.τ).loc Cert.Kernel2Ideal.main_v53) = Cert.Reference2Ideal.Hand.values (prod2 m c)
        ∧ r.2.mem ((c.tc : Thread Cert.Kernel2Ideal.nD Cert.Kernel2Ideal.τ).loc Cert.Kernel2Ideal.main_v54) = Cert.Reference2Ideal.Hand.gates (prod2 m c)
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)) := by
  refine (θ_run Cert.Kernel2Ideal.defs _ _).mono (fun r h c => ⟨?_, ?_, ?_, ?_, ?_, h.2.1 c⟩)
    (θ_run_and (Cert.Kernel2Ideal.Gen.run_main (F := Ideal) m g) (Cert.Kernel2Ideal.Gen.frame (F := Ideal) m g))
  · refine ((h.1 c).2 Cert.Kernel2Ideal.main_v44 (by decide)).trans ((W44 m c).trans ?_)
    rw [V38, V39, V40, V41, V42]
    exact pooled_result _ _ _ _ _
  · refine ((h.1 c).2 Cert.Kernel2Ideal.main_v47 (by decide)).trans ((W47 m c).trans ?_)
    rw [V16, V19, V22, V38, V39, V40, V41, V42]
    exact queries_result _ _ _ _ _
  · refine ((h.1 c).2 Cert.Kernel2Ideal.main_v50 (by decide)).trans ((W50 m c).trans ?_)
    rw [V16, V19, V22, V38, V39, V40, V41, V42]
    exact keys_result _ _ _ _ _
  · refine ((h.1 c).2 Cert.Kernel2Ideal.main_v53 (by decide)).trans ((W53 m c).trans ?_)
    rw [V38, V39, V40, V41, V42]
    exact values_result _ _ _ _ _
  · refine ((h.1 c).2 Cert.Kernel2Ideal.main_v54 (by decide)).trans ((W54 m c).trans ?_)
    rw [V38, V39, V40, V41, V42]
    exact gates_result _ _ _ _ _

/-- The five results of the kernel and of the reference are equal, element by element. -/
theorem algebraic2 : Cert.algebraic_Kernel2Ideal_Reference2Ideal (hKernel2Ideal := Cert.Kernel2Ideal.Gen.facts) (hReference2Ideal := Cert.Reference2Ideal.Gen.facts) := by
  intro m g m' g' _ hagree
  refine ⟨_, _, _, _, _, run_kernel2 m g, ?_⟩
  refine (θ_run Cert.Reference2Ideal.defs _ _).mono (fun _ h c => ?_) (Cert.Reference2Ideal.Hand.run_ref (F := Ideal) m' g')
  have e : Cert.Reference2Ideal.Hand.projM m' c = prod2 m c := by
    unfold Cert.Reference2Ideal.Hand.projM
    rw [(hagree c).1, (hagree c).2.1, (hagree c).2.2.1, (hagree c).2.2.2.1, (hagree c).2.2.2.2]
  rw [← e]
  exact h c

end Cert.Proof

end
-- ==== Proof.MePay.lean ====
/-
  The merge's arithmetic read at one place of a block: the trailing windows, their means, the mixing product, the gated
  sum of the two branches, and the normalised and modulated result.
-/
module

public import proofs.«01_k».proof.Proof.Gen.Kernel3Ideal.Frame
public import proofs.«01_k».proof.Proof.InPay

@[expose] public section

set_option maxRecDepth 16384

noncomputable section

namespace Cert.Kernel3Ideal.Hand

open Cert.Kernel3Ideal Cert.Kernel3Ideal.Gen
open Idealize.ShloMosaic
open Cert.Kernel2Ideal.Hand (normAt)

/-- The number of rows in the window of `w` rows that ends at position `s`, as both programs count it. -/
def cntAt (w : BitVec 32) (s : ℕ) : EReal := FloatOps.sitofp (F := Ideal) FTy.f32 (IntOp.minsi (BitVec.ofNat 32 s + 1#32) w)

/-- One column of a group's mixing: window mean minus the row itself, times the group's matrix, times the column's scale. -/
def mixL (win u : Fin 128 → EReal) (cnt : EReal) (pw : Fin 128 → EReal) (ps : EReal) : EReal :=
  (∑ d : Fin 128, (Ideal.div (win d) cnt - u d) * pw d) * ps

theorem mix_at (u : FVec Ideal S512x128 .f32) (E : FVec Ideal S528x128 .f32) (c k : IVec S512x128 32) (pw : Vec Ideal S1x128x128 .bf16)
    (ps : Vec Ideal S1x128 .f32) (r : Fin 512) (l : Fin 128) :
    k0_pay7 u E c k pw ps (ix2 r l)
      = (∑ d : Fin 128, (Ideal.div (E (ix2 (⟨16 + r.val, by omega⟩ : Fin 528) d)) (FloatOps.sitofp (F := Ideal) FTy.f32 (IntOp.minsi (c (ix2 r d)) (k (ix2 r d)))) - u (ix2 r d)) * pw (ix3 0 d l))
        * ps (ix2 0 l) := by
  pointwise [k0_pay7]

/-- The halo and the block's rows, one above the other. -/
def ext (h : FVec Ideal S16x128 .f32) (u : FVec Ideal S512x128 .f32) : FVec Ideal S528x128 .f32 :=
  concatenate S528x128 0 [⟨S16x128, h⟩, ⟨S512x128, u⟩] concatenates_S16x128_S512x128_S528x128_d0

/-- An array plus itself turned down by some rows. -/
def dbl (k : BitVec 32) (E : FVec Ideal S528x128 .f32) : FVec Ideal S528x128 .f32 :=
  addf E (dynamicRotate 0 k none E rotates_S528x128_d0)

theorem ext_at (h : FVec Ideal S16x128 .f32) (u : FVec Ideal S512x128 .f32) (q : Fin 528) (l : Fin 128) :
    ext h u (ix2 q l) = if h0 : q.val < 16 then h (ix2 ⟨q.val, h0⟩ l) else u (ix2 (⟨q.val - 16, by omega⟩ : Fin 512) l) := by
  pointwise [ext]

/-- A row, counted round the array. -/
def rowM (E : FVec Ideal S528x128 .f32) (l : Fin 128) (q : ℕ) : EReal := E (ix2 (⟨q % 528, Nat.mod_lt _ (by decide)⟩ : Fin 528) l)

theorem dbl_at (k : BitVec 32) (n : ℕ) (hk : k.toNat = n) (hn : n ≤ 16) (E : FVec Ideal S528x128 .f32) (l : Fin 128) (q : ℕ) :
    rowM (dbl k E) l q = rowM E l q + rowM E l (q + 528 - n) := by
  refine congrArg (E (ix2 (⟨q % 528, Nat.mod_lt _ (by decide)⟩ : Fin 528) l) + ·) ?_
  refine dynamicRotate_apply _ _ _ _ _ _ fun b => ?_
  fin_cases b
  · show (q + 528 - n) % 528 = (q % 528 + 528 - k.toNat % 528) % 528
    rw [hk]
    omega
  · rfl

/-- The sum of the `w` rows that end at row `q`. -/
def back (E : FVec Ideal S528x128 .f32) (l : Fin 128) (w q : ℕ) : EReal := ∑ j ∈ Finset.range w, rowM E l (q + 528 - j)

theorem back_one (E : FVec Ideal S528x128 .f32) (l : Fin 128) (q : ℕ) : rowM E l q = back E l 1 q := by
  unfold back rowM
  rw [Finset.sum_range_one]
  refine congrArg (fun z => E (ix2 z l)) (Fin.ext ?_)
  show q % 528 = (q + 528 - 0) % 528
  omega

theorem back_dbl (E : FVec Ideal S528x128 .f32) (l : Fin 128) (w q : ℕ) (hw : w ≤ 16) :
    back E l w q + back E l w (q + 528 - w) = back E l (w + w) q := by
  unfold back
  rw [Finset.sum_range_add]
  refine congrArg₂ (· + ·) rfl (Finset.sum_congr rfl fun j hj => ?_)
  have hj' := Finset.mem_range.1 hj
  unfold rowM
  refine congrArg (fun z => E (ix2 z l)) (Fin.ext ?_)
  show (q + 528 - w + 528 - j) % 528 = (q + 528 - (w + j)) % 528
  omega

theorem dbl1 (E : FVec Ideal S528x128 .f32) (l : Fin 128) (q : ℕ) : rowM (dbl 1#32 E) l q = back E l 2 q := by
  rw [dbl_at 1#32 1 rfl (by decide), back_one, back_one, back_dbl E l 1 q (by decide)]
theorem dbl2 (E : FVec Ideal S528x128 .f32) (l : Fin 128) (q : ℕ) : rowM (dbl 2#32 (dbl 1#32 E)) l q = back E l 4 q := by
  rw [dbl_at 2#32 2 rfl (by decide), dbl1, dbl1, back_dbl E l 2 q (by decide)]
theorem dbl4 (E : FVec Ideal S528x128 .f32) (l : Fin 128) (q : ℕ) : rowM (dbl 4#32 (dbl 2#32 (dbl 1#32 E))) l q = back E l 8 q := by
  rw [dbl_at 4#32 4 rfl (by decide), dbl2, dbl2, back_dbl E l 4 q (by decide)]
theorem dbl8 (E : FVec Ideal S528x128 .f32) (l : Fin 128) (q : ℕ) : rowM (dbl 8#32 (dbl 4#32 (dbl 2#32 (dbl 1#32 E)))) l q = back E l 16 q := by
  rw [dbl_at 8#32 8 rfl (by decide), dbl4, dbl4, back_dbl E l 8 q (by decide)]

/-- The sum of the `w` rows of a block that end at row `r`, those above the block being the halo's. -/
theorem back_ext (h : FVec Ideal S16x128 .f32) (u : FVec Ideal S512x128 .f32) (l : Fin 128) (w : ℕ) (hw : w ≤ 16) (r : Fin 512) :
    back (ext h u) l w (16 + r.val)
      = ∑ j ∈ Finset.range w, if j ≤ r.val then u (ix2 (⟨(r.val - j) % 512, Nat.mod_lt _ (by decide)⟩ : Fin 512) l)
          else h (ix2 (⟨(16 + r.val - j) % 16, Nat.mod_lt _ (by decide)⟩ : Fin 16) l) := by
  unfold back
  refine Finset.sum_congr rfl fun j hj => ?_
  have hj' := Finset.mem_range.1 hj
  have hr := r.isLt
  unfold rowM
  rw [ext_at]
  by_cases hjr : j ≤ r.val
  · rw [if_pos hjr, dif_neg (by show ¬ (16 + r.val + 528 - j) % 528 < 16; omega)]
    refine congrArg (fun z => u (ix2 z l)) (Fin.ext ?_)
    show (16 + r.val + 528 - j) % 528 - 16 = (r.val - j) % 512
    omega
  · rw [if_neg hjr, dif_pos (by show (16 + r.val + 528 - j) % 528 < 16; omega)]
    refine congrArg (fun z => h (ix2 z l)) (Fin.ext ?_)
    show (16 + r.val + 528 - j) % 528 = (16 + r.val - j) % 16
    omega

theorem attn_at (a : Vec Ideal S512x1024 .bf16) (w : Vec Ideal S1024x1024 .bf16) (r : Fin 512) (n : Fin 1024) :
    k0_pay14 a w (ix2 r n) = ∑ e : Fin 1024, a (ix2 r e) * w (ix2 e n) := by
  pointwise [k0_pay14]

theorem x1_at (a p : FVec Ideal S512x1024 .f32) (gb : Vec Ideal S512x1024 .f32) (wo : Vec Ideal S1024x1024 .bf16) (x : Vec Ideal S512x1024 .f32)
    (gt : Vec Ideal S1x1x1024 .f32) (r : Fin 512) (n : Fin 1024) :
    k0_pay16 a p gb wo x gt (ix2 r n)
      = x (ix2 r n) + gt (ix3 0 0 n) * ∑ e : Fin 1024, (p (ix2 r e) + gb (ix2 r e) * a (ix2 r e)) * wo (ix2 e n) := by
  pointwise [k0_pay16]

theorem h2_at (a p : FVec Ideal S512x1024 .f32) (gb : Vec Ideal S512x1024 .f32) (wo : Vec Ideal S1024x1024 .bf16) (x : Vec Ideal S512x1024 .f32)
    (gt sh sc : Vec Ideal S1x1x1024 .f32) (g : Vec Ideal S1x1024 .f32) (r : Fin 512) (n : Fin 1024) :
    k0_pay1 (k0_pay17 sh) (k0_pay18 sc) (k0_pay19 a p gb wo x gt g) (k0_pay20 (F := Ideal)) (ix2 n r)
      = normAt (fun e => k0_pay16 a p gb wo x gt (ix2 r e)) (fun e => g (ix2 0 e)) (fun e => sh (ix3 0 0 e)) (fun e => sc (ix3 0 0 e)) n := by
  generalize hX : k0_pay16 a p gb wo x gt = X
  unfold k0_pay19
  rw [hX]
  pointwise [k0_pay1, k0_pay17, k0_pay18, k0_pay20, normAt]

end Cert.Kernel3Ideal.Hand

end
-- ==== Proof.MeBlk.lean ====
/-
  What the merge's body writes at one place of its two blocks, from the blocks it reads.
-/
module

public import proofs.«01_k».proof.Proof.MePay

@[expose] public section

set_option maxRecDepth 16384

noncomputable section

namespace Cert.Kernel3Ideal.Hand

open Cert.Kernel3Ideal Cert.Kernel3Ideal.Gen
open Idealize.ShloMosaic
open Cert.Kernel2Ideal.Hand (normAt)

/-- The block's number within its batch, as the body computes it. -/
def remW (n : ℕ) : BitVec 32 :=
  Scalar.select (Scalar.andi (Scalar.xori (Scalar.cmpi .slt (Scalar.remsi (BitVec.ofNat 32 n) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 n) (Scalar.select (Scalar.cmpi .eq 16#32 0#32) 1#32 16#32)) 0#32)) (Scalar.addi (Scalar.remsi (BitVec.ofNat 32 n) (Scalar.select (Scalar.cmpi .eq 16#32 0#32) 1#32 16#32)) (Scalar.select (Scalar.cmpi .eq 16#32 0#32) 1#32 16#32)) (Scalar.remsi (BitVec.ofNat 32 n) (Scalar.select (Scalar.cmpi .eq 16#32 0#32) 1#32 16#32))

theorem remW_eq : ∀ n : Fin 32, remW n.val = BitVec.ofNat 32 (n.val % 16) := by decide +kernel

/-- The bit set at a batch's first block. -/
def bitW (n : ℕ) : BitVec 1 := Scalar.cmpi .eq (remW n) 0#32

theorem bitW_eq : ∀ n : Fin 32, bitW n.val = if n.val % 16 = 0 then 1#1 else 0#1 := by decide +kernel

/-- The block's first row within its batch. -/
def posW (n : ℕ) : BitVec 32 := Scalar.muli (remW n) 512#32

theorem posW_eq : ∀ n : Fin 32, posW n.val = BitVec.ofNat 32 (n.val % 16 * 512) := by decide +kernel

/-- The sixteen rows above a block: none at a batch's first block. -/
def halo (n : ℕ) (h : FVec Ideal S16x128 .f32) : FVec Ideal S16x128 .f32 :=
  Scalar.select (bitW n) (broadcast S16x128 (Scalar.ofBits (F := Ideal) .f32 0x00000000#32)) (shapeCast S16x128 h shapeCasts_S16x128_S16x128)

theorem halo_at (n : Fin 32) (h : FVec Ideal S16x128 .f32) (q : Fin 16) (l : Fin 128) :
    halo n.val h (ix2 q l) = if n.val % 16 = 0 then 0 else h (ix2 q l) := by
  unfold halo
  rw [bitW_eq, shapeCast_self]
  by_cases hn : n.val % 16 = 0
  · rw [if_pos hn, if_pos hn]
    show Ideal.ofBits .f32 0x00000000#32 = 0
    exact Ideal.ofBits_zero .f32
  · rw [if_neg hn, if_neg hn]
    rfl

/-- One more than the position of each row within its batch. -/
def posV (n : ℕ) : IVec S512x128 32 :=
  addi (addi (iota .tc S512x128 32 [0] iota_S512x128_d0_w32) (broadcast S512x128 (posW n))) (broadcast S512x128 1#32)

theorem posV_at (n : Fin 32) (r : Fin 512) (d : Fin 128) : posV n.val (ix2 r d) = BitVec.ofNat 32 (n.val % 16 * 512 + r.val) + 1#32 := by
  have h : posV n.val (ix2 r d) = BitVec.ofNat 32 r.val + posW n.val + 1#32 := by
    pointwise [posV]
    rfl
  rw [h, posW_eq, Nat.add_comm, BitVec.ofNat_add]

section blk
variable (x0 : Vec Ideal S512x512 .f32) (x1 : Vec Ideal S16x512 .f32) (x5 : Vec Ideal S4x128x128 .bf16) (x6 : Vec Ideal S1x512 .f32)

theorem ld_u (o : ℕ) (ho : o + 128 ≤ 512) (inb) (r : Fin 512) (d : Fin 128) :
    View.ld x0 (Rect.unit (s := S512x512) ![0, o] S512x128.size inb) (ix2 r d) = x0 (ix2 r (⟨(o + d.val) % 512, Nat.mod_lt _ (by decide)⟩ : Fin 512)) := by
  refine congrArg x0 (funext fun a => Fin.ext ?_)
  have hj := d.isLt
  refine (ValueKit.rect_emb_unit_val _ _ inb (ix2 r d) a).trans ?_
  fin_cases a
  · exact Nat.zero_add r.val
  · exact (Nat.mod_eq_of_lt (by omega : o + d.val < 512)).symm

theorem ld_h (o : ℕ) (ho : o + 128 ≤ 512) (inb) (r : Fin 16) (d : Fin 128) :
    View.ld x1 (Rect.unit (s := S16x512) ![0, o] S16x128.size inb) (ix2 r d) = x1 (ix2 r (⟨(o + d.val) % 512, Nat.mod_lt _ (by decide)⟩ : Fin 512)) := by
  refine congrArg x1 (funext fun a => Fin.ext ?_)
  have hj := d.isLt
  refine (ValueKit.rect_emb_unit_val _ _ inb (ix2 r d) a).trans ?_
  fin_cases a
  · exact Nat.zero_add r.val
  · exact (Nat.mod_eq_of_lt (by omega : o + d.val < 512)).symm

theorem ld_p (g : ℕ) (hg : g < 4) (inb) (d l : Fin 128) :
    View.ld x5 (Rect.unit (s := S4x128x128) ![g, 0, 0] S1x128x128.size inb) (ix3 0 d l) = x5 (ix3 (⟨g % 4, Nat.mod_lt _ (by decide)⟩ : Fin 4) d l) := by
  refine congrArg x5 (funext fun a => Fin.ext ?_)
  refine (ValueKit.rect_emb_unit_val _ _ inb (ix3 0 d l) a).trans ?_
  fin_cases a
  · exact (Nat.mod_eq_of_lt hg).symm
  · exact Nat.zero_add d.val
  · exact Nat.zero_add l.val

theorem ld_s (o : ℕ) (ho : o + 128 ≤ 512) (inb) (l : Fin 128) :
    View.ld x6 (Rect.unit (s := S1x512) ![0, o] S1x128.size inb) (ix2 0 l) = x6 (ix2 0 (⟨(o + l.val) % 512, Nat.mod_lt _ (by decide)⟩ : Fin 512)) := by
  refine congrArg x6 (funext fun a => Fin.ext ?_)
  have hj := l.isLt
  refine (ValueKit.rect_emb_unit_val _ _ inb (ix2 0 l) a).trans ?_
  fin_cases a
  · rfl
  · exact (Nat.mod_eq_of_lt (by omega : o + l.val < 512)).symm

/-- The sum of the `w` rows of column `k` that end at row `r` of block `n`. -/
def winB (n w : ℕ) (r : Fin 512) (k : ℕ) : EReal :=
  ∑ j ∈ Finset.range w, if j ≤ r.val then x0 (ix2 (⟨(r.val - j) % 512, Nat.mod_lt _ (by decide)⟩ : Fin 512) (⟨k % 512, Nat.mod_lt _ (by decide)⟩ : Fin 512))
    else if n % 16 = 0 then 0
      else x1 (ix2 (⟨(16 + r.val - j) % 16, Nat.mod_lt _ (by decide)⟩ : Fin 16) (⟨k % 512, Nat.mod_lt _ (by decide)⟩ : Fin 512))

/-- Lane `l` of group `g`, mixed over windows of `w` rows, at row `r` of block `n`. -/
def mixB (n g w : ℕ) (r : Fin 512) (l : Fin 128) : EReal :=
  mixL (fun d => winB x0 x1 n w r (128 * g + d.val)) (fun d => x0 (ix2 r (⟨(128 * g + d.val) % 512, Nat.mod_lt _ (by decide)⟩ : Fin 512)))
    (cntAt (BitVec.ofNat 32 w) (n % 16 * 512 + r.val)) (fun d => x5 (ix3 (⟨g % 4, Nat.mod_lt _ (by decide)⟩ : Fin 4) d l))
    (x6 (ix2 0 (⟨(128 * g + l.val) % 512, Nat.mod_lt _ (by decide)⟩ : Fin 512)))

theorem grp_blk (n : Fin 32) (g w : ℕ) (hg : g < 4) (hw : w ≤ 16) (inb inb' inb'' inb''') (E : FVec Ideal S528x128 .f32)
    (hE : ∀ (d : Fin 128) (q : ℕ), rowM E d q
      = back (ext (halo n.val (View.ld x1 (Rect.unit (s := S16x512) ![0, 128 * g] S16x128.size inb')))
          (shapeCast S512x128 (View.ld x0 (Rect.unit (s := S512x512) ![0, 128 * g] S512x128.size inb)) shapeCasts_S512x128_S512x128)) d w q)
    (r : Fin 512) (l : Fin 128) :
    k0_pay7 (shapeCast S512x128 (View.ld x0 (Rect.unit (s := S512x512) ![0, 128 * g] S512x128.size inb)) shapeCasts_S512x128_S512x128) E
        (posV n.val) (broadcast S512x128 (BitVec.ofNat 32 w))
        (View.ld x5 (Rect.unit (s := S4x128x128) ![g, 0, 0] S1x128x128.size inb'')) (View.ld x6 (Rect.unit (s := S1x512) ![0, 128 * g] S1x128.size inb''')) (ix2 r l)
      = mixB x0 x1 x5 x6 n.val g w r l := by
  rw [mix_at]
  unfold mixB mixL
  refine congrArg₂ (· * ·) (Finset.sum_congr rfl fun d _ => ?_) (ld_s x6 (128 * g) (by omega) inb''' l)
  refine congrArg₂ (· * ·) (congrArg₂ (· - ·) (congrArg₂ Ideal.div ?_ ?_) ?_) (ld_p x5 g hg inb'' d l)
  · have h1 : E (ix2 (⟨16 + r.val, by omega⟩ : Fin 528) d) = rowM E d (16 + r.val) :=
      congrArg (fun z => E (ix2 z d)) (Fin.ext (Nat.mod_eq_of_lt (by have := r.isLt; omega)).symm)
    refine h1.trans ((hE d _).trans ((back_ext _ _ d w hw r).trans ?_))
    unfold winB
    refine Finset.sum_congr rfl fun j _ => ?_
    refine (if_congr Iff.rfl ((congrFun (shapeCast_self _ _) _).trans (ld_u x0 (128 * g) (by omega) inb _ d)) ?_)
    rw [halo_at, ld_h x1 (128 * g) (by omega)]
  · rw [posV_at]
    rfl
  · exact (congrFun (shapeCast_self _ _) _).trans (ld_u x0 (128 * g) (by omega) inb r d)

/-- Four groups of columns, side by side. -/
def cat4 (a b c d : FVec Ideal S512x128 .bf16) : FVec Ideal S512x512 .bf16 :=
  concatenate S512x512 1 [⟨S512x128, a⟩, ⟨S512x128, b⟩, ⟨S512x128, c⟩, ⟨S512x128, d⟩] concatenates_S512x128_S512x128_S512x128_S512x128_S512x512_d1

theorem cat4_at (a b c d : FVec Ideal S512x128 .bf16) (r : Fin 512) (k : Fin 512) (f : ℕ → Fin 128 → EReal)
    (ha : ∀ l, a (ix2 r l) = f 0 l) (hb : ∀ l, b (ix2 r l) = f 1 l) (hc : ∀ l, c (ix2 r l) = f 2 l) (hd : ∀ l, d (ix2 r l) = f 3 l) :
    cat4 a b c d (ix2 r k) = f (k.val / 128) (⟨k.val % 128, Nat.mod_lt _ (by decide)⟩ : Fin 128) := by
  have hk := k.isLt
  pointwise [cat4]
  by_cases h0 : k.val < 128
  · rw [dif_pos h0, ha, show k.val / 128 = 0 by omega]
    exact congrArg (f 0) (Fin.ext (by show k.val = k.val % 128; omega))
  rw [dif_neg h0]
  by_cases h1 : k.val - 128 < 128
  · rw [dif_pos h1, hb, show k.val / 128 = 1 by omega]
    exact congrArg (f 1) (Fin.ext (by show k.val - 128 = k.val % 128; omega))
  rw [dif_neg h1]
  by_cases h2 : k.val - 128 - 128 < 128
  · rw [dif_pos h2, hc, show k.val / 128 = 2 by omega]
    exact congrArg (f 2) (Fin.ext (by show k.val - 128 - 128 = k.val % 128; omega))
  rw [dif_neg h2, hd, show k.val / 128 = 3 by omega]
  exact congrArg (f 3) (Fin.ext (by show k.val - 128 - 128 - 128 = k.val % 128; omega))

/-- The gated product of the mixed columns with the branch's weights. -/
def poolBr (m : FVec Ideal S512x512 .bf16) (wp : Vec Ideal S512x1024 .bf16) (gt : Vec Ideal S512x1024 .f32) : FVec Ideal S512x1024 .f32 :=
  mulf (shapeCast S512x1024 gt shapeCasts_S512x1024_S512x1024)
    (matmul dot_S512x512_S512x1024_S512x1024_1_0_0_1_n_n none m (shapeCast S512x1024 wp shapeCasts_S512x1024_S512x1024 : FVec Ideal S512x1024 .bf16) (constant S512x1024 .f32 0x00000000#32))

theorem poolBr_at (m : FVec Ideal S512x512 .bf16) (wp : Vec Ideal S512x1024 .bf16) (gt : Vec Ideal S512x1024 .f32) (r : Fin 512) (n : Fin 1024) :
    poolBr m wp gt (ix2 r n) = gt (ix2 r n) * ∑ k : Fin 512, m (ix2 r k) * wp (ix2 k n) := by
  pointwise [poolBr]

/-- The number of rows of a group's window. -/
def wOf (g : ℕ) : ℕ := 2 ^ (g + 1)

variable (i : grid0.Coords) (x2 : Vec Ideal S512x1024 .bf16) (x3 : Vec Ideal S512x2048 .f32) (x4 : Vec Ideal S512x1024 .f32)
  (x7 : Vec Ideal S512x1024 .bf16) (x8 x9 : Vec Ideal S1024x1024 .bf16) (x10 : Vec Ideal S1x1x1024 .f32) (x11 : Vec Ideal S1x1024 .f32)
  (x12 x13 : Vec Ideal S1x1x1024 .f32)

/-- Column `k` of the mixed groups. -/
def mixK (n : ℕ) (r : Fin 512) (k : Fin 512) : EReal :=
  mixB x0 x1 x5 x6 n (k.val / 128) (wOf (k.val / 128)) r (⟨k.val % 128, Nat.mod_lt _ (by decide)⟩ : Fin 128)

/-- One group's mixed columns, as the body computes them with the doubled sums `E`. -/
abbrev grp (n : ℕ) (w : BitVec 32) (u : Vec Ideal S512x128 .f32) (E : FVec Ideal S528x128 .f32) (p : Vec Ideal S1x128x128 .bf16) (s : Vec Ideal S1x128 .f32) :
    FVec Ideal S512x128 .bf16 :=
  k0_pay7 (shapeCast S512x128 u shapeCasts_S512x128_S512x128) E (posV n) (broadcast S512x128 w) p s

/-- A group's rows with the rows above them. -/
abbrev exg (n : ℕ) (u : Vec Ideal S512x128 .f32) (h : Vec Ideal S16x128 .f32) : FVec Ideal S528x128 .f32 :=
  ext (halo n h) (shapeCast S512x128 u shapeCasts_S512x128_S512x128)

theorem pay23_eq : k0_pay23 i x0 x1 x2 x3 x4 x5 x6 x7 x8 x9 x10 x11 x12 x13
    = poolBr (cat4
        (grp (i 0).val 2#32 (View.ld x0 r0_0) (dbl 1#32 (exg (i 0).val (View.ld x0 r0_0) (View.ld x1 r0_1))) (View.ld x5 r0_2) (View.ld x6 r0_3))
        (grp (i 0).val 4#32 (View.ld x0 r0_4) (dbl 2#32 (dbl 1#32 (exg (i 0).val (View.ld x0 r0_4) (View.ld x1 r0_5)))) (View.ld x5 r0_6) (View.ld x6 r0_7))
        (grp (i 0).val 8#32 (View.ld x0 r0_8) (dbl 4#32 (dbl 2#32 (dbl 1#32 (exg (i 0).val (View.ld x0 r0_8) (View.ld x1 r0_9))))) (View.ld x5 r0_10) (View.ld x6 r0_11))
        (grp (i 0).val 16#32 (View.ld x0 r0_12) (dbl 8#32 (dbl 4#32 (dbl 2#32 (dbl 1#32 (exg (i 0).val (View.ld x0 r0_12) (View.ld x1 r0_13)))))) (View.ld x5 r0_14) (View.ld x6 r0_15)))
      (View.ld x7 r0_16) (View.ld x3 r0_18) := by
  rfl

theorem pay23_at (r : Fin 512) (n : Fin 1024) : k0_pay23 i x0 x1 x2 x3 x4 x5 x6 x7 x8 x9 x10 x11 x12 x13 (ix2 r n)
    = View.ld x3 r0_18 (ix2 r n) * ∑ k : Fin 512, mixK x0 x1 x5 x6 (i 0).val r k * x7 (ix2 k n) := by
  rw [pay23_eq, poolBr_at]
  refine congrArg (View.ld x3 r0_18 (ix2 r n) * ·) (Finset.sum_congr rfl fun k _ => ?_)
  refine congrArg₂ (· * ·) ?_ (congrFun (View.ld_unit_zero (S := S512x1024) (off := ![0, 0]) (by funext a; fin_cases a <;> rfl) _ x7) _)
  refine (cat4_at _ _ _ _ r k (fun g l => mixB x0 x1 x5 x6 (i 0).val g (wOf g) r l) ?_ ?_ ?_ ?_)
  · exact fun l => grp_blk x0 x1 x5 x6 (i 0) 0 2 (by decide) (by decide) inb_S512x512_S512x128_0_0 inb_S16x512_S16x128_0_0 inb_S4x128x128_S1x128x128_0_0_0 inb_S1x512_S1x128_0_0 _ (fun d q => dbl1 _ d q) r l
  · exact fun l => grp_blk x0 x1 x5 x6 (i 0) 1 4 (by decide) (by decide) inb_S512x512_S512x128_0_128 inb_S16x512_S16x128_0_128 inb_S4x128x128_S1x128x128_1_0_0 inb_S1x512_S1x128_0_128 _ (fun d q => dbl2 _ d q) r l
  · exact fun l => grp_blk x0 x1 x5 x6 (i 0) 2 8 (by decide) (by decide) inb_S512x512_S512x128_0_256 inb_S16x512_S16x128_0_256 inb_S4x128x128_S1x128x128_2_0_0 inb_S1x512_S1x128_0_256 _ (fun d q => dbl4 _ d q) r l
  · exact fun l => grp_blk x0 x1 x5 x6 (i 0) 3 16 (by decide) (by decide) inb_S512x512_S512x128_0_384 inb_S16x512_S16x128_0_384 inb_S4x128x128_S1x128x128_3_0_0 inb_S1x512_S1x128_0_384 _ (fun d q => dbl8 _ d q) r l

theorem ld_g0 (inb) (r : Fin 512) (n : Fin 1024) :
    View.ld x3 (Rect.unit (s := S512x2048) ![0, 0] S512x1024.size inb) (ix2 r n) = x3 (ix2 r (⟨n.val, by omega⟩ : Fin 2048)) := by
  refine congrArg x3 (funext fun a => Fin.ext ?_)
  refine (ValueKit.rect_emb_unit_val _ _ inb (ix2 r n) a).trans ?_
  fin_cases a
  · exact Nat.zero_add r.val
  · exact Nat.zero_add n.val

theorem ld_g1 (inb) (r : Fin 512) (n : Fin 1024) :
    View.ld x3 (Rect.unit (s := S512x2048) ![0, 1024] S512x1024.size inb) (ix2 r n) = x3 (ix2 r (⟨1024 + n.val, by omega⟩ : Fin 2048)) := by
  refine congrArg x3 (funext fun a => Fin.ext ?_)
  refine (ValueKit.rect_emb_unit_val _ _ inb (ix2 r n) a).trans ?_
  fin_cases a
  · exact Nat.zero_add r.val
  · rfl

/-- The two branches, each times its gate, added. -/
def mergeB (n : ℕ) (r : Fin 512) (e : Fin 1024) : EReal :=
  x3 (ix2 r (⟨e.val, by omega⟩ : Fin 2048)) * (∑ k : Fin 512, mixK x0 x1 x5 x6 n r k * x7 (ix2 k e))
    + x3 (ix2 r (⟨1024 + e.val, by omega⟩ : Fin 2048)) * (∑ k : Fin 1024, x2 (ix2 r k) * x8 (ix2 k e))

/-- The row plus the gated product of the merged branches with the output weights. -/
def x1B (n : ℕ) (r : Fin 512) (d : Fin 1024) : EReal :=
  x4 (ix2 r d) + x10 (ix3 0 0 d) * ∑ e : Fin 1024, mergeB x0 x1 x5 x6 x2 x3 x7 x8 n r e * x9 (ix2 e d)

theorem x1_pay (r : Fin 512) (d : Fin 1024) :
    k0_pay16 (k0_pay22 i x0 x1 x2 x3 x4 x5 x6 x7 x8 x9 x10 x11 x12 x13) (k0_pay23 i x0 x1 x2 x3 x4 x5 x6 x7 x8 x9 x10 x11 x12 x13) (View.ld x3 r0_19) (View.ld x9 r0_17) (View.ld x4 r0_16) (View.ld x10 r0_20) (ix2 r d)
      = x1B x0 x1 x5 x6 x2 x3 x4 x7 x8 x9 x10 (i 0).val r d := by
  rw [x1_at]
  unfold x1B
  refine congrArg₂ (· + ·) (congrFun (View.ld_unit_zero (S := S512x1024) (off := ![0, 0]) (by funext a; fin_cases a <;> rfl) _ x4) _)
    (congrArg₂ (· * ·) (congrFun (View.ld_unit_zero (S := S1x1x1024) (off := ![0, 0, 0]) (by funext a; fin_cases a <;> rfl) _ x10) _)
      (Finset.sum_congr rfl fun e _ => congrArg₂ (· * ·) ?_
        (congrFun (View.ld_unit_zero (S := S1024x1024) (off := ![0, 0]) (by funext a; fin_cases a <;> rfl) _ x9) _)))
  unfold mergeB
  refine congrArg₂ (· + ·) ?_ (congrArg₂ (· * ·) (ld_g1 x3 _ r e) ?_)
  · exact (pay23_at x0 x1 x5 x6 i x2 x3 x4 x7 x8 x9 x10 x11 x12 x13 r e).trans (congrArg (· * _) (ld_g0 x3 _ r e))
  · refine (attn_at _ _ r e).trans (Finset.sum_congr rfl fun k _ => congrArg₂ (· * ·) ?_ ?_)
    · exact congrFun (View.ld_unit_zero (S := S512x1024) (off := ![0, 0]) (by funext a; fin_cases a <;> rfl) _ x2) _
    · exact congrFun (View.ld_unit_zero (S := S1024x1024) (off := ![0, 0]) (by funext a; fin_cases a <;> rfl) _ x8) _

/-- The residual's block at a place. -/
theorem x1_blk (r : Fin 512) (d : Fin 1024) : out0_14 i x0 x1 x2 x3 x4 x5 x6 x7 x8 x9 x10 x11 x12 x13 (ix2 r d)
    = x1B x0 x1 x5 x6 x2 x3 x4 x7 x8 x9 x10 (i 0).val r d := by
  unfold out0_14
  rw [View.canon_cons_unit_zero (by funext a; fin_cases a <;> rfl)]
  exact x1_pay x0 x1 x5 x6 i x2 x3 x4 x7 x8 x9 x10 x11 x12 x13 r d

/-- The second normalisation's block at a place. -/
theorem h2_blk (r : Fin 512) (d : Fin 1024) : out0_15 i x0 x1 x2 x3 x4 x5 x6 x7 x8 x9 x10 x11 x12 x13 (ix2 d r)
    = normAt (fun e => x1B x0 x1 x5 x6 x2 x3 x4 x7 x8 x9 x10 (i 0).val r e) (fun e => x11 (ix2 0 e)) (fun e => x12 (ix3 0 0 e)) (fun e => x13 (ix3 0 0 e)) d := by
  unfold out0_15
  rw [View.canon_cons_unit_zero (by funext a; fin_cases a <;> rfl)]
  refine (h2_at _ _ _ _ _ _ _ _ _ r d).trans ?_
  rw [View.ld_unit_zero (S := S1x1024) (off := ![0, 0]) (by funext a; fin_cases a <;> rfl) _ x11,
    View.ld_unit_zero (S := S1x1x1024) (off := ![0, 0, 0]) (by funext a; fin_cases a <;> rfl) _ x12,
    View.ld_unit_zero (S := S1x1x1024) (off := ![0, 0, 0]) (by funext a; fin_cases a <;> rfl) _ x13,
    funext fun e => x1_pay x0 x1 x5 x6 i x2 x3 x4 x7 x8 x9 x10 x11 x12 x13 r e]

end blk

end Cert.Kernel3Ideal.Hand

end
-- ==== Proof.MeArr.lean ====
/-
  The merge's two results as whole arrays: each is the arrays the region is handed, put together place by place.
-/
module

public import proofs.«01_k».proof.Proof.MeBlk
public import proofs.«01_k».proof.Proof.InArr

@[expose] public section

set_option maxRecDepth 16384

noncomputable section

namespace Cert.Kernel3Ideal.Hand

open Cert.Kernel3Ideal Cert.Kernel3Ideal.Gen
open Idealize.ShloMosaic
open Cert.Kernel2Ideal.Hand (normAt normAt_congr rowOf)

section arr
variable (u : Vec Ideal S16384x512 .f32) (a : Vec Ideal S16384x1024 .bf16) (gt : Vec Ideal S16384x2048 .f32) (x : Vec Ideal S16384x1024 .f32)
  (p : Vec Ideal S4x128x128 .bf16) (s : Vec Ideal S1x512 .f32) (wp : Vec Ideal S512x1024 .bf16) (wa wo : Vec Ideal S1024x1024 .bf16)
  (ga : Vec Ideal S2x1x1024 .f32) (g : Vec Ideal S1x1024 .f32) (sh sc : Vec Ideal S2x1x1024 .f32)

/-- The sum of the `w` rows of column `k` that end at row `R`, none above the batch's first. -/
def winR (w : ℕ) (R : Fin 16384) (k : ℕ) : EReal :=
  ∑ j ∈ Finset.range w, if j ≤ R.val % 8192 then u (ix2 (⟨(R.val - j) % 16384, Nat.mod_lt _ (by decide)⟩ : Fin 16384) (⟨k % 512, Nat.mod_lt _ (by decide)⟩ : Fin 512)) else 0

/-- Lane `l` of group `h`, mixed, at row `R`. -/
def mixG (R : Fin 16384) (h : ℕ) (l : Fin 128) : EReal :=
  mixL (fun d => winR u (wOf h) R (128 * h + d.val)) (fun d => u (ix2 R (⟨(128 * h + d.val) % 512, Nat.mod_lt _ (by decide)⟩ : Fin 512)))
    (cntAt (BitVec.ofNat 32 (wOf h)) (R.val % 8192)) (fun d => p (ix3 (⟨h % 4, Nat.mod_lt _ (by decide)⟩ : Fin 4) d l))
    (s (ix2 0 (⟨(128 * h + l.val) % 512, Nat.mod_lt _ (by decide)⟩ : Fin 512)))

/-- Column `k` of the mixed groups. -/
def mixR (R : Fin 16384) (k : Fin 512) : EReal := mixG u p s R (k.val / 128) (⟨k.val % 128, Nat.mod_lt _ (by decide)⟩ : Fin 128)

/-- The two branches, each times its gate, added. -/
def mergeR (R : Fin 16384) (e : Fin 1024) : EReal :=
  gt (ix2 R (⟨e.val, by omega⟩ : Fin 2048)) * (∑ k : Fin 512, mixR u p s R k * wp (ix2 k e))
    + gt (ix2 R (⟨1024 + e.val, by omega⟩ : Fin 2048)) * (∑ k : Fin 1024, a (ix2 R k) * wa (ix2 k e))

/-- The row plus the gated product of the merged branches with the output weights. -/
def x1R (R : Fin 16384) (d : Fin 1024) : EReal :=
  x (ix2 R d) + ga (ix3 (⟨R.val / 8192, by omega⟩ : Fin 2) 0 d) * ∑ e : Fin 1024, mergeR u a gt p s wp wa R e * wo (ix2 e d)

/-- That row, normalised and modulated by its batch's shift and scale. -/
def h2R (R : Fin 16384) (d : Fin 1024) : EReal :=
  normAt (fun e => x1R u a gt x p s wp wa wo ga R e) (fun e => g (ix2 0 e)) (fun e => sh (ix3 (⟨R.val / 8192, by omega⟩ : Fin 2) 0 e))
    (fun e => sc (ix3 (⟨R.val / 8192, by omega⟩ : Fin 2) 0 e)) d

def x1G (y : S16384x1024.Idx) : EReal := x1R u a gt x p s wp wa wo ga (y 0) (y 1)
def h2G (y : S1024x16384.Idx) : EReal := h2R u a gt x p s wp wa wo ga g sh sc (y 1) (y 0)
end arr

variable (m : (ℓ : Loc nD τ sig) → Buf (Elt Ideal) ℓ)

theorem idxA : ∀ t : Fin cfg0.N, win0_0.index t = ![t.val, 0] ∧ win0_1.index t = ![32 * t.val - 1, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![32 * t.val - 1, 0] ∧ win0_2.index t = ![t.val, 0]
    ∧ win0_3.index t = ![t.val, 0] ∧ win0_4.index t = ![t.val, 0])

theorem idxB : ∀ t : Fin cfg0.N, win0_5.index t = ![0, 0, 0] ∧ win0_6.index t = ![0, 0] ∧ win0_7.index t = ![0, 0] ∧ win0_8.index t = ![0, 0]
    ∧ win0_9.index t = ![0, 0] ∧ win0_11.index t = ![0, 0] :=
  (by decide +kernel : ∀ t : Fin grid0.N, win0_5.index t = ![0, 0, 0] ∧ win0_6.index t = ![0, 0] ∧ win0_7.index t = ![0, 0] ∧ win0_8.index t = ![0, 0]
    ∧ win0_9.index t = ![0, 0] ∧ win0_11.index t = ![0, 0])

theorem idxC : ∀ t : Fin cfg0.N, win0_10.index t = ![t.val / 16, 0, 0] ∧ win0_12.index t = ![t.val / 16, 0, 0] ∧ win0_13.index t = ![t.val / 16, 0, 0]
    ∧ win0_14.index t = ![t.val, 0] ∧ win0_15.index t = ![0, t.val] :=
  (by decide +kernel : ∀ t : Fin grid0.N, win0_10.index t = ![t.val / 16, 0, 0] ∧ win0_12.index t = ![t.val / 16, 0, 0] ∧ win0_13.index t = ![t.val / 16, 0, 0]
    ∧ win0_14.index t = ![t.val, 0] ∧ win0_15.index t = ![0, t.val])

theorem coordA : ∀ t : Fin cfg0.N, ((grid0.coords t) 0).val = t.val := (by decide +kernel : ∀ t : Fin grid0.N, ((grid0.coords t) 0).val = t.val)

theorem lt32 (t : Fin cfg0.N) : t.val < 32 := Nat.lt_of_lt_of_eq t.isLt N_0

theorem iblk_h (c : Dev nD) (t : Fin cfg0.N) (q : Fin 16) (d : Fin 512) :
    iblk m c 1 t (ix2 q d) = V m c main_v6 (ix2 (⟨((32 * t.val - 1) * 16 + q.val) % 16384, Nat.mod_lt _ (by decide)⟩ : Fin 16384) d) := by
  have hi := (idxA t).2.1
  have ht := lt32 t
  have hr := q.isLt
  unfold iblk
  refine congrArg (V m c main_v6) (funext fun a => Fin.ext ?_)
  match a with
  | ⟨0, _⟩ =>
    blk_simp [hi]
    show (32 * t.val - 1) * 16 + q.val = ((32 * t.val - 1) * 16 + q.val) % 16384
    omega
  | ⟨1, _⟩ =>
    blk_simp [hi]
    first | done | rfl

theorem iblk_u (c : Dev nD) (t : Fin cfg0.N) (r : Fin 512) (d : Fin 512) : iblk m c 0 t (ix2 r d) = V m c main_v6 (ix2 (rowOf t.val r.val) d) := by
  have hi := (idxA t).1
  have ht := lt32 t
  have hr := r.isLt
  unfold iblk
  refine congrArg (V m c main_v6) (funext fun a => Fin.ext ?_)
  match a with
  | ⟨0, _⟩ =>
    blk_simp [hi]
    show t.val * 512 + r.val = (512 * t.val + r.val) % 16384
    omega
  | ⟨1, _⟩ =>
    blk_simp [hi]
    first | done | rfl

theorem iblk_a (c : Dev nD) (t : Fin cfg0.N) (r : Fin 512) (d : Fin 1024) : iblk m c 2 t (ix2 r d) = V m c main_v11 (ix2 (rowOf t.val r.val) d) := by
  have hi := (idxA t).2.2.1
  have ht := lt32 t
  have hr := r.isLt
  unfold iblk
  refine congrArg (V m c main_v11) (funext fun a => Fin.ext ?_)
  match a with
  | ⟨0, _⟩ =>
    blk_simp [hi]
    show t.val * 512 + r.val = (512 * t.val + r.val) % 16384
    omega
  | ⟨1, _⟩ =>
    blk_simp [hi]
    first | done | rfl

theorem iblk_gt (c : Dev nD) (t : Fin cfg0.N) (r : Fin 512) (d : Fin 2048) : iblk m c 3 t (ix2 r d) = V m c main_v12 (ix2 (rowOf t.val r.val) d) := by
  have hi := (idxA t).2.2.2.1
  have ht := lt32 t
  have hr := r.isLt
  unfold iblk
  refine congrArg (V m c main_v12) (funext fun a => Fin.ext ?_)
  match a with
  | ⟨0, _⟩ =>
    blk_simp [hi]
    show t.val * 512 + r.val = (512 * t.val + r.val) % 16384
    omega
  | ⟨1, _⟩ =>
    blk_simp [hi]
    first | done | rfl

theorem iblk_x (c : Dev nD) (t : Fin cfg0.N) (r : Fin 512) (d : Fin 1024) : iblk m c 4 t (ix2 r d) = V m c main_v13 (ix2 (rowOf t.val r.val) d) := by
  have hi := (idxA t).2.2.2.2
  have ht := lt32 t
  have hr := r.isLt
  unfold iblk
  refine congrArg (V m c main_v13) (funext fun a => Fin.ext ?_)
  match a with
  | ⟨0, _⟩ =>
    blk_simp [hi]
    show t.val * 512 + r.val = (512 * t.val + r.val) % 16384
    omega
  | ⟨1, _⟩ =>
    blk_simp [hi]
    first | done | rfl

theorem iblk_p (c : Dev nD) (t : Fin cfg0.N) : iblk m c 5 t = V m c main_v14 := by
  have hi := (idxB t).1
  funext y
  unfold iblk
  refine congrArg (V m c main_v14) (funext fun a => Fin.ext ?_)
  match a with
  | ⟨0, _⟩ =>
    blk_simp [hi]
  | ⟨1, _⟩ =>
    blk_simp [hi]
  | ⟨2, _⟩ =>
    blk_simp [hi]

theorem iblk_s (c : Dev nD) (t : Fin cfg0.N) : iblk m c 6 t = V m c main_v15 := by
  have hi := (idxB t).2.1
  funext y
  unfold iblk
  refine congrArg (V m c main_v15) (funext fun a => Fin.ext ?_)
  match a with
  | ⟨0, _⟩ =>
    blk_simp [hi]
  | ⟨1, _⟩ =>
    blk_simp [hi]

theorem iblk_wp (c : Dev nD) (t : Fin cfg0.N) : iblk m c 7 t = V m c main_v16 := by
  have hi := (idxB t).2.2.1
  funext y
  unfold iblk
  refine congrArg (V m c main_v16) (funext fun a => Fin.ext ?_)
  match a with
  | ⟨0, _⟩ =>
    blk_simp [hi]
  | ⟨1, _⟩ =>
    blk_simp [hi]

theorem iblk_wa (c : Dev nD) (t : Fin cfg0.N) : iblk m c 8 t = V m c main_v5 := by
  have hi := (idxB t).2.2.2.1
  funext y
  unfold iblk
  refine congrArg (V m c main_v5) (funext fun a => Fin.ext ?_)
  match a with
  | ⟨0, _⟩ =>
    blk_simp [hi]
  | ⟨1, _⟩ =>
    blk_simp [hi]

theorem iblk_wo (c : Dev nD) (t : Fin cfg0.N) : iblk m c 9 t = V m c main_v17 := by
  have hi := (idxB t).2.2.2.2.1
  funext y
  unfold iblk
  refine congrArg (V m c main_v17) (funext fun a => Fin.ext ?_)
  match a with
  | ⟨0, _⟩ =>
    blk_simp [hi]
  | ⟨1, _⟩ =>
    blk_simp [hi]

theorem iblk_g (c : Dev nD) (t : Fin cfg0.N) : iblk m c 11 t = V m c main_v19 := by
  have hi := (idxB t).2.2.2.2.2
  funext y
  unfold iblk
  refine congrArg (V m c main_v19) (funext fun a => Fin.ext ?_)
  match a with
  | ⟨0, _⟩ =>
    blk_simp [hi]
  | ⟨1, _⟩ =>
    blk_simp [hi]

theorem iblk_ga (c : Dev nD) (t : Fin cfg0.N) (r : Fin 512) (d : Fin 1024) :
    iblk m c 10 t (ix3 0 0 d) = V m c main_v18 (ix3 (⟨(rowOf t.val r.val).val / 8192, by have := (rowOf t.val r.val).isLt; omega⟩ : Fin 2) 0 d) := by
  have hi := (idxC t).1
  have ht := lt32 t
  have hr := r.isLt
  unfold iblk
  refine congrArg (V m c main_v18) (funext fun a => Fin.ext ?_)
  match a with
  | ⟨0, _⟩ =>
    blk_simp [hi]
    show t.val / 16 = (512 * t.val + r.val) % 16384 / 8192
    omega
  | ⟨1, _⟩ =>
    blk_simp [hi]
    first | done | rfl
  | ⟨2, _⟩ =>
    blk_simp [hi]
    first | done | rfl

theorem iblk_sh (c : Dev nD) (t : Fin cfg0.N) (r : Fin 512) (d : Fin 1024) :
    iblk m c 12 t (ix3 0 0 d) = V m c main_v20 (ix3 (⟨(rowOf t.val r.val).val / 8192, by have := (rowOf t.val r.val).isLt; omega⟩ : Fin 2) 0 d) := by
  have hi := (idxC t).2.1
  have ht := lt32 t
  have hr := r.isLt
  unfold iblk
  refine congrArg (V m c main_v20) (funext fun a => Fin.ext ?_)
  match a with
  | ⟨0, _⟩ =>
    blk_simp [hi]
    show t.val / 16 = (512 * t.val + r.val) % 16384 / 8192
    omega
  | ⟨1, _⟩ =>
    blk_simp [hi]
    first | done | rfl
  | ⟨2, _⟩ =>
    blk_simp [hi]
    first | done | rfl

theorem iblk_sc (c : Dev nD) (t : Fin cfg0.N) (r : Fin 512) (d : Fin 1024) :
    iblk m c 13 t (ix3 0 0 d) = V m c main_v21 (ix3 (⟨(rowOf t.val r.val).val / 8192, by have := (rowOf t.val r.val).isLt; omega⟩ : Fin 2) 0 d) := by
  have hi := (idxC t).2.2.1
  have ht := lt32 t
  have hr := r.isLt
  unfold iblk
  refine congrArg (V m c main_v21) (funext fun a => Fin.ext ?_)
  match a with
  | ⟨0, _⟩ =>
    blk_simp [hi]
    show t.val / 16 = (512 * t.val + r.val) % 16384 / 8192
    omega
  | ⟨1, _⟩ =>
    blk_simp [hi]
    first | done | rfl
  | ⟨2, _⟩ =>
    blk_simp [hi]
    first | done | rfl

theorem win_row (c : Dev nD) (t : Fin cfg0.N) (w : ℕ) (hw : w ≤ 16) (r : Fin 512) (k : ℕ) :
    winB (iblk m c 0 t) (iblk m c 1 t) t.val w r k = winR (V m c main_v6) w (rowOf t.val r.val) k := by
  have ht := lt32 t
  have hr := r.isLt
  unfold winB winR
  refine Finset.sum_congr rfl fun j hj => ?_
  have hj' := Finset.mem_range.1 hj
  have hR : (rowOf t.val r.val).val = 512 * t.val + r.val := Nat.mod_eq_of_lt (by omega)
  by_cases h0 : j ≤ r.val
  · rw [if_pos h0, if_pos (by rw [hR]; omega), iblk_u]
    refine congrArg (fun z => V m c main_v6 (ix2 z _)) (Fin.ext ?_)
    show (512 * t.val + (r.val - j) % 512) % 16384 = ((rowOf t.val r.val).val - j) % 16384
    rw [hR]
    omega
  · rw [if_neg h0]
    by_cases h1 : t.val % 16 = 0
    · rw [if_pos h1, if_neg (by rw [hR]; omega)]
    · rw [if_neg h1, if_pos (by rw [hR]; omega), iblk_h]
      refine congrArg (fun z => V m c main_v6 (ix2 z _)) (Fin.ext ?_)
      show ((32 * t.val - 1) * 16 + (16 + r.val - j) % 16) % 16384 = ((rowOf t.val r.val).val - j) % 16384
      rw [hR]
      omega

theorem mixL_congr {w w' u u' p p' : Fin 128 → EReal} {c c' s s' : EReal} (hw : ∀ d, w d = w' d) (hu : ∀ d, u d = u' d) (hc : c = c')
    (hp : ∀ d, p d = p' d) (hs : s = s') : mixL w u c p s = mixL w' u' c' p' s' := by
  rw [funext hw, funext hu, funext hp, hc, hs]

theorem mix_row (c : Dev nD) (t : Fin cfg0.N) (r : Fin 512) (k : Fin 512) :
    mixK (iblk m c 0 t) (iblk m c 1 t) (iblk m c 5 t) (iblk m c 6 t) t.val r k
      = mixR (V m c main_v6) (V m c main_v14) (V m c main_v15) (rowOf t.val r.val) k := by
  have ht := lt32 t
  have hr := r.isLt
  have hk := k.isLt
  unfold mixK mixR mixB mixG
  have hw : wOf (k.val / 128) ≤ 16 := by
    unfold wOf
    exact (Nat.pow_le_pow_right (by decide) (by omega : k.val / 128 + 1 ≤ 4)).trans (by decide)
  refine mixL_congr (fun d => win_row m c t _ hw r _) (fun d => iblk_u m c t r _) ?_ (fun d => congrFun (iblk_p m c t) _) (congrFun (iblk_s m c t) _)
  refine congrArg (cntAt _) ?_
  show t.val % 16 * 512 + r.val = (512 * t.val + r.val) % 16384 % 8192
  omega

theorem x1_row (c : Dev nD) (t : Fin cfg0.N) (r : Fin 512) (d : Fin 1024) :
    x1B (iblk m c 0 t) (iblk m c 1 t) (iblk m c 5 t) (iblk m c 6 t) (iblk m c 2 t) (iblk m c 3 t) (iblk m c 4 t) (iblk m c 7 t) (iblk m c 8 t) (iblk m c 9 t) (iblk m c 10 t) t.val r d
      = x1R (V m c main_v6) (V m c main_v11) (V m c main_v12) (V m c main_v13) (V m c main_v14) (V m c main_v15) (V m c main_v16) (V m c main_v5) (V m c main_v17) (V m c main_v18)
          (rowOf t.val r.val) d := by
  unfold x1B x1R
  refine congrArg₂ (· + ·) (iblk_x m c t r d) (congrArg₂ (· * ·) (iblk_ga m c t r d)
    (Finset.sum_congr rfl fun e _ => congrArg₂ (· * ·) ?_ (congrFun (iblk_wo m c t) _)))
  unfold mergeB mergeR
  refine congrArg₂ (· + ·) (congrArg₂ (· * ·) (iblk_gt m c t r _) (Finset.sum_congr rfl fun k _ => congrArg₂ (· * ·) (mix_row m c t r k) (congrFun (iblk_wp m c t) _)))
    (congrArg₂ (· * ·) (iblk_gt m c t r _) (Finset.sum_congr rfl fun k _ => congrArg₂ (· * ·) (iblk_a m c t r k) (congrFun (iblk_wa m c t) _)))

theorem final14 (c : Dev nD) : (dats m 0 c).arrAt 14 cfg0.N
    = x1G (V m c main_v6) (V m c main_v11) (V m c main_v12) (V m c main_v13) (V m c main_v14) (V m c main_v15) (V m c main_v16) (V m c main_v5) (V m c main_v17) (V m c main_v18) := by
  refine (dats m 0 c).arrAt_eq_of_covers 14 _ (by decide +kernel) fun t hf y => ?_
  have hi := (idxC t).2.2.2.1
  have ht := lt32 t
  have hy0 : (y 0).val < 512 := (y 0).isLt
  have e0 : (((((cfg0.win 14).blk t).view.emb y) 0 : Fin _) : ℕ) = (rowOf t.val (y 0).val).val := by
    blk_simp [hi]
    show t.val * 512 + (y 0).val = (512 * t.val + (y 0).val) % 16384
    omega
  have e1 : (((((cfg0.win 14).blk t).view.emb y) 1 : Fin _) : ℕ) = (y 1).val := by
    blk_simp [hi]
  blk_simp
  rw [after0_14]
  have hy : y = ix2 (y 0 : Fin 512) (y 1 : Fin 1024) := by funext a; fin_cases a <;> rfl
  conv_lhs => rw [hy]
  refine (x1_blk _ _ _ _ _ _ _ _ _ _ _ _ _ _ _ _ _).trans ?_
  rw [coordA]
  refine (x1_row m c t (y 0) (y 1)).trans ?_
  unfold x1G
  exact congrArg₂ (x1R _ _ _ _ _ _ _ _ _ _) (Fin.ext e0.symm) (Fin.ext e1.symm)

theorem final15 (c : Dev nD) : (dats m 0 c).arrAt 15 cfg0.N
    = h2G (V m c main_v6) (V m c main_v11) (V m c main_v12) (V m c main_v13) (V m c main_v14) (V m c main_v15) (V m c main_v16) (V m c main_v5) (V m c main_v17) (V m c main_v18)
        (V m c main_v19) (V m c main_v20) (V m c main_v21) := by
  refine (dats m 0 c).arrAt_eq_of_covers 15 _ (by decide +kernel) fun t hf y => ?_
  have hi := (idxC t).2.2.2.2
  have ht := lt32 t
  have hy1 : (y 1).val < 512 := (y 1).isLt
  have e0 : (((((cfg0.win 15).blk t).view.emb y) 0 : Fin _) : ℕ) = (y 0).val := by
    blk_simp [hi]
  have e1 : (((((cfg0.win 15).blk t).view.emb y) 1 : Fin _) : ℕ) = (rowOf t.val (y 1).val).val := by
    blk_simp [hi]
    show t.val * 512 + (y 1).val = (512 * t.val + (y 1).val) % 16384
    omega
  blk_simp
  rw [after0_15]
  have hy : y = ix2 (y 0 : Fin 1024) (y 1 : Fin 512) := by funext a; fin_cases a <;> rfl
  conv_lhs => rw [hy]
  refine (h2_blk _ _ _ _ _ _ _ _ _ _ _ _ _ _ _ _ _).trans ?_
  rw [coordA]
  refine (normAt_congr (fun e => x1_row m c t (y 1) e) (fun e => congrFun (iblk_g m c t) _) (fun e => iblk_sh m c t (y 1) e) (fun e => iblk_sc m c t (y 1) e) _).trans ?_
  unfold h2G
  refine Eq.trans ?_ (congrArg₂ (h2R _ _ _ _ _ _ _ _ _ _ _ _ _) (Fin.ext e1.symm) (Fin.ext e0.symm))
  rfl
end Cert.Kernel3Ideal.Hand

end
-- ==== Proof.MeHost.lean ====
/-
  The host's part of the merge: the attention's rows and its weights with a head in each 128 columns, the other
  arguments reshaped, and the two results read off the kernel's arrays.
-/
module

public import proofs.«01_k».proof.Proof.MeArr

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic

section term
variable {F : FTy → Type} [FloatOps F]
variable (m : (ℓ : Loc nD τ sig) → Buf (Elt F) ℓ)

/-- The attention's rows, each head's 64 columns in the first half of 128. -/
def wideA (x : FVec F S16384x512 .f32) : FVec F S16384x1024 .bf16 :=
  truncf .bf16 (shapeCast S16384x1024 (pad S16384x8x128 ![0, 0, 0] ![0, 0, 64] ![0, 0, 0] (shapeCast S16384x8x64 x shapeCasts_S16384x512_S16384x8x64)
    (sitofp .f32 (constantI S_ 32 0#32)) pads_S16384x8x64_S16384x8x128_000_000_0640 h_S_) shapeCasts_S16384x8x128_S16384x1024) bitsLt_bf16_f32
/-- The attention branch's weights, each head's 64 rows in the first half of 128. -/
def wideW (w : FVec F S512x1024 .f32) : FVec F S1024x1024 .bf16 :=
  truncf .bf16 (transpose S1024x1024 [1, 0] (shapeCast S1024x1024 (pad S1024x8x128 ![0, 0, 0] ![0, 0, 64] ![0, 0, 0] (shapeCast S1024x8x64 (transpose S1024x512 [1, 0] w transposes_S512x1024_S1024x512_1_0) shapeCasts_S1024x512_S1024x8x64)
    (sitofp .f32 (constantI S_ 32 0#32)) pads_S1024x8x64_S1024x8x128_000_000_0640 h_S_) shapeCasts_S1024x8x128_S1024x1024) transposes_S1024x1024_S1024x1024_1_0) bitsLt_bf16_f32

theorem V5 (c : Dev nD) : V m c main_v5 = wideW (m ((c.tc : Thread nD τ).loc main_arg7)) := by
  unfold_abbrev_sides
  simp only [hostOps0, hostOps0_1, hostOps0_2, hostOps0_3, hostOps0_4, List.flatten_cons, List.flatten_nil, List.append_nil, List.cons_append, List.nil_append]
  after_results
  rfl

theorem V6 (c : Dev nD) : V m c main_v6 = shapeCast S16384x512 (m ((c.tc : Thread nD τ).loc main_arg0)) shapeCasts_S2x8192x512_S16384x512 := by
  unfold_abbrev_sides
  simp only [hostOps0, hostOps0_1, hostOps0_2, hostOps0_3, hostOps0_4, List.flatten_cons, List.flatten_nil, List.append_nil, List.cons_append, List.nil_append]
  after_results
  rfl

theorem V11 (c : Dev nD) : V m c main_v11 = wideA (shapeCast S16384x512 (m ((c.tc : Thread nD τ).loc main_arg1)) shapeCasts_S2x8192x512_S16384x512) := by
  unfold_abbrev_sides
  simp only [hostOps0, hostOps0_1, hostOps0_2, hostOps0_3, hostOps0_4, List.flatten_cons, List.flatten_nil, List.append_nil, List.cons_append, List.nil_append]
  after_results
  rfl

theorem V12 (c : Dev nD) : V m c main_v12 = shapeCast S16384x2048 (m ((c.tc : Thread nD τ).loc main_arg2)) shapeCasts_S2x8192x2048_S16384x2048 := by
  unfold_abbrev_sides
  simp only [hostOps0, hostOps0_1, hostOps0_2, hostOps0_3, hostOps0_4, List.flatten_cons, List.flatten_nil, List.append_nil, List.cons_append, List.nil_append]
  after_results
  rfl

theorem V13 (c : Dev nD) : V m c main_v13 = shapeCast S16384x1024 (m ((c.tc : Thread nD τ).loc main_arg3)) shapeCasts_S2x8192x1024_S16384x1024 := by
  unfold_abbrev_sides
  simp only [hostOps0, hostOps0_1, hostOps0_2, hostOps0_3, hostOps0_4, List.flatten_cons, List.flatten_nil, List.append_nil, List.cons_append, List.nil_append]
  after_results
  rfl

theorem V14 (c : Dev nD) : V m c main_v14 = truncf .bf16 (m ((c.tc : Thread nD τ).loc main_arg4)) bitsLt_bf16_f32 := by
  unfold_abbrev_sides
  simp only [hostOps0, hostOps0_1, hostOps0_2, hostOps0_3, hostOps0_4, List.flatten_cons, List.flatten_nil, List.append_nil, List.cons_append, List.nil_append]
  after_results

theorem V15 (c : Dev nD) : V m c main_v15 = shapeCast S1x512 (m ((c.tc : Thread nD τ).loc main_arg5)) shapeCasts_S512_S1x512 := by
  unfold_abbrev_sides
  simp only [hostOps0, hostOps0_1, hostOps0_2, hostOps0_3, hostOps0_4, List.flatten_cons, List.flatten_nil, List.append_nil, List.cons_append, List.nil_append]
  after_results
  rfl

theorem V16 (c : Dev nD) : V m c main_v16 = truncf .bf16 (m ((c.tc : Thread nD τ).loc main_arg6)) bitsLt_bf16_f32 := by
  unfold_abbrev_sides
  simp only [hostOps0, hostOps0_1, hostOps0_2, hostOps0_3, hostOps0_4, List.flatten_cons, List.flatten_nil, List.append_nil, List.cons_append, List.nil_append]
  after_results

theorem V17 (c : Dev nD) : V m c main_v17 = truncf .bf16 (m ((c.tc : Thread nD τ).loc main_arg8)) bitsLt_bf16_f32 := by
  unfold_abbrev_sides
  simp only [hostOps0, hostOps0_1, hostOps0_2, hostOps0_3, hostOps0_4, List.flatten_cons, List.flatten_nil, List.append_nil, List.cons_append, List.nil_append]
  after_results

theorem V18 (c : Dev nD) : V m c main_v18 = shapeCast S2x1x1024 (m ((c.tc : Thread nD τ).loc main_arg9)) shapeCasts_S2x1024_S2x1x1024 := by
  unfold_abbrev_sides
  simp only [hostOps0, hostOps0_1, hostOps0_2, hostOps0_3, hostOps0_4, List.flatten_cons, List.flatten_nil, List.append_nil, List.cons_append, List.nil_append]
  after_results
  rfl

theorem V19 (c : Dev nD) : V m c main_v19 = shapeCast S1x1024 (m ((c.tc : Thread nD τ).loc main_arg10)) shapeCasts_S1024_S1x1024 := by
  unfold_abbrev_sides
  simp only [hostOps0, hostOps0_1, hostOps0_2, hostOps0_3, hostOps0_4, List.flatten_cons, List.flatten_nil, List.append_nil, List.cons_append, List.nil_append]
  after_results
  rfl

theorem V20 (c : Dev nD) : V m c main_v20 = shapeCast S2x1x1024 (m ((c.tc : Thread nD τ).loc main_arg11)) shapeCasts_S2x1024_S2x1x1024 := by
  unfold_abbrev_sides
  simp only [hostOps0, hostOps0_1, hostOps0_2, hostOps0_3, hostOps0_4, List.flatten_cons, List.flatten_nil, List.append_nil, List.cons_append, List.nil_append]
  after_results
  rfl

theorem V21 (c : Dev nD) : V m c main_v21 = shapeCast S2x1x1024 (m ((c.tc : Thread nD τ).loc main_arg12)) shapeCasts_S2x1024_S2x1x1024 := by
  unfold_abbrev_sides
  simp only [hostOps0, hostOps0_1, hostOps0_2, hostOps0_3, hostOps0_4, List.flatten_cons, List.flatten_nil, List.append_nil, List.cons_append, List.nil_append]
  after_results
  rfl

end term

section result
variable (m : (ℓ : Loc nD τ sig) → Buf (Elt Ideal) ℓ)

theorem W23 (c : Dev nD) : Pipeline.afterTail₀ cfgs (dats m) 0 (V0 m) [hostOps1] c main_v23
    = shapeCast S2x8192x1024 (x1G (V m c main_v6) (V m c main_v11) (V m c main_v12) (V m c main_v13) (V m c main_v14) (V m c main_v15) (V m c main_v16) (V m c main_v5) (V m c main_v17) (V m c main_v18) : FVec Ideal S16384x1024 .f32) shapeCasts_S16384x1024_S2x8192x1024 := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v22_0)
      = x1G (V m c main_v6) (V m c main_v11) (V m c main_v12) (V m c main_v13) (V m c main_v14) (V m c main_v15) (V m c main_v16) (V m c main_v5) (V m c main_v17) (V m c main_v18) :=
    ((dats m 0 c).withArrays_arrAt sharedIn0 (V0 m c) (A_eq m c) 14).trans (final14 m c)
  rw [h]
  rfl

theorem W25 (c : Dev nD) : Pipeline.afterTail₀ cfgs (dats m) 0 (V0 m) [hostOps1] c main_v25
    = shapeCast S2x8192x1024 (transpose S16384x1024 [1, 0] (h2G (V m c main_v6) (V m c main_v11) (V m c main_v12) (V m c main_v13) (V m c main_v14) (V m c main_v15) (V m c main_v16) (V m c main_v5) (V m c main_v17) (V m c main_v18) (V m c main_v19) (V m c main_v20) (V m c main_v21) : FVec Ideal S1024x16384 .bf16) transposes_S1024x16384_S16384x1024_1_0) shapeCasts_S16384x1024_S2x8192x1024 := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v22_1)
      = h2G (V m c main_v6) (V m c main_v11) (V m c main_v12) (V m c main_v13) (V m c main_v14) (V m c main_v15) (V m c main_v16) (V m c main_v5) (V m c main_v17) (V m c main_v18) (V m c main_v19) (V m c main_v20) (V m c main_v21) :=
    ((dats m 0 c).withArrays_arrAt sharedIn0 (V0 m c) (A_eq m c) 15).trans (final15 m c)
  rw [h]
  rfl

end result

theorem zero_cell : (FloatOps.sitofp (F := Ideal) FTy.f32 0#32 : EReal) = 0 := by
  show (((0#32 : BitVec 32).toInt : ℝ) : EReal) = 0
  simp

theorem wideA_at (x : FVec Ideal S16384x512 .f32) (R : Fin 16384) (h : Fin 8) (l : Fin 128) :
    wideA x (ix2 R (⟨128 * h.val + l.val, by omega⟩ : Fin 1024)) = if hl : l.val < 64 then x (ix2 R (⟨64 * h.val + l.val, by omega⟩ : Fin 512)) else 0 := by
  pointwise [wideA]
  rw [zero_cell]
  by_cases hl : l.val < 64
  · rw [dif_pos hl, dif_pos hl]
    refine congrArg (fun z => x (ix2 R z)) (Fin.ext ?_)
    show h.val * 64 + l.val = 64 * h.val + l.val
    omega
  · rw [dif_neg hl, dif_neg hl]

theorem wideW_at (w : FVec Ideal S512x1024 .f32) (h : Fin 8) (l : Fin 128) (e : Fin 1024) :
    wideW w (ix2 (⟨128 * h.val + l.val, by omega⟩ : Fin 1024) e) = if hl : l.val < 64 then w (ix2 (⟨64 * h.val + l.val, by omega⟩ : Fin 512) e) else 0 := by
  pointwise [wideW]
  rw [zero_cell]
  by_cases hl : l.val < 64
  · rw [dif_pos hl, dif_pos hl]
    refine congrArg (fun z => w (ix2 z e)) (Fin.ext ?_)
    show h.val * 64 + l.val = 64 * h.val + l.val
    omega
  · rw [dif_neg hl, dif_neg hl]

/-- A sum over blocks of 128 places, the upper half of each zero, is the sum over the lower halves. -/
theorem half_sum (F G : ℕ → EReal) (n : ℕ) (hlo : ∀ h < n, ∀ l < 64, F (128 * h + l) = G (64 * h + l)) (hhi : ∀ h < n, ∀ l < 128, 64 ≤ l → F (128 * h + l) = 0) :
    ∑ k ∈ Finset.range (128 * n), F k = ∑ k ∈ Finset.range (64 * n), G k := by
  induction n with
  | zero => rfl
  | succ n ih =>
    have e0 : 128 * (n + 1) = 128 * n + (64 + 64) := by omega
    have e1 : 64 * (n + 1) = 64 * n + 64 := by omega
    have z : ∑ x ∈ Finset.range 64, F (128 * n + (64 + x)) = 0 :=
      Finset.sum_eq_zero fun x hx => hhi n (by omega) (64 + x) (by have := Finset.mem_range.1 hx; omega) (by omega)
    rw [e0, e1, Finset.sum_range_add, Finset.sum_range_add, Finset.sum_range_add, z, add_zero, ih (fun h hh => hlo h (by omega)) (fun h hh => hhi h (by omega))]
    exact congrArg (_ + ·) (Finset.sum_congr rfl fun x hx => hlo n (by omega) x (Finset.mem_range.1 hx))

/-- The attention branch's product over the padded columns is the product over the columns. -/
theorem branch_sum (x : FVec Ideal S16384x512 .f32) (w : FVec Ideal S512x1024 .f32) (R : Fin 16384) (e : Fin 1024) :
    ∑ k : Fin 1024, wideA x (ix2 R k) * wideW w (ix2 k e) = ∑ k : Fin 512, x (ix2 R k) * w (ix2 k e) := by
  have hF : ∀ k : Fin 1024, wideA x (ix2 R k) * wideW w (ix2 k e)
      = (fun k : ℕ => wideA x (ix2 R (⟨k % 1024, Nat.mod_lt _ (by decide)⟩ : Fin 1024)) * wideW w (ix2 (⟨k % 1024, Nat.mod_lt _ (by decide)⟩ : Fin 1024) e)) k.val := fun k => by
    have hk : (⟨k.val % 1024, Nat.mod_lt _ (by decide)⟩ : Fin 1024) = k := Fin.ext (Nat.mod_eq_of_lt k.isLt)
    show _ = wideA x (ix2 R (⟨k.val % 1024, Nat.mod_lt _ (by decide)⟩ : Fin 1024)) * wideW w (ix2 (⟨k.val % 1024, Nat.mod_lt _ (by decide)⟩ : Fin 1024) e)
    rw [hk]
  have hG : ∀ k : Fin 512, x (ix2 R k) * w (ix2 k e)
      = (fun k : ℕ => x (ix2 R (⟨k % 512, Nat.mod_lt _ (by decide)⟩ : Fin 512)) * w (ix2 (⟨k % 512, Nat.mod_lt _ (by decide)⟩ : Fin 512) e)) k.val := fun k => by
    have hk : (⟨k.val % 512, Nat.mod_lt _ (by decide)⟩ : Fin 512) = k := Fin.ext (Nat.mod_eq_of_lt k.isLt)
    show _ = x (ix2 R (⟨k.val % 512, Nat.mod_lt _ (by decide)⟩ : Fin 512)) * w (ix2 (⟨k.val % 512, Nat.mod_lt _ (by decide)⟩ : Fin 512) e)
    rw [hk]
  refine (Finset.sum_congr rfl fun k _ => hF k).trans ((Fin.sum_univ_eq_sum_range
    (fun k : ℕ => wideA x (ix2 R (⟨k % 1024, Nat.mod_lt _ (by decide)⟩ : Fin 1024)) * wideW w (ix2 (⟨k % 1024, Nat.mod_lt _ (by decide)⟩ : Fin 1024) e)) 1024).trans (Eq.trans ?_
    ((Fin.sum_univ_eq_sum_range (fun k : ℕ => x (ix2 R (⟨k % 512, Nat.mod_lt _ (by decide)⟩ : Fin 512)) * w (ix2 (⟨k % 512, Nat.mod_lt _ (by decide)⟩ : Fin 512) e)) 512).symm.trans
      (Finset.sum_congr rfl fun k _ => (hG k).symm))))
  refine half_sum _ _ 8 (fun h hh l hl => ?_) (fun h hh l hl hl' => ?_)
  · have hk : (⟨(128 * h + l) % 1024, Nat.mod_lt _ (by decide)⟩ : Fin 1024) = ⟨128 * (⟨h, hh⟩ : Fin 8).val + (⟨l, by omega⟩ : Fin 128).val, by show 128 * h + l < 1024; omega⟩ :=
      Fin.ext (Nat.mod_eq_of_lt (by omega))
    have hk' : (⟨(64 * h + l) % 512, Nat.mod_lt _ (by decide)⟩ : Fin 512) = ⟨64 * h + l, by omega⟩ := Fin.ext (Nat.mod_eq_of_lt (by omega))
    show wideA x (ix2 R (⟨(128 * h + l) % 1024, Nat.mod_lt _ (by decide)⟩ : Fin 1024)) * wideW w (ix2 (⟨(128 * h + l) % 1024, Nat.mod_lt _ (by decide)⟩ : Fin 1024) e)
      = x (ix2 R (⟨(64 * h + l) % 512, Nat.mod_lt _ (by decide)⟩ : Fin 512)) * w (ix2 (⟨(64 * h + l) % 512, Nat.mod_lt _ (by decide)⟩ : Fin 512) e)
    rw [hk, hk', wideA_at, wideW_at, dif_pos hl, dif_pos hl]
  · have hk : (⟨(128 * h + l) % 1024, Nat.mod_lt _ (by decide)⟩ : Fin 1024) = ⟨128 * (⟨h, hh⟩ : Fin 8).val + (⟨l, hl⟩ : Fin 128).val, by show 128 * h + l < 1024; omega⟩ :=
      Fin.ext (Nat.mod_eq_of_lt (by omega))
    show wideA x (ix2 R (⟨(128 * h + l) % 1024, Nat.mod_lt _ (by decide)⟩ : Fin 1024)) * wideW w (ix2 (⟨(128 * h + l) % 1024, Nat.mod_lt _ (by decide)⟩ : Fin 1024) e) = 0
    rw [hk, wideA_at, wideW_at, dif_neg (by show ¬ l < 64; omega), zero_mul]

end Cert.Kernel3Ideal.Hand

end
-- ==== Proof.MeTerm.lean ====
/-
  The pooling and merging part's reference as terms of its arguments, and those terms read at a place: the window sums,
  their means, the mixed groups, the merged branches, the residual and the norm.
-/
module

public import proofs.«01_k».proof.Proof.Gen.Reference3Ideal
public import proofs.«01_k».proof.Proof.MePay

@[expose] public section

set_option maxRecDepth 16384

noncomputable section

namespace Cert.Reference3Ideal.Hand

open Cert.Reference3Ideal Cert.Reference3Ideal.Gen
open Idealize.ShloMosaic Idealize.ShloMosaic.TcCoe Idealize.ShloMosaic.Tactic
open Cert.Kernel2Ideal.Hand (normAt)
open Cert.Kernel3Ideal.Hand (cntAt)

section term
variable {F : FTy → Type} [FloatOps F]

/-- For every position, how many rows its window of `w` rows holds. -/
def rows (w : BitVec 32) : FVec F S2x8192x128 .f32 :=
  broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 w)))))

/-- The columns of group 0. -/
def col0 (u : FVec F S2x8192x512 .f32) : FVec F S2x8192x128 .f32 := extractStridedSlice S2x8192x128 ![0, 0, 0] u slices_S2x8192x512_S2x8192x128_0_0_0
/-- The columns with 1 rows of zeros before the first. -/
def early0 (x : FVec F S2x8192x128 .f32) : FVec F S2x8193x128 .f32 := pad S2x8193x128 ![0, 1, 0] ![0, 0, 0] ![0, 0, 0] x (sitofp .f32 (constantI S_ 32 0#32)) pads_S2x8192x128_S2x8193x128_000_100_000 h_S_

/-- A row and the 1 before it, added up. -/
def total0 (x : FVec F S2x8192x128 .f32) (p : FVec F S2x8193x128 .f32) : FVec F S2x8192x128 .f32 :=
  (addf x (extractStridedSlice S2x8192x128 ![0, 0, 0] p slices_S2x8193x128_S2x8192x128_0_0_0))
/-- The mean over the window of 2 rows. -/
def mean0 (u : FVec F S2x8192x512 .f32) : FVec F S2x8192x128 .f32 := Host.divf (total0 (col0 u) (early0 (col0 u))) (rows 2#32)

/-- The columns of group 1. -/
def col1 (u : FVec F S2x8192x512 .f32) : FVec F S2x8192x128 .f32 := extractStridedSlice S2x8192x128 ![0, 0, 128] u slices_S2x8192x512_S2x8192x128_0_0_128
/-- The columns with 3 rows of zeros before the first. -/
def early1 (x : FVec F S2x8192x128 .f32) : FVec F S2x8195x128 .f32 := pad S2x8195x128 ![0, 3, 0] ![0, 0, 0] ![0, 0, 0] x (sitofp .f32 (constantI S_ 32 0#32)) pads_S2x8192x128_S2x8195x128_000_300_000 h_S_

/-- A row and the 3 before it, added up. -/
def total1 (x : FVec F S2x8192x128 .f32) (p : FVec F S2x8195x128 .f32) : FVec F S2x8192x128 .f32 :=
  (addf (addf (addf x (extractStridedSlice S2x8192x128 ![0, 2, 0] p slices_S2x8195x128_S2x8192x128_0_2_0)) (extractStridedSlice S2x8192x128 ![0, 1, 0] p slices_S2x8195x128_S2x8192x128_0_1_0)) (extractStridedSlice S2x8192x128 ![0, 0, 0] p slices_S2x8195x128_S2x8192x128_0_0_0))
/-- The mean over the window of 4 rows. -/
def mean1 (u : FVec F S2x8192x512 .f32) : FVec F S2x8192x128 .f32 := Host.divf (total1 (col1 u) (early1 (col1 u))) (rows 4#32)

/-- The columns of group 2. -/
def col2 (u : FVec F S2x8192x512 .f32) : FVec F S2x8192x128 .f32 := extractStridedSlice S2x8192x128 ![0, 0, 256] u slices_S2x8192x512_S2x8192x128_0_0_256
/-- The columns with 7 rows of zeros before the first. -/
def early2 (x : FVec F S2x8192x128 .f32) : FVec F S2x8199x128 .f32 := pad S2x8199x128 ![0, 7, 0] ![0, 0, 0] ![0, 0, 0] x (sitofp .f32 (constantI S_ 32 0#32)) pads_S2x8192x128_S2x8199x128_000_700_000 h_S_

/-- A row and the 7 before it, added up. -/
def total2 (x : FVec F S2x8192x128 .f32) (p : FVec F S2x8199x128 .f32) : FVec F S2x8192x128 .f32 :=
  (addf (addf (addf (addf (addf (addf (addf x (extractStridedSlice S2x8192x128 ![0, 6, 0] p slices_S2x8199x128_S2x8192x128_0_6_0)) (extractStridedSlice S2x8192x128 ![0, 5, 0] p slices_S2x8199x128_S2x8192x128_0_5_0)) (extractStridedSlice S2x8192x128 ![0, 4, 0] p slices_S2x8199x128_S2x8192x128_0_4_0)) (extractStridedSlice S2x8192x128 ![0, 3, 0] p slices_S2x8199x128_S2x8192x128_0_3_0)) (extractStridedSlice S2x8192x128 ![0, 2, 0] p slices_S2x8199x128_S2x8192x128_0_2_0)) (extractStridedSlice S2x8192x128 ![0, 1, 0] p slices_S2x8199x128_S2x8192x128_0_1_0)) (extractStridedSlice S2x8192x128 ![0, 0, 0] p slices_S2x8199x128_S2x8192x128_0_0_0))
/-- The mean over the window of 8 rows. -/
def mean2 (u : FVec F S2x8192x512 .f32) : FVec F S2x8192x128 .f32 := Host.divf (total2 (col2 u) (early2 (col2 u))) (rows 8#32)

/-- The columns of group 3. -/
def col3 (u : FVec F S2x8192x512 .f32) : FVec F S2x8192x128 .f32 := extractStridedSlice S2x8192x128 ![0, 0, 384] u slices_S2x8192x512_S2x8192x128_0_0_384
/-- The columns with 15 rows of zeros before the first. -/
def early3 (x : FVec F S2x8192x128 .f32) : FVec F S2x8207x128 .f32 := pad S2x8207x128 ![0, 15, 0] ![0, 0, 0] ![0, 0, 0] x (sitofp .f32 (constantI S_ 32 0#32)) pads_S2x8192x128_S2x8207x128_000_1500_000 h_S_

/-- A row and the 15 before it, added up. -/
def total3 (x : FVec F S2x8192x128 .f32) (p : FVec F S2x8207x128 .f32) : FVec F S2x8192x128 .f32 :=
  (addf (addf (addf (addf (addf (addf (addf (addf (addf (addf (addf (addf (addf (addf (addf x (extractStridedSlice S2x8192x128 ![0, 14, 0] p slices_S2x8207x128_S2x8192x128_0_14_0)) (extractStridedSlice S2x8192x128 ![0, 13, 0] p slices_S2x8207x128_S2x8192x128_0_13_0)) (extractStridedSlice S2x8192x128 ![0, 12, 0] p slices_S2x8207x128_S2x8192x128_0_12_0)) (extractStridedSlice S2x8192x128 ![0, 11, 0] p slices_S2x8207x128_S2x8192x128_0_11_0)) (extractStridedSlice S2x8192x128 ![0, 10, 0] p slices_S2x8207x128_S2x8192x128_0_10_0)) (extractStridedSlice S2x8192x128 ![0, 9, 0] p slices_S2x8207x128_S2x8192x128_0_9_0)) (extractStridedSlice S2x8192x128 ![0, 8, 0] p slices_S2x8207x128_S2x8192x128_0_8_0)) (extractStridedSlice S2x8192x128 ![0, 7, 0] p slices_S2x8207x128_S2x8192x128_0_7_0)) (extractStridedSlice S2x8192x128 ![0, 6, 0] p slices_S2x8207x128_S2x8192x128_0_6_0)) (extractStridedSlice S2x8192x128 ![0, 5, 0] p slices_S2x8207x128_S2x8192x128_0_5_0)) (extractStridedSlice S2x8192x128 ![0, 4, 0] p slices_S2x8207x128_S2x8192x128_0_4_0)) (extractStridedSlice S2x8192x128 ![0, 3, 0] p slices_S2x8207x128_S2x8192x128_0_3_0)) (extractStridedSlice S2x8192x128 ![0, 2, 0] p slices_S2x8207x128_S2x8192x128_0_2_0)) (extractStridedSlice S2x8192x128 ![0, 1, 0] p slices_S2x8207x128_S2x8192x128_0_1_0)) (extractStridedSlice S2x8192x128 ![0, 0, 0] p slices_S2x8207x128_S2x8192x128_0_0_0))
/-- The mean over the window of 16 rows. -/
def mean3 (u : FVec F S2x8192x512 .f32) : FVec F S2x8192x128 .f32 := Host.divf (total3 (col3 u) (early3 (col3 u))) (rows 16#32)

/-- A group's means as one of four groups. -/
def one (x : FVec F S2x8192x128 .f32) : FVec F S2x8192x1x128 .f32 := broadcastInDim S2x8192x1x128 ![0, 1, 3] bcast_S2x8192x128_S2x8192x1x128_0_1_3 x
/-- The four groups side by side. -/
def four (a b c d : FVec F S2x8192x1x128 .f32) : FVec F S2x8192x4x128 .f32 :=
  concatenate S2x8192x4x128 2 [⟨S2x8192x1x128, a⟩, ⟨S2x8192x1x128, b⟩, ⟨S2x8192x1x128, c⟩, ⟨S2x8192x1x128, d⟩] concatenates_S2x8192x1x128_S2x8192x1x128_S2x8192x1x128_S2x8192x1x128_S2x8192x4x128_d2
/-- The means less the rows themselves. -/
def excess (u : FVec F S2x8192x512 .f32) : FVec F S2x8192x4x128 .f32 :=
  subf (four (one (mean0 u)) (one (mean1 u)) (one (mean2 u)) (one (mean3 u))) (shapeCast S2x8192x4x128 u shapeCasts_S2x8192x512_S2x8192x4x128)
/-- Each group mixed by its own matrix, the columns scaled. -/
def mixT (u : FVec F S2x8192x512 .f32) (pw : FVec F S4x128x128 .f32) (ps : FVec F S512 .f32) : FVec F S2x8192x512 .f32 :=
  mulf (shapeCast S2x8192x512 (transpose S2x8192x4x128 [2, 3, 0, 1] (Host.dotGeneral dot_S4x128x128_S2x8192x4x128_S4x128x2x8192_1_3_2_01_0_2 none pw (excess u)) transposes_S4x128x2x8192_S2x8192x4x128_2_3_0_1) shapeCasts_S2x8192x4x128_S2x8192x512) (broadcastInDim S2x8192x512 ![0, 1, 2] bcast_S1x1x512_S2x8192x512_0_1_2 (broadcastInDim S1x1x512 ![2] bcast_S512_S1x1x512_2 ps))
/-- The two branches' products, gated and added. -/
def mergeT (x a : FVec F S2x8192x512 .f32) (gt : FVec F S2x8192x2048 .f32) (wp wa : FVec F S512x1024 .f32) : FVec F S2x8192x1024 .f32 :=
  addf (mulf (extractStridedSlice S2x8192x1024 ![0, 0, 0] gt slices_S2x8192x2048_S2x8192x1024_0_0_0) (Host.dotGeneral dot_S2x8192x512_S512x1024_S2x8192x1024_2_0_01_1_n_n none x wp)) (mulf (extractStridedSlice S2x8192x1024 ![0, 0, 1024] gt slices_S2x8192x2048_S2x8192x1024_0_0_1024) (Host.dotGeneral dot_S2x8192x512_S512x1024_S2x8192x1024_2_0_01_1_n_n none a wa))
/-- The output projection, gated and added to the residual. -/
def resT (y x : FVec F S2x8192x1024 .f32) (wo : FVec F S1024x1024 .f32) (ga : FVec F S2x1024 .f32) : FVec F S2x8192x1024 .f32 :=
  addf x (mulf (broadcastInDim S2x8192x1024 ![0, 1, 2] bcast_S2x1x1024_S2x8192x1024_0_1_2 (broadcastInDim S2x1x1024 ![0, 2] bcast_S2x1024_S2x1x1024_0_2 ga)) (Host.dotGeneral dot_S2x8192x1024_S1024x1024_S2x8192x1024_2_0_01_1_n_n none y wo))
/-- The rows, normalised and modulated. -/
def normT (x : FVec F S2x8192x1024 .f32) (g : FVec F S1024 .f32) (sh sc : FVec F S2x1024 .f32) : FVec F S2x8192x1024 .bf16 :=
  truncf .bf16 (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc)))) (broadcastInDim S2x8192x1024 ![0, 1, 2] bcast_S2x1x1024_S2x8192x1024_0_1_2 (broadcastInDim S2x1x1024 ![0, 2] bcast_S2x1024_S2x1x1024_0_2 sh))) bitsLt_bf16_f32

/-- The first result, of the arguments. -/
def x1T (u a : FVec F S2x8192x512 .f32) (gt : FVec F S2x8192x2048 .f32) (x : FVec F S2x8192x1024 .f32) (pw : FVec F S4x128x128 .f32) (ps : FVec F S512 .f32) (wp wa : FVec F S512x1024 .f32) (wo : FVec F S1024x1024 .f32) (ga : FVec F S2x1024 .f32) : FVec F S2x8192x1024 .f32 :=
  resT (mergeT (mixT u pw ps) a gt wp wa) x wo ga

end term

theorem zero_cell : (FloatOps.sitofp (F := Ideal) FTy.f32 0#32 : EReal) = 0 := by
  show (((0#32 : BitVec 32).toInt : ℝ) : EReal) = 0
  simp

theorem rows_at (w : BitVec 32) (b : Fin 2) (s : Fin 8192) (d : Fin 128) : rows (F := Ideal) w (ix3 b s d) = cntAt w s.val := by
  pointwise [rows, cntAt]
  rfl

/-- Column `k` summed over row `s` of its batch and the `w - 1` rows before it. -/
def winT (u : FVec Ideal S2x8192x512 .f32) (w : ℕ) (b : Fin 2) (s : Fin 8192) (k : Fin 512) : EReal :=
  ∑ j ∈ Finset.range w, if j ≤ s.val then u (ix3 b (⟨(s.val - j) % 8192, Nat.mod_lt _ (by decide)⟩ : Fin 8192) k) else 0

/-- The window's first row is the row itself. -/
theorem first_term (x : FVec Ideal S2x8192x128 .f32) (b : Fin 2) (s : Fin 8192) (d : Fin 128) :
    x (ix3 b s d) = if 0 ≤ s.val then x (ix3 b (⟨(s.val - 0) % 8192, Nat.mod_lt _ (by decide)⟩ : Fin 8192) d) else 0 := by
  rw [if_pos (Nat.zero_le _)]
  exact congrArg (fun z => x (ix3 b z d)) (Fin.ext (Nat.mod_eq_of_lt s.isLt).symm)

theorem early0_at (x : FVec Ideal S2x8192x128 .f32) (b : Fin 2) (s : Fin 8192) (d : Fin 128) (j : ℕ) (hj : j < 2) :
    early0 x (ix3 b (⟨1 - j + s.val, by omega⟩ : Fin 8193) d) = if j ≤ s.val then x (ix3 b (⟨(s.val - j) % 8192, Nat.mod_lt _ (by decide)⟩ : Fin 8192) d) else 0 := by
  pointwise [early0]
  rw [zero_cell]
  have hs := s.isLt
  by_cases h : j ≤ s.val
  · rw [dif_pos (by omega), if_pos h]
    refine congrArg (fun z => x (ix3 b z d)) (Fin.ext ?_)
    show 1 - j + s.val - 1 = (s.val - j) % 8192
    omega
  · rw [dif_neg (by omega), if_neg h]

theorem total0_at (x : FVec Ideal S2x8192x128 .f32) (p : FVec Ideal S2x8193x128 .f32) (b : Fin 2) (s : Fin 8192) (d : Fin 128) :
    total0 x p (ix3 b s d) = (x (ix3 b s d) + p (ix3 b (⟨0 + s.val, by omega⟩ : Fin 8193) d)) := by
  pointwise [total0]

theorem mean0_at (u : FVec Ideal S2x8192x512 .f32) (b : Fin 2) (s : Fin 8192) (d : Fin 128) :
    mean0 u (ix3 b s d) = Ideal.div (winT u 2 b s (⟨0 + d.val, by omega⟩ : Fin 512)) (cntAt 2#32 s.val) := by
  have e : total0 (col0 u) (early0 (col0 u)) (ix3 b s d) = winT u 2 b s (⟨0 + d.val, by omega⟩ : Fin 512) := by
    rw [total0_at]
    refine Eq.trans (congrArg₂ (· + ·) (first_term (col0 u) b s d) (early0_at (col0 u) b s d 1 (by decide))) ?_
    have c : ∀ z : Fin 8192, col0 u (ix3 b z d) = u (ix3 b z (⟨0 + d.val, by omega⟩ : Fin 512)) := fun z => by
      pointwise [col0]
    simp only [winT, Finset.sum_range_succ, Finset.sum_range_zero, zero_add, c]
  show Ideal.div (total0 (col0 u) (early0 (col0 u)) (ix3 b s d)) (rows (F := Ideal) 2#32 (ix3 b s d)) = _
  rw [e, rows_at]

theorem early1_at (x : FVec Ideal S2x8192x128 .f32) (b : Fin 2) (s : Fin 8192) (d : Fin 128) (j : ℕ) (hj : j < 4) :
    early1 x (ix3 b (⟨3 - j + s.val, by omega⟩ : Fin 8195) d) = if j ≤ s.val then x (ix3 b (⟨(s.val - j) % 8192, Nat.mod_lt _ (by decide)⟩ : Fin 8192) d) else 0 := by
  pointwise [early1]
  rw [zero_cell]
  have hs := s.isLt
  by_cases h : j ≤ s.val
  · rw [dif_pos (by omega), if_pos h]
    refine congrArg (fun z => x (ix3 b z d)) (Fin.ext ?_)
    show 3 - j + s.val - 3 = (s.val - j) % 8192
    omega
  · rw [dif_neg (by omega), if_neg h]

theorem total1_at (x : FVec Ideal S2x8192x128 .f32) (p : FVec Ideal S2x8195x128 .f32) (b : Fin 2) (s : Fin 8192) (d : Fin 128) :
    total1 x p (ix3 b s d) = (((x (ix3 b s d) + p (ix3 b (⟨2 + s.val, by omega⟩ : Fin 8195) d)) + p (ix3 b (⟨1 + s.val, by omega⟩ : Fin 8195) d)) + p (ix3 b (⟨0 + s.val, by omega⟩ : Fin 8195) d)) := by
  pointwise [total1]

theorem mean1_at (u : FVec Ideal S2x8192x512 .f32) (b : Fin 2) (s : Fin 8192) (d : Fin 128) :
    mean1 u (ix3 b s d) = Ideal.div (winT u 4 b s (⟨128 + d.val, by omega⟩ : Fin 512)) (cntAt 4#32 s.val) := by
  have e : total1 (col1 u) (early1 (col1 u)) (ix3 b s d) = winT u 4 b s (⟨128 + d.val, by omega⟩ : Fin 512) := by
    rw [total1_at]
    refine Eq.trans (congrArg₂ (· + ·) (congrArg₂ (· + ·) (congrArg₂ (· + ·) (first_term (col1 u) b s d) (early1_at (col1 u) b s d 1 (by decide))) (early1_at (col1 u) b s d 2 (by decide))) (early1_at (col1 u) b s d 3 (by decide))) ?_
    have c : ∀ z : Fin 8192, col1 u (ix3 b z d) = u (ix3 b z (⟨128 + d.val, by omega⟩ : Fin 512)) := fun z => by
      pointwise [col1]
    simp only [winT, Finset.sum_range_succ, Finset.sum_range_zero, zero_add, c]
  show Ideal.div (total1 (col1 u) (early1 (col1 u)) (ix3 b s d)) (rows (F := Ideal) 4#32 (ix3 b s d)) = _
  rw [e, rows_at]

theorem early2_at (x : FVec Ideal S2x8192x128 .f32) (b : Fin 2) (s : Fin 8192) (d : Fin 128) (j : ℕ) (hj : j < 8) :
    early2 x (ix3 b (⟨7 - j + s.val, by omega⟩ : Fin 8199) d) = if j ≤ s.val then x (ix3 b (⟨(s.val - j) % 8192, Nat.mod_lt _ (by decide)⟩ : Fin 8192) d) else 0 := by
  pointwise [early2]
  rw [zero_cell]
  have hs := s.isLt
  by_cases h : j ≤ s.val
  · rw [dif_pos (by omega), if_pos h]
    refine congrArg (fun z => x (ix3 b z d)) (Fin.ext ?_)
    show 7 - j + s.val - 7 = (s.val - j) % 8192
    omega
  · rw [dif_neg (by omega), if_neg h]

theorem total2_at (x : FVec Ideal S2x8192x128 .f32) (p : FVec Ideal S2x8199x128 .f32) (b : Fin 2) (s : Fin 8192) (d : Fin 128) :
    total2 x p (ix3 b s d) = (((((((x (ix3 b s d) + p (ix3 b (⟨6 + s.val, by omega⟩ : Fin 8199) d)) + p (ix3 b (⟨5 + s.val, by omega⟩ : Fin 8199) d)) + p (ix3 b (⟨4 + s.val, by omega⟩ : Fin 8199) d)) + p (ix3 b (⟨3 + s.val, by omega⟩ : Fin 8199) d)) + p (ix3 b (⟨2 + s.val, by omega⟩ : Fin 8199) d)) + p (ix3 b (⟨1 + s.val, by omega⟩ : Fin 8199) d)) + p (ix3 b (⟨0 + s.val, by omega⟩ : Fin 8199) d)) := by
  pointwise [total2]

theorem mean2_at (u : FVec Ideal S2x8192x512 .f32) (b : Fin 2) (s : Fin 8192) (d : Fin 128) :
    mean2 u (ix3 b s d) = Ideal.div (winT u 8 b s (⟨256 + d.val, by omega⟩ : Fin 512)) (cntAt 8#32 s.val) := by
  have e : total2 (col2 u) (early2 (col2 u)) (ix3 b s d) = winT u 8 b s (⟨256 + d.val, by omega⟩ : Fin 512) := by
    rw [total2_at]
    refine Eq.trans (congrArg₂ (· + ·) (congrArg₂ (· + ·) (congrArg₂ (· + ·) (congrArg₂ (· + ·) (congrArg₂ (· + ·) (congrArg₂ (· + ·) (congrArg₂ (· + ·) (first_term (col2 u) b s d) (early2_at (col2 u) b s d 1 (by decide))) (early2_at (col2 u) b s d 2 (by decide))) (early2_at (col2 u) b s d 3 (by decide))) (early2_at (col2 u) b s d 4 (by decide))) (early2_at (col2 u) b s d 5 (by decide))) (early2_at (col2 u) b s d 6 (by decide))) (early2_at (col2 u) b s d 7 (by decide))) ?_
    have c : ∀ z : Fin 8192, col2 u (ix3 b z d) = u (ix3 b z (⟨256 + d.val, by omega⟩ : Fin 512)) := fun z => by
      pointwise [col2]
    simp only [winT, Finset.sum_range_succ, Finset.sum_range_zero, zero_add, c]
  show Ideal.div (total2 (col2 u) (early2 (col2 u)) (ix3 b s d)) (rows (F := Ideal) 8#32 (ix3 b s d)) = _
  rw [e, rows_at]

theorem early3_at (x : FVec Ideal S2x8192x128 .f32) (b : Fin 2) (s : Fin 8192) (d : Fin 128) (j : ℕ) (hj : j < 16) :
    early3 x (ix3 b (⟨15 - j + s.val, by omega⟩ : Fin 8207) d) = if j ≤ s.val then x (ix3 b (⟨(s.val - j) % 8192, Nat.mod_lt _ (by decide)⟩ : Fin 8192) d) else 0 := by
  pointwise [early3]
  rw [zero_cell]
  have hs := s.isLt
  by_cases h : j ≤ s.val
  · rw [dif_pos (by omega), if_pos h]
    refine congrArg (fun z => x (ix3 b z d)) (Fin.ext ?_)
    show 15 - j + s.val - 15 = (s.val - j) % 8192
    omega
  · rw [dif_neg (by omega), if_neg h]

theorem total3_at (x : FVec Ideal S2x8192x128 .f32) (p : FVec Ideal S2x8207x128 .f32) (b : Fin 2) (s : Fin 8192) (d : Fin 128) :
    total3 x p (ix3 b s d) = (((((((((((((((x (ix3 b s d) + p (ix3 b (⟨14 + s.val, by omega⟩ : Fin 8207) d)) + p (ix3 b (⟨13 + s.val, by omega⟩ : Fin 8207) d)) + p (ix3 b (⟨12 + s.val, by omega⟩ : Fin 8207) d)) + p (ix3 b (⟨11 + s.val, by omega⟩ : Fin 8207) d)) + p (ix3 b (⟨10 + s.val, by omega⟩ : Fin 8207) d)) + p (ix3 b (⟨9 + s.val, by omega⟩ : Fin 8207) d)) + p (ix3 b (⟨8 + s.val, by omega⟩ : Fin 8207) d)) + p (ix3 b (⟨7 + s.val, by omega⟩ : Fin 8207) d)) + p (ix3 b (⟨6 + s.val, by omega⟩ : Fin 8207) d)) + p (ix3 b (⟨5 + s.val, by omega⟩ : Fin 8207) d)) + p (ix3 b (⟨4 + s.val, by omega⟩ : Fin 8207) d)) + p (ix3 b (⟨3 + s.val, by omega⟩ : Fin 8207) d)) + p (ix3 b (⟨2 + s.val, by omega⟩ : Fin 8207) d)) + p (ix3 b (⟨1 + s.val, by omega⟩ : Fin 8207) d)) + p (ix3 b (⟨0 + s.val, by omega⟩ : Fin 8207) d)) := by
  pointwise [total3]

theorem mean3_at (u : FVec Ideal S2x8192x512 .f32) (b : Fin 2) (s : Fin 8192) (d : Fin 128) :
    mean3 u (ix3 b s d) = Ideal.div (winT u 16 b s (⟨384 + d.val, by omega⟩ : Fin 512)) (cntAt 16#32 s.val) := by
  have e : total3 (col3 u) (early3 (col3 u)) (ix3 b s d) = winT u 16 b s (⟨384 + d.val, by omega⟩ : Fin 512) := by
    rw [total3_at]
    refine Eq.trans (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (first_term (col3 u) b s d) (early3_at (col3 u) b s d 1 (by decide))) (early3_at (col3 u) b s d 2 (by decide))) (early3_at (col3 u) b s d 3 (by decide))) (early3_at (col3 u) b s d 4 (by decide))) (early3_at (col3 u) b s d 5 (by decide))) (early3_at (col3 u) b s d 6 (by decide))) (early3_at (col3 u) b s d 7 (by decide))) (early3_at (col3 u) b s d 8 (by decide))) (early3_at (col3 u) b s d 9 (by decide))) (early3_at (col3 u) b s d 10 (by decide))) (early3_at (col3 u) b s d 11 (by decide))) (early3_at (col3 u) b s d 12 (by decide))) (early3_at (col3 u) b s d 13 (by decide))) (early3_at (col3 u) b s d 14 (by decide))) (early3_at (col3 u) b s d 15 (by decide))) ?_
    have c : ∀ z : Fin 8192, col3 u (ix3 b z d) = u (ix3 b z (⟨384 + d.val, by omega⟩ : Fin 512)) := fun z => by
      pointwise [col3]
    simp only [winT, Finset.sum_range_succ, Finset.sum_range_zero, zero_add, c]
  show Ideal.div (total3 (col3 u) (early3 (col3 u)) (ix3 b s d)) (rows (F := Ideal) 16#32 (ix3 b s d)) = _
  rw [e, rows_at]

theorem four_at (x0 x1 x2 x3 : FVec Ideal S2x8192x1x128 .f32) (b : Fin 2) (s : Fin 8192) (h : Fin 4) (d : Fin 128) :
    four x0 x1 x2 x3 (ix4 b s h d) = if h.val < 1 then x0 (ix4 b s 0 d) else if h.val < 2 then x1 (ix4 b s 0 d) else if h.val < 3 then x2 (ix4 b s 0 d) else x3 (ix4 b s 0 d) := by
  pointwise [four]
  have z : ∀ (x : FVec Ideal S2x8192x1x128 .f32) (q : Fin 1), x (ix4 b s q d) = x (ix4 b s 0 d) := fun x q => congrArg (fun q => x (ix4 b s q d)) (Subsingleton.elim q 0)
  have hh := h.isLt
  by_cases h0 : h.val < 1
  · rw [dif_pos h0, if_pos h0]
    exact z _ _
  · rw [dif_neg h0, if_neg h0]
    by_cases h1 : h.val < 2
    · rw [dif_pos (by omega), if_pos h1]
      exact z _ _
    · rw [dif_neg (by omega), if_neg h1]
      by_cases h2 : h.val < 3
      · rw [dif_pos (by omega), if_pos h2]
        exact z _ _
      · rw [dif_neg (by omega), if_neg h2]
        exact z _ _

theorem one_at (x : FVec Ideal S2x8192x128 .f32) (b : Fin 2) (s : Fin 8192) (d : Fin 128) : one x (ix4 b s 0 d) = x (ix3 b s d) := by
  pointwise [one]

theorem regroup_at (u : FVec Ideal S2x8192x512 .f32) (b : Fin 2) (s : Fin 8192) (h : Fin 4) (d : Fin 128) :
    shapeCast S2x8192x4x128 u shapeCasts_S2x8192x512_S2x8192x4x128 (ix4 b s h d) = u (ix3 b s (⟨128 * h.val + d.val, by omega⟩ : Fin 512)) := by
  pointwise
  refine congrArg (fun z => u (ix3 b s z)) (Fin.ext ?_)
  show h.val * 128 + d.val = 128 * h.val + d.val
  omega

/-- A group's mean at a place, less the row itself. -/
theorem excess_at (u : FVec Ideal S2x8192x512 .f32) (b : Fin 2) (s : Fin 8192) (h : Fin 4) (d : Fin 128) :
    excess u (ix4 b s h d) = Ideal.div (winT u (2 ^ (h.val + 1)) b s (⟨128 * h.val + d.val, by omega⟩ : Fin 512)) (cntAt (BitVec.ofNat 32 (2 ^ (h.val + 1))) s.val)
      - u (ix3 b s (⟨128 * h.val + d.val, by omega⟩ : Fin 512)) := by
  show four (one (mean0 u)) (one (mean1 u)) (one (mean2 u)) (one (mean3 u)) (ix4 b s h d) - shapeCast S2x8192x4x128 u shapeCasts_S2x8192x512_S2x8192x4x128 (ix4 b s h d) = _
  rw [regroup_at, four_at, one_at, one_at, one_at, one_at, mean0_at, mean1_at, mean2_at, mean3_at]
  match h with
  | ⟨0, _⟩ => rfl
  | ⟨1, _⟩ => rfl
  | ⟨2, _⟩ => rfl
  | ⟨3, _⟩ => rfl

theorem mixT_at (u : FVec Ideal S2x8192x512 .f32) (pw : FVec Ideal S4x128x128 .f32) (ps : FVec Ideal S512 .f32) (b : Fin 2) (s : Fin 8192) (k : Fin 512) :
    mixT u pw ps (ix3 b s k) = (∑ d : Fin 128, pw (ix3 (⟨k.val / 128, by omega⟩ : Fin 4) d (⟨k.val % 128, Nat.mod_lt _ (by decide)⟩ : Fin 128))
      * excess u (ix4 b s (⟨k.val / 128, by omega⟩ : Fin 4) d)) * ps (ix1 k) := by
  unfold mixT
  generalize excess u = E
  pointwise

theorem mergeT_at (x a : FVec Ideal S2x8192x512 .f32) (gt : FVec Ideal S2x8192x2048 .f32) (wp wa : FVec Ideal S512x1024 .f32) (b : Fin 2) (s : Fin 8192) (e : Fin 1024) :
    mergeT x a gt wp wa (ix3 b s e) = gt (ix3 b s (⟨e.val, by omega⟩ : Fin 2048)) * (∑ k : Fin 512, x (ix3 b s k) * wp (ix2 k e))
      + gt (ix3 b s (⟨1024 + e.val, by omega⟩ : Fin 2048)) * (∑ k : Fin 512, a (ix3 b s k) * wa (ix2 k e)) := by
  pointwise [mergeT]

theorem resT_at (y x : FVec Ideal S2x8192x1024 .f32) (wo : FVec Ideal S1024x1024 .f32) (ga : FVec Ideal S2x1024 .f32) (b : Fin 2) (s : Fin 8192) (d : Fin 1024) :
    resT y x wo ga (ix3 b s d) = x (ix3 b s d) + ga (ix2 b d) * ∑ e : Fin 1024, y (ix3 b s e) * wo (ix2 e d) := by
  pointwise [resT]

theorem normT_at (x : FVec Ideal S2x8192x1024 .f32) (g : FVec Ideal S1024 .f32) (sh sc : FVec Ideal S2x1024 .f32) (b : Fin 2) (s : Fin 8192) (d : Fin 1024) :
    normT x g sh sc (ix3 b s d) = normAt (fun e => x (ix3 b s e)) (fun e => g (ix1 e)) (fun e => sh (ix2 b e)) (fun e => sc (ix2 b e)) d := by
  pointwise [normT, normAt]

end Cert.Reference3Ideal.Hand

end
-- ==== Proof.MeValue.lean ====
/-
  The merge's two results: the kernel's arrays and the reference's terms are the same at every place.
-/
module

public import proofs.«01_k».proof.Proof.MeHost
public import proofs.«01_k».proof.Proof.MeTerm

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Cert.Kernel2Ideal.Hand (normAt normAt_congr)
open Cert.Reference3Ideal.Hand (mixT mergeT resT normT x1T winT)

/-- Row `s` of batch `b` among all rows. -/
abbrev rowAt (b : Fin 2) (s : Fin 8192) : Fin 16384 := ⟨8192 * b.val + s.val, by omega⟩

theorem flat512 (x : FVec Ideal S2x8192x512 .f32) (b : Fin 2) (s : Fin 8192) (d : Fin 512) :
    shapeCast S16384x512 x shapeCasts_S2x8192x512_S16384x512 (ix2 (rowAt b s) d) = x (ix3 b s d) := by
  pointwise
  refine congrArg₂ (fun u v => x (ix3 u v d)) (Fin.ext ?_) (Fin.ext ?_)
  · show (8192 * b.val + s.val) / 8192 = b.val
    omega
  · show (8192 * b.val + s.val) % 8192 = s.val
    omega

theorem flat1024 (x : FVec Ideal S2x8192x1024 .f32) (b : Fin 2) (s : Fin 8192) (d : Fin 1024) :
    shapeCast S16384x1024 x shapeCasts_S2x8192x1024_S16384x1024 (ix2 (rowAt b s) d) = x (ix3 b s d) := by
  pointwise
  refine congrArg₂ (fun u v => x (ix3 u v d)) (Fin.ext ?_) (Fin.ext ?_)
  · show (8192 * b.val + s.val) / 8192 = b.val
    omega
  · show (8192 * b.val + s.val) % 8192 = s.val
    omega

theorem flat2048 (x : FVec Ideal S2x8192x2048 .f32) (b : Fin 2) (s : Fin 8192) (d : Fin 2048) :
    shapeCast S16384x2048 x shapeCasts_S2x8192x2048_S16384x2048 (ix2 (rowAt b s) d) = x (ix3 b s d) := by
  pointwise
  refine congrArg₂ (fun u v => x (ix3 u v d)) (Fin.ext ?_) (Fin.ext ?_)
  · show (8192 * b.val + s.val) / 8192 = b.val
    omega
  · show (8192 * b.val + s.val) % 8192 = s.val
    omega

theorem flatB (x : FVec Ideal S2x1024 .f32) (b : Fin 2) (d : Fin 1024) :
    shapeCast S2x1x1024 x shapeCasts_S2x1024_S2x1x1024 (ix3 b 0 d) = x (ix2 b d) := by
  pointwise

theorem flatG (x : FVec Ideal S1024 .f32) (d : Fin 1024) :
    shapeCast S1x1024 x shapeCasts_S1024_S1x1024 (ix2 0 d) = x (ix1 d) := by
  pointwise

theorem flatS (x : FVec Ideal S512 .f32) (d : Fin 512) :
    shapeCast S1x512 x shapeCasts_S512_S1x512 (ix2 0 d) = x (ix1 d) := by
  pointwise

section args
variable (u a : FVec Ideal S2x8192x512 .f32) (gt : FVec Ideal S2x8192x2048 .f32) (x : FVec Ideal S2x8192x1024 .f32) (pw : FVec Ideal S4x128x128 .f32)
  (ps : FVec Ideal S512 .f32) (wp wa : FVec Ideal S512x1024 .f32) (wo : FVec Ideal S1024x1024 .f32) (ga : FVec Ideal S2x1024 .f32)
  (g : FVec Ideal S1024 .f32) (sh sc : FVec Ideal S2x1024 .f32)

/-- The kernel's arrays of the arguments. -/
abbrev kr : Vec Ideal S16384x512 .f32 := shapeCast S16384x512 u shapeCasts_S2x8192x512_S16384x512
abbrev kt : Vec Ideal S16384x2048 .f32 := shapeCast S16384x2048 gt shapeCasts_S2x8192x2048_S16384x2048
abbrev kx : Vec Ideal S16384x1024 .f32 := shapeCast S16384x1024 x shapeCasts_S2x8192x1024_S16384x1024
abbrev kp : Vec Ideal S4x128x128 .bf16 := truncf .bf16 pw bitsLt_bf16_f32
abbrev ks : Vec Ideal S1x512 .f32 := shapeCast S1x512 ps shapeCasts_S512_S1x512
abbrev kw : Vec Ideal S512x1024 .bf16 := truncf .bf16 wp bitsLt_bf16_f32
abbrev ko : Vec Ideal S1024x1024 .bf16 := truncf .bf16 wo bitsLt_bf16_f32
abbrev kb : Vec Ideal S2x1x1024 .f32 := shapeCast S2x1x1024 ga shapeCasts_S2x1024_S2x1x1024
abbrev kg : Vec Ideal S1x1024 .f32 := shapeCast S1x1024 g shapeCasts_S1024_S1x1024

theorem win_eq (w : ℕ) (b : Fin 2) (s : Fin 8192) (k : ℕ) (hk : k < 512) : winR (kr u) w (rowAt b s) k = winT u w b s ⟨k, hk⟩ := by
  have hs := s.isLt
  have hb := b.isLt
  unfold winR winT
  refine Finset.sum_congr rfl fun j _ => ?_
  have hR : (rowAt b s).val % 8192 = s.val := by show (8192 * b.val + s.val) % 8192 = s.val; omega
  rw [hR]
  by_cases h : j ≤ s.val
  · rw [if_pos h, if_pos h]
    have e : (⟨((rowAt b s).val - j) % 16384, Nat.mod_lt _ (by decide)⟩ : Fin 16384) = rowAt b (⟨(s.val - j) % 8192, Nat.mod_lt _ (by decide)⟩ : Fin 8192) :=
      Fin.ext (by show (8192 * b.val + s.val - j) % 16384 = 8192 * b.val + (s.val - j) % 8192; omega)
    have e' : (⟨k % 512, Nat.mod_lt _ (by decide)⟩ : Fin 512) = ⟨k, hk⟩ := Fin.ext (Nat.mod_eq_of_lt hk)
    rw [e, e']
    exact flat512 u b _ _
  · rw [if_neg h, if_neg h]

theorem mix_eq (b : Fin 2) (s : Fin 8192) (k : Fin 512) : mixR (kr u) (kp pw) (ks ps) (rowAt b s) k = mixT u pw ps (ix3 b s k) := by
  have hk := k.isLt
  have hR : (rowAt b s).val % 8192 = s.val := by show (8192 * b.val + s.val) % 8192 = s.val; omega
  rw [Cert.Reference3Ideal.Hand.mixT_at]
  unfold mixR mixG mixL
  rw [hR]
  refine congrArg₂ (· * ·) (Finset.sum_congr rfl fun d _ => ?_) ?_
  · rw [Cert.Reference3Ideal.Hand.excess_at, mul_comm (pw _)]
    have hd := d.isLt
    refine congrArg₂ (· * ·) (congrArg₂ (· - ·) (congrArg (Ideal.div · _) (win_eq u _ b s _ (by omega))) ?_) ?_
    · refine Eq.trans ?_ (flat512 u b s _)
      exact congrArg (fun z => kr u (ix2 (rowAt b s) z)) (Fin.ext (Nat.mod_eq_of_lt (by omega)))
    · exact congrArg (fun z => pw (ix3 z d _)) (Fin.ext (Nat.mod_eq_of_lt (by omega)))
  · refine Eq.trans ?_ (flatS ps k)
    refine congrArg (fun z => ks ps (ix2 0 z)) (Fin.ext ?_)
    show (128 * (k.val / 128) + k.val % 128) % 512 = k.val
    omega

theorem merge_eq (b : Fin 2) (s : Fin 8192) (e : Fin 1024) :
    mergeR (kr u) (wideA (F := Ideal) (kr a)) (kt gt) (kp pw) (ks ps) (kw wp) (wideW (F := Ideal) wa) (rowAt b s) e = mergeT (mixT u pw ps) a gt wp wa (ix3 b s e) := by
  rw [Cert.Reference3Ideal.Hand.mergeT_at]
  unfold mergeR
  refine congrArg₂ (· + ·) (congrArg₂ (· * ·) (flat2048 gt b s _) (Finset.sum_congr rfl fun k _ => congrArg (· * _) (mix_eq u pw ps b s k)))
    (congrArg₂ (· * ·) (flat2048 gt b s _) ((branch_sum (kr a) wa (rowAt b s) e).trans (Finset.sum_congr rfl fun k _ => congrArg (· * _) (flat512 a b s k))))

theorem x1_eq (b : Fin 2) (s : Fin 8192) (d : Fin 1024) :
    x1R (kr u) (wideA (F := Ideal) (kr a)) (kt gt) (kx x) (kp pw) (ks ps) (kw wp) (wideW (F := Ideal) wa) (ko wo) (kb ga) (rowAt b s) d = x1T u a gt x pw ps wp wa wo ga (ix3 b s d) := by
  have hs := s.isLt
  unfold x1T
  rw [Cert.Reference3Ideal.Hand.resT_at]
  unfold x1R
  have e : (⟨(rowAt b s).val / 8192, by omega⟩ : Fin 2) = b := Fin.ext (by show (8192 * b.val + s.val) / 8192 = b.val; omega)
  refine congrArg₂ (· + ·) (flat1024 x b s d) (congrArg₂ (· * ·) ?_ (Finset.sum_congr rfl fun e _ => congrArg (· * _) (merge_eq u a gt pw ps wp wa b s e)))
  exact (congrArg (fun z => kb ga (ix3 z 0 d)) e).trans (flatB ga b d)

theorem h2_eq (b : Fin 2) (s : Fin 8192) (d : Fin 1024) :
    h2R (kr u) (wideA (F := Ideal) (kr a)) (kt gt) (kx x) (kp pw) (ks ps) (kw wp) (wideW (F := Ideal) wa) (ko wo) (kb ga) (kg g) (kb sh) (kb sc) (rowAt b s) d
      = normT (x1T u a gt x pw ps wp wa wo ga) g sh sc (ix3 b s d) := by
  have hs := s.isLt
  rw [Cert.Reference3Ideal.Hand.normT_at]
  unfold h2R
  have e : (⟨(rowAt b s).val / 8192, by omega⟩ : Fin 2) = b := Fin.ext (by show (8192 * b.val + s.val) / 8192 = b.val; omega)
  exact normAt_congr (fun i => x1_eq u a gt x pw ps wp wa wo ga b s i) (fun i => flatG g i)
    (fun i => (congrArg (fun z => kb sh (ix3 z 0 i)) e).trans (flatB sh b i)) (fun i => (congrArg (fun z => kb sc (ix3 z 0 i)) e).trans (flatB sc b i)) d

/-- The residual is the reference's. -/
theorem x1_result : shapeCast S2x8192x1024 (x1G (kr u) (wideA (F := Ideal) (kr a)) (kt gt) (kx x) (kp pw) (ks ps) (kw wp) (wideW (F := Ideal) wa) (ko wo) (kb ga) : FVec Ideal S16384x1024 .f32) shapeCasts_S16384x1024_S2x8192x1024
    = x1T u a gt x pw ps wp wa wo ga := by
  funext y
  obtain ⟨b, s, d, rfl⟩ : ∃ (b : Fin 2) (s : Fin 8192) (d : Fin 1024), y = ix3 b s d :=
    ⟨y 0, y 1, y 2, by funext a; fin_cases a <;> rfl⟩
  refine Eq.trans ?_ (x1_eq u a gt x pw ps wp wa wo ga b s d)
  have h : x1R (kr u) (wideA (F := Ideal) (kr a)) (kt gt) (kx x) (kp pw) (ks ps) (kw wp) (wideW (F := Ideal) wa) (ko wo) (kb ga) (rowAt b s) d
      = x1G (kr u) (wideA (F := Ideal) (kr a)) (kt gt) (kx x) (kp pw) (ks ps) (kw wp) (wideW (F := Ideal) wa) (ko wo) (kb ga) (ix2 (rowAt b s) d) := rfl
  rw [h]
  generalize x1G (kr u) (wideA (F := Ideal) (kr a)) (kt gt) (kx x) (kp pw) (ks ps) (kw wp) (wideW (F := Ideal) wa) (ko wo) (kb ga) = P
  pointwise
  refine congrArg (fun z => P (ix2 z d)) (Fin.ext ?_)
  show b.val * 8192 + s.val = 8192 * b.val + s.val
  omega

/-- The normalised and modulated rows are the reference's. -/
theorem h2_result : shapeCast S2x8192x1024 (transpose S16384x1024 [1, 0] (h2G (kr u) (wideA (F := Ideal) (kr a)) (kt gt) (kx x) (kp pw) (ks ps) (kw wp) (wideW (F := Ideal) wa) (ko wo) (kb ga) (kg g) (kb sh) (kb sc) : FVec Ideal S1024x16384 .bf16)
      transposes_S1024x16384_S16384x1024_1_0) shapeCasts_S16384x1024_S2x8192x1024
    = normT (x1T u a gt x pw ps wp wa wo ga) g sh sc := by
  funext y
  obtain ⟨b, s, d, rfl⟩ : ∃ (b : Fin 2) (s : Fin 8192) (d : Fin 1024), y = ix3 b s d :=
    ⟨y 0, y 1, y 2, by funext a; fin_cases a <;> rfl⟩
  refine Eq.trans ?_ (h2_eq u a gt x pw ps wp wa wo ga g sh sc b s d)
  have h : h2R (kr u) (wideA (F := Ideal) (kr a)) (kt gt) (kx x) (kp pw) (ks ps) (kw wp) (wideW (F := Ideal) wa) (ko wo) (kb ga) (kg g) (kb sh) (kb sc) (rowAt b s) d
      = h2G (kr u) (wideA (F := Ideal) (kr a)) (kt gt) (kx x) (kp pw) (ks ps) (kw wp) (wideW (F := Ideal) wa) (ko wo) (kb ga) (kg g) (kb sh) (kb sc) (ix2 d (rowAt b s)) := rfl
  rw [h]
  generalize h2G (kr u) (wideA (F := Ideal) (kr a)) (kt gt) (kx x) (kp pw) (ks ps) (kw wp) (wideW (F := Ideal) wa) (ko wo) (kb ga) (kg g) (kb sh) (kb sc) = P
  pointwise
  refine congrArg (fun z => P (ix2 d z)) (Fin.ext ?_)
  show b.val * 8192 + s.val = 8192 * b.val + s.val
  omega

end args

end Cert.Kernel3Ideal.Hand

end
-- ==== Proof.MeRun.lean ====
/-
  The pooling and merging part's reference run: its operations in order, their buffers read stage by stage, and the two
  results as terms of the arguments.
-/
module

public import proofs.«01_k».proof.Proof.MeTerm
public import Idealize.ShloMosaic.Lib.StableHlo.Run
public import Idealize.ShloMosaic.Lib.StableHlo.RunRead

@[expose] public section

noncomputable section

namespace Cert.Reference3Ideal.Hand

open Cert.Reference3Ideal Cert.Reference3Ideal.Gen Idealize.ShloMosaic Idealize.ShloMosaic.TcCoe Idealize.SL.Sem Idealize.ShloMosaic.StableHlo

variable {F : FTy → Type} [FloatOps F]

/-- The four groups side by side. -/
def fn_main_v97 : (main_v93 : Ref sig .tc).ty.Contents (Elt F) → (main_v94 : Ref sig .tc).ty.Contents (Elt F) → (main_v95 : Ref sig .tc).ty.Contents (Elt F) → (main_v96 : Ref sig .tc).ty.Contents (Elt F) → (main_v97 : Ref sig .tc).ty.Contents (Elt F) :=
  (fun u0 u1 u2 u3 => (concatenate S2x8192x4x128 2 [⟨S2x8192x1x128, (u0 : (⟨S2x8192x1x128, .f32⟩ : BufTy).Contents (Elt F))⟩, ⟨S2x8192x1x128, (u1 : (⟨S2x8192x1x128, .f32⟩ : BufTy).Contents (Elt F))⟩, ⟨S2x8192x1x128, (u2 : (⟨S2x8192x1x128, .f32⟩ : BufTy).Contents (Elt F))⟩, ⟨S2x8192x1x128, (u3 : (⟨S2x8192x1x128, .f32⟩ : BufTy).Contents (Elt F))⟩] concatenates_S2x8192x1x128_S2x8192x1x128_S2x8192x1x128_S2x8192x1x128_S2x8192x4x128_d2 : (⟨S2x8192x4x128, .f32⟩ : BufTy).Contents (Elt F)))

def opsA : List (HloOp τ sig (Elt F)) :=
  [ nullary main_v0 (iotaInDim S8192 32 0),
    unary main_arg0 main_v1 ((extractStridedSlice S2x8192x128 ![0, 0, 0] · slices_S2x8192x512_S2x8192x128_0_0_0) : (⟨S2x8192x512, .f32⟩ : BufTy).Contents (Elt F) → (⟨S2x8192x128, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x8192x128, .f32⟩) main_v1) (TRef.of (T := ⟨S_, .f32⟩) main_call0_v0) (TRef.of (T := ⟨S2x8193x128, .f32⟩) main_v2) (fun x v => pad S2x8193x128 ![0, 1, 0] ![0, 0, 0] ![0, 0, 0] x v pads_S2x8192x128_S2x8193x128_000_100_000 h_S_),
    unary main_v2 main_v3 ((extractStridedSlice S2x8192x128 ![0, 0, 0] · slices_S2x8193x128_S2x8192x128_0_0_0) : (⟨S2x8193x128, .f32⟩ : BufTy).Contents (Elt F) → (⟨S2x8192x128, .f32⟩ : BufTy).Contents (Elt F)),
    binary main_v1 main_v3 main_v4 (addf : (⟨S2x8192x128, .f32⟩ : BufTy).Contents (Elt F) → (⟨S2x8192x128, .f32⟩ : BufTy).Contents (Elt F) → (⟨S2x8192x128, .f32⟩ : BufTy).Contents (Elt F)),
    nullary main_c_0 (constantI S_ 32 1#32),
    unary main_c_0 main_v5 (broadcastInDim S8192 ![] bcast_S_S8192 : (⟨S_, .i32⟩ : BufTy).Contents (Elt F) → (⟨S8192, .i32⟩ : BufTy).Contents (Elt F)),
    binary main_v0 main_v5 main_v6 (addi : (⟨S8192, .i32⟩ : BufTy).Contents (Elt F) → (⟨S8192, .i32⟩ : BufTy).Contents (Elt F) → (⟨S8192, .i32⟩ : BufTy).Contents (Elt F)),
    nullary main_c_1 (constantI S_ 32 2#32),
    unary main_c_1 main_v7 (broadcastInDim S8192 ![] bcast_S_S8192 : (⟨S_, .i32⟩ : BufTy).Contents (Elt F) → (⟨S8192, .i32⟩ : BufTy).Contents (Elt F)),
    binary main_v6 main_v7 main_v8 (minsi : (⟨S8192, .i32⟩ : BufTy).Contents (Elt F) → (⟨S8192, .i32⟩ : BufTy).Contents (Elt F) → (⟨S8192, .i32⟩ : BufTy).Contents (Elt F)),
    unary main_v8 main_v9 (sitofp .f32 : (⟨S8192, .i32⟩ : BufTy).Contents (Elt F) → (⟨S8192, .f32⟩ : BufTy).Contents (Elt F)),
    unary main_v9 main_v10 (broadcastInDim S1x8192x1 ![1] bcast_S8192_S1x8192x1_1 : (⟨S8192, .f32⟩ : BufTy).Contents (Elt F) → (⟨S1x8192x1, .f32⟩ : BufTy).Contents (Elt F)),
    unary main_v10 main_v11 (broadcastInDim S2x8192x128 ![0, 1, 2] bcast_S1x8192x1_S2x8192x128_0_1_2 : (⟨S1x8192x1, .f32⟩ : BufTy).Contents (Elt F) → (⟨S2x8192x128, .f32⟩ : BufTy).Contents (Elt F)),
    binary main_v4 main_v11 main_v12 (Host.divf : (⟨S2x8192x128, .f32⟩ : BufTy).Contents (Elt F) → (⟨S2x8192x128, .f32⟩ : BufTy).Contents (Elt F) → (⟨S2x8192x128, .f32⟩ : BufTy).Contents (Elt F)) ]

set_option maxRecDepth 8192 in
theorem subA : (opsA : List (HloOp τ sig (Elt F))).Forall fun op => op.bufs ⊆ tcRefs τ sig :=
  ⟨nullary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub ..⟩
theorem freshA : (opsA : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
/-- What these operations do not write they leave. -/
theorem keepA (V : Valuation τ sig (Elt F)) (r : Ref sig .tc) (hr : r ∉ [main_v0, main_v1, main_c, main_call0_v0, main_v2, main_v3, main_v4, main_c_0, main_v5, main_v6, main_c_1, main_v7, main_v8, main_v9, main_v10, main_v11, main_v12]) : after opsA V (Proc.devRef .tc r) = V (Proc.devRef .tc r) :=
  after_unwritten [main_v0, main_v1, main_c, main_call0_v0, main_v2, main_v3, main_v4, main_c_0, main_v5, main_v6, main_c_1, main_v7, main_v8, main_v9, main_v10, main_v11, main_v12] rfl hr V

def opsB : List (HloOp τ sig (Elt F)) :=
  [ unary main_arg0 main_v13 ((extractStridedSlice S2x8192x128 ![0, 0, 128] · slices_S2x8192x512_S2x8192x128_0_0_128) : (⟨S2x8192x512, .f32⟩ : BufTy).Contents (Elt F) → (⟨S2x8192x128, .f32⟩ : BufTy).Contents (Elt F)),
    nullary main_c_2 (constantI S_ 32 0#32),
    TRef.unary (TRef.of (T := ⟨S_, .i32⟩) main_c_2) (TRef.of (T := ⟨S_, .f32⟩) main_call1_v0) (sitofp .f32),
    TRef.binary (TRef.of (T := ⟨S2x8192x128, .f32⟩) main_v13) (TRef.of (T := ⟨S_, .f32⟩) main_call1_v0) (TRef.of (T := ⟨S2x8195x128, .f32⟩) main_v14) (fun x v => pad S2x8195x128 ![0, 3, 0] ![0, 0, 0] ![0, 0, 0] x v pads_S2x8192x128_S2x8195x128_000_300_000 h_S_),
    unary main_v14 main_v15 ((extractStridedSlice S2x8192x128 ![0, 2, 0] · slices_S2x8195x128_S2x8192x128_0_2_0) : (⟨S2x8195x128, .f32⟩ : BufTy).Contents (Elt F) → (⟨S2x8192x128, .f32⟩ : BufTy).Contents (Elt F)),
    binary main_v13 main_v15 main_v16 (addf : (⟨S2x8192x128, .f32⟩ : BufTy).Contents (Elt F) → (⟨S2x8192x128, .f32⟩ : BufTy).Contents (Elt F) → (⟨S2x8192x128, .f32⟩ : BufTy).Contents (Elt F)),
    unary main_v14 main_v17 ((extractStridedSlice S2x8192x128 ![0, 1, 0] · slices_S2x8195x128_S2x8192x128_0_1_0) : (⟨S2x8195x128, .f32⟩ : BufTy).Contents (Elt F) → (⟨S2x8192x128, .f32⟩ : BufTy).Contents (Elt F)),
    binary main_v16 main_v17 main_v18 (addf : (⟨S2x8192x128, .f32⟩ : BufTy).Contents (Elt F) → (⟨S2x8192x128, .f32⟩ : BufTy).Contents (Elt F) → (⟨S2x8192x128, .f32⟩ : BufTy).Contents (Elt F)),
    unary main_v14 main_v19 ((extractStridedSlice S2x8192x128 ![0, 0, 0] · slices_S2x8195x128_S2x8192x128_0_0_0) : (⟨S2x8195x128, .f32⟩ : BufTy).Contents (Elt F) → (⟨S2x8192x128, .f32⟩ : BufTy).Contents (Elt F)),
    binary main_v18 main_v19 main_v20 (addf : (⟨S2x8192x128, .f32⟩ : BufTy).Contents (Elt F) → (⟨S2x8192x128, .f32⟩ : BufTy).Contents (Elt F) → (⟨S2x8192x128, .f32⟩ : BufTy).Contents (Elt F)),
    nullary main_c_3 (constantI S_ 32 1#32),
    unary main_c_3 main_v21 (broadcastInDim S8192 ![] bcast_S_S8192 : (⟨S_, .i32⟩ : BufTy).Contents (Elt F) → (⟨S8192, .i32⟩ : BufTy).Contents (Elt F)),
    binary main_v0 main_v21 main_v22 (addi : (⟨S8192, .i32⟩ : BufTy).Contents (Elt F) → (⟨S8192, .i32⟩ : BufTy).Contents (Elt F) → (⟨S8192, .i32⟩ : BufTy).Contents (Elt F)),
    nullary main_c_4 (constantI S_ 32 4#32),
    unary main_c_4 main_v23 (broadcastInDim S8192 ![] bcast_S_S8192 : (⟨S_, .i32⟩ : BufTy).Contents (Elt F) → (⟨S8192, .i32⟩ : BufTy).Contents (Elt F)),
    binary main_v22 main_v23 main_v24 (minsi : (⟨S8192, .i32⟩ : BufTy).Contents (Elt F) → (⟨S8192, .i32⟩ : BufTy).Contents (Elt F) → (⟨S8192, .i32⟩ : BufTy).Contents (Elt F)),
    unary main_v24 main_v25 (sitofp .f32 : (⟨S8192, .i32⟩ : BufTy).Contents (Elt F) → (⟨S8192, .f32⟩ : BufTy).Contents (Elt F)),
    unary main_v25 main_v26 (broadcastInDim S1x8192x1 ![1] bcast_S8192_S1x8192x1_1 : (⟨S8192, .f32⟩ : BufTy).Contents (Elt F) → (⟨S1x8192x1, .f32⟩ : BufTy).Contents (Elt F)),
    unary main_v26 main_v27 (broadcastInDim S2x8192x128 ![0, 1, 2] bcast_S1x8192x1_S2x8192x128_0_1_2 : (⟨S1x8192x1, .f32⟩ : BufTy).Contents (Elt F) → (⟨S2x8192x128, .f32⟩ : BufTy).Contents (Elt F)),
    binary main_v20 main_v27 main_v28 (Host.divf : (⟨S2x8192x128, .f32⟩ : BufTy).Contents (Elt F) → (⟨S2x8192x128, .f32⟩ : BufTy).Contents (Elt F) → (⟨S2x8192x128, .f32⟩ : BufTy).Contents (Elt F)) ]

set_option maxRecDepth 8192 in
theorem subB : (opsB : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub ..⟩
theorem freshB : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
/-- What these operations do not write they leave. -/
theorem keepB (V : Valuation τ sig (Elt F)) (r : Ref sig .tc) (hr : r ∉ [main_v13, main_c_2, main_call1_v0, main_v14, main_v15, main_v16, main_v17, main_v18, main_v19, main_v20, main_c_3, main_v21, main_v22, main_c_4, main_v23, main_v24, main_v25, main_v26, main_v27, main_v28]) : after opsB V (Proc.devRef .tc r) = V (Proc.devRef .tc r) :=
  after_unwritten [main_v13, main_c_2, main_call1_v0, main_v14, main_v15, main_v16, main_v17, main_v18, main_v19, main_v20, main_c_3, main_v21, main_v22, main_c_4, main_v23, main_v24, main_v25, main_v26, main_v27, main_v28] rfl hr V

def opsC : List (HloOp τ sig (Elt F)) :=
  [ unary main_arg0 main_v29 ((extractStridedSlice S2x8192x128 ![0, 0, 256] · slices_S2x8192x512_S2x8192x128_0_0_256) : (⟨S2x8192x512, .f32⟩ : BufTy).Contents (Elt F) → (⟨S2x8192x128, .f32⟩ : BufTy).Contents (Elt F)),
    nullary main_c_5 (constantI S_ 32 0#32),
    TRef.unary (TRef.of (T := ⟨S_, .i32⟩) main_c_5) (TRef.of (T := ⟨S_, .f32⟩) main_call2_v0) (sitofp .f32),
    TRef.binary (TRef.of (T := ⟨S2x8192x128, .f32⟩) main_v29) (TRef.of (T := ⟨S_, .f32⟩) main_call2_v0) (TRef.of (T := ⟨S2x8199x128, .f32⟩) main_v30) (fun x v => pad S2x8199x128 ![0, 7, 0] ![0, 0, 0] ![0, 0, 0] x v pads_S2x8192x128_S2x8199x128_000_700_000 h_S_),
    unary main_v30 main_v31 ((extractStridedSlice S2x8192x128 ![0, 6, 0] · slices_S2x8199x128_S2x8192x128_0_6_0) : (⟨S2x8199x128, .f32⟩ : BufTy).Contents (Elt F) → (⟨S2x8192x128, .f32⟩ : BufTy).Contents (Elt F)),
    binary main_v29 main_v31 main_v32 (addf : (⟨S2x8192x128, .f32⟩ : BufTy).Contents (Elt F) → (⟨S2x8192x128, .f32⟩ : BufTy).Contents (Elt F) → (⟨S2x8192x128, .f32⟩ : BufTy).Contents (Elt F)),
    unary main_v30 main_v33 ((extractStridedSlice S2x8192x128 ![0, 5, 0] · slices_S2x8199x128_S2x8192x128_0_5_0) : (⟨S2x8199x128, .f32⟩ : BufTy).Contents (Elt F) → (⟨S2x8192x128, .f32⟩ : BufTy).Contents (Elt F)),
    binary main_v32 main_v33 main_v34 (addf : (⟨S2x8192x128, .f32⟩ : BufTy).Contents (Elt F) → (⟨S2x8192x128, .f32⟩ : BufTy).Contents (Elt F) → (⟨S2x8192x128, .f32⟩ : BufTy).Contents (Elt F)),
    unary main_v30 main_v35 ((extractStridedSlice S2x8192x128 ![0, 4, 0] · slices_S2x8199x128_S2x8192x128_0_4_0) : (⟨S2x8199x128, .f32⟩ : BufTy).Contents (Elt F) → (⟨S2x8192x128, .f32⟩ : BufTy).Contents (Elt F)),
    binary main_v34 main_v35 main_v36 (addf : (⟨S2x8192x128, .f32⟩ : BufTy).Contents (Elt F) → (⟨S2x8192x128, .f32⟩ : BufTy).Contents (Elt F) → (⟨S2x8192x128, .f32⟩ : BufTy).Contents (Elt F)),
    unary main_v30 main_v37 ((extractStridedSlice S2x8192x128 ![0, 3, 0] · slices_S2x8199x128_S2x8192x128_0_3_0) : (⟨S2x8199x128, .f32⟩ : BufTy).Contents (Elt F) → (⟨S2x8192x128, .f32⟩ : BufTy).Contents (Elt F)),
    binary main_v36 main_v37 main_v38 (addf : (⟨S2x8192x128, .f32⟩ : BufTy).Contents (Elt F) → (⟨S2x8192x128, .f32⟩ : BufTy).Contents (Elt F) → (⟨S2x8192x128, .f32⟩ : BufTy).Contents (Elt F)),
    unary main_v30 main_v39 ((extractStridedSlice S2x8192x128 ![0, 2, 0] · slices_S2x8199x128_S2x8192x128_0_2_0) : (⟨S2x8199x128, .f32⟩ : BufTy).Contents (Elt F) → (⟨S2x8192x128, .f32⟩ : BufTy).Contents (Elt F)),
    binary main_v38 main_v39 main_v40 (addf : (⟨S2x8192x128, .f32⟩ : BufTy).Contents (Elt F) → (⟨S2x8192x128, .f32⟩ : BufTy).Contents (Elt F) → (⟨S2x8192x128, .f32⟩ : BufTy).Contents (Elt F)),
    unary main_v30 main_v41 ((extractStridedSlice S2x8192x128 ![0, 1, 0] · slices_S2x8199x128_S2x8192x128_0_1_0) : (⟨S2x8199x128, .f32⟩ : BufTy).Contents (Elt F) → (⟨S2x8192x128, .f32⟩ : BufTy).Contents (Elt F)),
    binary main_v40 main_v41 main_v42 (addf : (⟨S2x8192x128, .f32⟩ : BufTy).Contents (Elt F) → (⟨S2x8192x128, .f32⟩ : BufTy).Contents (Elt F) → (⟨S2x8192x128, .f32⟩ : BufTy).Contents (Elt F)),
    unary main_v30 main_v43 ((extractStridedSlice S2x8192x128 ![0, 0, 0] · slices_S2x8199x128_S2x8192x128_0_0_0) : (⟨S2x8199x128, .f32⟩ : BufTy).Contents (Elt F) → (⟨S2x8192x128, .f32⟩ : BufTy).Contents (Elt F)),
    binary main_v42 main_v43 main_v44 (addf : (⟨S2x8192x128, .f32⟩ : BufTy).Contents (Elt F) → (⟨S2x8192x128, .f32⟩ : BufTy).Contents (Elt F) → (⟨S2x8192x128, .f32⟩ : BufTy).Contents (Elt F)),
    nullary main_c_6 (constantI S_ 32 1#32),
    unary main_c_6 main_v45 (broadcastInDim S8192 ![] bcast_S_S8192 : (⟨S_, .i32⟩ : BufTy).Contents (Elt F) → (⟨S8192, .i32⟩ : BufTy).Contents (Elt F)),
    binary main_v0 main_v45 main_v46 (addi : (⟨S8192, .i32⟩ : BufTy).Contents (Elt F) → (⟨S8192, .i32⟩ : BufTy).Contents (Elt F) → (⟨S8192, .i32⟩ : BufTy).Contents (Elt F)),
    nullary main_c_7 (constantI S_ 32 8#32),
    unary main_c_7 main_v47 (broadcastInDim S8192 ![] bcast_S_S8192 : (⟨S_, .i32⟩ : BufTy).Contents (Elt F) → (⟨S8192, .i32⟩ : BufTy).Contents (Elt F)),
    binary main_v46 main_v47 main_v48 (minsi : (⟨S8192, .i32⟩ : BufTy).Contents (Elt F) → (⟨S8192, .i32⟩ : BufTy).Contents (Elt F) → (⟨S8192, .i32⟩ : BufTy).Contents (Elt F)),
    unary main_v48 main_v49 (sitofp .f32 : (⟨S8192, .i32⟩ : BufTy).Contents (Elt F) → (⟨S8192, .f32⟩ : BufTy).Contents (Elt F)),
    unary main_v49 main_v50 (broadcastInDim S1x8192x1 ![1] bcast_S8192_S1x8192x1_1 : (⟨S8192, .f32⟩ : BufTy).Contents (Elt F) → (⟨S1x8192x1, .f32⟩ : BufTy).Contents (Elt F)),
    unary main_v50 main_v51 (broadcastInDim S2x8192x128 ![0, 1, 2] bcast_S1x8192x1_S2x8192x128_0_1_2 : (⟨S1x8192x1, .f32⟩ : BufTy).Contents (Elt F) → (⟨S2x8192x128, .f32⟩ : BufTy).Contents (Elt F)),
    binary main_v44 main_v51 main_v52 (Host.divf : (⟨S2x8192x128, .f32⟩ : BufTy).Contents (Elt F) → (⟨S2x8192x128, .f32⟩ : BufTy).Contents (Elt F) → (⟨S2x8192x128, .f32⟩ : BufTy).Contents (Elt F)) ]

set_option maxRecDepth 8192 in
theorem subC : (opsC : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub ..⟩
theorem freshC : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- What these operations do not write they leave. -/
theorem keepC (V : Valuation τ sig (Elt F)) (r : Ref sig .tc) (hr : r ∉ [main_v29, main_c_5, main_call2_v0, main_v30, main_v31, main_v32, main_v33, main_v34, main_v35, main_v36, main_v37, main_v38, main_v39, main_v40, main_v41, main_v42, main_v43, main_v44, main_c_6, main_v45, main_v46, main_c_7, main_v47, main_v48, main_v49, main_v50, main_v51, main_v52]) : after opsC V (Proc.devRef .tc r) = V (Proc.devRef .tc r) :=
  after_unwritten [main_v29, main_c_5, main_call2_v0, main_v30, main_v31, main_v32, main_v33, main_v34, main_v35, main_v36, main_v37, main_v38, main_v39, main_v40, main_v41, main_v42, main_v43, main_v44, main_c_6, main_v45, main_v46, main_c_7, main_v47, main_v48, main_v49, main_v50, main_v51, main_v52] rfl hr V

def opsD : List (HloOp τ sig (Elt F)) :=
  [ unary main_arg0 main_v53 ((extractStridedSlice S2x8192x128 ![0, 0, 384] · slices_S2x8192x512_S2x8192x128_0_0_384) : (⟨S2x8192x512, .f32⟩ : BufTy).Contents (Elt F) → (⟨S2x8192x128, .f32⟩ : BufTy).Contents (Elt F)),
    nullary main_c_8 (constantI S_ 32 0#32),
    TRef.unary (TRef.of (T := ⟨S_, .i32⟩) main_c_8) (TRef.of (T := ⟨S_, .f32⟩) main_call3_v0) (sitofp .f32),
    TRef.binary (TRef.of (T := ⟨S2x8192x128, .f32⟩) main_v53) (TRef.of (T := ⟨S_, .f32⟩) main_call3_v0) (TRef.of (T := ⟨S2x8207x128, .f32⟩) main_v54) (fun x v => pad S2x8207x128 ![0, 15, 0] ![0, 0, 0] ![0, 0, 0] x v pads_S2x8192x128_S2x8207x128_000_1500_000 h_S_),
    unary main_v54 main_v55 ((extractStridedSlice S2x8192x128 ![0, 14, 0] · slices_S2x8207x128_S2x8192x128_0_14_0) : (⟨S2x8207x128, .f32⟩ : BufTy).Contents (Elt F) → (⟨S2x8192x128, .f32⟩ : BufTy).Contents (Elt F)),
    binary main_v53 main_v55 main_v56 (addf : (⟨S2x8192x128, .f32⟩ : BufTy).Contents (Elt F) → (⟨S2x8192x128, .f32⟩ : BufTy).Contents (Elt F) → (⟨S2x8192x128, .f32⟩ : BufTy).Contents (Elt F)),
    unary main_v54 main_v57 ((extractStridedSlice S2x8192x128 ![0, 13, 0] · slices_S2x8207x128_S2x8192x128_0_13_0) : (⟨S2x8207x128, .f32⟩ : BufTy).Contents (Elt F) → (⟨S2x8192x128, .f32⟩ : BufTy).Contents (Elt F)),
    binary main_v56 main_v57 main_v58 (addf : (⟨S2x8192x128, .f32⟩ : BufTy).Contents (Elt F) → (⟨S2x8192x128, .f32⟩ : BufTy).Contents (Elt F) → (⟨S2x8192x128, .f32⟩ : BufTy).Contents (Elt F)),
    unary main_v54 main_v59 ((extractStridedSlice S2x8192x128 ![0, 12, 0] · slices_S2x8207x128_S2x8192x128_0_12_0) : (⟨S2x8207x128, .f32⟩ : BufTy).Contents (Elt F) → (⟨S2x8192x128, .f32⟩ : BufTy).Contents (Elt F)),
    binary main_v58 main_v59 main_v60 (addf : (⟨S2x8192x128, .f32⟩ : BufTy).Contents (Elt F) → (⟨S2x8192x128, .f32⟩ : BufTy).Contents (Elt F) → (⟨S2x8192x128, .f32⟩ : BufTy).Contents (Elt F)),
    unary main_v54 main_v61 ((extractStridedSlice S2x8192x128 ![0, 11, 0] · slices_S2x8207x128_S2x8192x128_0_11_0) : (⟨S2x8207x128, .f32⟩ : BufTy).Contents (Elt F) → (⟨S2x8192x128, .f32⟩ : BufTy).Contents (Elt F)),
    binary main_v60 main_v61 main_v62 (addf : (⟨S2x8192x128, .f32⟩ : BufTy).Contents (Elt F) → (⟨S2x8192x128, .f32⟩ : BufTy).Contents (Elt F) → (⟨S2x8192x128, .f32⟩ : BufTy).Contents (Elt F)),
    unary main_v54 main_v63 ((extractStridedSlice S2x8192x128 ![0, 10, 0] · slices_S2x8207x128_S2x8192x128_0_10_0) : (⟨S2x8207x128, .f32⟩ : BufTy).Contents (Elt F) → (⟨S2x8192x128, .f32⟩ : BufTy).Contents (Elt F)),
    binary main_v62 main_v63 main_v64 (addf : (⟨S2x8192x128, .f32⟩ : BufTy).Contents (Elt F) → (⟨S2x8192x128, .f32⟩ : BufTy).Contents (Elt F) → (⟨S2x8192x128, .f32⟩ : BufTy).Contents (Elt F)),
    unary main_v54 main_v65 ((extractStridedSlice S2x8192x128 ![0, 9, 0] · slices_S2x8207x128_S2x8192x128_0_9_0) : (⟨S2x8207x128, .f32⟩ : BufTy).Contents (Elt F) → (⟨S2x8192x128, .f32⟩ : BufTy).Contents (Elt F)),
    binary main_v64 main_v65 main_v66 (addf : (⟨S2x8192x128, .f32⟩ : BufTy).Contents (Elt F) → (⟨S2x8192x128, .f32⟩ : BufTy).Contents (Elt F) → (⟨S2x8192x128, .f32⟩ : BufTy).Contents (Elt F)),
    unary main_v54 main_v67 ((extractStridedSlice S2x8192x128 ![0, 8, 0] · slices_S2x8207x128_S2x8192x128_0_8_0) : (⟨S2x8207x128, .f32⟩ : BufTy).Contents (Elt F) → (⟨S2x8192x128, .f32⟩ : BufTy).Contents (Elt F)),
    binary main_v66 main_v67 main_v68 (addf : (⟨S2x8192x128, .f32⟩ : BufTy).Contents (Elt F) → (⟨S2x8192x128, .f32⟩ : BufTy).Contents (Elt F) → (⟨S2x8192x128, .f32⟩ : BufTy).Contents (Elt F)),
    unary main_v54 main_v69 ((extractStridedSlice S2x8192x128 ![0, 7, 0] · slices_S2x8207x128_S2x8192x128_0_7_0) : (⟨S2x8207x128, .f32⟩ : BufTy).Contents (Elt F) → (⟨S2x8192x128, .f32⟩ : BufTy).Contents (Elt F)),
    binary main_v68 main_v69 main_v70 (addf : (⟨S2x8192x128, .f32⟩ : BufTy).Contents (Elt F) → (⟨S2x8192x128, .f32⟩ : BufTy).Contents (Elt F) → (⟨S2x8192x128, .f32⟩ : BufTy).Contents (Elt F)),
    unary main_v54 main_v71 ((extractStridedSlice S2x8192x128 ![0, 6, 0] · slices_S2x8207x128_S2x8192x128_0_6_0) : (⟨S2x8207x128, .f32⟩ : BufTy).Contents (Elt F) → (⟨S2x8192x128, .f32⟩ : BufTy).Contents (Elt F)),
    binary main_v70 main_v71 main_v72 (addf : (⟨S2x8192x128, .f32⟩ : BufTy).Contents (Elt F) → (⟨S2x8192x128, .f32⟩ : BufTy).Contents (Elt F) → (⟨S2x8192x128, .f32⟩ : BufTy).Contents (Elt F)),
    unary main_v54 main_v73 ((extractStridedSlice S2x8192x128 ![0, 5, 0] · slices_S2x8207x128_S2x8192x128_0_5_0) : (⟨S2x8207x128, .f32⟩ : BufTy).Contents (Elt F) → (⟨S2x8192x128, .f32⟩ : BufTy).Contents (Elt F)),
    binary main_v72 main_v73 main_v74 (addf : (⟨S2x8192x128, .f32⟩ : BufTy).Contents (Elt F) → (⟨S2x8192x128, .f32⟩ : BufTy).Contents (Elt F) → (⟨S2x8192x128, .f32⟩ : BufTy).Contents (Elt F)),
    unary main_v54 main_v75 ((extractStridedSlice S2x8192x128 ![0, 4, 0] · slices_S2x8207x128_S2x8192x128_0_4_0) : (⟨S2x8207x128, .f32⟩ : BufTy).Contents (Elt F) → (⟨S2x8192x128, .f32⟩ : BufTy).Contents (Elt F)),
    binary main_v74 main_v75 main_v76 (addf : (⟨S2x8192x128, .f32⟩ : BufTy).Contents (Elt F) → (⟨S2x8192x128, .f32⟩ : BufTy).Contents (Elt F) → (⟨S2x8192x128, .f32⟩ : BufTy).Contents (Elt F)),
    unary main_v54 main_v77 ((extractStridedSlice S2x8192x128 ![0, 3, 0] · slices_S2x8207x128_S2x8192x128_0_3_0) : (⟨S2x8207x128, .f32⟩ : BufTy).Contents (Elt F) → (⟨S2x8192x128, .f32⟩ : BufTy).Contents (Elt F)),
    binary main_v76 main_v77 main_v78 (addf : (⟨S2x8192x128, .f32⟩ : BufTy).Contents (Elt F) → (⟨S2x8192x128, .f32⟩ : BufTy).Contents (Elt F) → (⟨S2x8192x128, .f32⟩ : BufTy).Contents (Elt F)),
    unary main_v54 main_v79 ((extractStridedSlice S2x8192x128 ![0, 2, 0] · slices_S2x8207x128_S2x8192x128_0_2_0) : (⟨S2x8207x128, .f32⟩ : BufTy).Contents (Elt F) → (⟨S2x8192x128, .f32⟩ : BufTy).Contents (Elt F)),
    binary main_v78 main_v79 main_v80 (addf : (⟨S2x8192x128, .f32⟩ : BufTy).Contents (Elt F) → (⟨S2x8192x128, .f32⟩ : BufTy).Contents (Elt F) → (⟨S2x8192x128, .f32⟩ : BufTy).Contents (Elt F)),
    unary main_v54 main_v81 ((extractStridedSlice S2x8192x128 ![0, 1, 0] · slices_S2x8207x128_S2x8192x128_0_1_0) : (⟨S2x8207x128, .f32⟩ : BufTy).Contents (Elt F) → (⟨S2x8192x128, .f32⟩ : BufTy).Contents (Elt F)),
    binary main_v80 main_v81 main_v82 (addf : (⟨S2x8192x128, .f32⟩ : BufTy).Contents (Elt F) → (⟨S2x8192x128, .f32⟩ : BufTy).Contents (Elt F) → (⟨S2x8192x128, .f32⟩ : BufTy).Contents (Elt F)),
    unary main_v54 main_v83 ((extractStridedSlice S2x8192x128 ![0, 0, 0] · slices_S2x8207x128_S2x8192x128_0_0_0) : (⟨S2x8207x128, .f32⟩ : BufTy).Contents (Elt F) → (⟨S2x8192x128, .f32⟩ : BufTy).Contents (Elt F)),
    binary main_v82 main_v83 main_v84 (addf : (⟨S2x8192x128, .f32⟩ : BufTy).Contents (Elt F) → (⟨S2x8192x128, .f32⟩ : BufTy).Contents (Elt F) → (⟨S2x8192x128, .f32⟩ : BufTy).Contents (Elt F)),
    nullary main_c_9 (constantI S_ 32 1#32),
    unary main_c_9 main_v85 (broadcastInDim S8192 ![] bcast_S_S8192 : (⟨S_, .i32⟩ : BufTy).Contents (Elt F) → (⟨S8192, .i32⟩ : BufTy).Contents (Elt F)),
    binary main_v0 main_v85 main_v86 (addi : (⟨S8192, .i32⟩ : BufTy).Contents (Elt F) → (⟨S8192, .i32⟩ : BufTy).Contents (Elt F) → (⟨S8192, .i32⟩ : BufTy).Contents (Elt F)),
    nullary main_c_10 (constantI S_ 32 16#32),
    unary main_c_10 main_v87 (broadcastInDim S8192 ![] bcast_S_S8192 : (⟨S_, .i32⟩ : BufTy).Contents (Elt F) → (⟨S8192, .i32⟩ : BufTy).Contents (Elt F)),
    binary main_v86 main_v87 main_v88 (minsi : (⟨S8192, .i32⟩ : BufTy).Contents (Elt F) → (⟨S8192, .i32⟩ : BufTy).Contents (Elt F) → (⟨S8192, .i32⟩ : BufTy).Contents (Elt F)),
    unary main_v88 main_v89 (sitofp .f32 : (⟨S8192, .i32⟩ : BufTy).Contents (Elt F) → (⟨S8192, .f32⟩ : BufTy).Contents (Elt F)),
    unary main_v89 main_v90 (broadcastInDim S1x8192x1 ![1] bcast_S8192_S1x8192x1_1 : (⟨S8192, .f32⟩ : BufTy).Contents (Elt F) → (⟨S1x8192x1, .f32⟩ : BufTy).Contents (Elt F)),
    unary main_v90 main_v91 (broadcastInDim S2x8192x128 ![0, 1, 2] bcast_S1x8192x1_S2x8192x128_0_1_2 : (⟨S1x8192x1, .f32⟩ : BufTy).Contents (Elt F) → (⟨S2x8192x128, .f32⟩ : BufTy).Contents (Elt F)),
    binary main_v84 main_v91 main_v92 (Host.divf : (⟨S2x8192x128, .f32⟩ : BufTy).Contents (Elt F) → (⟨S2x8192x128, .f32⟩ : BufTy).Contents (Elt F) → (⟨S2x8192x128, .f32⟩ : BufTy).Contents (Elt F)) ]

set_option maxRecDepth 8192 in
theorem subD : (opsD : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub ..⟩
theorem freshD : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- What these operations do not write they leave. -/
theorem keepD (V : Valuation τ sig (Elt F)) (r : Ref sig .tc) (hr : r ∉ [main_v53, main_c_8, main_call3_v0, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_c_9, main_v85, main_v86, main_c_10, main_v87, main_v88, main_v89, main_v90, main_v91, main_v92]) : after opsD V (Proc.devRef .tc r) = V (Proc.devRef .tc r) :=
  after_unwritten [main_v53, main_c_8, main_call3_v0, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_c_9, main_v85, main_v86, main_c_10, main_v87, main_v88, main_v89, main_v90, main_v91, main_v92] rfl hr V

def opsE : List (HloOp τ sig (Elt F)) :=
  [ unary main_v12 main_v93 (broadcastInDim S2x8192x1x128 ![0, 1, 3] bcast_S2x8192x128_S2x8192x1x128_0_1_3 : (⟨S2x8192x128, .f32⟩ : BufTy).Contents (Elt F) → (⟨S2x8192x1x128, .f32⟩ : BufTy).Contents (Elt F)),
    unary main_v28 main_v94 (broadcastInDim S2x8192x1x128 ![0, 1, 3] bcast_S2x8192x128_S2x8192x1x128_0_1_3 : (⟨S2x8192x128, .f32⟩ : BufTy).Contents (Elt F) → (⟨S2x8192x1x128, .f32⟩ : BufTy).Contents (Elt F)),
    unary main_v52 main_v95 (broadcastInDim S2x8192x1x128 ![0, 1, 3] bcast_S2x8192x128_S2x8192x1x128_0_1_3 : (⟨S2x8192x128, .f32⟩ : BufTy).Contents (Elt F) → (⟨S2x8192x1x128, .f32⟩ : BufTy).Contents (Elt F)),
    unary main_v92 main_v96 (broadcastInDim S2x8192x1x128 ![0, 1, 3] bcast_S2x8192x128_S2x8192x1x128_0_1_3 : (⟨S2x8192x128, .f32⟩ : BufTy).Contents (Elt F) → (⟨S2x8192x1x128, .f32⟩ : BufTy).Contents (Elt F)),
    nary ![main_v93, main_v94, main_v95, main_v96] main_v97 (fun u => fn_main_v97 (F := F) (u 0) (u 1) (u 2) (u 3)),
    reshape main_arg0 main_v98 (rfl : (.f32 : EltTy) = .f32) shapeCasts_S2x8192x512_S2x8192x4x128,
    binary main_v97 main_v98 main_v99 (subf : (⟨S2x8192x4x128, .f32⟩ : BufTy).Contents (Elt F) → (⟨S2x8192x4x128, .f32⟩ : BufTy).Contents (Elt F) → (⟨S2x8192x4x128, .f32⟩ : BufTy).Contents (Elt F)),
    binary main_arg4 main_v99 main_v100 ((fun l r => Host.dotGeneral dot_S4x128x128_S2x8192x4x128_S4x128x2x8192_1_3_2_01_0_2 none l r) : (⟨S4x128x128, .f32⟩ : BufTy).Contents (Elt F) → (⟨S2x8192x4x128, .f32⟩ : BufTy).Contents (Elt F) → (⟨S4x128x2x8192, .f32⟩ : BufTy).Contents (Elt F)),
    unary main_v100 main_v101 ((transpose S2x8192x4x128 [2, 3, 0, 1] · transposes_S4x128x2x8192_S2x8192x4x128_2_3_0_1) : (⟨S4x128x2x8192, .f32⟩ : BufTy).Contents (Elt F) → (⟨S2x8192x4x128, .f32⟩ : BufTy).Contents (Elt F)),
    reshape main_v101 main_v102 (rfl : (.f32 : EltTy) = .f32) shapeCasts_S2x8192x4x128_S2x8192x512,
    unary main_arg5 main_v103 (broadcastInDim S1x1x512 ![2] bcast_S512_S1x1x512_2 : (⟨S512, .f32⟩ : BufTy).Contents (Elt F) → (⟨S1x1x512, .f32⟩ : BufTy).Contents (Elt F)),
    unary main_v103 main_v104 (broadcastInDim S2x8192x512 ![0, 1, 2] bcast_S1x1x512_S2x8192x512_0_1_2 : (⟨S1x1x512, .f32⟩ : BufTy).Contents (Elt F) → (⟨S2x8192x512, .f32⟩ : BufTy).Contents (Elt F)),
    binary main_v102 main_v104 main_v105 (mulf : (⟨S2x8192x512, .f32⟩ : BufTy).Contents (Elt F) → (⟨S2x8192x512, .f32⟩ : BufTy).Contents (Elt F) → (⟨S2x8192x512, .f32⟩ : BufTy).Contents (Elt F)) ]

set_option maxRecDepth 8192 in
theorem subE : (opsE : List (HloOp τ sig (Elt F))).Forall fun op => op.bufs ⊆ tcRefs τ sig :=
  ⟨unary_bufs_sub .., unary_bufs_sub .., unary_bufs_sub .., unary_bufs_sub .., nary_bufs_sub .., reshape_bufs_sub .., binary_bufs_sub .., binary_bufs_sub .., unary_bufs_sub .., reshape_bufs_sub .., unary_bufs_sub .., unary_bufs_sub .., binary_bufs_sub ..⟩
theorem freshE : (opsE : List (HloOp τ sig (Elt F))).Forall fun op => op.fresh = ∅ :=
  ⟨rfl, rfl, rfl, rfl, rfl, rfl, rfl, rfl, rfl, rfl, rfl, rfl, rfl⟩
set_option maxRecDepth 8192 in
/-- What these operations do not write they leave. -/
theorem keepE (V : Valuation τ sig (Elt F)) (r : Ref sig .tc) (hr : r ∉ [main_v93, main_v94, main_v95, main_v96, main_v97, main_v98, main_v99, main_v100, main_v101, main_v102, main_v103, main_v104, main_v105]) : after opsE V (Proc.devRef .tc r) = V (Proc.devRef .tc r) :=
  after_unwritten [main_v93, main_v94, main_v95, main_v96, main_v97, main_v98, main_v99, main_v100, main_v101, main_v102, main_v103, main_v104, main_v105] rfl hr V

def opsF : List (HloOp τ sig (Elt F)) :=
  [ unary main_arg2 main_v106 ((extractStridedSlice S2x8192x1024 ![0, 0, 0] · slices_S2x8192x2048_S2x8192x1024_0_0_0) : (⟨S2x8192x2048, .f32⟩ : BufTy).Contents (Elt F) → (⟨S2x8192x1024, .f32⟩ : BufTy).Contents (Elt F)),
    binary main_v105 main_arg6 main_v107 ((fun l r => Host.dotGeneral dot_S2x8192x512_S512x1024_S2x8192x1024_2_0_01_1_n_n none l r) : (⟨S2x8192x512, .f32⟩ : BufTy).Contents (Elt F) → (⟨S512x1024, .f32⟩ : BufTy).Contents (Elt F) → (⟨S2x8192x1024, .f32⟩ : BufTy).Contents (Elt F)),
    binary main_v106 main_v107 main_v108 (mulf : (⟨S2x8192x1024, .f32⟩ : BufTy).Contents (Elt F) → (⟨S2x8192x1024, .f32⟩ : BufTy).Contents (Elt F) → (⟨S2x8192x1024, .f32⟩ : BufTy).Contents (Elt F)),
    unary main_arg2 main_v109 ((extractStridedSlice S2x8192x1024 ![0, 0, 1024] · slices_S2x8192x2048_S2x8192x1024_0_0_1024) : (⟨S2x8192x2048, .f32⟩ : BufTy).Contents (Elt F) → (⟨S2x8192x1024, .f32⟩ : BufTy).Contents (Elt F)),
    binary main_arg1 main_arg7 main_v110 ((fun l r => Host.dotGeneral dot_S2x8192x512_S512x1024_S2x8192x1024_2_0_01_1_n_n none l r) : (⟨S2x8192x512, .f32⟩ : BufTy).Contents (Elt F) → (⟨S512x1024, .f32⟩ : BufTy).Contents (Elt F) → (⟨S2x8192x1024, .f32⟩ : BufTy).Contents (Elt F)),
    binary main_v109 main_v110 main_v111 (mulf : (⟨S2x8192x1024, .f32⟩ : BufTy).Contents (Elt F) → (⟨S2x8192x1024, .f32⟩ : BufTy).Contents (Elt F) → (⟨S2x8192x1024, .f32⟩ : BufTy).Contents (Elt F)),
    binary main_v108 main_v111 main_v112 (addf : (⟨S2x8192x1024, .f32⟩ : BufTy).Contents (Elt F) → (⟨S2x8192x1024, .f32⟩ : BufTy).Contents (Elt F) → (⟨S2x8192x1024, .f32⟩ : BufTy).Contents (Elt F)),
    unary main_arg9 main_v113 (broadcastInDim S2x1x1024 ![0, 2] bcast_S2x1024_S2x1x1024_0_2 : (⟨S2x1024, .f32⟩ : BufTy).Contents (Elt F) → (⟨S2x1x1024, .f32⟩ : BufTy).Contents (Elt F)),
    binary main_v112 main_arg8 main_v114 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
    unary main_v113 main_v115 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v115 main_v114 main_v116 (mulf : (⟨S2x8192x1024, .f32⟩ : BufTy).Contents (Elt F) → (⟨S2x8192x1024, .f32⟩ : BufTy).Contents (Elt F) → (⟨S2x8192x1024, .f32⟩ : BufTy).Contents (Elt F)),
    binary main_arg3 main_v116 main_v117 (addf : (⟨S2x8192x1024, .f32⟩ : BufTy).Contents (Elt F) → (⟨S2x8192x1024, .f32⟩ : BufTy).Contents (Elt F) → (⟨S2x8192x1024, .f32⟩ : BufTy).Contents (Elt F)) ]

set_option maxRecDepth 8192 in
theorem subF : (opsF : List (HloOp τ sig (Elt F))).Forall fun op => op.bufs ⊆ tcRefs τ sig :=
  ⟨unary_bufs_sub .., binary_bufs_sub .., binary_bufs_sub .., unary_bufs_sub .., binary_bufs_sub .., binary_bufs_sub .., binary_bufs_sub .., unary_bufs_sub .., binary_bufs_sub .., unary_bufs_sub .., binary_bufs_sub .., binary_bufs_sub ..⟩
theorem freshF : (opsF : List (HloOp τ sig (Elt F))).Forall fun op => op.fresh = ∅ :=
  ⟨rfl, rfl, rfl, rfl, rfl, rfl, rfl, rfl, rfl, rfl, rfl, rfl⟩
set_option maxRecDepth 8192 in
/-- What these operations do not write they leave. -/
theorem keepF (V : Valuation τ sig (Elt F)) (r : Ref sig .tc) (hr : r ∉ [main_v106, main_v107, main_v108, main_v109, main_v110, main_v111, main_v112, main_v113, main_v114, main_v115, main_v116, main_v117]) : after opsF V (Proc.devRef .tc r) = V (Proc.devRef .tc r) :=
  after_unwritten [main_v106, main_v107, main_v108, main_v109, main_v110, main_v111, main_v112, main_v113, main_v114, main_v115, main_v116, main_v117] rfl hr V

def opsG : List (HloOp τ sig (Elt F)) :=
  [ binary main_v117 main_v117 main_v118 (mulf : (⟨S2x8192x1024, .f32⟩ : BufTy).Contents (Elt F) → (⟨S2x8192x1024, .f32⟩ : BufTy).Contents (Elt F) → (⟨S2x8192x1024, .f32⟩ : BufTy).Contents (Elt F)),
    nullary main_cst (constant S_ .f32 0x00000000#32),
    binary main_v118 main_cst main_v119 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v119 main_v120 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_11 (constant S_ .f32 0x44800000#32),
    unary main_cst_11 main_v121 (broadcastInDim S2x8192x1 ![] bcast_S_S2x8192x1 : (⟨S_, .f32⟩ : BufTy).Contents (Elt F) → (⟨S2x8192x1, .f32⟩ : BufTy).Contents (Elt F)),
    binary main_v120 main_v121 main_v122 (Host.divf : (⟨S2x8192x1, .f32⟩ : BufTy).Contents (Elt F) → (⟨S2x8192x1, .f32⟩ : BufTy).Contents (Elt F) → (⟨S2x8192x1, .f32⟩ : BufTy).Contents (Elt F)),
    nullary main_cst_12 (constant S_ .f32 0x358637BD#32),
    unary main_cst_12 main_v123 (broadcastInDim S2x8192x1 ![] bcast_S_S2x8192x1 : (⟨S_, .f32⟩ : BufTy).Contents (Elt F) → (⟨S2x8192x1, .f32⟩ : BufTy).Contents (Elt F)),
    binary main_v122 main_v123 main_v124 (addf : (⟨S2x8192x1, .f32⟩ : BufTy).Contents (Elt F) → (⟨S2x8192x1, .f32⟩ : BufTy).Contents (Elt F) → (⟨S2x8192x1, .f32⟩ : BufTy).Contents (Elt F)),
    unary main_v124 main_v125 (Host.rsqrt : (⟨S2x8192x1, .f32⟩ : BufTy).Contents (Elt F) → (⟨S2x8192x1, .f32⟩ : BufTy).Contents (Elt F)),
    unary main_v125 main_v126 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v117 main_v126 main_v127 (mulf : (⟨S2x8192x1024, .f32⟩ : BufTy).Contents (Elt F) → (⟨S2x8192x1024, .f32⟩ : BufTy).Contents (Elt F) → (⟨S2x8192x1024, .f32⟩ : BufTy).Contents (Elt F)),
    unary main_arg10 main_v128 (broadcastInDim S1x1x1024 ![2] bcast_S1024_S1x1x1024_2 : (⟨S1024, .f32⟩ : BufTy).Contents (Elt F) → (⟨S1x1x1024, .f32⟩ : BufTy).Contents (Elt F)),
    unary main_v128 main_v129 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v127 main_v129 main_v130 (mulf : (⟨S2x8192x1024, .f32⟩ : BufTy).Contents (Elt F) → (⟨S2x8192x1024, .f32⟩ : BufTy).Contents (Elt F) → (⟨S2x8192x1024, .f32⟩ : BufTy).Contents (Elt F)),
    unary main_arg12 main_v131 (broadcastInDim S2x1x1024 ![0, 2] bcast_S2x1024_S2x1x1024_0_2 : (⟨S2x1024, .f32⟩ : BufTy).Contents (Elt F) → (⟨S2x1x1024, .f32⟩ : BufTy).Contents (Elt F)),
    nullary main_cst_13 (constant S_ .f32 0x3F800000#32),
    unary main_cst_13 main_v132 (broadcastInDim S2x1x1024 ![] bcast_S_S2x1x1024 : (⟨S_, .f32⟩ : BufTy).Contents (Elt F) → (⟨S2x1x1024, .f32⟩ : BufTy).Contents (Elt F)),
    binary main_v132 main_v131 main_v133 (addf : (⟨S2x1x1024, .f32⟩ : BufTy).Contents (Elt F) → (⟨S2x1x1024, .f32⟩ : BufTy).Contents (Elt F) → (⟨S2x1x1024, .f32⟩ : BufTy).Contents (Elt F)),
    unary main_v133 main_v134 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v130 main_v134 main_v135 (mulf : (⟨S2x8192x1024, .f32⟩ : BufTy).Contents (Elt F) → (⟨S2x8192x1024, .f32⟩ : BufTy).Contents (Elt F) → (⟨S2x8192x1024, .f32⟩ : BufTy).Contents (Elt F)),
    unary main_arg11 main_v136 (broadcastInDim S2x1x1024 ![0, 2] bcast_S2x1024_S2x1x1024_0_2 : (⟨S2x1024, .f32⟩ : BufTy).Contents (Elt F) → (⟨S2x1x1024, .f32⟩ : BufTy).Contents (Elt F)),
    unary main_v136 main_v137 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v135 main_v137 main_v138 (addf : (⟨S2x8192x1024, .f32⟩ : BufTy).Contents (Elt F) → (⟨S2x8192x1024, .f32⟩ : BufTy).Contents (Elt F) → (⟨S2x8192x1024, .f32⟩ : BufTy).Contents (Elt F)),
    unary main_v138 main_v139 ((truncf .bf16 · bitsLt_bf16_f32) : (⟨S2x8192x1024, .f32⟩ : BufTy).Contents (Elt F) → (⟨S2x8192x1024, .bf16⟩ : BufTy).Contents (Elt F)) ]

set_option maxRecDepth 8192 in
theorem subG : (opsG : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., unary_bufs_sub ..⟩
theorem freshG : (opsG : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- What these operations do not write they leave. -/
theorem keepG (V : Valuation τ sig (Elt F)) (r : Ref sig .tc) (hr : r ∉ [main_v118, main_cst, main_v119, main_v120, main_cst_11, main_v121, main_v122, main_cst_12, main_v123, main_v124, main_v125, main_v126, main_v127, main_v128, main_v129, main_v130, main_v131, main_cst_13, main_v132, main_v133, main_v134, main_v135, main_v136, main_v137, main_v138, main_v139]) : after opsG V (Proc.devRef .tc r) = V (Proc.devRef .tc r) :=
  after_unwritten [main_v118, main_cst, main_v119, main_v120, main_cst_11, main_v121, main_v122, main_cst_12, main_v123, main_v124, main_v125, main_v126, main_v127, main_v128, main_v129, main_v130, main_v131, main_cst_13, main_v132, main_v133, main_v134, main_v135, main_v136, main_v137, main_v138, main_v139] rfl hr V

/-- The reference program as its line of operations. -/
def ops : List (HloOp τ sig (Elt F)) := opsA ++ (opsB ++ (opsC ++ (opsD ++ (opsE ++ (opsF ++ opsG)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem forall_app {α : Type*} {p : α → Prop} {l l' : List α} (h : l.Forall p) (h' : l'.Forall p) : (l ++ l').Forall p :=
  List.forall_iff_forall_mem.2 fun x hx => (List.mem_append.1 hx).elim (List.forall_iff_forall_mem.1 h x) (List.forall_iff_forall_mem.1 h' x)
theorem ops_sub : (ops : List (HloOp τ sig (Elt F))).Forall fun op => op.bufs ⊆ tcRefs τ sig :=
  forall_app subA (forall_app subB (forall_app subC (forall_app subD (forall_app subE (forall_app subF subG)))))
theorem ops_fresh : (ops : List (HloOp τ sig (Elt F))).Forall fun op => op.fresh = ∅ :=
  forall_app freshA (forall_app freshB (forall_app freshC (forall_app freshD (forall_app freshE (forall_app freshF freshG)))))

theorem after_app (l l' : List (HloOp τ sig (Elt F))) (V : Valuation τ sig (Elt F)) : after (l ++ l') V = after l' (after l V) := by
  induction l generalizing V with
  | nil => rfl
  | cons op l ih => exact ih _

theorem after_ops (V : Valuation τ sig (Elt F)) : after ops V = after opsG (after opsF (after opsE (after opsD (after opsC (after opsB (after opsA V)))))) := by
  unfold ops
  rw [after_app, after_app, after_app, after_app, after_app, after_app]

/-- The four groups' means, less the rows themselves, mixed by each group's matrix, the columns scaled. -/
def mixM (x0 x1 x2 x3 : FVec F S2x8192x128 .f32) (u : FVec F S2x8192x512 .f32) (pw : FVec F S4x128x128 .f32) (ps : FVec F S512 .f32) : FVec F S2x8192x512 .f32 :=
  mulf (shapeCast S2x8192x512 (transpose S2x8192x4x128 [2, 3, 0, 1] (Host.dotGeneral dot_S4x128x128_S2x8192x4x128_S4x128x2x8192_1_3_2_01_0_2 none pw (subf (four (one x0) (one x1) (one x2) (one x3)) (shapeCast S2x8192x4x128 u shapeCasts_S2x8192x512_S2x8192x4x128))) transposes_S4x128x2x8192_S2x8192x4x128_2_3_0_1) shapeCasts_S2x8192x4x128_S2x8192x512) (broadcastInDim S2x8192x512 ![0, 1, 2] bcast_S1x1x512_S2x8192x512_0_1_2 (broadcastInDim S1x1x512 ![2] bcast_S512_S1x1x512_2 ps))

section stages
variable (V : Valuation τ sig (Elt F))

/-- For every position, how many rows its window of `w` rows holds, of the positions. -/
def rowsI (i : IVec S8192 32) (w : BitVec 32) : FVec F S2x8192x128 .f32 :=
  broadcastInDim S2x8192x128 ![0, 1, 2] bcast_S1x8192x1_S2x8192x128_0_1_2 (broadcastInDim S1x8192x1 ![1] bcast_S8192_S1x8192x1_1 (sitofp .f32 (minsi (addi i (broadcastInDim S8192 ![] bcast_S_S8192 (constantI S_ 32 1#32))) (broadcastInDim S8192 ![] bcast_S_S8192 (constantI S_ 32 w)))))

/-- The positions. -/
theorem read0 : after opsA V (Proc.devRef .tc main_v0) = iotaInDim S8192 32 0 := by
  after_reads_simp
set_option maxRecDepth 8192 in
set_option maxHeartbeats 4000000 in
/-- The means of group 0. -/
theorem read12 : after opsA V (Proc.devRef .tc main_v12) = mean0 (V (Proc.devRef .tc main_arg0)) := by
  after_reads_simp
  rfl
set_option maxRecDepth 8192 in
set_option maxHeartbeats 4000000 in
/-- The means of group 1. -/
theorem read28 : after opsB V (Proc.devRef .tc main_v28) = Host.divf (total1 (col1 (V (Proc.devRef .tc main_arg0))) (early1 (col1 (V (Proc.devRef .tc main_arg0))))) (rowsI (V (Proc.devRef .tc main_v0)) 4#32) := by
  after_reads_simp
  rfl
set_option maxRecDepth 8192 in
set_option maxHeartbeats 4000000 in
/-- The means of group 2. -/
theorem read52 : after opsC V (Proc.devRef .tc main_v52) = Host.divf (total2 (col2 (V (Proc.devRef .tc main_arg0))) (early2 (col2 (V (Proc.devRef .tc main_arg0))))) (rowsI (V (Proc.devRef .tc main_v0)) 8#32) := by
  after_reads_simp
  rfl
set_option maxRecDepth 8192 in
set_option maxHeartbeats 4000000 in
/-- The means of group 3. -/
theorem read92 : after opsD V (Proc.devRef .tc main_v92) = Host.divf (total3 (col3 (V (Proc.devRef .tc main_arg0))) (early3 (col3 (V (Proc.devRef .tc main_arg0))))) (rowsI (V (Proc.devRef .tc main_v0)) 16#32) := by
  after_reads_simp
  rfl
set_option maxRecDepth 8192 in
set_option maxHeartbeats 4000000 in
/-- Each group's means, less the rows, mixed. -/
theorem read105 : after opsE V (Proc.devRef .tc main_v105) = mixM (V (Proc.devRef .tc main_v12)) (V (Proc.devRef .tc main_v28)) (V (Proc.devRef .tc main_v52)) (V (Proc.devRef .tc main_v92)) (V (Proc.devRef .tc main_arg0)) (V (Proc.devRef .tc main_arg4)) (V (Proc.devRef .tc main_arg5)) := by
  after_reads_simp
  rfl
set_option maxRecDepth 8192 in
set_option maxHeartbeats 4000000 in
/-- The residual. -/
theorem read117 : after opsF V (Proc.devRef .tc main_v117) = resT (mergeT (V (Proc.devRef .tc main_v105)) (V (Proc.devRef .tc main_arg1)) (V (Proc.devRef .tc main_arg2)) (V (Proc.devRef .tc main_arg6)) (V (Proc.devRef .tc main_arg7))) (V (Proc.devRef .tc main_arg3)) (V (Proc.devRef .tc main_arg8)) (V (Proc.devRef .tc main_arg9)) := by
  after_reads_simp
  rfl
set_option maxRecDepth 8192 in
set_option maxHeartbeats 4000000 in
/-- The second norm. -/
theorem read139 : after opsG V (Proc.devRef .tc main_v139) = normT (V (Proc.devRef .tc main_v117)) (V (Proc.devRef .tc main_arg10)) (V (Proc.devRef .tc main_arg11)) (V (Proc.devRef .tc main_arg12)) := by
  after_reads_simp
  rfl

/-- The mixed rows, of the arguments. -/
theorem mixed : after opsE (after opsD (after opsC (after opsB (after opsA V)))) (Proc.devRef .tc main_v105) = mixT (V (Proc.devRef .tc main_arg0)) (V (Proc.devRef .tc main_arg4)) (V (Proc.devRef .tc main_arg5)) := by
  rw [read105, read92, keepD _ main_v52 (by decide), read52, keepD _ main_v28 (by decide), keepC _ main_v28 (by decide), read28, keepD _ main_v12 (by decide), keepC _ main_v12 (by decide), keepB _ main_v12 (by decide), read12,
    keepD _ main_arg0 (by decide), keepC _ main_arg0 (by decide), keepB _ main_arg0 (by decide), keepA _ main_arg0 (by decide),
    keepD _ main_arg4 (by decide), keepC _ main_arg4 (by decide), keepB _ main_arg4 (by decide), keepA _ main_arg4 (by decide), keepD _ main_arg5 (by decide), keepC _ main_arg5 (by decide), keepB _ main_arg5 (by decide), keepA _ main_arg5 (by decide)]
  rw [keepC _ main_v0 (by decide), keepB _ main_v0 (by decide), read0]
  rfl

/-- The first result, of the arguments. -/
theorem first : after opsF (after opsE (after opsD (after opsC (after opsB (after opsA V))))) (Proc.devRef .tc main_v117) = x1T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [read117, mixed, keepE _ main_arg1 (by decide), keepD _ main_arg1 (by decide), keepC _ main_arg1 (by decide), keepB _ main_arg1 (by decide), keepA _ main_arg1 (by decide),
    keepE _ main_arg2 (by decide), keepD _ main_arg2 (by decide), keepC _ main_arg2 (by decide), keepB _ main_arg2 (by decide), keepA _ main_arg2 (by decide),
    keepE _ main_arg3 (by decide), keepD _ main_arg3 (by decide), keepC _ main_arg3 (by decide), keepB _ main_arg3 (by decide), keepA _ main_arg3 (by decide),
    keepE _ main_arg6 (by decide), keepD _ main_arg6 (by decide), keepC _ main_arg6 (by decide), keepB _ main_arg6 (by decide), keepA _ main_arg6 (by decide),
    keepE _ main_arg7 (by decide), keepD _ main_arg7 (by decide), keepC _ main_arg7 (by decide), keepB _ main_arg7 (by decide), keepA _ main_arg7 (by decide),
    keepE _ main_arg8 (by decide), keepD _ main_arg8 (by decide), keepC _ main_arg8 (by decide), keepB _ main_arg8 (by decide), keepA _ main_arg8 (by decide),
    keepE _ main_arg9 (by decide), keepD _ main_arg9 (by decide), keepC _ main_arg9 (by decide), keepB _ main_arg9 (by decide), keepA _ main_arg9 (by decide)]
  rfl

theorem result0 : after ops V (Proc.devRef .tc main_v117) = x1T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops, keepG _ main_v117 (by decide), first]

/-- The second result, of the arguments. -/
theorem result1 : after ops V (Proc.devRef .tc main_v139) = normT (x1T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg10)) (V (Proc.devRef .tc main_arg11)) (V (Proc.devRef .tc main_arg12)) := by
  rw [after_ops, read139, first, keepF _ main_arg10 (by decide), keepE _ main_arg10 (by decide), keepD _ main_arg10 (by decide), keepC _ main_arg10 (by decide), keepB _ main_arg10 (by decide), keepA _ main_arg10 (by decide),
    keepF _ main_arg11 (by decide), keepE _ main_arg11 (by decide), keepD _ main_arg11 (by decide), keepC _ main_arg11 (by decide), keepB _ main_arg11 (by decide), keepA _ main_arg11 (by decide),
    keepF _ main_arg12 (by decide), keepE _ main_arg12 (by decide), keepD _ main_arg12 (by decide), keepC _ main_arg12 (by decide), keepB _ main_arg12 (by decide), keepA _ main_arg12 (by decide)]

theorem arg0 : after ops V (Proc.devRef .tc main_arg0) = (V (Proc.devRef .tc main_arg0)) := by
  rw [after_ops, keepG _ main_arg0 (by decide), keepF _ main_arg0 (by decide), keepE _ main_arg0 (by decide), keepD _ main_arg0 (by decide), keepC _ main_arg0 (by decide), keepB _ main_arg0 (by decide), keepA _ main_arg0 (by decide)]
theorem arg1 : after ops V (Proc.devRef .tc main_arg1) = (V (Proc.devRef .tc main_arg1)) := by
  rw [after_ops, keepG _ main_arg1 (by decide), keepF _ main_arg1 (by decide), keepE _ main_arg1 (by decide), keepD _ main_arg1 (by decide), keepC _ main_arg1 (by decide), keepB _ main_arg1 (by decide), keepA _ main_arg1 (by decide)]
theorem arg2 : after ops V (Proc.devRef .tc main_arg2) = (V (Proc.devRef .tc main_arg2)) := by
  rw [after_ops, keepG _ main_arg2 (by decide), keepF _ main_arg2 (by decide), keepE _ main_arg2 (by decide), keepD _ main_arg2 (by decide), keepC _ main_arg2 (by decide), keepB _ main_arg2 (by decide), keepA _ main_arg2 (by decide)]
theorem arg3 : after ops V (Proc.devRef .tc main_arg3) = (V (Proc.devRef .tc main_arg3)) := by
  rw [after_ops, keepG _ main_arg3 (by decide), keepF _ main_arg3 (by decide), keepE _ main_arg3 (by decide), keepD _ main_arg3 (by decide), keepC _ main_arg3 (by decide), keepB _ main_arg3 (by decide), keepA _ main_arg3 (by decide)]
theorem arg4 : after ops V (Proc.devRef .tc main_arg4) = (V (Proc.devRef .tc main_arg4)) := by
  rw [after_ops, keepG _ main_arg4 (by decide), keepF _ main_arg4 (by decide), keepE _ main_arg4 (by decide), keepD _ main_arg4 (by decide), keepC _ main_arg4 (by decide), keepB _ main_arg4 (by decide), keepA _ main_arg4 (by decide)]
theorem arg5 : after ops V (Proc.devRef .tc main_arg5) = (V (Proc.devRef .tc main_arg5)) := by
  rw [after_ops, keepG _ main_arg5 (by decide), keepF _ main_arg5 (by decide), keepE _ main_arg5 (by decide), keepD _ main_arg5 (by decide), keepC _ main_arg5 (by decide), keepB _ main_arg5 (by decide), keepA _ main_arg5 (by decide)]
theorem arg6 : after ops V (Proc.devRef .tc main_arg6) = (V (Proc.devRef .tc main_arg6)) := by
  rw [after_ops, keepG _ main_arg6 (by decide), keepF _ main_arg6 (by decide), keepE _ main_arg6 (by decide), keepD _ main_arg6 (by decide), keepC _ main_arg6 (by decide), keepB _ main_arg6 (by decide), keepA _ main_arg6 (by decide)]
theorem arg7 : after ops V (Proc.devRef .tc main_arg7) = (V (Proc.devRef .tc main_arg7)) := by
  rw [after_ops, keepG _ main_arg7 (by decide), keepF _ main_arg7 (by decide), keepE _ main_arg7 (by decide), keepD _ main_arg7 (by decide), keepC _ main_arg7 (by decide), keepB _ main_arg7 (by decide), keepA _ main_arg7 (by decide)]
theorem arg8 : after ops V (Proc.devRef .tc main_arg8) = (V (Proc.devRef .tc main_arg8)) := by
  rw [after_ops, keepG _ main_arg8 (by decide), keepF _ main_arg8 (by decide), keepE _ main_arg8 (by decide), keepD _ main_arg8 (by decide), keepC _ main_arg8 (by decide), keepB _ main_arg8 (by decide), keepA _ main_arg8 (by decide)]
theorem arg9 : after ops V (Proc.devRef .tc main_arg9) = (V (Proc.devRef .tc main_arg9)) := by
  rw [after_ops, keepG _ main_arg9 (by decide), keepF _ main_arg9 (by decide), keepE _ main_arg9 (by decide), keepD _ main_arg9 (by decide), keepC _ main_arg9 (by decide), keepB _ main_arg9 (by decide), keepA _ main_arg9 (by decide)]
theorem arg10 : after ops V (Proc.devRef .tc main_arg10) = (V (Proc.devRef .tc main_arg10)) := by
  rw [after_ops, keepG _ main_arg10 (by decide), keepF _ main_arg10 (by decide), keepE _ main_arg10 (by decide), keepD _ main_arg10 (by decide), keepC _ main_arg10 (by decide), keepB _ main_arg10 (by decide), keepA _ main_arg10 (by decide)]
theorem arg11 : after ops V (Proc.devRef .tc main_arg11) = (V (Proc.devRef .tc main_arg11)) := by
  rw [after_ops, keepG _ main_arg11 (by decide), keepF _ main_arg11 (by decide), keepE _ main_arg11 (by decide), keepD _ main_arg11 (by decide), keepC _ main_arg11 (by decide), keepB _ main_arg11 (by decide), keepA _ main_arg11 (by decide)]
theorem arg12 : after ops V (Proc.devRef .tc main_arg12) = (V (Proc.devRef .tc main_arg12)) := by
  rw [after_ops, keepG _ main_arg12 (by decide), keepF _ main_arg12 (by decide), keepE _ main_arg12 (by decide), keepD _ main_arg12 (by decide), keepC _ main_arg12 (by decide), keepB _ main_arg12 (by decide), keepA _ main_arg12 (by decide)]

end stages

/-- The first result, from the memory the program starts in. -/
def x1M (m : (ℓ : Loc nD τ sig) → Buf (Elt F) ℓ) (c : Dev nD) : FVec F S2x8192x1024 .f32 :=
  x1T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
/-- The second. -/
def h2M (m : (ℓ : Loc nD τ sig) → Buf (Elt F) ℓ) (c : Dev nD) : FVec F S2x8192x1024 .bf16 :=
  normT (x1M m c) (m ((c.tc : Thread nD τ).loc main_arg10)) (m ((c.tc : Thread nD τ).loc main_arg11)) (m ((c.tc : Thread nD τ).loc main_arg12))

/-- The reference's run: the two results of the arguments, the arguments as they were. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117) = x1M m c
      ∧ r.2.mem ((c.tc : Thread nD τ).loc main_v139) = h2M m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v117).trans (result0 _), (h c main_v139).trans (result1 _),
      (h c main_arg0).trans (arg0 _),
      (h c main_arg1).trans (arg1 _),
      (h c main_arg2).trans (arg2 _),
      (h c main_arg3).trans (arg3 _),
      (h c main_arg4).trans (arg4 _),
      (h c main_arg5).trans (arg5 _),
      (h c main_arg6).trans (arg6 _),
      (h c main_arg7).trans (arg7 _),
      (h c main_arg8).trans (arg8 _),
      (h c main_arg9).trans (arg9 _),
      (h c main_arg10).trans (arg10 _),
      (h c main_arg11).trans (arg11 _),
      (h c main_arg12).trans (arg12 _)⟩)
    (run_seq scopedRefs_eq scopedSems_eq defs main (fun _ => ops) main_eq (fun _ => ops_sub) m ρ (fun _ => List.forall_iff_forall_mem.1 ops_fresh))

end Cert.Reference3Ideal.Hand

end
-- ==== Proof.MeClaims.lean ====
/-
  The merge's claims: its programs' frames and the equality of the two results with the reference's.
-/
module

public import proofs.«01_k».proof.Defs
public import proofs.«01_k».proof.Proof.MeValue
public import proofs.«01_k».proof.Proof.MeRun
public import proofs.«01_k».proof.Proof.Gen.Kernel3.Frame

@[expose] public section

set_option maxRecDepth 16384

noncomputable section

namespace Cert.Proof

open Idealize.ShloMosaic Idealize.SL.Sem

theorem frame_k3 : Cert.quiescent_Kernel3 (hKernel3 := Cert.Kernel3.Gen.facts) := fun m g _ => Cert.Kernel3.Gen.frame m g

theorem frame_ki3 : Cert.quiescent_Kernel3Ideal (hKernel3Ideal := Cert.Kernel3Ideal.Gen.facts) := fun m g _ => Cert.Kernel3Ideal.Gen.frame m g

theorem frame_ri3 : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Hand.run_ref (F := Ideal) m g)

theorem preserves3 : Cert.preserves_Kernel3_Kernel3Ideal := trivial

/-- The reference's residual of a memory of the kernel's. -/
abbrev res3 (m : (ℓ : Loc Cert.Kernel3Ideal.nD Cert.Kernel3Ideal.τ Cert.Kernel3Ideal.sig) → Buf (Elt Ideal) ℓ) (c : Dev Cert.Kernel3Ideal.nD) : FVec Ideal Cert.Reference3Ideal.S2x8192x1024 .f32 :=
  Cert.Reference3Ideal.Hand.x1T (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    (m ((c.tc : Thread Cert.Kernel3Ideal.nD Cert.Kernel3Ideal.τ).loc Cert.Kernel3Ideal.main_arg7))
    (m ((c.tc : Thread Cert.Kernel3Ideal.nD Cert.Kernel3Ideal.τ).loc Cert.Kernel3Ideal.main_arg8))
    (m ((c.tc : Thread Cert.Kernel3Ideal.nD Cert.Kernel3Ideal.τ).loc Cert.Kernel3Ideal.main_arg9))

/-- The reference's normalised rows of a memory of the kernel's. -/
abbrev norm3 (m : (ℓ : Loc Cert.Kernel3Ideal.nD Cert.Kernel3Ideal.τ Cert.Kernel3Ideal.sig) → Buf (Elt Ideal) ℓ) (c : Dev Cert.Kernel3Ideal.nD) : FVec Ideal Cert.Reference3Ideal.S2x8192x1024 .bf16 :=
  Cert.Reference3Ideal.Hand.normT (res3 m c) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))
    (m ((c.tc : Thread Cert.Kernel3Ideal.nD Cert.Kernel3Ideal.τ).loc Cert.Kernel3Ideal.main_arg12))

open Cert.Kernel3Ideal.Hand in
/-- The kernel's run: each result is the reference's function of the arguments, the arguments unchanged. -/
theorem run_kernel3 (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal)))
      ⟨m, fun _ => 0, g⟩ (fun r => ∀ c : Dev Cert.Kernel3Ideal.nD,
        r.2.mem ((c.tc : Thread Cert.Kernel3Ideal.nD Cert.Kernel3Ideal.τ).loc Cert.Kernel3Ideal.main_v23) = res3 m c
        ∧ r.2.mem ((c.tc : Thread Cert.Kernel3Ideal.nD Cert.Kernel3Ideal.τ).loc Cert.Kernel3Ideal.main_v25) = norm3 m c
        ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
        ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
        ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
        ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
        ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
        ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
        ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
        ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
        ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)) := by
  refine (θ_run Cert.Kernel3Ideal.defs _ _).mono (fun r h c => ⟨?_, ?_, h.2.1 c⟩)
    (θ_run_and (Cert.Kernel3Ideal.Gen.run_main (F := Ideal) m g) (Cert.Kernel3Ideal.Gen.frame (F := Ideal) m g))
  · refine ((h.1 c).2 Cert.Kernel3Ideal.main_v23 (by decide)).trans ((W23 m c).trans ?_)
    rw [V6, V11, V12, V13, V14, V15, V16, V5, V17, V18]
    exact x1_result _ _ _ _ _ _ _ _ _ _
  · refine ((h.1 c).2 Cert.Kernel3Ideal.main_v25 (by decide)).trans ((W25 m c).trans ?_)
    rw [V6, V11, V12, V13, V14, V15, V16, V5, V17, V18, V19, V20, V21]
    exact h2_result _ _ _ _ _ _ _ _ _ _ _ _ _

/-- The two results of the kernel and of the reference are equal, element by element. -/
theorem algebraic3 : Cert.algebraic_Kernel3Ideal_Reference3Ideal (hKernel3Ideal := Cert.Kernel3Ideal.Gen.facts) (hReference3Ideal := Cert.Reference3Ideal.Gen.facts) := by
  intro m g m' g' _ hagree
  refine ⟨_, _, run_kernel3 m g, ?_⟩
  refine (θ_run Cert.Reference3Ideal.defs _ _).mono (fun _ h c => ?_) (Cert.Reference3Ideal.Hand.run_ref (F := Ideal) m' g')
  obtain ⟨e0, e1, e2, e3, e4, e5, e6, e7, e8, e9, e10, e11, e12⟩ := hagree c
  have e : Cert.Reference3Ideal.Hand.x1M m' c = res3 m c := by
    unfold Cert.Reference3Ideal.Hand.x1M
    rw [e0, e1, e2, e3, e4, e5, e6, e7, e8, e9]
  have e' : Cert.Reference3Ideal.Hand.h2M m' c = norm3 m c := by
    unfold Cert.Reference3Ideal.Hand.h2M
    rw [e, e10, e11, e12]
  rw [← e, ← e']
  exact h c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.InClaims
public import proofs.«01_k».proof.Proof.MeClaims
public import proofs.«01_k».proof.Proof.Gen.Reference2Ideal
public import proofs.«01_k».proof.Proof.Gen.Reference3Ideal
public import proofs.«01_k».proof.Proof.Gen.Reference2Ideal.Run
public import proofs.«01_k».proof.Proof.Gen.Kernel2
public import proofs.«01_k».proof.Proof.Gen.Kernel3
public import proofs.«01_k».proof.Proof.Gen.Kernel2.Frame
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Frame
public import proofs.«01_k».proof.Proof.Gen.Kernel3Ideal.Frame
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, facts_pre,
    frame_k, frame_ki, frame_ki_pre, frame_ri, frame_ri_pre, frame_k2, frame_ki2, frame_ri2, frame_k3, frame_ki3, frame_ri3,
    preserves, algebraic, preserves2, algebraic2, preserves3, algebraic3⟩

end Cert.Proof

end
